-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))).2.2.2 = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite [hPre_finite : Cert.Pre_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3))).1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3))).2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3))).2.2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdRefIdeal (m : (ℓ : Loc Cert.InprojBwdRefIdeal.nD Cert.InprojBwdRefIdeal.τ Cert.InprojBwdRefIdeal.sig) → Buf (Elt Ideal) ℓ) : Prop :=
  True

def Pre_FfnBwdFin (m : (ℓ : Loc Cert.FfnBwdFin.nD Cert.FfnBwdFin.τ Cert.FfnBwdFin.sig) → Buf (Elt Bits) ℓ) : Prop :=
  True

def Pre_FfnBwdFinIdeal (m : (ℓ : Loc Cert.FfnBwdFinIdeal.nD Cert.FfnBwdFinIdeal.τ Cert.FfnBwdFinIdeal.sig) → Buf (Elt Ideal) ℓ) : Prop :=
  True

def Pre_FfnBwdFinRefIdeal (m : (ℓ : Loc Cert.FfnBwdFinRefIdeal.nD Cert.FfnBwdFinRefIdeal.τ Cert.FfnBwdFinRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_DwMix (m : (ℓ : Loc Cert.DwMix.nD Cert.DwMix.τ Cert.DwMix.sig) → Buf (Elt Bits) ℓ) : Prop :=
  True

def Pre_DwMixIdeal (m : (ℓ : Loc Cert.DwMixIdeal.nD Cert.DwMixIdeal.τ Cert.DwMixIdeal.sig) → Buf (Elt Ideal) ℓ) : Prop :=
  True

def Pre_DwMixRefIdeal (m : (ℓ : Loc Cert.DwMixRefIdeal.nD Cert.DwMixRefIdeal.τ Cert.DwMixRefIdeal.sig) → Buf (Elt Ideal) ℓ) : Prop :=
  True

def Pre_Params (m : (ℓ : Loc Cert.Params.nD Cert.Params.τ Cert.Params.sig) → Buf (Elt Bits) ℓ) : Prop :=
  True

def Pre_ParamsIdeal (m : (ℓ : Loc Cert.ParamsIdeal.nD Cert.ParamsIdeal.τ Cert.ParamsIdeal.sig) → Buf (Elt Ideal) ℓ) : Prop :=
  True

def Pre_ParamsRefIdeal (m : (ℓ : Loc Cert.ParamsRefIdeal.nD Cert.ParamsRefIdeal.τ Cert.ParamsRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ r.2.sem = fun _ => 0)

def quiescent_FfnGradIdeal_pre_finite [hFfnGradIdeal : Cert.FfnGradIdeal.Facts] [hPre_finite : Cert.Pre_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4))
      ∧ r.2.sem = fun _ => 0)

def quiescent_FfnBwdFin [hFfnBwdFin : Cert.FfnBwdFin.Facts] : Prop :=
  ∀ (m : (ℓ : Loc Cert.FfnBwdFin.nD Cert.FfnBwdFin.τ Cert.FfnBwdFin.sig) → Buf (Elt Bits) ℓ) (g : Dev Cert.FfnBwdFin.nD → PrngReg), Pre_FfnBwdFin m →
    θ_run (Cert.FfnBwdFin.defs (F := Bits)) (onTc (τ := Cert.FfnBwdFin.τ) (Cert.FfnBwdFin.main (F := Bits))) ⟨m, fun _ => 0, g⟩ (fun r => (∀ c : Dev Cert.FfnBwdFin.nD,
      r.2.mem ((c.tc : Thread Cert.FfnBwdFin.nD Cert.FfnBwdFin.τ).loc Cert.FfnBwdFin.main_arg0) = m ((c.tc : Thread Cert.FfnBwdFin.nD Cert.FfnBwdFin.τ).loc Cert.FfnBwdFin.main_arg0)
      ∧ r.2.mem ((c.tc : Thread Cert.FfnBwdFin.nD Cert.FfnBwdFin.τ).loc Cert.FfnBwdFin.main_arg1) = m ((c.tc : Thread Cert.FfnBwdFin.nD Cert.FfnBwdFin.τ).loc Cert.FfnBwdFin.main_arg1)
      ∧ r.2.mem ((c.tc : Thread Cert.FfnBwdFin.nD Cert.FfnBwdFin.τ).loc Cert.FfnBwdFin.main_arg2) = m ((c.tc : Thread Cert.FfnBwdFin.nD Cert.FfnBwdFin.τ).loc Cert.FfnBwdFin.main_arg2)
      ∧ r.2.mem ((c.tc : Thread Cert.FfnBwdFin.nD Cert.FfnBwdFin.τ).loc Cert.FfnBwdFin.main_arg3) = m ((c.tc : Thread Cert.FfnBwdFin.nD Cert.FfnBwdFin.τ).loc Cert.FfnBwdFin.main_arg3))
      ∧ r.2.sem = fun _ => 0)

def quiescent_FfnBwdFinIdeal [hFfnBwdFinIdeal : Cert.FfnBwdFinIdeal.Facts] : Prop :=
  ∀ (m : (ℓ : Loc Cert.FfnBwdFinIdeal.nD Cert.FfnBwdFinIdeal.τ Cert.FfnBwdFinIdeal.sig) → Buf (Elt Ideal) ℓ) (g : Dev Cert.FfnBwdFinIdeal.nD → PrngReg), Pre_FfnBwdFinIdeal m →
    θ_run (Cert.FfnBwdFinIdeal.defs (F := Ideal)) (onTc (τ := Cert.FfnBwdFinIdeal.τ) (Cert.FfnBwdFinIdeal.main (F := Ideal))) ⟨m, fun _ => 0, g⟩ (fun r => (∀ c : Dev Cert.FfnBwdFinIdeal.nD,
      r.2.mem ((c.tc : Thread Cert.FfnBwdFinIdeal.nD Cert.FfnBwdFinIdeal.τ).loc Cert.FfnBwdFinIdeal.main_arg0) = m ((c.tc : Thread Cert.FfnBwdFinIdeal.nD Cert.FfnBwdFinIdeal.τ).loc Cert.FfnBwdFinIdeal.main_arg0)
      ∧ r.2.mem ((c.tc : Thread Cert.FfnBwdFinIdeal.nD Cert.FfnBwdFinIdeal.τ).loc Cert.FfnBwdFinIdeal.main_arg1) = m ((c.tc : Thread Cert.FfnBwdFinIdeal.nD Cert.FfnBwdFinIdeal.τ).loc Cert.FfnBwdFinIdeal.main_arg1)
      ∧ r.2.mem ((c.tc : Thread Cert.FfnBwdFinIdeal.nD Cert.FfnBwdFinIdeal.τ).loc Cert.FfnBwdFinIdeal.main_arg2) = m ((c.tc : Thread Cert.FfnBwdFinIdeal.nD Cert.FfnBwdFinIdeal.τ).loc Cert.FfnBwdFinIdeal.main_arg2)
      ∧ r.2.mem ((c.tc : Thread Cert.FfnBwdFinIdeal.nD Cert.FfnBwdFinIdeal.τ).loc Cert.FfnBwdFinIdeal.main_arg3) = m ((c.tc : Thread Cert.FfnBwdFinIdeal.nD Cert.FfnBwdFinIdeal.τ).loc Cert.FfnBwdFinIdeal.main_arg3))
      ∧ r.2.sem = fun _ => 0)

def quiescent_FfnBwdFinRefIdeal [hFfnBwdFinRefIdeal : Cert.FfnBwdFinRefIdeal.Facts] : Prop :=
  ∀ (m : (ℓ : Loc Cert.FfnBwdFinRefIdeal.nD Cert.FfnBwdFinRefIdeal.τ Cert.FfnBwdFinRefIdeal.sig) → Buf (Elt Ideal) ℓ) (g : Dev Cert.FfnBwdFinRefIdeal.nD → PrngReg), Pre_FfnBwdFinRefIdeal m →
    θ_run (Cert.FfnBwdFinRefIdeal.defs (F := Ideal)) (onTc (τ := Cert.FfnBwdFinRefIdeal.τ) (Cert.FfnBwdFinRefIdeal.main (F := Ideal))) ⟨m, fun _ => 0, g⟩ (fun r => (∀ c : Dev Cert.FfnBwdFinRefIdeal.nD,
      r.2.mem ((c.tc : Thread Cert.FfnBwdFinRefIdeal.nD Cert.FfnBwdFinRefIdeal.τ).loc Cert.FfnBwdFinRefIdeal.main_arg0) = m ((c.tc : Thread Cert.FfnBwdFinRefIdeal.nD Cert.FfnBwdFinRefIdeal.τ).loc Cert.FfnBwdFinRefIdeal.main_arg0)
      ∧ r.2.mem ((c.tc : Thread Cert.FfnBwdFinRefIdeal.nD Cert.FfnBwdFinRefIdeal.τ).loc Cert.FfnBwdFinRefIdeal.main_arg1) = m ((c.tc : Thread Cert.FfnBwdFinRefIdeal.nD Cert.FfnBwdFinRefIdeal.τ).loc Cert.FfnBwdFinRefIdeal.main_arg1)
      ∧ r.2.mem ((c.tc : Thread Cert.FfnBwdFinRefIdeal.nD Cert.FfnBwdFinRefIdeal.τ).loc Cert.FfnBwdFinRefIdeal.main_arg2) = m ((c.tc : Thread Cert.FfnBwdFinRefIdeal.nD Cert.FfnBwdFinRefIdeal.τ).loc Cert.FfnBwdFinRefIdeal.main_arg2)
      ∧ r.2.mem ((c.tc : Thread Cert.FfnBwdFinRefIdeal.nD Cert.FfnBwdFinRefIdeal.τ).loc Cert.FfnBwdFinRefIdeal.main_arg3) = m ((c.tc : Thread Cert.FfnBwdFinRefIdeal.nD Cert.FfnBwdFinRefIdeal.τ).loc Cert.FfnBwdFinRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_DwMix [hDwMix : Cert.DwMix.Facts] : Prop :=
  ∀ (m : (ℓ : Loc Cert.DwMix.nD Cert.DwMix.τ Cert.DwMix.sig) → Buf (Elt Bits) ℓ) (g : Dev Cert.DwMix.nD → PrngReg), Pre_DwMix m →
    θ_run (Cert.DwMix.defs (F := Bits)) (onTc (τ := Cert.DwMix.τ) (Cert.DwMix.main (F := Bits))) ⟨m, fun _ => 0, g⟩ (fun r => (∀ c : Dev Cert.DwMix.nD,
      r.2.mem ((c.tc : Thread Cert.DwMix.nD Cert.DwMix.τ).loc Cert.DwMix.main_arg0) = m ((c.tc : Thread Cert.DwMix.nD Cert.DwMix.τ).loc Cert.DwMix.main_arg0)
      ∧ r.2.mem ((c.tc : Thread Cert.DwMix.nD Cert.DwMix.τ).loc Cert.DwMix.main_arg1) = m ((c.tc : Thread Cert.DwMix.nD Cert.DwMix.τ).loc Cert.DwMix.main_arg1)
      ∧ r.2.mem ((c.tc : Thread Cert.DwMix.nD Cert.DwMix.τ).loc Cert.DwMix.main_arg2) = m ((c.tc : Thread Cert.DwMix.nD Cert.DwMix.τ).loc Cert.DwMix.main_arg2)
      ∧ r.2.mem ((c.tc : Thread Cert.DwMix.nD Cert.DwMix.τ).loc Cert.DwMix.main_arg3) = m ((c.tc : Thread Cert.DwMix.nD Cert.DwMix.τ).loc Cert.DwMix.main_arg3)
      ∧ r.2.mem ((c.tc : Thread Cert.DwMix.nD Cert.DwMix.τ).loc Cert.DwMix.main_arg4) = m ((c.tc : Thread Cert.DwMix.nD Cert.DwMix.τ).loc Cert.DwMix.main_arg4)
      ∧ r.2.mem ((c.tc : Thread Cert.DwMix.nD Cert.DwMix.τ).loc Cert.DwMix.main_arg5) = m ((c.tc : Thread Cert.DwMix.nD Cert.DwMix.τ).loc Cert.DwMix.main_arg5)
      ∧ r.2.mem ((c.tc : Thread Cert.DwMix.nD Cert.DwMix.τ).loc Cert.DwMix.main_arg6) = m ((c.tc : Thread Cert.DwMix.nD Cert.DwMix.τ).loc Cert.DwMix.main_arg6)
      ∧ r.2.mem ((c.tc : Thread Cert.DwMix.nD Cert.DwMix.τ).loc Cert.DwMix.main_arg7) = m ((c.tc : Thread Cert.DwMix.nD Cert.DwMix.τ).loc Cert.DwMix.main_arg7))
      ∧ r.2.sem = fun _ => 0)

def quiescent_DwMixIdeal [hDwMixIdeal : Cert.DwMixIdeal.Facts] : Prop :=
  ∀ (m : (ℓ : Loc Cert.DwMixIdeal.nD Cert.DwMixIdeal.τ Cert.DwMixIdeal.sig) → Buf (Elt Ideal) ℓ) (g : Dev Cert.DwMixIdeal.nD → PrngReg), Pre_DwMixIdeal m →
    θ_run (Cert.DwMixIdeal.defs (F := Ideal)) (onTc (τ := Cert.DwMixIdeal.τ) (Cert.DwMixIdeal.main (F := Ideal))) ⟨m, fun _ => 0, g⟩ (fun r => (∀ c : Dev Cert.DwMixIdeal.nD,
      r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
      ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1)
      ∧ r.2.mem ((c.tc : Thread Cert.DwMixIdeal.nD Cert.DwMixIdeal.τ).loc Cert.DwMixIdeal.main_arg2) = m ((c.tc : Thread Cert.DwMixIdeal.nD Cert.DwMixIdeal.τ).loc Cert.DwMixIdeal.main_arg2)
      ∧ r.2.mem ((c.tc : Thread Cert.DwMixIdeal.nD Cert.DwMixIdeal.τ).loc Cert.DwMixIdeal.main_arg3) = m ((c.tc : Thread Cert.DwMixIdeal.nD Cert.DwMixIdeal.τ).loc Cert.DwMixIdeal.main_arg3)
      ∧ r.2.mem ((c.tc : Thread Cert.DwMixIdeal.nD Cert.DwMixIdeal.τ).loc Cert.DwMixIdeal.main_arg4) = m ((c.tc : Thread Cert.DwMixIdeal.nD Cert.DwMixIdeal.τ).loc Cert.DwMixIdeal.main_arg4)
      ∧ r.2.mem ((c.tc : Thread Cert.DwMixIdeal.nD Cert.DwMixIdeal.τ).loc Cert.DwMixIdeal.main_arg5) = m ((c.tc : Thread Cert.DwMixIdeal.nD Cert.DwMixIdeal.τ).loc Cert.DwMixIdeal.main_arg5)
      ∧ r.2.mem ((c.tc : Thread Cert.DwMixIdeal.nD Cert.DwMixIdeal.τ).loc Cert.DwMixIdeal.main_arg6) = m ((c.tc : Thread Cert.DwMixIdeal.nD Cert.DwMixIdeal.τ).loc Cert.DwMixIdeal.main_arg6)
      ∧ r.2.mem ((c.tc : Thread Cert.DwMixIdeal.nD Cert.DwMixIdeal.τ).loc Cert.DwMixIdeal.main_arg7) = m ((c.tc : Thread Cert.DwMixIdeal.nD Cert.DwMixIdeal.τ).loc Cert.DwMixIdeal.main_arg7))
      ∧ r.2.sem = fun _ => 0)

def quiescent_DwMixRefIdeal [hDwMixRefIdeal : Cert.DwMixRefIdeal.Facts] : Prop :=
  ∀ (m : (ℓ : Loc Cert.DwMixRefIdeal.nD Cert.DwMixRefIdeal.τ Cert.DwMixRefIdeal.sig) → Buf (Elt Ideal) ℓ) (g : Dev Cert.DwMixRefIdeal.nD → PrngReg), Pre_DwMixRefIdeal m →
    θ_run (Cert.DwMixRefIdeal.defs (F := Ideal)) (onTc (τ := Cert.DwMixRefIdeal.τ) (Cert.DwMixRefIdeal.main (F := Ideal))) ⟨m, fun _ => 0, g⟩ (fun r => (∀ c : Dev Cert.DwMixRefIdeal.nD,
      r.2.mem ((c.tc : Thread Cert.DwMixRefIdeal.nD Cert.DwMixRefIdeal.τ).loc Cert.DwMixRefIdeal.main_arg0) = m ((c.tc : Thread Cert.DwMixRefIdeal.nD Cert.DwMixRefIdeal.τ).loc Cert.DwMixRefIdeal.main_arg0)
      ∧ r.2.mem ((c.tc : Thread Cert.DwMixRefIdeal.nD Cert.DwMixRefIdeal.τ).loc Cert.DwMixRefIdeal.main_arg1) = m ((c.tc : Thread Cert.DwMixRefIdeal.nD Cert.DwMixRefIdeal.τ).loc Cert.DwMixRefIdeal.main_arg1)
      ∧ r.2.mem ((c.tc : Thread Cert.DwMixRefIdeal.nD Cert.DwMixRefIdeal.τ).loc Cert.DwMixRefIdeal.main_arg2) = m ((c.tc : Thread Cert.DwMixRefIdeal.nD Cert.DwMixRefIdeal.τ).loc Cert.DwMixRefIdeal.main_arg2)
      ∧ r.2.mem ((c.tc : Thread Cert.DwMixRefIdeal.nD Cert.DwMixRefIdeal.τ).loc Cert.DwMixRefIdeal.main_arg3) = m ((c.tc : Thread Cert.DwMixRefIdeal.nD Cert.DwMixRefIdeal.τ).loc Cert.DwMixRefIdeal.main_arg3)
      ∧ r.2.mem ((c.tc : Thread Cert.DwMixRefIdeal.nD Cert.DwMixRefIdeal.τ).loc Cert.DwMixRefIdeal.main_arg4) = m ((c.tc : Thread Cert.DwMixRefIdeal.nD Cert.DwMixRefIdeal.τ).loc Cert.DwMixRefIdeal.main_arg4)
      ∧ r.2.mem ((c.tc : Thread Cert.DwMixRefIdeal.nD Cert.DwMixRefIdeal.τ).loc Cert.DwMixRefIdeal.main_arg5) = m ((c.tc : Thread Cert.DwMixRefIdeal.nD Cert.DwMixRefIdeal.τ).loc Cert.DwMixRefIdeal.main_arg5)
      ∧ r.2.mem ((c.tc : Thread Cert.DwMixRefIdeal.nD Cert.DwMixRefIdeal.τ).loc Cert.DwMixRefIdeal.main_arg6) = m ((c.tc : Thread Cert.DwMixRefIdeal.nD Cert.DwMixRefIdeal.τ).loc Cert.DwMixRefIdeal.main_arg6)
      ∧ r.2.mem ((c.tc : Thread Cert.DwMixRefIdeal.nD Cert.DwMixRefIdeal.τ).loc Cert.DwMixRefIdeal.main_arg7) = m ((c.tc : Thread Cert.DwMixRefIdeal.nD Cert.DwMixRefIdeal.τ).loc Cert.DwMixRefIdeal.main_arg7))
      ∧ r.2.sem = fun _ => 0)

def quiescent_Params [hParams : Cert.Params.Facts] : Prop :=
  ∀ (m : (ℓ : Loc Cert.Params.nD Cert.Params.τ Cert.Params.sig) → Buf (Elt Bits) ℓ) (g : Dev Cert.Params.nD → PrngReg), Pre_Params m →
    θ_run (Cert.Params.defs (F := Bits)) (onTc (τ := Cert.Params.τ) (Cert.Params.main (F := Bits))) ⟨m, fun _ => 0, g⟩ (fun r => (∀ c : Dev Cert.Params.nD,
      r.2.mem ((c.tc : Thread Cert.Params.nD Cert.Params.τ).loc Cert.Params.main_arg0) = m ((c.tc : Thread Cert.Params.nD Cert.Params.τ).loc Cert.Params.main_arg0)
      ∧ r.2.mem ((c.tc : Thread Cert.Params.nD Cert.Params.τ).loc Cert.Params.main_arg1) = m ((c.tc : Thread Cert.Params.nD Cert.Params.τ).loc Cert.Params.main_arg1)
      ∧ r.2.mem ((c.tc : Thread Cert.Params.nD Cert.Params.τ).loc Cert.Params.main_arg2) = m ((c.tc : Thread Cert.Params.nD Cert.Params.τ).loc Cert.Params.main_arg2)
      ∧ r.2.mem ((c.tc : Thread Cert.Params.nD Cert.Params.τ).loc Cert.Params.main_arg3) = m ((c.tc : Thread Cert.Params.nD Cert.Params.τ).loc Cert.Params.main_arg3)
      ∧ r.2.mem ((c.tc : Thread Cert.Params.nD Cert.Params.τ).loc Cert.Params.main_arg4) = m ((c.tc : Thread Cert.Params.nD Cert.Params.τ).loc Cert.Params.main_arg4)
      ∧ r.2.mem ((c.tc : Thread Cert.Params.nD Cert.Params.τ).loc Cert.Params.main_arg5) = m ((c.tc : Thread Cert.Params.nD Cert.Params.τ).loc Cert.Params.main_arg5)
      ∧ r.2.mem ((c.tc : Thread Cert.Params.nD Cert.Params.τ).loc Cert.Params.main_arg6) = m ((c.tc : Thread Cert.Params.nD Cert.Params.τ).loc Cert.Params.main_arg6)
      ∧ r.2.mem ((c.tc : Thread Cert.Params.nD Cert.Params.τ).loc Cert.Params.main_arg7) = m ((c.tc : Thread Cert.Params.nD Cert.Params.τ).loc Cert.Params.main_arg7))
      ∧ r.2.sem = fun _ => 0)

def quiescent_ParamsIdeal [hParamsIdeal : Cert.ParamsIdeal.Facts] : Prop :=
  ∀ (m : (ℓ : Loc Cert.ParamsIdeal.nD Cert.ParamsIdeal.τ Cert.ParamsIdeal.sig) → Buf (Elt Ideal) ℓ) (g : Dev Cert.ParamsIdeal.nD → PrngReg), Pre_ParamsIdeal m →
    θ_run (Cert.ParamsIdeal.defs (F := Ideal)) (onTc (τ := Cert.ParamsIdeal.τ) (Cert.ParamsIdeal.main (F := Ideal))) ⟨m, fun _ => 0, g⟩ (fun r => (∀ c : Dev Cert.ParamsIdeal.nD,
      r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
      ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
      ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
      ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
      ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
      ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
      ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6)
      ∧ r.2.mem ((c.tc : Thread Cert.ParamsIdeal.nD Cert.ParamsIdeal.τ).loc Cert.ParamsIdeal.main_arg7) = m ((c.tc : Thread Cert.ParamsIdeal.nD Cert.ParamsIdeal.τ).loc Cert.ParamsIdeal.main_arg7))
      ∧ r.2.sem = fun _ => 0)

def quiescent_ParamsRefIdeal [hParamsRefIdeal : Cert.ParamsRefIdeal.Facts] : Prop :=
  ∀ (m : (ℓ : Loc Cert.ParamsRefIdeal.nD Cert.ParamsRefIdeal.τ Cert.ParamsRefIdeal.sig) → Buf (Elt Ideal) ℓ) (g : Dev Cert.ParamsRefIdeal.nD → PrngReg), Pre_ParamsRefIdeal m →
    θ_run (Cert.ParamsRefIdeal.defs (F := Ideal)) (onTc (τ := Cert.ParamsRefIdeal.τ) (Cert.ParamsRefIdeal.main (F := Ideal))) ⟨m, fun _ => 0, g⟩ (fun r => (∀ c : Dev Cert.ParamsRefIdeal.nD,
      r.2.mem ((c.tc : Thread Cert.ParamsRefIdeal.nD Cert.ParamsRefIdeal.τ).loc Cert.ParamsRefIdeal.main_arg0) = m ((c.tc : Thread Cert.ParamsRefIdeal.nD Cert.ParamsRefIdeal.τ).loc Cert.ParamsRefIdeal.main_arg0)
      ∧ r.2.mem ((c.tc : Thread Cert.ParamsRefIdeal.nD Cert.ParamsRefIdeal.τ).loc Cert.ParamsRefIdeal.main_arg1) = m ((c.tc : Thread Cert.ParamsRefIdeal.nD Cert.ParamsRefIdeal.τ).loc Cert.ParamsRefIdeal.main_arg1)
      ∧ r.2.mem ((c.tc : Thread Cert.ParamsRefIdeal.nD Cert.ParamsRefIdeal.τ).loc Cert.ParamsRefIdeal.main_arg2) = m ((c.tc : Thread Cert.ParamsRefIdeal.nD Cert.ParamsRefIdeal.τ).loc Cert.ParamsRefIdeal.main_arg2)
      ∧ r.2.mem ((c.tc : Thread Cert.ParamsRefIdeal.nD Cert.ParamsRefIdeal.τ).loc Cert.ParamsRefIdeal.main_arg3) = m ((c.tc : Thread Cert.ParamsRefIdeal.nD Cert.ParamsRefIdeal.τ).loc Cert.ParamsRefIdeal.main_arg3)
      ∧ r.2.mem ((c.tc : Thread Cert.ParamsRefIdeal.nD Cert.ParamsRefIdeal.τ).loc Cert.ParamsRefIdeal.main_arg4) = m ((c.tc : Thread Cert.ParamsRefIdeal.nD Cert.ParamsRefIdeal.τ).loc Cert.ParamsRefIdeal.main_arg4)
      ∧ r.2.mem ((c.tc : Thread Cert.ParamsRefIdeal.nD Cert.ParamsRefIdeal.τ).loc Cert.ParamsRefIdeal.main_arg5) = m ((c.tc : Thread Cert.ParamsRefIdeal.nD Cert.ParamsRefIdeal.τ).loc Cert.ParamsRefIdeal.main_arg5)
      ∧ r.2.mem ((c.tc : Thread Cert.ParamsRefIdeal.nD Cert.ParamsRefIdeal.τ).loc Cert.ParamsRefIdeal.main_arg6) = m ((c.tc : Thread Cert.ParamsRefIdeal.nD Cert.ParamsRefIdeal.τ).loc Cert.ParamsRefIdeal.main_arg6)
      ∧ r.2.mem ((c.tc : Thread Cert.ParamsRefIdeal.nD Cert.ParamsRefIdeal.τ).loc Cert.ParamsRefIdeal.main_arg7) = m ((c.tc : Thread Cert.ParamsRefIdeal.nD Cert.ParamsRefIdeal.τ).loc Cert.ParamsRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4)
      ∧ r.2.mem ((c.tc : Thread Cert.AdamGlu.nD Cert.AdamGlu.τ).loc Cert.AdamGlu.main_arg5) = m ((c.tc : Thread Cert.AdamGlu.nD Cert.AdamGlu.τ).loc Cert.AdamGlu.main_arg5)
      ∧ r.2.mem ((c.tc : Thread Cert.AdamGlu.nD Cert.AdamGlu.τ).loc Cert.AdamGlu.main_arg6) = m ((c.tc : Thread Cert.AdamGlu.nD Cert.AdamGlu.τ).loc Cert.AdamGlu.main_arg6))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
      ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
      ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4)
      ∧ r.2.mem ((c.tc : Thread Cert.AdamGluRefIdeal.nD Cert.AdamGluRefIdeal.τ).loc Cert.AdamGluRefIdeal.main_arg5) = m ((c.tc : Thread Cert.AdamGluRefIdeal.nD Cert.AdamGluRefIdeal.τ).loc Cert.AdamGluRefIdeal.main_arg5)
      ∧ r.2.mem ((c.tc : Thread Cert.AdamGluRefIdeal.nD Cert.AdamGluRefIdeal.τ).loc Cert.AdamGluRefIdeal.main_arg6) = m ((c.tc : Thread Cert.AdamGluRefIdeal.nD Cert.AdamGluRefIdeal.τ).loc Cert.AdamGluRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4)
      ∧ r.2.mem ((c.tc : Thread Cert.AdamFfnIn.nD Cert.AdamFfnIn.τ).loc Cert.AdamFfnIn.main_arg5) = m ((c.tc : Thread Cert.AdamFfnIn.nD Cert.AdamFfnIn.τ).loc Cert.AdamFfnIn.main_arg5)
      ∧ r.2.mem ((c.tc : Thread Cert.AdamFfnIn.nD Cert.AdamFfnIn.τ).loc Cert.AdamFfnIn.main_arg6) = m ((c.tc : Thread Cert.AdamFfnIn.nD Cert.AdamFfnIn.τ).loc Cert.AdamFfnIn.main_arg6))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
      ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
      ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3)
      ∧ r.2.mem ((c.tc : Thread Cert.AdamFfnInRefIdeal.nD Cert.AdamFfnInRefIdeal.τ).loc Cert.AdamFfnInRefIdeal.main_arg4) = m ((c.tc : Thread Cert.AdamFfnInRefIdeal.nD Cert.AdamFfnInRefIdeal.τ).loc Cert.AdamFfnInRefIdeal.main_arg4)
      ∧ r.2.mem ((c.tc : Thread Cert.AdamFfnInRefIdeal.nD Cert.AdamFfnInRefIdeal.τ).loc Cert.AdamFfnInRefIdeal.main_arg5) = m ((c.tc : Thread Cert.AdamFfnInRefIdeal.nD Cert.AdamFfnInRefIdeal.τ).loc Cert.AdamFfnInRefIdeal.main_arg5)
      ∧ r.2.mem ((c.tc : Thread Cert.AdamFfnInRefIdeal.nD Cert.AdamFfnInRefIdeal.τ).loc Cert.AdamFfnInRefIdeal.main_arg6) = m ((c.tc : Thread Cert.AdamFfnInRefIdeal.nD Cert.AdamFfnInRefIdeal.τ).loc Cert.AdamFfnInRefIdeal.main_arg6))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4)
      ∧ r.2.mem ((c.tc : Thread Cert.AdamFfnOut.nD Cert.AdamFfnOut.τ).loc Cert.AdamFfnOut.main_arg5) = m ((c.tc : Thread Cert.AdamFfnOut.nD Cert.AdamFfnOut.τ).loc Cert.AdamFfnOut.main_arg5)
      ∧ r.2.mem ((c.tc : Thread Cert.AdamFfnOut.nD Cert.AdamFfnOut.τ).loc Cert.AdamFfnOut.main_arg6) = m ((c.tc : Thread Cert.AdamFfnOut.nD Cert.AdamFfnOut.τ).loc Cert.AdamFfnOut.main_arg6))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
      ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
      ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3)
      ∧ r.2.mem ((c.tc : Thread Cert.AdamFfnOutRefIdeal.nD Cert.AdamFfnOutRefIdeal.τ).loc Cert.AdamFfnOutRefIdeal.main_arg4) = m ((c.tc : Thread Cert.AdamFfnOutRefIdeal.nD Cert.AdamFfnOutRefIdeal.τ).loc Cert.AdamFfnOutRefIdeal.main_arg4)
      ∧ r.2.mem ((c.tc : Thread Cert.AdamFfnOutRefIdeal.nD Cert.AdamFfnOutRefIdeal.τ).loc Cert.AdamFfnOutRefIdeal.main_arg5) = m ((c.tc : Thread Cert.AdamFfnOutRefIdeal.nD Cert.AdamFfnOutRefIdeal.τ).loc Cert.AdamFfnOutRefIdeal.main_arg5)
      ∧ r.2.mem ((c.tc : Thread Cert.AdamFfnOutRefIdeal.nD Cert.AdamFfnOutRefIdeal.τ).loc Cert.AdamFfnOutRefIdeal.main_arg6) = m ((c.tc : Thread Cert.AdamFfnOutRefIdeal.nD Cert.AdamFfnOutRefIdeal.τ).loc Cert.AdamFfnOutRefIdeal.main_arg6))
      ∧ r.2.sem = fun _ => 0)

def preserves_FfnBwd_FfnBwdIdeal : Prop :=
  True

def algebraic_FfnBwdIdeal_FfnGradIdeal_pre_finite [hFfnBwdIdeal : Cert.FfnBwdIdeal.Facts] [hFfnGradIdeal : Cert.FfnGradIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_finite m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v22)) (v1 : (c : Dev Cert.FfnBwdIdeal.nD) → Buf (Elt Ideal) ((c.tc : Thread Cert.FfnBwdIdeal.nD Cert.FfnBwdIdeal.τ).loc Cert.FfnBwdIdeal.main_v23)) (v2 : (c : Dev Cert.FfnBwdIdeal.nD) → Buf (Elt Ideal) ((c.tc : Thread Cert.FfnBwdIdeal.nD Cert.FfnBwdIdeal.τ).loc Cert.FfnBwdIdeal.main_v25)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v22) = v0 c
          ∧ r.2.mem ((c.tc : Thread Cert.FfnBwdIdeal.nD Cert.FfnBwdIdeal.τ).loc Cert.FfnBwdIdeal.main_v23) = v1 c
          ∧ r.2.mem ((c.tc : Thread Cert.FfnBwdIdeal.nD Cert.FfnBwdIdeal.τ).loc Cert.FfnBwdIdeal.main_v25) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v18) = v0 c
          ∧ r.2.mem ((c.tc : Thread Cert.FfnGradIdeal.nD Cert.FfnGradIdeal.τ).loc Cert.FfnGradIdeal.main_v17) = v1 c
          ∧ r.2.mem ((c.tc : Thread Cert.FfnGradIdeal.nD Cert.FfnGradIdeal.τ).loc Cert.FfnGradIdeal.main_v8) = v2 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v2) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_InprojBwd_InprojBwdIdeal : Prop :=
  True

def algebraic_InprojBwdIdeal_InprojBwdRefIdeal [hInprojBwdIdeal : Cert.InprojBwdIdeal.Facts] [hInprojBwdRefIdeal : Cert.InprojBwdRefIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)) →
    ∃ (v0 : (c : Dev Cert.InprojBwdIdeal.nD) → Buf (Elt Ideal) ((c.tc : Thread Cert.InprojBwdIdeal.nD Cert.InprojBwdIdeal.τ).loc Cert.InprojBwdIdeal.main_v5_0)) (v1 : (c : Dev Cert.InprojBwdIdeal.nD) → Buf (Elt Ideal) ((c.tc : Thread Cert.InprojBwdIdeal.nD Cert.InprojBwdIdeal.τ).loc Cert.InprojBwdIdeal.main_v5_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v5_0) = v0 c
          ∧ r.2.mem ((c.tc : Thread Cert.InprojBwdIdeal.nD Cert.InprojBwdIdeal.τ).loc Cert.InprojBwdIdeal.main_v5_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v39) = v0 c
          ∧ r.2.mem ((c.tc : Thread Cert.InprojBwdRefIdeal.nD Cert.InprojBwdRefIdeal.τ).loc Cert.InprojBwdRefIdeal.main_v40) = v1 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4))

def preserves_FfnBwdFin_FfnBwdFinIdeal : Prop :=
  True

def algebraic_FfnBwdFinIdeal_FfnBwdFinRefIdeal [hFfnBwdFinIdeal : Cert.FfnBwdFinIdeal.Facts] [hFfnBwdFinRefIdeal : Cert.FfnBwdFinRefIdeal.Facts] : Prop :=
  ∀ (m : (ℓ : Loc Cert.FfnBwdFinIdeal.nD Cert.FfnBwdFinIdeal.τ Cert.FfnBwdFinIdeal.sig) → Buf (Elt Ideal) ℓ) (g : Dev Cert.FfnBwdFinIdeal.nD → PrngReg)
    (m' : (ℓ : Loc Cert.FfnBwdFinRefIdeal.nD Cert.FfnBwdFinRefIdeal.τ Cert.FfnBwdFinRefIdeal.sig) → Buf (Elt Ideal) ℓ) (g' : Dev Cert.FfnBwdFinRefIdeal.nD → PrngReg), Pre_FfnBwdFinIdeal m →
    (∀ c : Dev Cert.FfnBwdFinIdeal.nD,
      m' ((c.tc : Thread Cert.FfnBwdFinRefIdeal.nD Cert.FfnBwdFinRefIdeal.τ).loc Cert.FfnBwdFinRefIdeal.main_arg0) = m ((c.tc : Thread Cert.FfnBwdFinIdeal.nD Cert.FfnBwdFinIdeal.τ).loc Cert.FfnBwdFinIdeal.main_arg0)
      ∧ m' ((c.tc : Thread Cert.FfnBwdFinRefIdeal.nD Cert.FfnBwdFinRefIdeal.τ).loc Cert.FfnBwdFinRefIdeal.main_arg1) = m ((c.tc : Thread Cert.FfnBwdFinIdeal.nD Cert.FfnBwdFinIdeal.τ).loc Cert.FfnBwdFinIdeal.main_arg1)
      ∧ m' ((c.tc : Thread Cert.FfnBwdFinRefIdeal.nD Cert.FfnBwdFinRefIdeal.τ).loc Cert.FfnBwdFinRefIdeal.main_arg2) = m ((c.tc : Thread Cert.FfnBwdFinIdeal.nD Cert.FfnBwdFinIdeal.τ).loc Cert.FfnBwdFinIdeal.main_arg2)
      ∧ m' ((c.tc : Thread Cert.FfnBwdFinRefIdeal.nD Cert.FfnBwdFinRefIdeal.τ).loc Cert.FfnBwdFinRefIdeal.main_arg3) = m ((c.tc : Thread Cert.FfnBwdFinIdeal.nD Cert.FfnBwdFinIdeal.τ).loc Cert.FfnBwdFinIdeal.main_arg3)) →
    ∃ (v0 : (c : Dev Cert.FfnBwdFinIdeal.nD) → Buf (Elt Ideal) ((c.tc : Thread Cert.FfnBwdFinIdeal.nD Cert.FfnBwdFinIdeal.τ).loc Cert.FfnBwdFinIdeal.main_v1_0)) (v1 : (c : Dev Cert.FfnBwdFinIdeal.nD) → Buf (Elt Ideal) ((c.tc : Thread Cert.FfnBwdFinIdeal.nD Cert.FfnBwdFinIdeal.τ).loc Cert.FfnBwdFinIdeal.main_v1_1)),
      θ_run (Cert.FfnBwdFinIdeal.defs (F := Ideal)) (onTc (τ := Cert.FfnBwdFinIdeal.τ) (Cert.FfnBwdFinIdeal.main (F := Ideal))) ⟨m, fun _ => 0, g⟩ (fun r => ∀ c : Dev Cert.FfnBwdFinIdeal.nD,
          r.2.mem ((c.tc : Thread Cert.FfnBwdFinIdeal.nD Cert.FfnBwdFinIdeal.τ).loc Cert.FfnBwdFinIdeal.main_v1_0) = v0 c
          ∧ r.2.mem ((c.tc : Thread Cert.FfnBwdFinIdeal.nD Cert.FfnBwdFinIdeal.τ).loc Cert.FfnBwdFinIdeal.main_v1_1) = v1 c
          ∧ r.2.mem ((c.tc : Thread Cert.FfnBwdFinIdeal.nD Cert.FfnBwdFinIdeal.τ).loc Cert.FfnBwdFinIdeal.main_arg0) = m ((c.tc : Thread Cert.FfnBwdFinIdeal.nD Cert.FfnBwdFinIdeal.τ).loc Cert.FfnBwdFinIdeal.main_arg0)
          ∧ r.2.mem ((c.tc : Thread Cert.FfnBwdFinIdeal.nD Cert.FfnBwdFinIdeal.τ).loc Cert.FfnBwdFinIdeal.main_arg1) = m ((c.tc : Thread Cert.FfnBwdFinIdeal.nD Cert.FfnBwdFinIdeal.τ).loc Cert.FfnBwdFinIdeal.main_arg1)
          ∧ r.2.mem ((c.tc : Thread Cert.FfnBwdFinIdeal.nD Cert.FfnBwdFinIdeal.τ).loc Cert.FfnBwdFinIdeal.main_arg2) = m ((c.tc : Thread Cert.FfnBwdFinIdeal.nD Cert.FfnBwdFinIdeal.τ).loc Cert.FfnBwdFinIdeal.main_arg2)
          ∧ r.2.mem ((c.tc : Thread Cert.FfnBwdFinIdeal.nD Cert.FfnBwdFinIdeal.τ).loc Cert.FfnBwdFinIdeal.main_arg3) = m ((c.tc : Thread Cert.FfnBwdFinIdeal.nD Cert.FfnBwdFinIdeal.τ).loc Cert.FfnBwdFinIdeal.main_arg3))
      ∧ θ_run (Cert.FfnBwdFinRefIdeal.defs (F := Ideal)) (onTc (τ := Cert.FfnBwdFinRefIdeal.τ) (Cert.FfnBwdFinRefIdeal.main (F := Ideal))) ⟨m', fun _ => 0, g'⟩ (fun r => ∀ c : Dev Cert.FfnBwdFinRefIdeal.nD,
          r.2.mem ((c.tc : Thread Cert.FfnBwdFinRefIdeal.nD Cert.FfnBwdFinRefIdeal.τ).loc Cert.FfnBwdFinRefIdeal.main_v38) = v0 c
          ∧ r.2.mem ((c.tc : Thread Cert.FfnBwdFinRefIdeal.nD Cert.FfnBwdFinRefIdeal.τ).loc Cert.FfnBwdFinRefIdeal.main_v39) = v1 c
          ∧ r.2.mem ((c.tc : Thread Cert.FfnBwdFinRefIdeal.nD Cert.FfnBwdFinRefIdeal.τ).loc Cert.FfnBwdFinRefIdeal.main_arg0) = m' ((c.tc : Thread Cert.FfnBwdFinRefIdeal.nD Cert.FfnBwdFinRefIdeal.τ).loc Cert.FfnBwdFinRefIdeal.main_arg0)
          ∧ r.2.mem ((c.tc : Thread Cert.FfnBwdFinRefIdeal.nD Cert.FfnBwdFinRefIdeal.τ).loc Cert.FfnBwdFinRefIdeal.main_arg1) = m' ((c.tc : Thread Cert.FfnBwdFinRefIdeal.nD Cert.FfnBwdFinRefIdeal.τ).loc Cert.FfnBwdFinRefIdeal.main_arg1)
          ∧ r.2.mem ((c.tc : Thread Cert.FfnBwdFinRefIdeal.nD Cert.FfnBwdFinRefIdeal.τ).loc Cert.FfnBwdFinRefIdeal.main_arg2) = m' ((c.tc : Thread Cert.FfnBwdFinRefIdeal.nD Cert.FfnBwdFinRefIdeal.τ).loc Cert.FfnBwdFinRefIdeal.main_arg2)
          ∧ r.2.mem ((c.tc : Thread Cert.FfnBwdFinRefIdeal.nD Cert.FfnBwdFinRefIdeal.τ).loc Cert.FfnBwdFinRefIdeal.main_arg3) = m' ((c.tc : Thread Cert.FfnBwdFinRefIdeal.nD Cert.FfnBwdFinRefIdeal.τ).loc Cert.FfnBwdFinRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v9_0)) (v1 : (c : Dev Cert.FfnFwdIdeal.nD) → Buf (Elt Ideal) ((c.tc : Thread Cert.FfnFwdIdeal.nD Cert.FfnFwdIdeal.τ).loc Cert.FfnFwdIdeal.main_v9_1)) (v2 : (c : Dev Cert.FfnFwdIdeal.nD) → Buf (Elt Ideal) ((c.tc : Thread Cert.FfnFwdIdeal.nD Cert.FfnFwdIdeal.τ).loc Cert.FfnFwdIdeal.main_v9_2)) (v3 : (c : Dev Cert.FfnFwdIdeal.nD) → Buf (Elt Ideal) ((c.tc : Thread Cert.FfnFwdIdeal.nD Cert.FfnFwdIdeal.τ).loc Cert.FfnFwdIdeal.main_v9_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v9_0) = v0 c
          ∧ r.2.mem ((c.tc : Thread Cert.FfnFwdIdeal.nD Cert.FfnFwdIdeal.τ).loc Cert.FfnFwdIdeal.main_v9_1) = v1 c
          ∧ r.2.mem ((c.tc : Thread Cert.FfnFwdIdeal.nD Cert.FfnFwdIdeal.τ).loc Cert.FfnFwdIdeal.main_v9_2) = v2 c
          ∧ r.2.mem ((c.tc : Thread Cert.FfnFwdIdeal.nD Cert.FfnFwdIdeal.τ).loc Cert.FfnFwdIdeal.main_v9_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v19) = v0 c
          ∧ r.2.mem ((c.tc : Thread Cert.FfnFwdRefIdeal.nD Cert.FfnFwdRefIdeal.τ).loc Cert.FfnFwdRefIdeal.main_v23) = v1 c
          ∧ r.2.mem ((c.tc : Thread Cert.FfnFwdRefIdeal.nD Cert.FfnFwdRefIdeal.τ).loc Cert.FfnFwdRefIdeal.main_v27) = v2 c
          ∧ r.2.mem ((c.tc : Thread Cert.FfnFwdRefIdeal.nD Cert.FfnFwdRefIdeal.τ).loc Cert.FfnFwdRefIdeal.main_v28) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_DwMix_DwMixIdeal : Prop :=
  True

def algebraic_DwMixIdeal_DwMixRefIdeal [hDwMixIdeal : Cert.DwMixIdeal.Facts] [hDwMixRefIdeal : Cert.DwMixRefIdeal.Facts] : Prop :=
  ∀ (m : (ℓ : Loc Cert.DwMixIdeal.nD Cert.DwMixIdeal.τ Cert.DwMixIdeal.sig) → Buf (Elt Ideal) ℓ) (g : Dev Cert.DwMixIdeal.nD → PrngReg)
    (m' : (ℓ : Loc Cert.DwMixRefIdeal.nD Cert.DwMixRefIdeal.τ Cert.DwMixRefIdeal.sig) → Buf (Elt Ideal) ℓ) (g' : Dev Cert.DwMixRefIdeal.nD → PrngReg), Pre_DwMixIdeal m →
    (∀ c : Dev Cert.DwMixIdeal.nD,
      m' ((c.tc : Thread Cert.DwMixRefIdeal.nD Cert.DwMixRefIdeal.τ).loc Cert.DwMixRefIdeal.main_arg0) = m ((c.tc : Thread Cert.DwMixIdeal.nD Cert.DwMixIdeal.τ).loc Cert.DwMixIdeal.main_arg0)
      ∧ m' ((c.tc : Thread Cert.DwMixRefIdeal.nD Cert.DwMixRefIdeal.τ).loc Cert.DwMixRefIdeal.main_arg1) = m ((c.tc : Thread Cert.DwMixIdeal.nD Cert.DwMixIdeal.τ).loc Cert.DwMixIdeal.main_arg1)
      ∧ m' ((c.tc : Thread Cert.DwMixRefIdeal.nD Cert.DwMixRefIdeal.τ).loc Cert.DwMixRefIdeal.main_arg2) = m ((c.tc : Thread Cert.DwMixIdeal.nD Cert.DwMixIdeal.τ).loc Cert.DwMixIdeal.main_arg2)
      ∧ m' ((c.tc : Thread Cert.DwMixRefIdeal.nD Cert.DwMixRefIdeal.τ).loc Cert.DwMixRefIdeal.main_arg3) = m ((c.tc : Thread Cert.DwMixIdeal.nD Cert.DwMixIdeal.τ).loc Cert.DwMixIdeal.main_arg3)
      ∧ m' ((c.tc : Thread Cert.DwMixRefIdeal.nD Cert.DwMixRefIdeal.τ).loc Cert.DwMixRefIdeal.main_arg4) = m ((c.tc : Thread Cert.DwMixIdeal.nD Cert.DwMixIdeal.τ).loc Cert.DwMixIdeal.main_arg4)
      ∧ m' ((c.tc : Thread Cert.DwMixRefIdeal.nD Cert.DwMixRefIdeal.τ).loc Cert.DwMixRefIdeal.main_arg5) = m ((c.tc : Thread Cert.DwMixIdeal.nD Cert.DwMixIdeal.τ).loc Cert.DwMixIdeal.main_arg5)
      ∧ m' ((c.tc : Thread Cert.DwMixRefIdeal.nD Cert.DwMixRefIdeal.τ).loc Cert.DwMixRefIdeal.main_arg6) = m ((c.tc : Thread Cert.DwMixIdeal.nD Cert.DwMixIdeal.τ).loc Cert.DwMixIdeal.main_arg6)
      ∧ m' ((c.tc : Thread Cert.DwMixRefIdeal.nD Cert.DwMixRefIdeal.τ).loc Cert.DwMixRefIdeal.main_arg7) = m ((c.tc : Thread Cert.DwMixIdeal.nD Cert.DwMixIdeal.τ).loc Cert.DwMixIdeal.main_arg7)) →
    ∃ (v0 : (c : Dev Cert.DwMixIdeal.nD) → Buf (Elt Ideal) ((c.tc : Thread Cert.DwMixIdeal.nD Cert.DwMixIdeal.τ).loc Cert.DwMixIdeal.main_v0_0)) (v1 : (c : Dev Cert.DwMixIdeal.nD) → Buf (Elt Ideal) ((c.tc : Thread Cert.DwMixIdeal.nD Cert.DwMixIdeal.τ).loc Cert.DwMixIdeal.main_v0_1)) (v2 : (c : Dev Cert.DwMixIdeal.nD) → Buf (Elt Ideal) ((c.tc : Thread Cert.DwMixIdeal.nD Cert.DwMixIdeal.τ).loc Cert.DwMixIdeal.main_v0_2)) (v3 : (c : Dev Cert.DwMixIdeal.nD) → Buf (Elt Ideal) ((c.tc : Thread Cert.DwMixIdeal.nD Cert.DwMixIdeal.τ).loc Cert.DwMixIdeal.main_v0_3)),
      θ_run (Cert.DwMixIdeal.defs (F := Ideal)) (onTc (τ := Cert.DwMixIdeal.τ) (Cert.DwMixIdeal.main (F := Ideal))) ⟨m, fun _ => 0, g⟩ (fun r => ∀ c : Dev Cert.DwMixIdeal.nD,
          r.2.mem ((c.tc : Thread Cert.DwMixIdeal.nD Cert.DwMixIdeal.τ).loc Cert.DwMixIdeal.main_v0_0) = v0 c
          ∧ r.2.mem ((c.tc : Thread Cert.DwMixIdeal.nD Cert.DwMixIdeal.τ).loc Cert.DwMixIdeal.main_v0_1) = v1 c
          ∧ r.2.mem ((c.tc : Thread Cert.DwMixIdeal.nD Cert.DwMixIdeal.τ).loc Cert.DwMixIdeal.main_v0_2) = v2 c
          ∧ r.2.mem ((c.tc : Thread Cert.DwMixIdeal.nD Cert.DwMixIdeal.τ).loc Cert.DwMixIdeal.main_v0_3) = v3 c
          ∧ r.2.mem ((c.tc : Thread Cert.DwMixIdeal.nD Cert.DwMixIdeal.τ).loc Cert.DwMixIdeal.main_arg0) = m ((c.tc : Thread Cert.DwMixIdeal.nD Cert.DwMixIdeal.τ).loc Cert.DwMixIdeal.main_arg0)
          ∧ r.2.mem ((c.tc : Thread Cert.DwMixIdeal.nD Cert.DwMixIdeal.τ).loc Cert.DwMixIdeal.main_arg1) = m ((c.tc : Thread Cert.DwMixIdeal.nD Cert.DwMixIdeal.τ).loc Cert.DwMixIdeal.main_arg1)
          ∧ r.2.mem ((c.tc : Thread Cert.DwMixIdeal.nD Cert.DwMixIdeal.τ).loc Cert.DwMixIdeal.main_arg2) = m ((c.tc : Thread Cert.DwMixIdeal.nD Cert.DwMixIdeal.τ).loc Cert.DwMixIdeal.main_arg2)
          ∧ r.2.mem ((c.tc : Thread Cert.DwMixIdeal.nD Cert.DwMixIdeal.τ).loc Cert.DwMixIdeal.main_arg3) = m ((c.tc : Thread Cert.DwMixIdeal.nD Cert.DwMixIdeal.τ).loc Cert.DwMixIdeal.main_arg3)
          ∧ r.2.mem ((c.tc : Thread Cert.DwMixIdeal.nD Cert.DwMixIdeal.τ).loc Cert.DwMixIdeal.main_arg4) = m ((c.tc : Thread Cert.DwMixIdeal.nD Cert.DwMixIdeal.τ).loc Cert.DwMixIdeal.main_arg4)
          ∧ r.2.mem ((c.tc : Thread Cert.DwMixIdeal.nD Cert.DwMixIdeal.τ).loc Cert.DwMixIdeal.main_arg5) = m ((c.tc : Thread Cert.DwMixIdeal.nD Cert.DwMixIdeal.τ).loc Cert.DwMixIdeal.main_arg5)
          ∧ r.2.mem ((c.tc : Thread Cert.DwMixIdeal.nD Cert.DwMixIdeal.τ).loc Cert.DwMixIdeal.main_arg6) = m ((c.tc : Thread Cert.DwMixIdeal.nD Cert.DwMixIdeal.τ).loc Cert.DwMixIdeal.main_arg6)
          ∧ r.2.mem ((c.tc : Thread Cert.DwMixIdeal.nD Cert.DwMixIdeal.τ).loc Cert.DwMixIdeal.main_arg7) = m ((c.tc : Thread Cert.DwMixIdeal.nD Cert.DwMixIdeal.τ).loc Cert.DwMixIdeal.main_arg7))
      ∧ θ_run (Cert.DwMixRefIdeal.defs (F := Ideal)) (onTc (τ := Cert.DwMixRefIdeal.τ) (Cert.DwMixRefIdeal.main (F := Ideal))) ⟨m', fun _ => 0, g'⟩ (fun r => ∀ c : Dev Cert.DwMixRefIdeal.nD,
          r.2.mem ((c.tc : Thread Cert.DwMixRefIdeal.nD Cert.DwMixRefIdeal.τ).loc Cert.DwMixRefIdeal.main_v8) = v0 c
          ∧ r.2.mem ((c.tc : Thread Cert.DwMixRefIdeal.nD Cert.DwMixRefIdeal.τ).loc Cert.DwMixRefIdeal.main_v17) = v1 c
          ∧ r.2.mem ((c.tc : Thread Cert.DwMixRefIdeal.nD Cert.DwMixRefIdeal.τ).loc Cert.DwMixRefIdeal.main_v26) = v2 c
          ∧ r.2.mem ((c.tc : Thread Cert.DwMixRefIdeal.nD Cert.DwMixRefIdeal.τ).loc Cert.DwMixRefIdeal.main_v33) = v3 c
          ∧ r.2.mem ((c.tc : Thread Cert.DwMixRefIdeal.nD Cert.DwMixRefIdeal.τ).loc Cert.DwMixRefIdeal.main_arg0) = m' ((c.tc : Thread Cert.DwMixRefIdeal.nD Cert.DwMixRefIdeal.τ).loc Cert.DwMixRefIdeal.main_arg0)
          ∧ r.2.mem ((c.tc : Thread Cert.DwMixRefIdeal.nD Cert.DwMixRefIdeal.τ).loc Cert.DwMixRefIdeal.main_arg1) = m' ((c.tc : Thread Cert.DwMixRefIdeal.nD Cert.DwMixRefIdeal.τ).loc Cert.DwMixRefIdeal.main_arg1)
          ∧ r.2.mem ((c.tc : Thread Cert.DwMixRefIdeal.nD Cert.DwMixRefIdeal.τ).loc Cert.DwMixRefIdeal.main_arg2) = m' ((c.tc : Thread Cert.DwMixRefIdeal.nD Cert.DwMixRefIdeal.τ).loc Cert.DwMixRefIdeal.main_arg2)
          ∧ r.2.mem ((c.tc : Thread Cert.DwMixRefIdeal.nD Cert.DwMixRefIdeal.τ).loc Cert.DwMixRefIdeal.main_arg3) = m' ((c.tc : Thread Cert.DwMixRefIdeal.nD Cert.DwMixRefIdeal.τ).loc Cert.DwMixRefIdeal.main_arg3)
          ∧ r.2.mem ((c.tc : Thread Cert.DwMixRefIdeal.nD Cert.DwMixRefIdeal.τ).loc Cert.DwMixRefIdeal.main_arg4) = m' ((c.tc : Thread Cert.DwMixRefIdeal.nD Cert.DwMixRefIdeal.τ).loc Cert.DwMixRefIdeal.main_arg4)
          ∧ r.2.mem ((c.tc : Thread Cert.DwMixRefIdeal.nD Cert.DwMixRefIdeal.τ).loc Cert.DwMixRefIdeal.main_arg5) = m' ((c.tc : Thread Cert.DwMixRefIdeal.nD Cert.DwMixRefIdeal.τ).loc Cert.DwMixRefIdeal.main_arg5)
          ∧ r.2.mem ((c.tc : Thread Cert.DwMixRefIdeal.nD Cert.DwMixRefIdeal.τ).loc Cert.DwMixRefIdeal.main_arg6) = m' ((c.tc : Thread Cert.DwMixRefIdeal.nD Cert.DwMixRefIdeal.τ).loc Cert.DwMixRefIdeal.main_arg6)
          ∧ r.2.mem ((c.tc : Thread Cert.DwMixRefIdeal.nD Cert.DwMixRefIdeal.τ).loc Cert.DwMixRefIdeal.main_arg7) = m' ((c.tc : Thread Cert.DwMixRefIdeal.nD Cert.DwMixRefIdeal.τ).loc Cert.DwMixRefIdeal.main_arg7))

def preserves_Params_ParamsIdeal : Prop :=
  True

def algebraic_ParamsIdeal_ParamsRefIdeal [hParamsIdeal : Cert.ParamsIdeal.Facts] [hParamsRefIdeal : Cert.ParamsRefIdeal.Facts] : Prop :=
  ∀ (m : (ℓ : Loc Cert.ParamsIdeal.nD Cert.ParamsIdeal.τ Cert.ParamsIdeal.sig) → Buf (Elt Ideal) ℓ) (g : Dev Cert.ParamsIdeal.nD → PrngReg)
    (m' : (ℓ : Loc Cert.ParamsRefIdeal.nD Cert.ParamsRefIdeal.τ Cert.ParamsRefIdeal.sig) → Buf (Elt Ideal) ℓ) (g' : Dev Cert.ParamsRefIdeal.nD → PrngReg), Pre_ParamsIdeal m →
    (∀ c : Dev Cert.ParamsIdeal.nD,
      m' ((c.tc : Thread Cert.ParamsRefIdeal.nD Cert.ParamsRefIdeal.τ).loc Cert.ParamsRefIdeal.main_arg0) = m ((c.tc : Thread Cert.ParamsIdeal.nD Cert.ParamsIdeal.τ).loc Cert.ParamsIdeal.main_arg0)
      ∧ m' ((c.tc : Thread Cert.ParamsRefIdeal.nD Cert.ParamsRefIdeal.τ).loc Cert.ParamsRefIdeal.main_arg1) = m ((c.tc : Thread Cert.ParamsIdeal.nD Cert.ParamsIdeal.τ).loc Cert.ParamsIdeal.main_arg1)
      ∧ m' ((c.tc : Thread Cert.ParamsRefIdeal.nD Cert.ParamsRefIdeal.τ).loc Cert.ParamsRefIdeal.main_arg2) = m ((c.tc : Thread Cert.ParamsIdeal.nD Cert.ParamsIdeal.τ).loc Cert.ParamsIdeal.main_arg2)
      ∧ m' ((c.tc : Thread Cert.ParamsRefIdeal.nD Cert.ParamsRefIdeal.τ).loc Cert.ParamsRefIdeal.main_arg3) = m ((c.tc : Thread Cert.ParamsIdeal.nD Cert.ParamsIdeal.τ).loc Cert.ParamsIdeal.main_arg3)
      ∧ m' ((c.tc : Thread Cert.ParamsRefIdeal.nD Cert.ParamsRefIdeal.τ).loc Cert.ParamsRefIdeal.main_arg4) = m ((c.tc : Thread Cert.ParamsIdeal.nD Cert.ParamsIdeal.τ).loc Cert.ParamsIdeal.main_arg4)
      ∧ m' ((c.tc : Thread Cert.ParamsRefIdeal.nD Cert.ParamsRefIdeal.τ).loc Cert.ParamsRefIdeal.main_arg5) = m ((c.tc : Thread Cert.ParamsIdeal.nD Cert.ParamsIdeal.τ).loc Cert.ParamsIdeal.main_arg5)
      ∧ m' ((c.tc : Thread Cert.ParamsRefIdeal.nD Cert.ParamsRefIdeal.τ).loc Cert.ParamsRefIdeal.main_arg6) = m ((c.tc : Thread Cert.ParamsIdeal.nD Cert.ParamsIdeal.τ).loc Cert.ParamsIdeal.main_arg6)
      ∧ m' ((c.tc : Thread Cert.ParamsRefIdeal.nD Cert.ParamsRefIdeal.τ).loc Cert.ParamsRefIdeal.main_arg7) = m ((c.tc : Thread Cert.ParamsIdeal.nD Cert.ParamsIdeal.τ).loc Cert.ParamsIdeal.main_arg7)) →
    ∃ (v0 : (c : Dev Cert.ParamsIdeal.nD) → Buf (Elt Ideal) ((c.tc : Thread Cert.ParamsIdeal.nD Cert.ParamsIdeal.τ).loc Cert.ParamsIdeal.main_v9_0)) (v1 : (c : Dev Cert.ParamsIdeal.nD) → Buf (Elt Ideal) ((c.tc : Thread Cert.ParamsIdeal.nD Cert.ParamsIdeal.τ).loc Cert.ParamsIdeal.main_v9_1)) (v2 : (c : Dev Cert.ParamsIdeal.nD) → Buf (Elt Ideal) ((c.tc : Thread Cert.ParamsIdeal.nD Cert.ParamsIdeal.τ).loc Cert.ParamsIdeal.main_v9_2)) (v3 : (c : Dev Cert.ParamsIdeal.nD) → Buf (Elt Ideal) ((c.tc : Thread Cert.ParamsIdeal.nD Cert.ParamsIdeal.τ).loc Cert.ParamsIdeal.main_v9_3)) (v4 : (c : Dev Cert.ParamsIdeal.nD) → Buf (Elt Ideal) ((c.tc : Thread Cert.ParamsIdeal.nD Cert.ParamsIdeal.τ).loc Cert.ParamsIdeal.main_v9_4)),
      θ_run (Cert.ParamsIdeal.defs (F := Ideal)) (onTc (τ := Cert.ParamsIdeal.τ) (Cert.ParamsIdeal.main (F := Ideal))) ⟨m, fun _ => 0, g⟩ (fun r => ∀ c : Dev Cert.ParamsIdeal.nD,
          r.2.mem ((c.tc : Thread Cert.ParamsIdeal.nD Cert.ParamsIdeal.τ).loc Cert.ParamsIdeal.main_v9_0) = v0 c
          ∧ r.2.mem ((c.tc : Thread Cert.ParamsIdeal.nD Cert.ParamsIdeal.τ).loc Cert.ParamsIdeal.main_v9_1) = v1 c
          ∧ r.2.mem ((c.tc : Thread Cert.ParamsIdeal.nD Cert.ParamsIdeal.τ).loc Cert.ParamsIdeal.main_v9_2) = v2 c
          ∧ r.2.mem ((c.tc : Thread Cert.ParamsIdeal.nD Cert.ParamsIdeal.τ).loc Cert.ParamsIdeal.main_v9_3) = v3 c
          ∧ r.2.mem ((c.tc : Thread Cert.ParamsIdeal.nD Cert.ParamsIdeal.τ).loc Cert.ParamsIdeal.main_v9_4) = v4 c
          ∧ r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
          ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
          ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
          ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
          ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4)
          ∧ r.2.mem ((c.tc : Thread Cert.ParamsIdeal.nD Cert.ParamsIdeal.τ).loc Cert.ParamsIdeal.main_arg5) = m ((c.tc : Thread Cert.ParamsIdeal.nD Cert.ParamsIdeal.τ).loc Cert.ParamsIdeal.main_arg5)
          ∧ r.2.mem ((c.tc : Thread Cert.ParamsIdeal.nD Cert.ParamsIdeal.τ).loc Cert.ParamsIdeal.main_arg6) = m ((c.tc : Thread Cert.ParamsIdeal.nD Cert.ParamsIdeal.τ).loc Cert.ParamsIdeal.main_arg6)
          ∧ r.2.mem ((c.tc : Thread Cert.ParamsIdeal.nD Cert.ParamsIdeal.τ).loc Cert.ParamsIdeal.main_arg7) = m ((c.tc : Thread Cert.ParamsIdeal.nD Cert.ParamsIdeal.τ).loc Cert.ParamsIdeal.main_arg7))
      ∧ θ_run (Cert.ParamsRefIdeal.defs (F := Ideal)) (onTc (τ := Cert.ParamsRefIdeal.τ) (Cert.ParamsRefIdeal.main (F := Ideal))) ⟨m', fun _ => 0, g'⟩ (fun r => ∀ c : Dev Cert.ParamsRefIdeal.nD,
          r.2.mem ((c.tc : Thread Cert.ParamsRefIdeal.nD Cert.ParamsRefIdeal.τ).loc Cert.ParamsRefIdeal.main_v198) = v0 c
          ∧ r.2.mem ((c.tc : Thread Cert.ParamsRefIdeal.nD Cert.ParamsRefIdeal.τ).loc Cert.ParamsRefIdeal.main_v199) = v1 c
          ∧ r.2.mem ((c.tc : Thread Cert.ParamsRefIdeal.nD Cert.ParamsRefIdeal.τ).loc Cert.ParamsRefIdeal.main_v197) = v2 c
          ∧ r.2.mem ((c.tc : Thread Cert.ParamsRefIdeal.nD Cert.ParamsRefIdeal.τ).loc Cert.ParamsRefIdeal.main_v206) = v3 c
          ∧ r.2.mem ((c.tc : Thread Cert.ParamsRefIdeal.nD Cert.ParamsRefIdeal.τ).loc Cert.ParamsRefIdeal.main_v209) = v4 c
          ∧ r.2.mem ((c.tc : Thread Cert.ParamsRefIdeal.nD Cert.ParamsRefIdeal.τ).loc Cert.ParamsRefIdeal.main_arg0) = m' ((c.tc : Thread Cert.ParamsRefIdeal.nD Cert.ParamsRefIdeal.τ).loc Cert.ParamsRefIdeal.main_arg0)
          ∧ r.2.mem ((c.tc : Thread Cert.ParamsRefIdeal.nD Cert.ParamsRefIdeal.τ).loc Cert.ParamsRefIdeal.main_arg1) = m' ((c.tc : Thread Cert.ParamsRefIdeal.nD Cert.ParamsRefIdeal.τ).loc Cert.ParamsRefIdeal.main_arg1)
          ∧ r.2.mem ((c.tc : Thread Cert.ParamsRefIdeal.nD Cert.ParamsRefIdeal.τ).loc Cert.ParamsRefIdeal.main_arg2) = m' ((c.tc : Thread Cert.ParamsRefIdeal.nD Cert.ParamsRefIdeal.τ).loc Cert.ParamsRefIdeal.main_arg2)
          ∧ r.2.mem ((c.tc : Thread Cert.ParamsRefIdeal.nD Cert.ParamsRefIdeal.τ).loc Cert.ParamsRefIdeal.main_arg3) = m' ((c.tc : Thread Cert.ParamsRefIdeal.nD Cert.ParamsRefIdeal.τ).loc Cert.ParamsRefIdeal.main_arg3)
          ∧ r.2.mem ((c.tc : Thread Cert.ParamsRefIdeal.nD Cert.ParamsRefIdeal.τ).loc Cert.ParamsRefIdeal.main_arg4) = m' ((c.tc : Thread Cert.ParamsRefIdeal.nD Cert.ParamsRefIdeal.τ).loc Cert.ParamsRefIdeal.main_arg4)
          ∧ r.2.mem ((c.tc : Thread Cert.ParamsRefIdeal.nD Cert.ParamsRefIdeal.τ).loc Cert.ParamsRefIdeal.main_arg5) = m' ((c.tc : Thread Cert.ParamsRefIdeal.nD Cert.ParamsRefIdeal.τ).loc Cert.ParamsRefIdeal.main_arg5)
          ∧ r.2.mem ((c.tc : Thread Cert.ParamsRefIdeal.nD Cert.ParamsRefIdeal.τ).loc Cert.ParamsRefIdeal.main_arg6) = m' ((c.tc : Thread Cert.ParamsRefIdeal.nD Cert.ParamsRefIdeal.τ).loc Cert.ParamsRefIdeal.main_arg6)
          ∧ r.2.mem ((c.tc : Thread Cert.ParamsRefIdeal.nD Cert.ParamsRefIdeal.τ).loc Cert.ParamsRefIdeal.main_arg7) = m' ((c.tc : Thread Cert.ParamsRefIdeal.nD Cert.ParamsRefIdeal.τ).loc Cert.ParamsRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v110) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_AdamSmall_AdamSmallIdeal : Prop :=
  IdealRules.named_const.Statement Cert.AdamSmallIdeal.κ "c1" .f32 0x3FC48605#32 (((5463681 / 8388608)⁻¹ : ℝ) : EReal)
  ∧ IdealRules.named_const.Statement Cert.AdamSmallIdeal.κ "c2" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamIn_AdamInIdeal : Prop :=
  IdealRules.named_const.Statement Cert.AdamInIdeal.κ "c1" .f32 0x3FC48605#32 (((5463681 / 8388608)⁻¹ : ℝ) : EReal)
  ∧ IdealRules.named_const.Statement Cert.AdamInIdeal.κ "c2" .f32 0x42C8E6D3#32 (((2672307 / 268435456)⁻¹ : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v10) = v0 c
          ∧ r.2.mem ((c.tc : Thread Cert.AdamInRefIdeal.nD Cert.AdamInRefIdeal.τ).loc Cert.AdamInRefIdeal.main_v34) = v1 c
          ∧ r.2.mem ((c.tc : Thread Cert.AdamInRefIdeal.nD Cert.AdamInRefIdeal.τ).loc Cert.AdamInRefIdeal.main_v15) = v2 c
          ∧ r.2.mem ((c.tc : Thread Cert.AdamInRefIdeal.nD Cert.AdamInRefIdeal.τ).loc Cert.AdamInRefIdeal.main_v21) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamGlu_AdamGluIdeal : Prop :=
  IdealRules.named_const.Statement Cert.AdamGluIdeal.κ "c1" .f32 0x3FC48605#32 (((5463681 / 8388608)⁻¹ : ℝ) : EReal)
  ∧ IdealRules.named_const.Statement Cert.AdamGluIdeal.κ "c2" .f32 0x42C8E6D3#32 (((2672307 / 268435456)⁻¹ : ℝ) : EReal)

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)
      ∧ m' ((c.tc : Thread Cert.AdamGluRefIdeal.nD Cert.AdamGluRefIdeal.τ).loc Cert.AdamGluRefIdeal.main_arg5) = m ((c.tc : Thread Cert.AdamGluIdeal.nD Cert.AdamGluIdeal.τ).loc Cert.AdamGluIdeal.main_arg5)
      ∧ m' ((c.tc : Thread Cert.AdamGluRefIdeal.nD Cert.AdamGluRefIdeal.τ).loc Cert.AdamGluRefIdeal.main_arg6) = m ((c.tc : Thread Cert.AdamGluIdeal.nD Cert.AdamGluIdeal.τ).loc Cert.AdamGluIdeal.main_arg6)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4)
          ∧ r.2.mem ((c.tc : Thread Cert.AdamGluIdeal.nD Cert.AdamGluIdeal.τ).loc Cert.AdamGluIdeal.main_arg5) = m ((c.tc : Thread Cert.AdamGluIdeal.nD Cert.AdamGluIdeal.τ).loc Cert.AdamGluIdeal.main_arg5)
          ∧ r.2.mem ((c.tc : Thread Cert.AdamGluIdeal.nD Cert.AdamGluIdeal.τ).loc Cert.AdamGluIdeal.main_arg6) = m ((c.tc : Thread Cert.AdamGluIdeal.nD Cert.AdamGluIdeal.τ).loc Cert.AdamGluIdeal.main_arg6))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v10) = v0 c
          ∧ r.2.mem ((c.tc : Thread Cert.AdamGluRefIdeal.nD Cert.AdamGluRefIdeal.τ).loc Cert.AdamGluRefIdeal.main_v34) = v1 c
          ∧ r.2.mem ((c.tc : Thread Cert.AdamGluRefIdeal.nD Cert.AdamGluRefIdeal.τ).loc Cert.AdamGluRefIdeal.main_v15) = v2 c
          ∧ r.2.mem ((c.tc : Thread Cert.AdamGluRefIdeal.nD Cert.AdamGluRefIdeal.τ).loc Cert.AdamGluRefIdeal.main_v21) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4)
          ∧ r.2.mem ((c.tc : Thread Cert.AdamGluRefIdeal.nD Cert.AdamGluRefIdeal.τ).loc Cert.AdamGluRefIdeal.main_arg5) = m' ((c.tc : Thread Cert.AdamGluRefIdeal.nD Cert.AdamGluRefIdeal.τ).loc Cert.AdamGluRefIdeal.main_arg5)
          ∧ r.2.mem ((c.tc : Thread Cert.AdamGluRefIdeal.nD Cert.AdamGluRefIdeal.τ).loc Cert.AdamGluRefIdeal.main_arg6) = m' ((c.tc : Thread Cert.AdamGluRefIdeal.nD Cert.AdamGluRefIdeal.τ).loc Cert.AdamGluRefIdeal.main_arg6))

def preserves_AdamUp_AdamUpIdeal : Prop :=
  IdealRules.named_const.Statement Cert.AdamUpIdeal.κ "c1" .f32 0x3FC48605#32 (((5463681 / 8388608)⁻¹ : ℝ) : EReal)
  ∧ IdealRules.named_const.Statement Cert.AdamUpIdeal.κ "c2" .f32 0x42C8E6D3#32 (((2672307 / 268435456)⁻¹ : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v10) = v0 c
          ∧ r.2.mem ((c.tc : Thread Cert.AdamUpRefIdeal.nD Cert.AdamUpRefIdeal.τ).loc Cert.AdamUpRefIdeal.main_v34) = v1 c
          ∧ r.2.mem ((c.tc : Thread Cert.AdamUpRefIdeal.nD Cert.AdamUpRefIdeal.τ).loc Cert.AdamUpRefIdeal.main_v15) = v2 c
          ∧ r.2.mem ((c.tc : Thread Cert.AdamUpRefIdeal.nD Cert.AdamUpRefIdeal.τ).loc Cert.AdamUpRefIdeal.main_v21) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamOut_AdamOutIdeal : Prop :=
  IdealRules.named_const.Statement Cert.AdamOutIdeal.κ "c1" .f32 0x3FC48605#32 (((5463681 / 8388608)⁻¹ : ℝ) : EReal)
  ∧ IdealRules.named_const.Statement Cert.AdamOutIdeal.κ "c2" .f32 0x42C8E6D3#32 (((2672307 / 268435456)⁻¹ : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v10) = v0 c
          ∧ r.2.mem ((c.tc : Thread Cert.AdamOutRefIdeal.nD Cert.AdamOutRefIdeal.τ).loc Cert.AdamOutRefIdeal.main_v34) = v1 c
          ∧ r.2.mem ((c.tc : Thread Cert.AdamOutRefIdeal.nD Cert.AdamOutRefIdeal.τ).loc Cert.AdamOutRefIdeal.main_v15) = v2 c
          ∧ r.2.mem ((c.tc : Thread Cert.AdamOutRefIdeal.nD Cert.AdamOutRefIdeal.τ).loc Cert.AdamOutRefIdeal.main_v21) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamFfnIn_AdamFfnInIdeal : Prop :=
  IdealRules.named_const.Statement Cert.AdamFfnInIdeal.κ "c1" .f32 0x3FC48605#32 (((5463681 / 8388608)⁻¹ : ℝ) : EReal)
  ∧ IdealRules.named_const.Statement Cert.AdamFfnInIdeal.κ "c2" .f32 0x42C8E6D3#32 (((2672307 / 268435456)⁻¹ : ℝ) : EReal)

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)
      ∧ m' ((c.tc : Thread Cert.AdamFfnInRefIdeal.nD Cert.AdamFfnInRefIdeal.τ).loc Cert.AdamFfnInRefIdeal.main_arg4) = m ((c.tc : Thread Cert.AdamFfnInIdeal.nD Cert.AdamFfnInIdeal.τ).loc Cert.AdamFfnInIdeal.main_arg4)
      ∧ m' ((c.tc : Thread Cert.AdamFfnInRefIdeal.nD Cert.AdamFfnInRefIdeal.τ).loc Cert.AdamFfnInRefIdeal.main_arg5) = m ((c.tc : Thread Cert.AdamFfnInIdeal.nD Cert.AdamFfnInIdeal.τ).loc Cert.AdamFfnInIdeal.main_arg5)
      ∧ m' ((c.tc : Thread Cert.AdamFfnInRefIdeal.nD Cert.AdamFfnInRefIdeal.τ).loc Cert.AdamFfnInRefIdeal.main_arg6) = m ((c.tc : Thread Cert.AdamFfnInIdeal.nD Cert.AdamFfnInIdeal.τ).loc Cert.AdamFfnInIdeal.main_arg6)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4)
          ∧ r.2.mem ((c.tc : Thread Cert.AdamFfnInIdeal.nD Cert.AdamFfnInIdeal.τ).loc Cert.AdamFfnInIdeal.main_arg5) = m ((c.tc : Thread Cert.AdamFfnInIdeal.nD Cert.AdamFfnInIdeal.τ).loc Cert.AdamFfnInIdeal.main_arg5)
          ∧ r.2.mem ((c.tc : Thread Cert.AdamFfnInIdeal.nD Cert.AdamFfnInIdeal.τ).loc Cert.AdamFfnInIdeal.main_arg6) = m ((c.tc : Thread Cert.AdamFfnInIdeal.nD Cert.AdamFfnInIdeal.τ).loc Cert.AdamFfnInIdeal.main_arg6))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v10) = v0 c
          ∧ r.2.mem ((c.tc : Thread Cert.AdamFfnInRefIdeal.nD Cert.AdamFfnInRefIdeal.τ).loc Cert.AdamFfnInRefIdeal.main_v34) = v1 c
          ∧ r.2.mem ((c.tc : Thread Cert.AdamFfnInRefIdeal.nD Cert.AdamFfnInRefIdeal.τ).loc Cert.AdamFfnInRefIdeal.main_v15) = v2 c
          ∧ r.2.mem ((c.tc : Thread Cert.AdamFfnInRefIdeal.nD Cert.AdamFfnInRefIdeal.τ).loc Cert.AdamFfnInRefIdeal.main_v21) = v3 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3)
          ∧ r.2.mem ((c.tc : Thread Cert.AdamFfnInRefIdeal.nD Cert.AdamFfnInRefIdeal.τ).loc Cert.AdamFfnInRefIdeal.main_arg4) = m' ((c.tc : Thread Cert.AdamFfnInRefIdeal.nD Cert.AdamFfnInRefIdeal.τ).loc Cert.AdamFfnInRefIdeal.main_arg4)
          ∧ r.2.mem ((c.tc : Thread Cert.AdamFfnInRefIdeal.nD Cert.AdamFfnInRefIdeal.τ).loc Cert.AdamFfnInRefIdeal.main_arg5) = m' ((c.tc : Thread Cert.AdamFfnInRefIdeal.nD Cert.AdamFfnInRefIdeal.τ).loc Cert.AdamFfnInRefIdeal.main_arg5)
          ∧ r.2.mem ((c.tc : Thread Cert.AdamFfnInRefIdeal.nD Cert.AdamFfnInRefIdeal.τ).loc Cert.AdamFfnInRefIdeal.main_arg6) = m' ((c.tc : Thread Cert.AdamFfnInRefIdeal.nD Cert.AdamFfnInRefIdeal.τ).loc Cert.AdamFfnInRefIdeal.main_arg6))

def preserves_AdamFfnOut_AdamFfnOutIdeal : Prop :=
  IdealRules.named_const.Statement Cert.AdamFfnOutIdeal.κ "c1" .f32 0x3FC48605#32 (((5463681 / 8388608)⁻¹ : ℝ) : EReal)
  ∧ IdealRules.named_const.Statement Cert.AdamFfnOutIdeal.κ "c2" .f32 0x42C8E6D3#32 (((2672307 / 268435456)⁻¹ : ℝ) : EReal)

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)
      ∧ m' ((c.tc : Thread Cert.AdamFfnOutRefIdeal.nD Cert.AdamFfnOutRefIdeal.τ).loc Cert.AdamFfnOutRefIdeal.main_arg4) = m ((c.tc : Thread Cert.AdamFfnOutIdeal.nD Cert.AdamFfnOutIdeal.τ).loc Cert.AdamFfnOutIdeal.main_arg4)
      ∧ m' ((c.tc : Thread Cert.AdamFfnOutRefIdeal.nD Cert.AdamFfnOutRefIdeal.τ).loc Cert.AdamFfnOutRefIdeal.main_arg5) = m ((c.tc : Thread Cert.AdamFfnOutIdeal.nD Cert.AdamFfnOutIdeal.τ).loc Cert.AdamFfnOutIdeal.main_arg5)
      ∧ m' ((c.tc : Thread Cert.AdamFfnOutRefIdeal.nD Cert.AdamFfnOutRefIdeal.τ).loc Cert.AdamFfnOutRefIdeal.main_arg6) = m ((c.tc : Thread Cert.AdamFfnOutIdeal.nD Cert.AdamFfnOutIdeal.τ).loc Cert.AdamFfnOutIdeal.main_arg6)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4)
          ∧ r.2.mem ((c.tc : Thread Cert.AdamFfnOutIdeal.nD Cert.AdamFfnOutIdeal.τ).loc Cert.AdamFfnOutIdeal.main_arg5) = m ((c.tc : Thread Cert.AdamFfnOutIdeal.nD Cert.AdamFfnOutIdeal.τ).loc Cert.AdamFfnOutIdeal.main_arg5)
          ∧ r.2.mem ((c.tc : Thread Cert.AdamFfnOutIdeal.nD Cert.AdamFfnOutIdeal.τ).loc Cert.AdamFfnOutIdeal.main_arg6) = m ((c.tc : Thread Cert.AdamFfnOutIdeal.nD Cert.AdamFfnOutIdeal.τ).loc Cert.AdamFfnOutIdeal.main_arg6))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v10) = v0 c
          ∧ r.2.mem ((c.tc : Thread Cert.AdamFfnOutRefIdeal.nD Cert.AdamFfnOutRefIdeal.τ).loc Cert.AdamFfnOutRefIdeal.main_v34) = v1 c
          ∧ r.2.mem ((c.tc : Thread Cert.AdamFfnOutRefIdeal.nD Cert.AdamFfnOutRefIdeal.τ).loc Cert.AdamFfnOutRefIdeal.main_v15) = v2 c
          ∧ r.2.mem ((c.tc : Thread Cert.AdamFfnOutRefIdeal.nD Cert.AdamFfnOutRefIdeal.τ).loc Cert.AdamFfnOutRefIdeal.main_v21) = v3 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3)
          ∧ r.2.mem ((c.tc : Thread Cert.AdamFfnOutRefIdeal.nD Cert.AdamFfnOutRefIdeal.τ).loc Cert.AdamFfnOutRefIdeal.main_arg4) = m' ((c.tc : Thread Cert.AdamFfnOutRefIdeal.nD Cert.AdamFfnOutRefIdeal.τ).loc Cert.AdamFfnOutRefIdeal.main_arg4)
          ∧ r.2.mem ((c.tc : Thread Cert.AdamFfnOutRefIdeal.nD Cert.AdamFfnOutRefIdeal.τ).loc Cert.AdamFfnOutRefIdeal.main_arg5) = m' ((c.tc : Thread Cert.AdamFfnOutRefIdeal.nD Cert.AdamFfnOutRefIdeal.τ).loc Cert.AdamFfnOutRefIdeal.main_arg5)
          ∧ r.2.mem ((c.tc : Thread Cert.AdamFfnOutRefIdeal.nD Cert.AdamFfnOutRefIdeal.τ).loc Cert.AdamFfnOutRefIdeal.main_arg6) = m' ((c.tc : Thread Cert.AdamFfnOutRefIdeal.nD Cert.AdamFfnOutRefIdeal.τ).loc Cert.AdamFfnOutRefIdeal.main_arg6))

def Claim : Prop :=
  ∃ (hFfnBwd : Cert.FfnBwd.Facts) (hFfnBwdIdeal : Cert.FfnBwdIdeal.Facts) (hFfnGradIdeal : Cert.FfnGradIdeal.Facts) (hInproj : Cert.Inproj.Facts) (hInprojIdeal : Cert.InprojIdeal.Facts) (hInprojRefIdeal : Cert.InprojRefIdeal.Facts) (hDwIn : Cert.DwIn.Facts) (hDwInIdeal : Cert.DwInIdeal.Facts) (hDwInRefIdeal : Cert.DwInRefIdeal.Facts) (hInprojBwd : Cert.InprojBwd.Facts) (hInprojBwdIdeal : Cert.InprojBwdIdeal.Facts) (hInprojBwdRefIdeal : Cert.InprojBwdRefIdeal.Facts) (hFfnBwdFin : Cert.FfnBwdFin.Facts) (hFfnBwdFinIdeal : Cert.FfnBwdFinIdeal.Facts) (hFfnBwdFinRefIdeal : Cert.FfnBwdFinRefIdeal.Facts) (hFfnFwd : Cert.FfnFwd.Facts) (hFfnFwdIdeal : Cert.FfnFwdIdeal.Facts) (hFfnFwdRefIdeal : Cert.FfnFwdRefIdeal.Facts) (hLossHead : Cert.LossHead.Facts) (hLossHeadIdeal : Cert.LossHeadIdeal.Facts) (hLossHeadRefIdeal : Cert.LossHeadRefIdeal.Facts) (hDwMix : Cert.DwMix.Facts) (hDwMixIdeal : Cert.DwMixIdeal.Facts) (hDwMixRefIdeal : Cert.DwMixRefIdeal.Facts) (hParams : Cert.Params.Facts) (hParamsIdeal : Cert.ParamsIdeal.Facts) (hParamsRefIdeal : Cert.ParamsRefIdeal.Facts) (hMerge : Cert.Merge.Facts) (hMergeIdeal : Cert.MergeIdeal.Facts) (hMergeRefIdeal : Cert.MergeRefIdeal.Facts) (hAdamSmall : Cert.AdamSmall.Facts) (hAdamSmallIdeal : Cert.AdamSmallIdeal.Facts) (hAdamSmallRefIdeal : Cert.AdamSmallRefIdeal.Facts) (hAdamIn : Cert.AdamIn.Facts) (hAdamInIdeal : Cert.AdamInIdeal.Facts) (hAdamInRefIdeal : Cert.AdamInRefIdeal.Facts) (hAdamGlu : Cert.AdamGlu.Facts) (hAdamGluIdeal : Cert.AdamGluIdeal.Facts) (hAdamGluRefIdeal : Cert.AdamGluRefIdeal.Facts) (hAdamUp : Cert.AdamUp.Facts) (hAdamUpIdeal : Cert.AdamUpIdeal.Facts) (hAdamUpRefIdeal : Cert.AdamUpRefIdeal.Facts) (hAdamOut : Cert.AdamOut.Facts) (hAdamOutIdeal : Cert.AdamOutIdeal.Facts) (hAdamOutRefIdeal : Cert.AdamOutRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hPre_finite : Cert.Pre_finite.Facts),
    quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnGradIdeal (hFfnGradIdeal := hFfnGradIdeal)
    ∧ quiescent_FfnGradIdeal_pre_finite (hFfnGradIdeal := hFfnGradIdeal) (hPre_finite := hPre_finite)
    ∧ quiescent_Inproj (hInproj := hInproj)
    ∧ quiescent_InprojIdeal (hInprojIdeal := hInprojIdeal)
    ∧ quiescent_InprojRefIdeal (hInprojRefIdeal := hInprojRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_InprojBwd (hInprojBwd := hInprojBwd)
    ∧ quiescent_InprojBwdIdeal (hInprojBwdIdeal := hInprojBwdIdeal)
    ∧ quiescent_InprojBwdRefIdeal (hInprojBwdRefIdeal := hInprojBwdRefIdeal)
    ∧ quiescent_FfnBwdFin (hFfnBwdFin := hFfnBwdFin)
    ∧ quiescent_FfnBwdFinIdeal (hFfnBwdFinIdeal := hFfnBwdFinIdeal)
    ∧ quiescent_FfnBwdFinRefIdeal (hFfnBwdFinRefIdeal := hFfnBwdFinRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_DwMix (hDwMix := hDwMix)
    ∧ quiescent_DwMixIdeal (hDwMixIdeal := hDwMixIdeal)
    ∧ quiescent_DwMixRefIdeal (hDwMixRefIdeal := hDwMixRefIdeal)
    ∧ quiescent_Params (hParams := hParams)
    ∧ quiescent_ParamsIdeal (hParamsIdeal := hParamsIdeal)
    ∧ quiescent_ParamsRefIdeal (hParamsRefIdeal := hParamsRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ preserves_FfnBwd_FfnBwdIdeal
    ∧ algebraic_FfnBwdIdeal_FfnGradIdeal_pre_finite (hFfnBwdIdeal := hFfnBwdIdeal) (hFfnGradIdeal := hFfnGradIdeal) (hPre_finite := hPre_finite)
    ∧ preserves_Inproj_InprojIdeal
    ∧ algebraic_InprojIdeal_InprojRefIdeal (hInprojIdeal := hInprojIdeal) (hInprojRefIdeal := hInprojRefIdeal)
    ∧ preserves_DwIn_DwInIdeal
    ∧ algebraic_DwInIdeal_DwInRefIdeal (hDwInIdeal := hDwInIdeal) (hDwInRefIdeal := hDwInRefIdeal)
    ∧ preserves_InprojBwd_InprojBwdIdeal
    ∧ algebraic_InprojBwdIdeal_InprojBwdRefIdeal (hInprojBwdIdeal := hInprojBwdIdeal) (hInprojBwdRefIdeal := hInprojBwdRefIdeal)
    ∧ preserves_FfnBwdFin_FfnBwdFinIdeal
    ∧ algebraic_FfnBwdFinIdeal_FfnBwdFinRefIdeal (hFfnBwdFinIdeal := hFfnBwdFinIdeal) (hFfnBwdFinRefIdeal := hFfnBwdFinRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_DwMix_DwMixIdeal
    ∧ algebraic_DwMixIdeal_DwMixRefIdeal (hDwMixIdeal := hDwMixIdeal) (hDwMixRefIdeal := hDwMixRefIdeal)
    ∧ preserves_Params_ParamsIdeal
    ∧ algebraic_ParamsIdeal_ParamsRefIdeal (hParamsIdeal := hParamsIdeal) (hParamsRefIdeal := hParamsRefIdeal)
    ∧ preserves_Merge_MergeIdeal
    ∧ algebraic_MergeIdeal_MergeRefIdeal (hMergeIdeal := hMergeIdeal) (hMergeRefIdeal := hMergeRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamIn_AdamInIdeal
    ∧ algebraic_AdamInIdeal_AdamInRefIdeal (hAdamInIdeal := hAdamInIdeal) (hAdamInRefIdeal := hAdamInRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
-- ==== Pre_finite.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .bf16) (main_arg1 : FVec F S8192x1024 .f32) (main_arg2 : FVec F S1024x5632 .f32) (main_arg3 : FVec F S2816x1024 .f32) : IVec S8192x1024 1 × IVec S8192x1024 1 × IVec S1024x5632 1 × IVec S2816x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1024x5632 .f32 := Host.absf main_arg2
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  (main_v3, main_v6, main_v9, main_v12)
-- ==== FfnBwd.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S8x352x1024 : Shape := ⟨3, ![8, 352, 1024]⟩
abbrev S1x8x352x1024 : Shape := ⟨4, ![1, 8, 352, 1024]⟩
abbrev S1x4x704x1024 : Shape := ⟨4, ![1, 4, 704, 1024]⟩
abbrev S4x8192x1024 : Shape := ⟨3, ![4, 8192, 1024]⟩
abbrev S4x1024x704 : Shape := ⟨3, ![4, 1024, 704]⟩
abbrev S4x704x1024 : Shape := ⟨3, ![4, 704, 1024]⟩
abbrev S512x1024 : Shape := ⟨2, ![512, 1024]⟩
abbrev S1x512x704 : Shape := ⟨3, ![1, 512, 704]⟩
abbrev S1x1x1024x704 : Shape := ⟨4, ![1, 1, 1024, 704]⟩
abbrev S1x1x704x1024 : Shape := ⟨4, ![1, 1, 704, 1024]⟩
abbrev S1x512x1024 : Shape := ⟨3, ![1, 512, 1024]⟩
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S512x704 : Shape := ⟨2, ![512, 704]⟩
abbrev S_ : Shape := ⟨0, ![]⟩

abbrev nBuf : Space → Nat
  | .hbm => 34
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x5632, .f32⟩
  | .hbm, ⟨6, _⟩ => ⟨S8192x5632, .bf16⟩
  | .hbm, ⟨7, _⟩ => ⟨S8192x2816, .bf16⟩
  | .hbm, ⟨8, _⟩ => ⟨S8192x4x704, .bf16⟩
  | .hbm, ⟨9, _⟩ => ⟨S4x8192x704, .bf16⟩
  | .hbm, ⟨10, _⟩ => ⟨S8192x2816, .bf16⟩
  | .hbm, ⟨11, _⟩ => ⟨S8192x4x704, .bf16⟩
  | .hbm, ⟨12, _⟩ => ⟨S4x8192x704, .bf16⟩
  | .hbm, ⟨13, _⟩ => ⟨S1024x5632, .bf16⟩
  | .hbm, ⟨14, _⟩ => ⟨S1024x8x704, .bf16⟩
  | .hbm, ⟨15, _⟩ => ⟨S8x1024x704, .bf16⟩
  | .hbm, ⟨16, _⟩ => ⟨S1x8x1024x704, .bf16⟩
  | .hbm, ⟨17, _⟩ => ⟨S2816x1024, .bf16⟩
  | .hbm, ⟨18, _⟩ => ⟨S8x352x1024, .bf16⟩
  | .hbm, ⟨19, _⟩ => ⟨S1x8x352x1024, .bf16⟩
  | .hbm, ⟨20, _⟩ => ⟨S1x4x704x1024, .bf16⟩
  | .hbm, ⟨21, _⟩ => ⟨S4x8192x1024, .bf16⟩
  | .hbm, ⟨22, _⟩ => ⟨S4x1024x704, .bf16⟩
  | .hbm, ⟨23, _⟩ => ⟨S4x1024x704, .bf16⟩
  | .hbm, ⟨24, _⟩ => ⟨S4x704x1024, .bf16⟩
  | .hbm, ⟨25, _⟩ => ⟨S8x1024x704, .bf16⟩
  | .hbm, ⟨26, _⟩ => ⟨S1024x8x704, .bf16⟩
  | .hbm, ⟨27, _⟩ => ⟨S1024x5632, .bf16⟩
  | .hbm, ⟨28, _⟩ => ⟨S4x8192x1024, .f32⟩
  | .hbm, ⟨29, _⟩ => ⟨S_, .f32⟩
  | .hbm, ⟨30, _⟩ => ⟨S8192x1024, .f32⟩
  | .hbm, ⟨31, _⟩ => ⟨S1024x5632, .f32⟩
  | .hbm, ⟨32, _⟩ => ⟨S2816x1024, .bf16⟩
  | .hbm, ⟨33, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x1x1024x704, .bf16⟩
  | .local _ .vmem, ⟨9, _⟩ => ⟨S1x1x1024x704, .bf16⟩
  | .local _ .vmem, ⟨10, _⟩ => ⟨S1x1x1024x704, .bf16⟩
  | .local _ .vmem, ⟨11, _⟩ => ⟨S1x1x1024x704, .bf16⟩
  | .local _ .vmem, ⟨12, _⟩ => ⟨S1x1x704x1024, .bf16⟩
  | .local _ .vmem, ⟨13, _⟩ => ⟨S1x1x704x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | .local _ .vmem, ⟨20, _⟩ => ⟨S1x704x1024, .bf16⟩
  | .local _ .vmem, ⟨21, _⟩ => ⟨S1x704x1024, .bf16⟩
  | .local _ .vmem, ⟨22, _⟩ => ⟨S1024x704, .f32⟩
  | .local _ .vmem, ⟨23, _⟩ => ⟨S1024x704, .f32⟩
  | .local _ .vmem, ⟨24, _⟩ => ⟨S704x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17_0 : Ref sig .tc := ⟨.hbm, 21, rfl⟩
abbrev main_v17_1 : Ref sig .tc := ⟨.hbm, 22, rfl⟩
abbrev main_v17_2 : Ref sig .tc := ⟨.hbm, 23, rfl⟩
abbrev main_v17_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v65 : BitVec 1 := Scalar.cmpi .eq arg1 c15_i32
  let v66 : BitVec 32 := Scalar.extui v65
  let c0_i32_47 : BitVec 32 := 0#32
  let v67 : BitVec 1 := Scalar.cmpi .ne v66 c0_i32_47
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnGradIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S1024x2816, .f32⟩
  | .hbm, ⟨24, _⟩ => ⟨S2816x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S5632x1024, .f32⟩
  | .hbm, ⟨38, _⟩ => ⟨S1024x5632, .f32⟩
  | .hbm, ⟨39, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Inproj.lean ====
abbrev S8192x1024 : Shape := ⟨2, ![8192, 1024]⟩
abbrev S1024x7168 : Shape := ⟨2, ![1024, 7168]⟩
abbrev S1024x8x896 : Shape := ⟨3, ![1024, 8, 896]⟩
abbrev S8x1024x896 : Shape := ⟨3, ![8, 1024, 896]⟩
abbrev S1x8x1024x896 : Shape := ⟨4, ![1, 8, 1024, 896]⟩
abbrev S8192x7168 : Shape := ⟨2, ![8192, 7168]⟩
abbrev S1024x1024 : Shape := ⟨2, ![1024, 1024]⟩
abbrev S1x1x1024x896 : Shape := ⟨4, ![1, 1, 1024, 896]⟩
abbrev S1024x896 : Shape := ⟨2, ![1024, 896]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .f32⟩
  | .hbm, ⟨2, _⟩ => ⟨S1024x7168, .bf16⟩
  | .hbm, ⟨3, _⟩ => ⟨S1024x8x896, .bf16⟩
  | .hbm, ⟨4, _⟩ => ⟨S8x1024x896, .bf16⟩
  | .hbm, ⟨5, _⟩ => ⟨S1x8x1024x896, .bf16⟩
  | .hbm, ⟨6, _⟩ => ⟨S8192x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x896, .bf16⟩
  | .local _ .vmem, ⟨3, _⟩ => ⟨S1x1x1024x896, .bf16⟩
  | .local _ .vmem, ⟨4, _⟩ => ⟨S1024x896, .bf16⟩
  | .local _ .vmem, ⟨5, _⟩ => ⟨S1024x896, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .f32⟩
  | .hbm, ⟨2, _⟩ => ⟨S8192x1024, .f32⟩
  | .hbm, ⟨3, _⟩ => ⟨S8192x7168, .f32⟩
  | .hbm, ⟨4, _⟩ => ⟨S8192x7168, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S8192x1024 : Shape := ⟨2, ![8192, 1024]⟩
abbrev S8192x7168 : Shape := ⟨2, ![8192, 7168]⟩
abbrev S8x1024x896 : Shape := ⟨3, ![8, 1024, 896]⟩
abbrev S1024x1024 : Shape := ⟨2, ![1024, 1024]⟩
abbrev S1024x896 : Shape := ⟨2, ![1024, 896]⟩
abbrev S1x1024x896 : Shape := ⟨3, ![1, 1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8x1024x896, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S_, .f32⟩
  | .hbm, ⟨4, _⟩ => ⟨S1024x7168, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | .hbm, ⟨11, _⟩ => ⟨S8x1024x896, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InprojBwd.lean ====
abbrev S8192x7168 : Shape := ⟨2, ![8192, 7168]⟩
abbrev S1024x7168 : Shape := ⟨2, ![1024, 7168]⟩
abbrev S8192x1024 : Shape := ⟨2, ![8192, 1024]⟩
abbrev S1024 : Shape := ⟨1, ![1024]⟩
abbrev S1024x8x896 : Shape := ⟨3, ![1024, 8, 896]⟩
abbrev S8x1024x896 : Shape := ⟨3, ![8, 1024, 896]⟩
abbrev S1x8x1024x896 : Shape := ⟨4, ![1, 8, 1024, 896]⟩
abbrev S1x1024 : Shape := ⟨2, ![1, 1024]⟩
abbrev S1024x896 : Shape := ⟨2, ![1024, 896]⟩
abbrev S1x1x1024x896 : Shape := ⟨4, ![1, 1, 1024, 896]⟩
abbrev S1024x1024 : Shape := ⟨2, ![1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x7168, .bf16⟩
  | .hbm, ⟨6, _⟩ => ⟨S1024x8x896, .bf16⟩
  | .hbm, ⟨7, _⟩ => ⟨S8x1024x896, .bf16⟩
  | .hbm, ⟨8, _⟩ => ⟨S1x8x1024x896, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1x1024x896, .bf16⟩
  | .local _ .vmem, ⟨3, _⟩ => ⟨S1x1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_13 : BitVec 32 := 0#32
  let v19 : BitVec 1 := Scalar.cmpi .ne v18 c0_i32_13
  v19

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InprojBwdRefIdeal.lean ====
abbrev S8192x7168 : Shape := ⟨2, ![8192, 7168]⟩
abbrev S1024x7168 : Shape := ⟨2, ![1024, 7168]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x7168, .f32⟩
  | .hbm, ⟨26, _⟩ => ⟨S8192x7168, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== FfnBwdFin.lean ====
abbrev S8192x1024 : Shape := ⟨2, ![8192, 1024]⟩
abbrev S1024 : Shape := ⟨1, ![1024]⟩
abbrev S4x8192x1024 : Shape := ⟨3, ![4, 8192, 1024]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S4x8192x1024, .bf16⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FfnBwdFinRefIdeal.lean ====
abbrev S8192x1024 : Shape := ⟨2, ![8192, 1024]⟩
abbrev S1024 : Shape := ⟨1, ![1024]⟩
abbrev S4x8192x1024 : Shape := ⟨3, ![4, 8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S4x8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S4x8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S1x8x1024x704 : Shape := ⟨4, ![1, 8, 1024, 704]⟩
abbrev S8x352x1024 : Shape := ⟨3, ![8, 352, 1024]⟩
abbrev S1x8x352x1024 : Shape := ⟨4, ![1, 8, 352, 1024]⟩
abbrev S1x1024 : Shape := ⟨2, ![1, 1024]⟩
abbrev S1x4x704x1024 : Shape := ⟨4, ![1, 4, 704, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x1x704x1024 : Shape := ⟨4, ![1, 1, 704, 1024]⟩
abbrev S1x1024x704 : Shape := ⟨3, ![1, 1024, 704]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | .hbm, ⟨7, _⟩ => ⟨S1x8x1024x704, .bf16⟩
  | .hbm, ⟨8, _⟩ => ⟨S2816x1024, .bf16⟩
  | .hbm, ⟨9, _⟩ => ⟨S8x352x1024, .bf16⟩
  | .hbm, ⟨10, _⟩ => ⟨S1x8x352x1024, .bf16⟩
  | .hbm, ⟨11, _⟩ => ⟨S1x1024, .f32⟩
  | .hbm, ⟨12, _⟩ => ⟨S1x4x704x1024, .bf16⟩
  | .hbm, ⟨13, _⟩ => ⟨S8192x1024, .f32⟩
  | .hbm, ⟨14, _⟩ => ⟨S4x8192x704, .bf16⟩
  | .hbm, ⟨15, _⟩ => ⟨S4x8192x704, .bf16⟩
  | .hbm, ⟨16, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x1x704x1024, .bf16⟩
  | .local _ .vmem, ⟨8, _⟩ => ⟨S1x1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x4x704, .f32⟩
  | .hbm, ⟨37, _⟩ => ⟨S4x8192x704, .f32⟩
  | .hbm, ⟨38, _⟩ => ⟨S4x8192x704, .bf16⟩
  | .hbm, ⟨39, _⟩ => ⟨S8192x2816, .f32⟩
  | .hbm, ⟨40, _⟩ => ⟨S8192x4x704, .f32⟩
  | .hbm, ⟨41, _⟩ => ⟨S4x8192x704, .f32⟩
  | .hbm, ⟨42, _⟩ => ⟨S4x8192x704, .bf16⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== DwMix.lean ====
abbrev S8192x512 : Shape := ⟨2, ![8192, 512]⟩
abbrev S8192x2048 : Shape := ⟨2, ![8192, 2048]⟩
abbrev S8192x1024 : Shape := ⟨2, ![8192, 1024]⟩
abbrev S8x512x256 : Shape := ⟨3, ![8, 512, 256]⟩
abbrev S8x512x128 : Shape := ⟨3, ![8, 512, 128]⟩
abbrev S8x128x1024 : Shape := ⟨3, ![8, 128, 1024]⟩
abbrev S512x512 : Shape := ⟨2, ![512, 512]⟩
abbrev S512x2048 : Shape := ⟨2, ![512, 2048]⟩
abbrev S512x1024 : Shape := ⟨2, ![512, 1024]⟩
abbrev S1024x1024 : Shape := ⟨2, ![1024, 1024]⟩
abbrev S512x256 : Shape := ⟨2, ![512, 256]⟩
abbrev S1x512x256 : Shape := ⟨3, ![1, 512, 256]⟩
abbrev S512x128 : Shape := ⟨2, ![512, 128]⟩
abbrev S1x512x128 : Shape := ⟨3, ![1, 512, 128]⟩
abbrev S128x1024 : Shape := ⟨2, ![128, 1024]⟩
abbrev S1x128x1024 : Shape := ⟨3, ![1, 128, 1024]⟩

abbrev nBuf : Space → Nat
  | .hbm => 12
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .bf16⟩
  | .hbm, ⟨3, _⟩ => ⟨S8192x1024, .bf16⟩
  | .hbm, ⟨4, _⟩ => ⟨S8192x512, .bf16⟩
  | .hbm, ⟨5, _⟩ => ⟨S8192x1024, .bf16⟩
  | .hbm, ⟨6, _⟩ => ⟨S8192x1024, .bf16⟩
  | .hbm, ⟨7, _⟩ => ⟨S8192x1024, .f32⟩
  | .hbm, ⟨8, _⟩ => ⟨S8x512x256, .bf16⟩
  | .hbm, ⟨9, _⟩ => ⟨S8x512x128, .bf16⟩
  | .hbm, ⟨10, _⟩ => ⟨S8x512x128, .bf16⟩
  | .hbm, ⟨11, _⟩ => ⟨S8x128x1024, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S8x512x256, .bf16⟩
  | .local _ .vmem, ⟨17, _⟩ => ⟨S8x512x128, .bf16⟩
  | .local _ .vmem, ⟨18, _⟩ => ⟨S8x512x128, .bf16⟩
  | .local _ .vmem, ⟨19, _⟩ => ⟨S8x128x1024, .bf16⟩
  | .local _ .vmem, ⟨20, _⟩ => ⟨S512x2048, .f32⟩
  | .local _ .vmem, ⟨21, _⟩ => ⟨S512x1024, .f32⟩
  | .local _ .vmem, ⟨22, _⟩ => ⟨S512x1024, .f32⟩
  | .local _ .vmem, ⟨23, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_35 : BitVec 32 := 0#32
  let v38 : BitVec 1 := Scalar.cmpi .ne v37 c0_i32_35
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DwMixRefIdeal.lean ====
abbrev S8192x512 : Shape := ⟨2, ![8192, 512]⟩
abbrev S8192x2048 : Shape := ⟨2, ![8192, 2048]⟩
abbrev S8192x1024 : Shape := ⟨2, ![8192, 1024]⟩
abbrev S_ : Shape := ⟨0, ![]⟩
abbrev S512x2048 : Shape := ⟨2, ![512, 2048]⟩
abbrev S2048x512 : Shape := ⟨2, ![2048, 512]⟩
abbrev S512x8x256 : Shape := ⟨3, ![512, 8, 256]⟩
abbrev S8x512x256 : Shape := ⟨3, ![8, 512, 256]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩
abbrev S1024x1024 : Shape := ⟨2, ![1024, 1024]⟩
abbrev S8x128x1024 : Shape := ⟨3, ![8, 128, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x2048, .bf16⟩
  | .hbm, ⟨2, _⟩ => ⟨S8192x512, .bf16⟩
  | .hbm, ⟨3, _⟩ => ⟨S8192x1024, .bf16⟩
  | .hbm, ⟨4, _⟩ => ⟨S8192x512, .bf16⟩
  | .hbm, ⟨5, _⟩ => ⟨S8192x1024, .bf16⟩
  | .hbm, ⟨6, _⟩ => ⟨S8192x1024, .bf16⟩
  | .hbm, ⟨7, _⟩ => ⟨S8192x1024, .f32⟩
  | .hbm, ⟨8, _⟩ => ⟨S8192x512, .f32⟩
  | .hbm, ⟨9, _⟩ => ⟨S8192x2048, .f32⟩
  | .hbm, ⟨10, _⟩ => ⟨S_, .f32⟩
  | .hbm, ⟨11, _⟩ => ⟨S512x2048, .f32⟩
  | .hbm, ⟨12, _⟩ => ⟨S8192x2048, .f32⟩
  | .hbm, ⟨13, _⟩ => ⟨S2048x512, .f32⟩
  | .hbm, ⟨14, _⟩ => ⟨S512x2048, .f32⟩
  | .hbm, ⟨15, _⟩ => ⟨S512x2048, .bf16⟩
  | .hbm, ⟨16, _⟩ => ⟨S512x8x256, .bf16⟩
  | .hbm, ⟨17, _⟩ => ⟨S8x512x256, .bf16⟩
  | .hbm, ⟨18, _⟩ => ⟨S8192x512, .f32⟩
  | .hbm, ⟨19, _⟩ => ⟨S8192x1024, .f32⟩
  | .hbm, ⟨20, _⟩ => ⟨S_, .f32⟩
  | .hbm, ⟨21, _⟩ => ⟨S512x1024, .f32⟩
  | .hbm, ⟨22, _⟩ => ⟨S8192x1024, .f32⟩
  | .hbm, ⟨23, _⟩ => ⟨S1024x512, .f32⟩
  | .hbm, ⟨24, _⟩ => ⟨S512x1024, .f32⟩
  | .hbm, ⟨25, _⟩ => ⟨S512x1024, .bf16⟩
  | .hbm, ⟨26, _⟩ => ⟨S512x8x128, .bf16⟩
  | .hbm, ⟨27, _⟩ => ⟨S8x512x128, .bf16⟩
  | .hbm, ⟨28, _⟩ => ⟨S8192x512, .f32⟩
  | .hbm, ⟨29, _⟩ => ⟨S8192x1024, .f32⟩
  | .hbm, ⟨30, _⟩ => ⟨S_, .f32⟩
  | .hbm, ⟨31, _⟩ => ⟨S512x1024, .f32⟩
  | .hbm, ⟨32, _⟩ => ⟨S8192x1024, .f32⟩
  | .hbm, ⟨33, _⟩ => ⟨S1024x512, .f32⟩
  | .hbm, ⟨34, _⟩ => ⟨S512x1024, .f32⟩
  | .hbm, ⟨35, _⟩ => ⟨S512x1024, .bf16⟩
  | .hbm, ⟨36, _⟩ => ⟨S512x8x128, .bf16⟩
  | .hbm, ⟨37, _⟩ => ⟨S8x512x128, .bf16⟩
  | .hbm, ⟨38, _⟩ => ⟨S8192x1024, .f32⟩
  | .hbm, ⟨39, _⟩ => ⟨S_, .f32⟩
  | .hbm, ⟨40, _⟩ => ⟨S1024x1024, .f32⟩
  | .hbm, ⟨41, _⟩ => ⟨S8192x1024, .f32⟩
  | .hbm, ⟨42, _⟩ => ⟨S1024x1024, .f32⟩
  | .hbm, ⟨43, _⟩ => ⟨S1024x1024, .f32⟩
  | .hbm, ⟨44, _⟩ => ⟨S1024x1024, .bf16⟩
  | .hbm, ⟨45, _⟩ => ⟨S8x128x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Params.lean ====
abbrev S32x64 : Shape := ⟨2, ![32, 64]⟩
abbrev S32 : Shape := ⟨1, ![32]⟩
abbrev S32x64x16 : Shape := ⟨3, ![32, 64, 16]⟩
abbrev S2x2048 : Shape := ⟨2, ![2, 2048]⟩
abbrev S2x4x128x512 : Shape := ⟨4, ![2, 4, 128, 512]⟩
abbrev S1x2048 : Shape := ⟨2, ![1, 2048]⟩
abbrev S2048 : Shape := ⟨1, ![2048]⟩
abbrev S16x32x64 : Shape := ⟨3, ![16, 32, 64]⟩
abbrev S16x2048 : Shape := ⟨2, ![16, 2048]⟩
abbrev S8x128 : Shape := ⟨2, ![8, 128]⟩
abbrev S2x16x2048 : Shape := ⟨3, ![2, 16, 2048]⟩
abbrev S128x512 : Shape := ⟨2, ![128, 512]⟩
abbrev S1x1x128x512 : Shape := ⟨4, ![1, 1, 128, 512]⟩
abbrev S8x16x512 : Shape := ⟨3, ![8, 16, 512]⟩
abbrev S16x512 : Shape := ⟨2, ![16, 512]⟩
abbrev S1x16x2048 : Shape := ⟨3, ![1, 16, 2048]⟩
abbrev S2048x128 : Shape := ⟨2, ![2048, 128]⟩
abbrev S8x2048 : Shape := ⟨2, ![8, 2048]⟩

abbrev nBuf : Space → Nat
  | .hbm => 22
  | .vmem => 13
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S2x2048, .f32⟩
  | .hbm, ⟨6, _⟩ => ⟨S2x4x128x512, .f32⟩
  | .hbm, ⟨7, _⟩ => ⟨S2x4x128x512, .f32⟩
  | .hbm, ⟨8, _⟩ => ⟨S1x2048, .f32⟩
  | .hbm, ⟨9, _⟩ => ⟨S1x2048, .f32⟩
  | .hbm, ⟨10, _⟩ => ⟨S32x64, .f32⟩
  | .hbm, ⟨11, _⟩ => ⟨S2048, .f32⟩
  | .hbm, ⟨12, _⟩ => ⟨S1x2048, .f32⟩
  | .hbm, ⟨13, _⟩ => ⟨S16x32x64, .f32⟩
  | .hbm, ⟨14, _⟩ => ⟨S16x2048, .f32⟩
  | .hbm, ⟨15, _⟩ => ⟨S16x32x64, .f32⟩
  | .hbm, ⟨16, _⟩ => ⟨S16x2048, .f32⟩
  | .hbm, ⟨17, _⟩ => ⟨S1x2048, .f32⟩
  | .hbm, ⟨18, _⟩ => ⟨S1x2048, .f32⟩
  | .hbm, ⟨19, _⟩ => ⟨S8x128, .f32⟩
  | .hbm, ⟨20, _⟩ => ⟨S2x16x2048, .f32⟩
  | .hbm, ⟨21, _⟩ => ⟨S2x16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S2x2048, .f32⟩
  | .local _ .vmem, ⟨6, _⟩ => ⟨S2x4x128x512, .f32⟩
  | .local _ .vmem, ⟨7, _⟩ => ⟨S2x4x128x512, .f32⟩
  | .local _ .vmem, ⟨8, _⟩ => ⟨S1x2048, .f32⟩
  | .local _ .vmem, ⟨9, _⟩ => ⟨S1x2048, .f32⟩
  | .local _ .vmem, ⟨10, _⟩ => ⟨S8x128, .f32⟩
  | .local _ .vmem, ⟨11, _⟩ => ⟨S2x16x2048, .f32⟩
  | .local _ .vmem, ⟨12, _⟩ => ⟨S2x16x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4x128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x16x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ParamsRefIdeal.lean ====
abbrev S32x64 : Shape := ⟨2, ![32, 64]⟩
abbrev S32 : Shape := ⟨1, ![32]⟩
abbrev S32x64x16 : Shape := ⟨3, ![32, 64, 16]⟩
abbrev S2x2048 : Shape := ⟨2, ![2, 2048]⟩
abbrev S2x4x128x512 : Shape := ⟨4, ![2, 4, 128, 512]⟩
abbrev S2x32x64 : Shape := ⟨3, ![2, 32, 64]⟩
abbrev S1x4x128x512 : Shape := ⟨4, ![1, 4, 128, 512]⟩
abbrev S4x128x512 : Shape := ⟨3, ![4, 128, 512]⟩
abbrev S4x8x16x8x64 : Shape := ⟨5, ![4, 8, 16, 8, 64]⟩
abbrev S8x8 : Shape := ⟨2, ![8, 8]⟩
abbrev S_ : Shape := ⟨0, ![]⟩
abbrev S4x16x8x64 : Shape := ⟨4, ![4, 16, 8, 64]⟩
abbrev S4x8x16x64 : Shape := ⟨4, ![4, 8, 16, 64]⟩
abbrev S32x16x64 : Shape := ⟨3, ![32, 16, 64]⟩
abbrev S32x1 : Shape := ⟨2, ![32, 1]⟩
abbrev S32x64x1 : Shape := ⟨3, ![32, 64, 1]⟩
abbrev S1x32x64 : Shape := ⟨3, ![1, 32, 64]⟩
abbrev S16x32x64 : Shape := ⟨3, ![16, 32, 64]⟩
abbrev S16x2048 : Shape := ⟨2, ![16, 2048]⟩
abbrev S96 : Shape := ⟨1, ![96]⟩
abbrev S128 : Shape := ⟨1, ![128]⟩
abbrev S8x128 : Shape := ⟨2, ![8, 128]⟩
abbrev S1x2048 : Shape := ⟨2, ![1, 2048]⟩
abbrev S1x16x2048 : Shape := ⟨3, ![1, 16, 2048]⟩
abbrev S2x16x2048 : Shape := ⟨3, ![2, 16, 2048]⟩

abbrev nBuf : Space → Nat
  | .hbm => 240
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S2x2048, .f32⟩
  | 6 => ⟨S2x4x128x512, .f32⟩
  | 7 => ⟨S2x4x128x512, .f32⟩
  | 8 => ⟨S2x32x64, .f32⟩
  | 9 => ⟨S1x4x128x512, .f32⟩
  | 10 => ⟨S4x128x512, .f32⟩
  | 11 => ⟨S4x8x16x8x64, .f32⟩
  | 12 => ⟨S8x8, .i32⟩
  | 13 => ⟨S8x8, .i32⟩
  | 14 => ⟨S8x8, .i1⟩
  | 15 => ⟨S4x8x16x8x64, .i1⟩
  | 16 => ⟨S_, .f32⟩
  | 17 => ⟨S4x8x16x8x64, .f32⟩
  | 18 => ⟨S4x8x16x8x64, .f32⟩
  | 19 => ⟨S_, .f32⟩
  | 20 => ⟨S4x16x8x64, .f32⟩
  | 21 => ⟨S4x8x16x64, .f32⟩
  | 22 => ⟨S32x16x64, .f32⟩
  | 23 => ⟨S32x64x16, .f32⟩
  | 24 => ⟨S1x4x128x512, .f32⟩
  | 25 => ⟨S4x128x512, .f32⟩
  | 26 => ⟨S4x8x16x8x64, .f32⟩
  | 27 => ⟨S8x8, .i32⟩
  | 28 => ⟨S8x8, .i32⟩
  | 29 => ⟨S8x8, .i1⟩
  | 30 => ⟨S4x8x16x8x64, .i1⟩
  | 31 => ⟨S_, .f32⟩
  | 32 => ⟨S4x8x16x8x64, .f32⟩
  | 33 => ⟨S4x8x16x8x64, .f32⟩
  | 34 => ⟨S_, .f32⟩
  | 35 => ⟨S4x16x8x64, .f32⟩
  | 36 => ⟨S4x8x16x64, .f32⟩
  | 37 => ⟨S32x16x64, .f32⟩
  | 38 => ⟨S32x64x16, .f32⟩
  | 39 => ⟨S32, .f32⟩
  | 40 => ⟨S32x1, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S_, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S32x64, .f32⟩
  | 65 => ⟨S_, .f32⟩
  | 66 => ⟨S32x64, .f32⟩
  | 67 => ⟨S32x64, .f32⟩
  | 68 => ⟨S32x64x1, .f32⟩
  | 69 => ⟨S32x64, .f32⟩
  | 70 => ⟨S32x64, .f32⟩
  | 71 => ⟨S32x64, .f32⟩
  | 72 => ⟨S32x64, .f32⟩
  | 73 => ⟨S32x64, .f32⟩
  | 74 => ⟨S_, .f32⟩
  | 75 => ⟨S32x64, .f32⟩
  | 76 => ⟨S32x64, .f32⟩
  | 77 => ⟨S32x64x1, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S32x64x16, .f32⟩
  | 87 => ⟨S32x64x16, .f32⟩
  | 88 => ⟨S1x32x64, .f32⟩
  | 89 => ⟨S32x64, .f32⟩
  | 90 => ⟨S1x32x64, .f32⟩
  | 91 => ⟨S32x64, .f32⟩
  | 92 => ⟨S32x64x16, .f32⟩
  | 93 => ⟨S32x64x16, .f32⟩
  | 94 => ⟨S32x64x16, .f32⟩
  | 95 => ⟨S_, .f32⟩
  | 96 => ⟨S32x64, .f32⟩
  | 97 => ⟨S32x64x1, .f32⟩
  | 98 => ⟨S32x64x16, .f32⟩
  | 99 => ⟨S32x64x16, .f32⟩
  | 100 => ⟨S32x64x16, .f32⟩
  | 101 => ⟨S_, .f32⟩
  | 102 => ⟨S32x64, .f32⟩
  | 103 => ⟨S32x64x1, .f32⟩
  | 104 => ⟨S32x64x16, .f32⟩
  | 105 => ⟨S32x64x16, .f32⟩
  | 106 => ⟨S32x64x16, .f32⟩
  | 107 => ⟨S32x64x16, .f32⟩
  | 108 => ⟨S32x64x16, .f32⟩
  | 109 => ⟨S_, .f32⟩
  | 110 => ⟨S32x64, .f32⟩
  | 111 => ⟨S32x64x1, .f32⟩
  | 112 => ⟨S32x64x1, .f32⟩
  | 113 => ⟨S32x64x16, .f32⟩
  | 114 => ⟨S32x64x16, .f32⟩
  | 115 => ⟨S32x64x16, .f32⟩
  | 116 => ⟨S32x64x16, .f32⟩
  | 117 => ⟨S_, .f32⟩
  | 118 => ⟨S32x64, .f32⟩
  | 119 => ⟨S32x64x1, .f32⟩
  | 120 => ⟨S32x64x1, .f32⟩
  | 121 => ⟨S_, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S_, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32x1, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S_, .f32⟩
  | 46 => ⟨S32, .f32⟩
  | 47 => ⟨S32x1, .f32⟩
  | 48 => ⟨S32x1, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S_, .f32⟩
  | 55 => ⟨S32, .f32⟩
  | 56 => ⟨S32x1, .f32⟩
  | 57 => ⟨S32x1, .f32⟩
  | 58 => ⟨S32x64, .f32⟩
  | 59 => ⟨S32x64, .f32⟩
  | 60 => ⟨S32x64, .f32⟩
  | 61 => ⟨S_, .f32⟩
  | 62 => ⟨S32, .f32⟩
  | 63 => ⟨S32, .f32⟩
  | 64 => ⟨S1x4x128x512, .f32⟩
  | 65 => ⟨S4x128x512, .f32⟩
  | 66 => ⟨S4x8x16x8x64, .f32⟩
  | 67 => ⟨S8x8, .i32⟩
  | 68 => ⟨S8x8, .i32⟩
  | 69 => ⟨S8x8, .i1⟩
  | 70 => ⟨S4x8x16x8x64, .i1⟩
  | 71 => ⟨S_, .f32⟩
  | 72 => ⟨S4x8x16x8x64, .f32⟩
  | 73 => ⟨S4x8x16x8x64, .f32⟩
  | 74 => ⟨S_, .f32⟩
  | 75 => ⟨S4x16x8x64, .f32⟩
  | 76 => ⟨S4x8x16x64, .f32⟩
  | 77 => ⟨S32x16x64, .f32⟩
  | 78 => ⟨S16x32x64, .f32⟩
  | 79 => ⟨S16x2048, .f32⟩
  | 80 => ⟨S1x4x128x512, .f32⟩
  | 81 => ⟨S4x128x512, .f32⟩
  | 82 => ⟨S4x8x16x8x64, .f32⟩
  | 83 => ⟨S8x8, .i32⟩
  | 84 => ⟨S8x8, .i32⟩
  | 85 => ⟨S8x8, .i1⟩
  | 86 => ⟨S4x8x16x8x64, .i1⟩
  | 87 => ⟨S_, .f32⟩
  | 88 => ⟨S4x8x16x8x64, .f32⟩
  | 89 => ⟨S4x8x16x8x64, .f32⟩
  | 90 => ⟨S_, .f32⟩
  | 91 => ⟨S4x16x8x64, .f32⟩
  | 92 => ⟨S4x8x16x64, .f32⟩
  | 93 => ⟨S32x16x64, .f32⟩
  | 94 => ⟨S16x32x64, .f32⟩
  | 95 => ⟨S16x2048, .f32⟩
  | 96 => ⟨S_, .f32⟩
  | 97 => ⟨S96, .f32⟩
  | 98 => ⟨S128, .f32⟩
  | 99 => ⟨S8x128, .f32⟩
  | 100 => ⟨S1x2048, .f32⟩
  | 101 => ⟨S1x2048, .f32⟩
  | 102 => ⟨S16x32x64, .f32⟩
  | 103 => ⟨S16x2048, .f32⟩
  | 104 => ⟨S16x32x64, .f32⟩
  | 105 => ⟨S16x2048, .f32⟩
  | 106 => ⟨S1x16x2048, .f32⟩
  | 107 => ⟨S1x16x2048, .f32⟩
  | 108 => ⟨S2x16x2048, .f32⟩
  | 109 => ⟨S1x16x2048, .f32⟩
  | 110 => ⟨S1x16x2048, .f32⟩
  | 111 => ⟨S2x16x2048, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_7 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_8 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_cst_10 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_11 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_12 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_cst_13 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_cst_14 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_cst_15 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_16 : Ref sig .tc := ⟨.hbm, 199, rfl⟩
abbrev main_v174 : Ref sig .tc := ⟨.hbm, 200, rfl⟩
abbrev main_v175 : Ref sig .tc := ⟨.hbm, 201, rfl⟩
abbrev main_cst_17 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_18 : Ref sig .tc := ⟨.hbm, 215, rfl⟩
abbrev main_v188 : Ref sig .tc := ⟨.hbm, 216, rfl⟩
abbrev main_v189 : Ref sig .tc := ⟨.hbm, 217, rfl⟩
abbrev main_cst_19 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_cst_20 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S4x2x2048x128 : Shape := ⟨4, ![4, 2, 2048, 128]⟩
abbrev S8192x7168 : Shape := ⟨2, ![8192, 7168]⟩
abbrev S3072 : Shape := ⟨1, ![3072]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S1x3072 : Shape := ⟨2, ![1, 3072]⟩
abbrev S1x512 : Shape := ⟨2, ![1, 512]⟩
abbrev S512x512 : Shape := ⟨2, ![512, 512]⟩
abbrev S1x2x512x128 : Shape := ⟨4, ![1, 2, 512, 128]⟩
abbrev S1x1x512x128 : Shape := ⟨4, ![1, 1, 512, 128]⟩
abbrev S512x128 : Shape := ⟨2, ![512, 128]⟩
abbrev S128x512 : Shape := ⟨2, ![128, 512]⟩
abbrev S512x1 : Shape := ⟨2, ![512, 1]⟩
abbrev S1x1024 : Shape := ⟨2, ![1, 1024]⟩

abbrev nBuf : Space → Nat
  | .hbm => 25
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S4x2x2048x128, .f32⟩
  | .hbm, ⟨6, _⟩ => ⟨S4x2x2048x128, .f32⟩
  | .hbm, ⟨7, _⟩ => ⟨S4x2x2048x128, .f32⟩
  | .hbm, ⟨8, _⟩ => ⟨S8192x512, .f32⟩
  | .hbm, ⟨9, _⟩ => ⟨S8192x7168, .bf16⟩
  | .hbm, ⟨10, _⟩ => ⟨S3072, .f32⟩
  | .hbm, ⟨11, _⟩ => ⟨S512, .f32⟩
  | .hbm, ⟨12, _⟩ => ⟨S512, .f32⟩
  | .hbm, ⟨13, _⟩ => ⟨S512x2048, .f32⟩
  | .hbm, ⟨14, _⟩ => ⟨S512x1024, .f32⟩
  | .hbm, ⟨15, _⟩ => ⟨S512x1024, .f32⟩
  | .hbm, ⟨16, _⟩ => ⟨S1024x1024, .f32⟩
  | .hbm, ⟨17, _⟩ => ⟨S1x3072, .f32⟩
  | .hbm, ⟨18, _⟩ => ⟨S1x512, .f32⟩
  | .hbm, ⟨19, _⟩ => ⟨S1x512, .f32⟩
  | .hbm, ⟨20, _⟩ => ⟨S512x2048, .bf16⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x2x512x128, .f32⟩
  | .local _ .vmem, ⟨11, _⟩ => ⟨S1x2x512x128, .f32⟩
  | .local _ .vmem, ⟨12, _⟩ => ⟨S1x2x512x128, .f32⟩
  | .local _ .vmem, ⟨13, _⟩ => ⟨S1x2x512x128, .f32⟩
  | .local _ .vmem, ⟨14, _⟩ => ⟨S1x2x512x128, .f32⟩
  | .local _ .vmem, ⟨15, _⟩ => ⟨S1x2x512x128, .f32⟩
  | .local _ .vmem, ⟨16, _⟩ => ⟨S512x512, .f32⟩
  | .local _ .vmem, ⟨17, _⟩ => ⟨S512x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x3072, .f32⟩
  | .local _ .vmem, ⟨25, _⟩ => ⟨S1x512, .f32⟩
  | .local _ .vmem, ⟨26, _⟩ => ⟨S1x512, .f32⟩
  | .local _ .vmem, ⟨27, _⟩ => ⟨S512x2048, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S512x1024, .f32⟩
  | .local _ .vmem, ⟨32, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S8192x1024 : Shape := ⟨2, ![8192, 1024]⟩
abbrev S8192x512 : Shape := ⟨2, ![8192, 512]⟩
abbrev S4x2x2048x128 : Shape := ⟨4, ![4, 2, 2048, 128]⟩
abbrev S8192x7168 : Shape := ⟨2, ![8192, 7168]⟩
abbrev S3072 : Shape := ⟨1, ![3072]⟩
abbrev S512 : Shape := ⟨1, ![512]⟩
abbrev S512x2048 : Shape := ⟨2, ![512, 2048]⟩
abbrev S512x1024 : Shape := ⟨2, ![512, 1024]⟩
abbrev S1024x1024 : Shape := ⟨2, ![1024, 1024]⟩
abbrev S_ : Shape := ⟨0, ![]⟩
abbrev S8192x2048 : Shape := ⟨2, ![8192, 2048]⟩
abbrev S4x2048x8x64 : Shape := ⟨4, ![4, 2048, 8, 64]⟩
abbrev S4x2048x128 : Shape := ⟨3, ![4, 2048, 128]⟩
abbrev S4x2048x8 : Shape := ⟨3, ![4, 2048, 8]⟩
abbrev S1x4x2048x8 : Shape := ⟨4, ![1, 4, 2048, 8]⟩
abbrev S3x4x2048x8 : Shape := ⟨4, ![3, 4, 2048, 8]⟩
abbrev S3x4x2048x8x1 : Shape := ⟨5, ![3, 4, 2048, 8, 1]⟩
abbrev S1x4x2048x8x64 : Shape := ⟨5, ![1, 4, 2048, 8, 64]⟩
abbrev S3x4x2048x8x64 : Shape := ⟨5, ![3, 4, 2048, 8, 64]⟩
abbrev S8192 : Shape := ⟨1, ![8192]⟩
abbrev S8192x1 : Shape := ⟨2, ![8192, 1]⟩
abbrev S1x512 : Shape := ⟨2, ![1, 512]⟩
abbrev S8192x3072 : Shape := ⟨2, ![8192, 3072]⟩
abbrev S1x3072 : Shape := ⟨2, ![1, 3072]⟩
abbrev S8192x3x1024 : Shape := ⟨3, ![8192, 3, 1024]⟩
abbrev S8192x1x1024 : Shape := ⟨3, ![8192, 1, 1024]⟩

abbrev nBuf : Space → Nat
  | .hbm => 156
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .bf16⟩
  | 3 => ⟨S8192x512, .bf16⟩
  | 4 => ⟨S8192x512, .bf16⟩
  | 5 => ⟨S4x2x2048x128, .f32⟩
  | 6 => ⟨S4x2x2048x128, .f32⟩
  | 7 => ⟨S4x2x2048x128, .f32⟩
  | 8 => ⟨S8192x512, .f32⟩
  | 9 => ⟨S8192x7168, .bf16⟩
  | 10 => ⟨S3072, .f32⟩
  | 11 => ⟨S512, .f32⟩
  | 12 => ⟨S512, .f32⟩
  | 13 => ⟨S512x2048, .f32⟩
  | 14 => ⟨S512x1024, .f32⟩
  | 15 => ⟨S512x1024, .f32⟩
  | 16 => ⟨S1024x1024, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S8192x2048, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x512, .f32⟩
  | 47 => ⟨S4x2048x8x64, .f32⟩
  | 48 => ⟨S8192x512, .f32⟩
  | 49 => ⟨S4x2048x8x64, .f32⟩
  | 50 => ⟨S8192x512, .f32⟩
  | 51 => ⟨S4x2048x8x64, .f32⟩
  | 52 => ⟨S_, .f32⟩
  | 53 => ⟨S4x2048x128, .f32⟩
  | 54 => ⟨S4x2048x8, .f32⟩
  | 55 => ⟨S_, .f32⟩
  | 56 => ⟨S4x2048x128, .f32⟩
  | 57 => ⟨S4x2048x8, .f32⟩
  | 58 => ⟨S_, .f32⟩
  | 59 => ⟨S4x2048x128, .f32⟩
  | 60 => ⟨S4x2048x8, .f32⟩
  | 61 => ⟨S1x4x2048x8, .f32⟩
  | 62 => ⟨S1x4x2048x8, .f32⟩
  | 63 => ⟨S1x4x2048x8, .f32⟩
  | 64 => ⟨S3x4x2048x8, .f32⟩
  | 65 => ⟨S_, .f32⟩
  | 66 => ⟨S4x2048x8, .f32⟩
  | 67 => ⟨S_, .f32⟩
  | 68 => ⟨S4x2048x8, .f32⟩
  | 69 => ⟨S4x2048x8, .f32⟩
  | 70 => ⟨S1x4x2048x8, .f32⟩
  | 71 => ⟨S3x4x2048x8, .f32⟩
  | 72 => ⟨S3x4x2048x8, .f32⟩
  | 73 => ⟨S3x4x2048x8, .f32⟩
  | 74 => ⟨S_, .f32⟩
  | 75 => ⟨S4x2048x8, .f32⟩
  | 76 => ⟨S1x4x2048x8, .f32⟩
  | 77 => ⟨S3x4x2048x8, .f32⟩
  | 78 => ⟨S3x4x2048x8, .f32⟩
  | 79 => ⟨S3x4x2048x8x1, .f32⟩
  | 80 => ⟨S1x4x2048x8x64, .f32⟩
  | 81 => ⟨S1x4x2048x8x64, .f32⟩
  | 82 => ⟨S1x4x2048x8x64, .f32⟩
  | 83 => ⟨S3x4x2048x8x64, .f32⟩
  | 84 => ⟨S3x4x2048x8x64, .f32⟩
  | 85 => ⟨S3x4x2048x8x64, .f32⟩
  | 86 => ⟨S_, .f32⟩
  | 87 => ⟨S4x2048x8x64, .f32⟩
  | 88 => ⟨S8192x512, .f32⟩
  | 89 => ⟨S8192x1024, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S8192x512, .f32⟩
  | 97 => ⟨S8192x512, .f32⟩
  | 98 => ⟨S8192x512, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x512, .f32⟩
  | 106 => ⟨S8192x512, .f32⟩
  | 107 => ⟨S_, .f32⟩
  | 108 => ⟨S8192x1, .f32⟩
  | 109 => ⟨S8192x1, .f32⟩
  | 110 => ⟨S8192x1, .f32⟩
  | 111 => ⟨S8192x512, .f32⟩
  | 112 => ⟨S8192x512, .f32⟩
  | 113 => ⟨S1x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x1024, .f32⟩
  | 1 => ⟨S8192x3072, .bf16⟩
  | 2 => ⟨S8192x3072, .f32⟩
  | 3 => ⟨S1x3072, .f32⟩
  | 4 => ⟨S8192x3072, .f32⟩
  | 5 => ⟨S8192x3072, .f32⟩
  | 6 => ⟨S8192x3072, .f32⟩
  | 7 => ⟨S8192x3072, .f32⟩
  | 8 => ⟨S_, .f32⟩
  | 9 => ⟨S8192x3072, .f32⟩
  | 10 => ⟨S8192x3072, .f32⟩
  | 11 => ⟨S_, .f32⟩
  | 12 => ⟨S8192x3072, .f32⟩
  | 13 => ⟨S8192x3072, .f32⟩
  | 14 => ⟨S8192x3x1024, .f32⟩
  | 15 => ⟨S8192x1x1024, .f32⟩
  | 16 => ⟨S8192x1024, .f32⟩
  | 17 => ⟨S8192x1024, .f32⟩
  | 18 => ⟨S8192x1x1024, .f32⟩
  | 19 => ⟨S8192x1024, .f32⟩
  | 20 => ⟨S8192x1024, .f32⟩
  | 21 => ⟨S8192x1024, .f32⟩
  | 22 => ⟨S8192x1x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_17 : Ref sig .tc := ⟨.hbm, 136, rfl⟩
abbrev main_v93 : Ref sig .tc := ⟨.hbm, 137, rfl⟩
abbrev main_v94 : Ref sig .tc := ⟨.hbm, 138, rfl⟩
abbrev main_cst_18 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]
-- ==== AdamSmall.lean ====
abbrev S8x2560x128 : Shape := ⟨3, ![8, 2560, 128]⟩
abbrev S2560x128 : Shape := ⟨2, ![2560, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .hbm, ⟨7, _⟩ => ⟨S2560x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamSmallRefIdeal.lean ====
abbrev S8x2560x128 : Shape := ⟨3, ![8, 2560, 128]⟩
abbrev S2560x128 : Shape := ⟨2, ![2560, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S_, .f32⟩
  | .hbm, ⟨7, _⟩ => ⟨S2560x128, .f32⟩
  | .hbm, ⟨8, _⟩ => ⟨S2560x128, .f32⟩
  | .hbm, ⟨9, _⟩ => ⟨S_, .f32⟩
  | .hbm, ⟨10, _⟩ => ⟨S2560x128, .f32⟩
  | .hbm, ⟨11, _⟩ => ⟨S2560x128, .f32⟩
  | .hbm, ⟨12, _⟩ => ⟨S2560x128, .f32⟩
  | .hbm, ⟨13, _⟩ => ⟨S_, .f32⟩
  | .hbm, ⟨14, _⟩ => ⟨S2560x128, .f32⟩
  | .hbm, ⟨15, _⟩ => ⟨S2560x128, .f32⟩
  | .hbm, ⟨16, _⟩ => ⟨S2560x128, .f32⟩
  | .hbm, ⟨17, _⟩ => ⟨S_, .f32⟩
  | .hbm, ⟨18, _⟩ => ⟨S2560x128, .f32⟩
  | .hbm, ⟨19, _⟩ => ⟨S2560x128, .f32⟩
  | .hbm, ⟨20, _⟩ => ⟨S2560x128, .f32⟩
  | .hbm, ⟨21, _⟩ => ⟨S_, .f32⟩
  | .hbm, ⟨22, _⟩ => ⟨S2560x128, .f32⟩
  | .hbm, ⟨23, _⟩ => ⟨S2560x128, .f32⟩
  | .hbm, ⟨24, _⟩ => ⟨S_, .f32⟩
  | .hbm, ⟨25, _⟩ => ⟨S2560x128, .f32⟩
  | .hbm, ⟨26, _⟩ => ⟨S2560x128, .f32⟩
  | .hbm, ⟨27, _⟩ => ⟨S2560x128, .f32⟩
  | .hbm, ⟨28, _⟩ => ⟨S_, .f32⟩
  | .hbm, ⟨29, _⟩ => ⟨S2560x128, .f32⟩
  | .hbm, ⟨30, _⟩ => ⟨S2560x128, .f32⟩
  | .hbm, ⟨31, _⟩ => ⟨S2560x128, .f32⟩
  | .hbm, ⟨32, _⟩ => ⟨S_, .f32⟩
  | .hbm, ⟨33, _⟩ => ⟨S2560x128, .f32⟩
  | .hbm, ⟨34, _⟩ => ⟨S2560x128, .f32⟩
  | .hbm, ⟨35, _⟩ => ⟨S2560x128, .f32⟩
  | .hbm, ⟨36, _⟩ => ⟨S_, .f32⟩
  | .hbm, ⟨37, _⟩ => ⟨S2560x128, .f32⟩
  | .hbm, ⟨38, _⟩ => ⟨S2560x128, .f32⟩
  | _, _ => ⟨S8x2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S7x1024x896 : Shape := ⟨3, ![7, 1024, 896]⟩
abbrev S1024x896 : Shape := ⟨2, ![1024, 896]⟩
abbrev S2x1024x896 : Shape := ⟨3, ![2, 1024, 896]⟩
abbrev S7x128x896 : Shape := ⟨3, ![7, 128, 896]⟩
abbrev S128x896 : Shape := ⟨2, ![128, 896]⟩
abbrev S2x128x896 : Shape := ⟨3, ![2, 128, 896]⟩
abbrev S1x128x896 : Shape := ⟨3, ![1, 128, 896]⟩

abbrev nBuf : Space → Nat
  | .hbm => 11
  | .vmem => 22
  | .smem => 0
  | _ => 0

abbrev bufTy : (tb : Table) → Fin (tcTables nBuf tb) → BufTy
  | .hbm, ⟨0, _⟩ => ⟨S7x1024x896, .bf16⟩
  | .hbm, ⟨1, _⟩ => ⟨S7x1024x896, .bf16⟩
  | .hbm, ⟨2, _⟩ => ⟨S1024x896, .bf16⟩
  | .hbm, ⟨3, _⟩ => ⟨S1024x896, .bf16⟩
  | .hbm, ⟨4, _⟩ => ⟨S2x1024x896, .f32⟩
  | .hbm, ⟨5, _⟩ => ⟨S2x1024x896, .f32⟩
  | .hbm, ⟨6, _⟩ => ⟨S2x1024x896, .f32⟩
  | .hbm, ⟨7, _⟩ => ⟨S2x1024x896, .f32⟩
  | .hbm, ⟨8, _⟩ => ⟨S2x1024x896, .f32⟩
  | .hbm, ⟨9, _⟩ => ⟨S2x1024x896, .f32⟩
  | .hbm, ⟨10, _⟩ => ⟨S2x1024x896, .f32⟩
  | .local _ .vmem, ⟨0, _⟩ => ⟨S7x128x896, .bf16⟩
  | .local _ .vmem, ⟨1, _⟩ => ⟨S7x128x896, .bf16⟩
  | .local _ .vmem, ⟨2, _⟩ => ⟨S7x128x896, .bf16⟩
  | .local _ .vmem, ⟨3, _⟩ => ⟨S7x128x896, .bf16⟩
  | .local _ .vmem, ⟨4, _⟩ => ⟨S128x896, .bf16⟩
  | .local _ .vmem, ⟨5, _⟩ => ⟨S128x896, .bf16⟩
  | .local _ .vmem, ⟨6, _⟩ => ⟨S128x896, .bf16⟩
  | .local _ .vmem, ⟨7, _⟩ => ⟨S128x896, .bf16⟩
  | .local _ .vmem, ⟨8, _⟩ => ⟨S2x128x896, .f32⟩
  | .local _ .vmem, ⟨9, _⟩ => ⟨S2x128x896, .f32⟩
  | .local _ .vmem, ⟨10, _⟩ => ⟨S2x128x896, .f32⟩
  | .local _ .vmem, ⟨11, _⟩ => ⟨S2x128x896, .f32⟩
  | .local _ .vmem, ⟨12, _⟩ => ⟨S2x128x896, .f32⟩
  | .local _ .vmem, ⟨13, _⟩ => ⟨S2x128x896, .f32⟩
  | .local _ .vmem, ⟨14, _⟩ => ⟨S2x128x896, .f32⟩
  | .local _ .vmem, ⟨15, _⟩ => ⟨S2x128x896, .f32⟩
  | .local _ .vmem, ⟨16, _⟩ => ⟨S2x128x896, .f32⟩
  | .local _ .vmem, ⟨17, _⟩ => ⟨S2x128x896, .f32⟩
  | .local _ .vmem, ⟨18, _⟩ => ⟨S2x128x896, .f32⟩
  | .local _ .vmem, ⟨19, _⟩ => ⟨S2x128x896, .f32⟩
  | .local _ .vmem, ⟨20, _⟩ => ⟨S2x128x896, .f32⟩
  | .local _ .vmem, ⟨21, _⟩ => ⟨S2x128x896, .f32⟩
  | _, _ => ⟨S7x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x128x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInIdeal.lean ====
abbrev S7x1024x896 : Shape := ⟨3, ![7, 1024, 896]⟩
abbrev S1024x896 : Shape := ⟨2, ![1024, 896]⟩
abbrev S2x1024x896 : Shape := ⟨3, ![2, 1024, 896]⟩
abbrev S7x128x896 : Shape := ⟨3, ![7, 128, 896]⟩
abbrev S128x896 : Shape := ⟨2, ![128, 896]⟩
abbrev S2x128x896 : Shape := ⟨3, ![2, 128, 896]⟩
abbrev S1x128x896 : Shape := ⟨3, ![1, 128, 896]⟩

abbrev nBuf : Space → Nat
  | .hbm => 11
  | .vmem => 22
  | .smem => 0
  | _ => 0

abbrev bufTy : (tb : Table) → Fin (tcTables nBuf tb) → BufTy
  | .hbm, ⟨0, _⟩ => ⟨S7x1024x896, .bf16⟩
  | .hbm, ⟨1, _⟩ => ⟨S7x1024x896, .bf16⟩
  | .hbm, ⟨2, _⟩ => ⟨S1024x896, .bf16⟩
  | .hbm, ⟨3, _⟩ => ⟨S1024x896, .bf16⟩
  | .hbm, ⟨4, _⟩ => ⟨S2x1024x896, .f32⟩
  | .hbm, ⟨5, _⟩ => ⟨S2x1024x896, .f32⟩
  | .hbm, ⟨6, _⟩ => ⟨S2x1024x896, .f32⟩
  | .hbm, ⟨7, _⟩ => ⟨S2x1024x896, .f32⟩
  | .hbm, ⟨8, _⟩ => ⟨S2x1024x896, .f32⟩
  | .hbm, ⟨9, _⟩ => ⟨S2x1024x896, .f32⟩
  | .hbm, ⟨10, _⟩ => ⟨S2x1024x896, .f32⟩
  | .local _ .vmem, ⟨0, _⟩ => ⟨S7x128x896, .bf16⟩
  | .local _ .vmem, ⟨1, _⟩ => ⟨S7x128x896, .bf16⟩
  | .local _ .vmem, ⟨2, _⟩ => ⟨S7x128x896, .bf16⟩
  | .local _ .vmem, ⟨3, _⟩ => ⟨S7x128x896, .bf16⟩
  | .local _ .vmem, ⟨4, _⟩ => ⟨S128x896, .bf16⟩
  | .local _ .vmem, ⟨5, _⟩ => ⟨S128x896, .bf16⟩
  | .local _ .vmem, ⟨6, _⟩ => ⟨S128x896, .bf16⟩
  | .local _ .vmem, ⟨7, _⟩ => ⟨S128x896, .bf16⟩
  | .local _ .vmem, ⟨8, _⟩ => ⟨S2x128x896, .f32⟩
  | .local _ .vmem, ⟨9, _⟩ => ⟨S2x128x896, .f32⟩
  | .local _ .vmem, ⟨10, _⟩ => ⟨S2x128x896, .f32⟩
  | .local _ .vmem, ⟨11, _⟩ => ⟨S2x128x896, .f32⟩
  | .local _ .vmem, ⟨12, _⟩ => ⟨S2x128x896, .f32⟩
  | .local _ .vmem, ⟨13, _⟩ => ⟨S2x128x896, .f32⟩
  | .local _ .vmem, ⟨14, _⟩ => ⟨S2x128x896, .f32⟩
  | .local _ .vmem, ⟨15, _⟩ => ⟨S2x128x896, .f32⟩
  | .local _ .vmem, ⟨16, _⟩ => ⟨S2x128x896, .f32⟩
  | .local _ .vmem, ⟨17, _⟩ => ⟨S2x128x896, .f32⟩
  | .local _ .vmem, ⟨18, _⟩ => ⟨S2x128x896, .f32⟩
  | .local _ .vmem, ⟨19, _⟩ => ⟨S2x128x896, .f32⟩
  | .local _ .vmem, ⟨20, _⟩ => ⟨S2x128x896, .f32⟩
  | .local _ .vmem, ⟨21, _⟩ => ⟨S2x128x896, .f32⟩
  | _, _ => ⟨S7x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x128x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInRefIdeal.lean ====
abbrev S7x1024x896 : Shape := ⟨3, ![7, 1024, 896]⟩
abbrev S1024x896 : Shape := ⟨2, ![1024, 896]⟩
abbrev S2x1024x896 : Shape := ⟨3, ![2, 1024, 896]⟩
abbrev S_ : Shape := ⟨0, ![]⟩
abbrev S1x1024x896 : Shape := ⟨3, ![1, 1024, 896]⟩

abbrev nBuf : Space → Nat
  | .hbm => 53
  | .vmem => 0
  | .smem => 0
  | _ => 0

abbrev bufTy : (tb : Table) → Fin (tcTables nBuf tb) → BufTy
  | .hbm, ⟨0, _⟩ => ⟨S7x1024x896, .bf16⟩
  | .hbm, ⟨1, _⟩ => ⟨S7x1024x896, .bf16⟩
  | .hbm, ⟨2, _⟩ => ⟨S1024x896, .bf16⟩
  | .hbm, ⟨3, _⟩ => ⟨S1024x896, .bf16⟩
  | .hbm, ⟨4, _⟩ => ⟨S2x1024x896, .f32⟩
  | .hbm, ⟨5, _⟩ => ⟨S2x1024x896, .f32⟩
  | .hbm, ⟨6, _⟩ => ⟨S2x1024x896, .f32⟩
  | .hbm, ⟨7, _⟩ => ⟨S1024x896, .f32⟩
  | .hbm, ⟨8, _⟩ => ⟨S7x1024x896, .f32⟩
  | .hbm, ⟨9, _⟩ => ⟨S_, .f32⟩
  | .hbm, ⟨10, _⟩ => ⟨S1024x896, .f32⟩
  | .hbm, ⟨11, _⟩ => ⟨S1024x896, .f32⟩
  | .hbm, ⟨12, _⟩ => ⟨S1024x896, .f32⟩
  | .hbm, ⟨13, _⟩ => ⟨S7x1024x896, .f32⟩
  | .hbm, ⟨14, _⟩ => ⟨S_, .f32⟩
  | .hbm, ⟨15, _⟩ => ⟨S1024x896, .f32⟩
  | .hbm, ⟨16, _⟩ => ⟨S1024x896, .f32⟩
  | .hbm, ⟨17, _⟩ => ⟨S1x1024x896, .f32⟩
  | .hbm, ⟨18, _⟩ => ⟨S1x1024x896, .f32⟩
  | .hbm, ⟨19, _⟩ => ⟨S2x1024x896, .f32⟩
  | .hbm, ⟨20, _⟩ => ⟨S_, .f32⟩
  | .hbm, ⟨21, _⟩ => ⟨S2x1024x896, .f32⟩
  | .hbm, ⟨22, _⟩ => ⟨S2x1024x896, .f32⟩
  | .hbm, ⟨23, _⟩ => ⟨S_, .f32⟩
  | .hbm, ⟨24, _⟩ => ⟨S2x1024x896, .f32⟩
  | .hbm, ⟨25, _⟩ => ⟨S2x1024x896, .f32⟩
  | .hbm, ⟨26, _⟩ => ⟨S2x1024x896, .f32⟩
  | .hbm, ⟨27, _⟩ => ⟨S_, .f32⟩
  | .hbm, ⟨28, _⟩ => ⟨S2x1024x896, .f32⟩
  | .hbm, ⟨29, _⟩ => ⟨S2x1024x896, .f32⟩
  | .hbm, ⟨30, _⟩ => ⟨S2x1024x896, .f32⟩
  | .hbm, ⟨31, _⟩ => ⟨S_, .f32⟩
  | .hbm, ⟨32, _⟩ => ⟨S2x1024x896, .f32⟩
  | .hbm, ⟨33, _⟩ => ⟨S2x1024x896, .f32⟩
  | .hbm, ⟨34, _⟩ => ⟨S2x1024x896, .f32⟩
  | .hbm, ⟨35, _⟩ => ⟨S_, .f32⟩
  | .hbm, ⟨36, _⟩ => ⟨S2x1024x896, .f32⟩
  | .hbm, ⟨37, _⟩ => ⟨S2x1024x896, .f32⟩
  | .hbm, ⟨38, _⟩ => ⟨S_, .f32⟩
  | .hbm, ⟨39, _⟩ => ⟨S2x1024x896, .f32⟩
  | .hbm, ⟨40, _⟩ => ⟨S2x1024x896, .f32⟩
  | .hbm, ⟨41, _⟩ => ⟨S2x1024x896, .f32⟩
  | .hbm, ⟨42, _⟩ => ⟨S_, .f32⟩
  | .hbm, ⟨43, _⟩ => ⟨S2x1024x896, .f32⟩
  | .hbm, ⟨44, _⟩ => ⟨S2x1024x896, .f32⟩
  | .hbm, ⟨45, _⟩ => ⟨S2x1024x896, .f32⟩
  | .hbm, ⟨46, _⟩ => ⟨S_, .f32⟩
  | .hbm, ⟨47, _⟩ => ⟨S2x1024x896, .f32⟩
  | .hbm, ⟨48, _⟩ => ⟨S2x1024x896, .f32⟩
  | .hbm, ⟨49, _⟩ => ⟨S2x1024x896, .f32⟩
  | .hbm, ⟨50, _⟩ => ⟨S_, .f32⟩
  | .hbm, ⟨51, _⟩ => ⟨S2x1024x896, .f32⟩
  | .hbm, ⟨52, _⟩ => ⟨S2x1024x896, .f32⟩
  | _, _ => ⟨S7x1024x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamGlu.lean ====
abbrev S7x512x256 : Shape := ⟨3, ![7, 512, 256]⟩
abbrev S512x256 : Shape := ⟨2, ![512, 256]⟩
abbrev S2x512x256 : Shape := ⟨3, ![2, 512, 256]⟩
abbrev S1x512x256 : Shape := ⟨3, ![1, 512, 256]⟩

abbrev nBuf : Space → Nat
  | .hbm => 11
  | .vmem => 11
  | .smem => 0
  | _ => 0

abbrev bufTy : (tb : Table) → Fin (tcTables nBuf tb) → BufTy
  | .hbm, ⟨0, _⟩ => ⟨S7x512x256, .bf16⟩
  | .hbm, ⟨1, _⟩ => ⟨S7x512x256, .bf16⟩
  | .hbm, ⟨2, _⟩ => ⟨S512x256, .bf16⟩
  | .hbm, ⟨3, _⟩ => ⟨S512x256, .bf16⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .hbm, ⟨10, _⟩ => ⟨S2x512x256, .f32⟩
  | .local _ .vmem, ⟨0, _⟩ => ⟨S7x512x256, .bf16⟩
  | .local _ .vmem, ⟨1, _⟩ => ⟨S7x512x256, .bf16⟩
  | .local _ .vmem, ⟨2, _⟩ => ⟨S512x256, .bf16⟩
  | .local _ .vmem, ⟨3, _⟩ => ⟨S512x256, .bf16⟩
  | .local _ .vmem, ⟨4, _⟩ => ⟨S2x512x256, .f32⟩
  | .local _ .vmem, ⟨5, _⟩ => ⟨S2x512x256, .f32⟩
  | .local _ .vmem, ⟨6, _⟩ => ⟨S2x512x256, .f32⟩
  | .local _ .vmem, ⟨7, _⟩ => ⟨S2x512x256, .f32⟩
  | .local _ .vmem, ⟨8, _⟩ => ⟨S2x512x256, .f32⟩
  | .local _ .vmem, ⟨9, _⟩ => ⟨S2x512x256, .f32⟩
  | .local _ .vmem, ⟨10, _⟩ => ⟨S2x512x256, .f32⟩
  | _, _ => ⟨S7x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamGluIdeal.lean ====
abbrev S7x512x256 : Shape := ⟨3, ![7, 512, 256]⟩
abbrev S512x256 : Shape := ⟨2, ![512, 256]⟩
abbrev S2x512x256 : Shape := ⟨3, ![2, 512, 256]⟩
abbrev S1x512x256 : Shape := ⟨3, ![1, 512, 256]⟩

abbrev nBuf : Space → Nat
  | .hbm => 11
  | .vmem => 11
  | .smem => 0
  | _ => 0

abbrev bufTy : (tb : Table) → Fin (tcTables nBuf tb) → BufTy
  | .hbm, ⟨0, _⟩ => ⟨S7x512x256, .bf16⟩
  | .hbm, ⟨1, _⟩ => ⟨S7x512x256, .bf16⟩
  | .hbm, ⟨2, _⟩ => ⟨S512x256, .bf16⟩
  | .hbm, ⟨3, _⟩ => ⟨S512x256, .bf16⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S2x512x256, .f32⟩
  | .hbm, ⟨8, _⟩ => ⟨S2x512x256, .f32⟩
  | .hbm, ⟨9, _⟩ => ⟨S2x512x256, .f32⟩
  | .hbm, ⟨10, _⟩ => ⟨S2x512x256, .f32⟩
  | .local _ .vmem, ⟨0, _⟩ => ⟨S7x512x256, .bf16⟩
  | .local _ .vmem, ⟨1, _⟩ => ⟨S7x512x256, .bf16⟩
  | .local _ .vmem, ⟨2, _⟩ => ⟨S512x256, .bf16⟩
  | .local _ .vmem, ⟨3, _⟩ => ⟨S512x256, .bf16⟩
  | .local _ .vmem, ⟨4, _⟩ => ⟨S2x512x256, .f32⟩
  | .local _ .vmem, ⟨5, _⟩ => ⟨S2x512x256, .f32⟩
  | .local _ .vmem, ⟨6, _⟩ => ⟨S2x512x256, .f32⟩
  | .local _ .vmem, ⟨7, _⟩ => ⟨S2x512x256, .f32⟩
  | .local _ .vmem, ⟨8, _⟩ => ⟨S2x512x256, .f32⟩
  | .local _ .vmem, ⟨9, _⟩ => ⟨S2x512x256, .f32⟩
  | .local _ .vmem, ⟨10, _⟩ => ⟨S2x512x256, .f32⟩
  | _, _ => ⟨S7x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamGluRefIdeal.lean ====
abbrev S7x512x256 : Shape := ⟨3, ![7, 512, 256]⟩
abbrev S512x256 : Shape := ⟨2, ![512, 256]⟩
abbrev S2x512x256 : Shape := ⟨3, ![2, 512, 256]⟩
abbrev S_ : Shape := ⟨0, ![]⟩
abbrev S1x512x256 : Shape := ⟨3, ![1, 512, 256]⟩

abbrev nBuf : Space → Nat
  | .hbm => 53
  | .vmem => 0
  | .smem => 0
  | _ => 0

abbrev bufTy : (tb : Table) → Fin (tcTables nBuf tb) → BufTy
  | .hbm, ⟨0, _⟩ => ⟨S7x512x256, .bf16⟩
  | .hbm, ⟨1, _⟩ => ⟨S7x512x256, .bf16⟩
  | .hbm, ⟨2, _⟩ => ⟨S512x256, .bf16⟩
  | .hbm, ⟨3, _⟩ => ⟨S512x256, .bf16⟩
  | .hbm, ⟨4, _⟩ => ⟨S2x512x256, .f32⟩
  | .hbm, ⟨5, _⟩ => ⟨S2x512x256, .f32⟩
  | .hbm, ⟨6, _⟩ => ⟨S2x512x256, .f32⟩
  | .hbm, ⟨7, _⟩ => ⟨S512x256, .f32⟩
  | .hbm, ⟨8, _⟩ => ⟨S7x512x256, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S7x512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S1x512x256, .f32⟩
  | .hbm, ⟨18, _⟩ => ⟨S1x512x256, .f32⟩
  | .hbm, ⟨19, _⟩ => ⟨S2x512x256, .f32⟩
  | .hbm, ⟨20, _⟩ => ⟨S_, .f32⟩
  | .hbm, ⟨21, _⟩ => ⟨S2x512x256, .f32⟩
  | .hbm, ⟨22, _⟩ => ⟨S2x512x256, .f32⟩
  | .hbm, ⟨23, _⟩ => ⟨S_, .f32⟩
  | .hbm, ⟨24, _⟩ => ⟨S2x512x256, .f32⟩
  | .hbm, ⟨25, _⟩ => ⟨S2x512x256, .f32⟩
  | .hbm, ⟨26, _⟩ => ⟨S2x512x256, .f32⟩
  | .hbm, ⟨27, _⟩ => ⟨S_, .f32⟩
  | .hbm, ⟨28, _⟩ => ⟨S2x512x256, .f32⟩
  | .hbm, ⟨29, _⟩ => ⟨S2x512x256, .f32⟩
  | .hbm, ⟨30, _⟩ => ⟨S2x512x256, .f32⟩
  | .hbm, ⟨31, _⟩ => ⟨S_, .f32⟩
  | .hbm, ⟨32, _⟩ => ⟨S2x512x256, .f32⟩
  | .hbm, ⟨33, _⟩ => ⟨S2x512x256, .f32⟩
  | .hbm, ⟨34, _⟩ => ⟨S2x512x256, .f32⟩
  | .hbm, ⟨35, _⟩ => ⟨S_, .f32⟩
  | .hbm, ⟨36, _⟩ => ⟨S2x512x256, .f32⟩
  | .hbm, ⟨37, _⟩ => ⟨S2x512x256, .f32⟩
  | .hbm, ⟨38, _⟩ => ⟨S_, .f32⟩
  | .hbm, ⟨39, _⟩ => ⟨S2x512x256, .f32⟩
  | .hbm, ⟨40, _⟩ => ⟨S2x512x256, .f32⟩
  | .hbm, ⟨41, _⟩ => ⟨S2x512x256, .f32⟩
  | .hbm, ⟨42, _⟩ => ⟨S_, .f32⟩
  | .hbm, ⟨43, _⟩ => ⟨S2x512x256, .f32⟩
  | .hbm, ⟨44, _⟩ => ⟨S2x512x256, .f32⟩
  | .hbm, ⟨45, _⟩ => ⟨S2x512x256, .f32⟩
  | .hbm, ⟨46, _⟩ => ⟨S_, .f32⟩
  | .hbm, ⟨47, _⟩ => ⟨S2x512x256, .f32⟩
  | .hbm, ⟨48, _⟩ => ⟨S2x512x256, .f32⟩
  | .hbm, ⟨49, _⟩ => ⟨S2x512x256, .f32⟩
  | .hbm, ⟨50, _⟩ => ⟨S_, .f32⟩
  | .hbm, ⟨51, _⟩ => ⟨S2x512x256, .f32⟩
  | .hbm, ⟨52, _⟩ => ⟨S2x512x256, .f32⟩
  | _, _ => ⟨S7x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamUp.lean ====
abbrev S7x512x128 : Shape := ⟨3, ![7, 512, 128]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 11
  | .vmem => 11
  | .smem => 0
  | _ => 0

abbrev bufTy : (tb : Table) → Fin (tcTables nBuf tb) → BufTy
  | .hbm, ⟨0, _⟩ => ⟨S7x512x128, .bf16⟩
  | .hbm, ⟨1, _⟩ => ⟨S7x512x128, .bf16⟩
  | .hbm, ⟨2, _⟩ => ⟨S512x128, .bf16⟩
  | .hbm, ⟨3, _⟩ => ⟨S512x128, .bf16⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S2x512x128, .f32⟩
  | .local _ .vmem, ⟨0, _⟩ => ⟨S7x512x128, .bf16⟩
  | .local _ .vmem, ⟨1, _⟩ => ⟨S7x512x128, .bf16⟩
  | .local _ .vmem, ⟨2, _⟩ => ⟨S512x128, .bf16⟩
  | .local _ .vmem, ⟨3, _⟩ => ⟨S512x128, .bf16⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | _, _ => ⟨S7x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamUpIdeal.lean ====
abbrev S7x512x128 : Shape := ⟨3, ![7, 512, 128]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 11
  | .vmem => 11
  | .smem => 0
  | _ => 0

abbrev bufTy : (tb : Table) → Fin (tcTables nBuf tb) → BufTy
  | .hbm, ⟨0, _⟩ => ⟨S7x512x128, .bf16⟩
  | .hbm, ⟨1, _⟩ => ⟨S7x512x128, .bf16⟩
  | .hbm, ⟨2, _⟩ => ⟨S512x128, .bf16⟩
  | .hbm, ⟨3, _⟩ => ⟨S512x128, .bf16⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S2x512x128, .f32⟩
  | .local _ .vmem, ⟨0, _⟩ => ⟨S7x512x128, .bf16⟩
  | .local _ .vmem, ⟨1, _⟩ => ⟨S7x512x128, .bf16⟩
  | .local _ .vmem, ⟨2, _⟩ => ⟨S512x128, .bf16⟩
  | .local _ .vmem, ⟨3, _⟩ => ⟨S512x128, .bf16⟩
  | .local _ .vmem, ⟨4, _⟩ => ⟨S2x512x128, .f32⟩
  | .local _ .vmem, ⟨5, _⟩ => ⟨S2x512x128, .f32⟩
  | .local _ .vmem, ⟨6, _⟩ => ⟨S2x512x128, .f32⟩
  | .local _ .vmem, ⟨7, _⟩ => ⟨S2x512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | _, _ => ⟨S7x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamUpRefIdeal.lean ====
abbrev S7x512x128 : Shape := ⟨3, ![7, 512, 128]⟩
abbrev S512x128 : Shape := ⟨2, ![512, 128]⟩
abbrev S2x512x128 : Shape := ⟨3, ![2, 512, 128]⟩
abbrev S_ : Shape := ⟨0, ![]⟩
abbrev S1x512x128 : Shape := ⟨3, ![1, 512, 128]⟩

abbrev nBuf : Space → Nat
  | .hbm => 53
  | .vmem => 0
  | .smem => 0
  | _ => 0

abbrev bufTy : (tb : Table) → Fin (tcTables nBuf tb) → BufTy
  | .hbm, ⟨0, _⟩ => ⟨S7x512x128, .bf16⟩
  | .hbm, ⟨1, _⟩ => ⟨S7x512x128, .bf16⟩
  | .hbm, ⟨2, _⟩ => ⟨S512x128, .bf16⟩
  | .hbm, ⟨3, _⟩ => ⟨S512x128, .bf16⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S512x128, .f32⟩
  | .hbm, ⟨8, _⟩ => ⟨S7x512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S7x512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S1x512x128, .f32⟩
  | .hbm, ⟨18, _⟩ => ⟨S1x512x128, .f32⟩
  | .hbm, ⟨19, _⟩ => ⟨S2x512x128, .f32⟩
  | .hbm, ⟨20, _⟩ => ⟨S_, .f32⟩
  | .hbm, ⟨21, _⟩ => ⟨S2x512x128, .f32⟩
  | .hbm, ⟨22, _⟩ => ⟨S2x512x128, .f32⟩
  | .hbm, ⟨23, _⟩ => ⟨S_, .f32⟩
  | .hbm, ⟨24, _⟩ => ⟨S2x512x128, .f32⟩
  | .hbm, ⟨25, _⟩ => ⟨S2x512x128, .f32⟩
  | .hbm, ⟨26, _⟩ => ⟨S2x512x128, .f32⟩
  | .hbm, ⟨27, _⟩ => ⟨S_, .f32⟩
  | .hbm, ⟨28, _⟩ => ⟨S2x512x128, .f32⟩
  | .hbm, ⟨29, _⟩ => ⟨S2x512x128, .f32⟩
  | .hbm, ⟨30, _⟩ => ⟨S2x512x128, .f32⟩
  | .hbm, ⟨31, _⟩ => ⟨S_, .f32⟩
  | .hbm, ⟨32, _⟩ => ⟨S2x512x128, .f32⟩
  | .hbm, ⟨33, _⟩ => ⟨S2x512x128, .f32⟩
  | .hbm, ⟨34, _⟩ => ⟨S2x512x128, .f32⟩
  | .hbm, ⟨35, _⟩ => ⟨S_, .f32⟩
  | .hbm, ⟨36, _⟩ => ⟨S2x512x128, .f32⟩
  | .hbm, ⟨37, _⟩ => ⟨S2x512x128, .f32⟩
  | .hbm, ⟨38, _⟩ => ⟨S_, .f32⟩
  | .hbm, ⟨39, _⟩ => ⟨S2x512x128, .f32⟩
  | .hbm, ⟨40, _⟩ => ⟨S2x512x128, .f32⟩
  | .hbm, ⟨41, _⟩ => ⟨S2x512x128, .f32⟩
  | .hbm, ⟨42, _⟩ => ⟨S_, .f32⟩
  | .hbm, ⟨43, _⟩ => ⟨S2x512x128, .f32⟩
  | .hbm, ⟨44, _⟩ => ⟨S2x512x128, .f32⟩
  | .hbm, ⟨45, _⟩ => ⟨S2x512x128, .f32⟩
  | .hbm, ⟨46, _⟩ => ⟨S_, .f32⟩
  | .hbm, ⟨47, _⟩ => ⟨S2x512x128, .f32⟩
  | .hbm, ⟨48, _⟩ => ⟨S2x512x128, .f32⟩
  | .hbm, ⟨49, _⟩ => ⟨S2x512x128, .f32⟩
  | .hbm, ⟨50, _⟩ => ⟨S_, .f32⟩
  | .hbm, ⟨51, _⟩ => ⟨S2x512x128, .f32⟩
  | .hbm, ⟨52, _⟩ => ⟨S2x512x128, .f32⟩
  | _, _ => ⟨S7x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamOut.lean ====
abbrev S7x128x1024 : Shape := ⟨3, ![7, 128, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 11
  | .vmem => 11
  | .smem => 0
  | _ => 0

abbrev bufTy : (tb : Table) → Fin (tcTables nBuf tb) → BufTy
  | .hbm, ⟨0, _⟩ => ⟨S7x128x1024, .bf16⟩
  | .hbm, ⟨1, _⟩ => ⟨S7x128x1024, .bf16⟩
  | .hbm, ⟨2, _⟩ => ⟨S128x1024, .bf16⟩
  | .hbm, ⟨3, _⟩ => ⟨S128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S7x128x1024, .bf16⟩
  | .local _ .vmem, ⟨1, _⟩ => ⟨S7x128x1024, .bf16⟩
  | .local _ .vmem, ⟨2, _⟩ => ⟨S128x1024, .bf16⟩
  | .local _ .vmem, ⟨3, _⟩ => ⟨S128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | _, _ => ⟨S7x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamOutIdeal.lean ====
abbrev S7x128x1024 : Shape := ⟨3, ![7, 128, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 11
  | .vmem => 11
  | .smem => 0
  | _ => 0

abbrev bufTy : (tb : Table) → Fin (tcTables nBuf tb) → BufTy
  | .hbm, ⟨0, _⟩ => ⟨S7x128x1024, .bf16⟩
  | .hbm, ⟨1, _⟩ => ⟨S7x128x1024, .bf16⟩
  | .hbm, ⟨2, _⟩ => ⟨S128x1024, .bf16⟩
  | .hbm, ⟨3, _⟩ => ⟨S128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S7x128x1024, .bf16⟩
  | .local _ .vmem, ⟨1, _⟩ => ⟨S7x128x1024, .bf16⟩
  | .local _ .vmem, ⟨2, _⟩ => ⟨S128x1024, .bf16⟩
  | .local _ .vmem, ⟨3, _⟩ => ⟨S128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | _, _ => ⟨S7x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S7x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamOutRefIdeal.lean ====
abbrev S7x128x1024 : Shape := ⟨3, ![7, 128, 1024]⟩
abbrev S128x1024 : Shape := ⟨2, ![128, 1024]⟩
abbrev S2x128x1024 : Shape := ⟨3, ![2, 128, 1024]⟩
abbrev S_ : Shape := ⟨0, ![]⟩
abbrev S1x128x1024 : Shape := ⟨3, ![1, 128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S7x128x1024, .bf16⟩
  | .hbm, ⟨1, _⟩ => ⟨S7x128x1024, .bf16⟩
  | .hbm, ⟨2, _⟩ => ⟨S128x1024, .bf16⟩
  | .hbm, ⟨3, _⟩ => ⟨S128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S128x1024, .f32⟩
  | .hbm, ⟨8, _⟩ => ⟨S7x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S7x128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S1x128x1024, .f32⟩
  | .hbm, ⟨18, _⟩ => ⟨S1x128x1024, .f32⟩
  | .hbm, ⟨19, _⟩ => ⟨S2x128x1024, .f32⟩
  | .hbm, ⟨20, _⟩ => ⟨S_, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S2x128x1024, .f32⟩
  | .hbm, ⟨35, _⟩ => ⟨S_, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | .hbm, ⟨49, _⟩ => ⟨S2x128x1024, .f32⟩
  | .hbm, ⟨50, _⟩ => ⟨S_, .f32⟩
  | .hbm, ⟨51, _⟩ => ⟨S2x128x1024, .f32⟩
  | .hbm, ⟨52, _⟩ => ⟨S2x128x1024, .f32⟩
  | _, _ => ⟨S7x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamFfnIn.lean ====
abbrev S7x1024x704 : Shape := ⟨3, ![7, 1024, 704]⟩
abbrev S1024x704 : Shape := ⟨2, ![1024, 704]⟩
abbrev S2x1024x704 : Shape := ⟨3, ![2, 1024, 704]⟩
abbrev S7x128x704 : Shape := ⟨3, ![7, 128, 704]⟩
abbrev S128x704 : Shape := ⟨2, ![128, 704]⟩
abbrev S2x128x704 : Shape := ⟨3, ![2, 128, 704]⟩
abbrev S1x128x704 : Shape := ⟨3, ![1, 128, 704]⟩

abbrev nBuf : Space → Nat
  | .hbm => 11
  | .vmem => 22
  | .smem => 0
  | _ => 0

abbrev bufTy : (tb : Table) → Fin (tcTables nBuf tb) → BufTy
  | .hbm, ⟨0, _⟩ => ⟨S7x1024x704, .bf16⟩
  | .hbm, ⟨1, _⟩ => ⟨S7x1024x704, .bf16⟩
  | .hbm, ⟨2, _⟩ => ⟨S1024x704, .bf16⟩
  | .hbm, ⟨3, _⟩ => ⟨S1024x704, .bf16⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .local _ .vmem, ⟨0, _⟩ => ⟨S7x128x704, .bf16⟩
  | .local _ .vmem, ⟨1, _⟩ => ⟨S7x128x704, .bf16⟩
  | .local _ .vmem, ⟨2, _⟩ => ⟨S7x128x704, .bf16⟩
  | .local _ .vmem, ⟨3, _⟩ => ⟨S7x128x704, .bf16⟩
  | .local _ .vmem, ⟨4, _⟩ => ⟨S128x704, .bf16⟩
  | .local _ .vmem, ⟨5, _⟩ => ⟨S128x704, .bf16⟩
  | .local _ .vmem, ⟨6, _⟩ => ⟨S128x704, .bf16⟩
  | .local _ .vmem, ⟨7, _⟩ => ⟨S128x704, .bf16⟩
  | .local _ .vmem, ⟨8, _⟩ => ⟨S2x128x704, .f32⟩
  | .local _ .vmem, ⟨9, _⟩ => ⟨S2x128x704, .f32⟩
  | .local _ .vmem, ⟨10, _⟩ => ⟨S2x128x704, .f32⟩
  | .local _ .vmem, ⟨11, _⟩ => ⟨S2x128x704, .f32⟩
  | .local _ .vmem, ⟨12, _⟩ => ⟨S2x128x704, .f32⟩
  | .local _ .vmem, ⟨13, _⟩ => ⟨S2x128x704, .f32⟩
  | .local _ .vmem, ⟨14, _⟩ => ⟨S2x128x704, .f32⟩
  | .local _ .vmem, ⟨15, _⟩ => ⟨S2x128x704, .f32⟩
  | .local _ .vmem, ⟨16, _⟩ => ⟨S2x128x704, .f32⟩
  | .local _ .vmem, ⟨17, _⟩ => ⟨S2x128x704, .f32⟩
  | .local _ .vmem, ⟨18, _⟩ => ⟨S2x128x704, .f32⟩
  | .local _ .vmem, ⟨19, _⟩ => ⟨S2x128x704, .f32⟩
  | .local _ .vmem, ⟨20, _⟩ => ⟨S2x128x704, .f32⟩
  | .local _ .vmem, ⟨21, _⟩ => ⟨S2x128x704, .f32⟩
  | _, _ => ⟨S7x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamFfnInIdeal.lean ====
abbrev S7x1024x704 : Shape := ⟨3, ![7, 1024, 704]⟩
abbrev S1024x704 : Shape := ⟨2, ![1024, 704]⟩
abbrev S2x1024x704 : Shape := ⟨3, ![2, 1024, 704]⟩
abbrev S7x128x704 : Shape := ⟨3, ![7, 128, 704]⟩
abbrev S128x704 : Shape := ⟨2, ![128, 704]⟩
abbrev S2x128x704 : Shape := ⟨3, ![2, 128, 704]⟩
abbrev S1x128x704 : Shape := ⟨3, ![1, 128, 704]⟩

abbrev nBuf : Space → Nat
  | .hbm => 11
  | .vmem => 22
  | .smem => 0
  | _ => 0

abbrev bufTy : (tb : Table) → Fin (tcTables nBuf tb) → BufTy
  | .hbm, ⟨0, _⟩ => ⟨S7x1024x704, .bf16⟩
  | .hbm, ⟨1, _⟩ => ⟨S7x1024x704, .bf16⟩
  | .hbm, ⟨2, _⟩ => ⟨S1024x704, .bf16⟩
  | .hbm, ⟨3, _⟩ => ⟨S1024x704, .bf16⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .local _ .vmem, ⟨0, _⟩ => ⟨S7x128x704, .bf16⟩
  | .local _ .vmem, ⟨1, _⟩ => ⟨S7x128x704, .bf16⟩
  | .local _ .vmem, ⟨2, _⟩ => ⟨S7x128x704, .bf16⟩
  | .local _ .vmem, ⟨3, _⟩ => ⟨S7x128x704, .bf16⟩
  | .local _ .vmem, ⟨4, _⟩ => ⟨S128x704, .bf16⟩
  | .local _ .vmem, ⟨5, _⟩ => ⟨S128x704, .bf16⟩
  | .local _ .vmem, ⟨6, _⟩ => ⟨S128x704, .bf16⟩
  | .local _ .vmem, ⟨7, _⟩ => ⟨S128x704, .bf16⟩
  | .local _ .vmem, ⟨8, _⟩ => ⟨S2x128x704, .f32⟩
  | .local _ .vmem, ⟨9, _⟩ => ⟨S2x128x704, .f32⟩
  | .local _ .vmem, ⟨10, _⟩ => ⟨S2x128x704, .f32⟩
  | .local _ .vmem, ⟨11, _⟩ => ⟨S2x128x704, .f32⟩
  | .local _ .vmem, ⟨12, _⟩ => ⟨S2x128x704, .f32⟩
  | .local _ .vmem, ⟨13, _⟩ => ⟨S2x128x704, .f32⟩
  | .local _ .vmem, ⟨14, _⟩ => ⟨S2x128x704, .f32⟩
  | .local _ .vmem, ⟨15, _⟩ => ⟨S2x128x704, .f32⟩
  | .local _ .vmem, ⟨16, _⟩ => ⟨S2x128x704, .f32⟩
  | .local _ .vmem, ⟨17, _⟩ => ⟨S2x128x704, .f32⟩
  | .local _ .vmem, ⟨18, _⟩ => ⟨S2x128x704, .f32⟩
  | .local _ .vmem, ⟨19, _⟩ => ⟨S2x128x704, .f32⟩
  | .local _ .vmem, ⟨20, _⟩ => ⟨S2x128x704, .f32⟩
  | .local _ .vmem, ⟨21, _⟩ => ⟨S2x128x704, .f32⟩
  | _, _ => ⟨S7x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "c1" => some (((5463681 / 8388608)⁻¹ : ℝ) : EReal)
  | "c2" => some (((2672307 / 268435456)⁻¹ : ℝ) : EReal)
  | _ => none

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamFfnInRefIdeal.lean ====
abbrev S7x1024x704 : Shape := ⟨3, ![7, 1024, 704]⟩
abbrev S1024x704 : Shape := ⟨2, ![1024, 704]⟩
abbrev S2x1024x704 : Shape := ⟨3, ![2, 1024, 704]⟩
abbrev S_ : Shape := ⟨0, ![]⟩
abbrev S1x1024x704 : Shape := ⟨3, ![1, 1024, 704]⟩

abbrev nBuf : Space → Nat
  | .hbm => 53
  | .vmem => 0
  | .smem => 0
  | _ => 0

abbrev bufTy : (tb : Table) → Fin (tcTables nBuf tb) → BufTy
  | .hbm, ⟨0, _⟩ => ⟨S7x1024x704, .bf16⟩
  | .hbm, ⟨1, _⟩ => ⟨S7x1024x704, .bf16⟩
  | .hbm, ⟨2, _⟩ => ⟨S1024x704, .bf16⟩
  | .hbm, ⟨3, _⟩ => ⟨S1024x704, .bf16⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S1024x704, .f32⟩
  | .hbm, ⟨8, _⟩ => ⟨S7x1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S7x1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1x1024x704, .f32⟩
  | .hbm, ⟨18, _⟩ => ⟨S1x1024x704, .f32⟩
  | .hbm, ⟨19, _⟩ => ⟨S2x1024x704, .f32⟩
  | .hbm, ⟨20, _⟩ => ⟨S_, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S2x1024x704, .f32⟩
  | .hbm, ⟨31, _⟩ => ⟨S_, .f32⟩
  | .hbm, ⟨32, _⟩ => ⟨S2x1024x704, .f32⟩
  | .hbm, ⟨33, _⟩ => ⟨S2x1024x704, .f32⟩
  | .hbm, ⟨34, _⟩ => ⟨S2x1024x704, .f32⟩
  | .hbm, ⟨35, _⟩ => ⟨S_, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | .hbm, ⟨45, _⟩ => ⟨S2x1024x704, .f32⟩
  | .hbm, ⟨46, _⟩ => ⟨S_, .f32⟩
  | .hbm, ⟨47, _⟩ => ⟨S2x1024x704, .f32⟩
  | .hbm, ⟨48, _⟩ => ⟨S2x1024x704, .f32⟩
  | .hbm, ⟨49, _⟩ => ⟨S2x1024x704, .f32⟩
  | .hbm, ⟨50, _⟩ => ⟨S_, .f32⟩
  | .hbm, ⟨51, _⟩ => ⟨S2x1024x704, .f32⟩
  | .hbm, ⟨52, _⟩ => ⟨S2x1024x704, .f32⟩
  | _, _ => ⟨S7x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamFfnOut.lean ====
abbrev S7x352x1024 : Shape := ⟨3, ![7, 352, 1024]⟩
abbrev S352x1024 : Shape := ⟨2, ![352, 1024]⟩
abbrev S2x352x1024 : Shape := ⟨3, ![2, 352, 1024]⟩
abbrev S7x88x1024 : Shape := ⟨3, ![7, 88, 1024]⟩
abbrev S88x1024 : Shape := ⟨2, ![88, 1024]⟩
abbrev S2x88x1024 : Shape := ⟨3, ![2, 88, 1024]⟩
abbrev S1x88x1024 : Shape := ⟨3, ![1, 88, 1024]⟩

abbrev nBuf : Space → Nat
  | .hbm => 11
  | .vmem => 22
  | .smem => 0
  | _ => 0

abbrev bufTy : (tb : Table) → Fin (tcTables nBuf tb) → BufTy
  | .hbm, ⟨0, _⟩ => ⟨S7x352x1024, .bf16⟩
  | .hbm, ⟨1, _⟩ => ⟨S7x352x1024, .bf16⟩
  | .hbm, ⟨2, _⟩ => ⟨S352x1024, .bf16⟩
  | .hbm, ⟨3, _⟩ => ⟨S352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S7x88x1024, .bf16⟩
  | .local _ .vmem, ⟨1, _⟩ => ⟨S7x88x1024, .bf16⟩
  | .local _ .vmem, ⟨2, _⟩ => ⟨S7x88x1024, .bf16⟩
  | .local _ .vmem, ⟨3, _⟩ => ⟨S7x88x1024, .bf16⟩
  | .local _ .vmem, ⟨4, _⟩ => ⟨S88x1024, .bf16⟩
  | .local _ .vmem, ⟨5, _⟩ => ⟨S88x1024, .bf16⟩
  | .local _ .vmem, ⟨6, _⟩ => ⟨S88x1024, .bf16⟩
  | .local _ .vmem, ⟨7, _⟩ => ⟨S88x1024, .bf16⟩
  | .local _ .vmem, ⟨8, _⟩ => ⟨S2x88x1024, .f32⟩
  | .local _ .vmem, ⟨9, _⟩ => ⟨S2x88x1024, .f32⟩
  | .local _ .vmem, ⟨10, _⟩ => ⟨S2x88x1024, .f32⟩
  | .local _ .vmem, ⟨11, _⟩ => ⟨S2x88x1024, .f32⟩
  | .local _ .vmem, ⟨12, _⟩ => ⟨S2x88x1024, .f32⟩
  | .local _ .vmem, ⟨13, _⟩ => ⟨S2x88x1024, .f32⟩
  | .local _ .vmem, ⟨14, _⟩ => ⟨S2x88x1024, .f32⟩
  | .local _ .vmem, ⟨15, _⟩ => ⟨S2x88x1024, .f32⟩
  | .local _ .vmem, ⟨16, _⟩ => ⟨S2x88x1024, .f32⟩
  | .local _ .vmem, ⟨17, _⟩ => ⟨S2x88x1024, .f32⟩
  | .local _ .vmem, ⟨18, _⟩ => ⟨S2x88x1024, .f32⟩
  | .local _ .vmem, ⟨19, _⟩ => ⟨S2x88x1024, .f32⟩
  | .local _ .vmem, ⟨20, _⟩ => ⟨S2x88x1024, .f32⟩
  | .local _ .vmem, ⟨21, _⟩ => ⟨S2x88x1024, .f32⟩
  | _, _ => ⟨S7x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S7x88x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x88x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamFfnOutIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamFfnOutRefIdeal.lean ====
abbrev S7x352x1024 : Shape := ⟨3, ![7, 352, 1024]⟩
abbrev S352x1024 : Shape := ⟨2, ![352, 1024]⟩
abbrev S2x352x1024 : Shape := ⟨3, ![2, 352, 1024]⟩
abbrev S_ : Shape := ⟨0, ![]⟩
abbrev S1x352x1024 : Shape := ⟨3, ![1, 352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S7x352x1024, .bf16⟩
  | .hbm, ⟨1, _⟩ => ⟨S7x352x1024, .bf16⟩
  | .hbm, ⟨2, _⟩ => ⟨S352x1024, .bf16⟩
  | .hbm, ⟨3, _⟩ => ⟨S352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S352x1024, .f32⟩
  | .hbm, ⟨8, _⟩ => ⟨S7x352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S7x352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S1x352x1024, .f32⟩
  | .hbm, ⟨18, _⟩ => ⟨S1x352x1024, .f32⟩
  | .hbm, ⟨19, _⟩ => ⟨S2x352x1024, .f32⟩
  | .hbm, ⟨20, _⟩ => ⟨S_, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S2x352x1024, .f32⟩
  | .hbm, ⟨35, _⟩ => ⟨S_, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | .hbm, ⟨49, _⟩ => ⟨S2x352x1024, .f32⟩
  | .hbm, ⟨50, _⟩ => ⟨S_, .f32⟩
  | .hbm, ⟨51, _⟩ => ⟨S2x352x1024, .f32⟩
  | .hbm, ⟨52, _⟩ => ⟨S2x352x1024, .f32⟩
  | _, _ => ⟨S7x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Proof.Finite.lean ====
module

public import Idealize.ShloMosaic.Lib.Pipeline.ValueKit
public import Idealize.ShloMosaic.Lib.Pointwise

@[expose] public section

noncomputable section
open Idealize.ShloMosaic

/-! # Extended reals that are real numbers

Distributivity holds for real numbers and fails with infinities: the few steps that need it are made here. -/

/-- `x` is a real number. -/
def IsReal (x : EReal) : Prop := ∃ r : ℝ, x = r

namespace IsReal

theorem mul {x y : EReal} : IsReal x → IsReal y → IsReal (x * y) := by
  rintro ⟨a, rfl⟩ ⟨b, rfl⟩
  exact ⟨a * b, (EReal.coe_mul a b).symm⟩

theorem add {x y : EReal} : IsReal x → IsReal y → IsReal (x + y) := by
  rintro ⟨a, rfl⟩ ⟨b, rfl⟩
  exact ⟨a + b, (EReal.coe_add a b).symm⟩

theorem sum {n : ℕ} {f : Fin n → EReal} (h : ∀ k, IsReal (f k)) : IsReal (∑ k, f k) := by
  choose g hg using h
  refine ⟨∑ k, g k, ?_⟩
  rw [Finset.sum_congr rfl fun k _ => hg k]
  exact (map_sum (⟨⟨fun r : ℝ => (r : EReal), EReal.coe_zero⟩, EReal.coe_add⟩ : ℝ →+ EReal) g Finset.univ).symm

/-- A number whose absolute value is below infinity is real. -/
theorem of_abs_lt {x : EReal} (h : max x (-x) < ⊤) : IsReal x := by
  induction x with
  | bot => simp at h
  | top => simp at h
  | coe r => exact ⟨r, rfl⟩

end IsReal
end
-- ==== Proof.FfnBwd.Maths.lean ====
module

public import Idealize.ShloMosaic.Lib.Pipeline.ValueKit
public import Idealize.ShloMosaic.Lib.Pointwise
public import proofs.«01_k».proof.Proof.Finite

@[expose] public section

set_option maxRecDepth 16384
noncomputable section
open Idealize.ShloMosaic

/-! # The gradient of the gated feed-forward layer, entry by entry

The layer is `y = (silu z₁ · z₂) · w₂` with `z₁ = h · w₁` over the first 2816 columns of `w₁` and `z₂ = h · w₁` over the
other 2816. Everything below is a formula for one entry over the extended reals. -/

namespace Ffn

abbrev SRow : Shape := ⟨2, ![8192, 1024]⟩
abbrev SIn : Shape := ⟨2, ![1024, 5632]⟩
abbrev SOut : Shape := ⟨2, ![2816, 1024]⟩

/-- The logistic function. -/
def sig (z : EReal) : EReal := Ideal.div 1 (1 + Ideal.exp (0 - z))

/-- The column of `w₁` that makes column `f` of `z₁`. -/
def lo (f : Fin 2816) : Fin 5632 := ⟨f.val, by omega⟩

/-- The column of `w₁` that makes column `f` of `z₂`. -/
def hi (f : Fin 2816) : Fin 5632 := ⟨2816 + f.val, by omega⟩

/-- Entry `(i, f)` of the product `h · w₁`. -/
def pre (h : FVec Ideal SRow .bf16) (w₁ : FVec Ideal SIn .f32) (i : Fin 8192) (f : Fin 5632) : EReal :=
  ∑ k : Fin 1024, h (ix2 i k) * w₁ (ix2 k f)

/-- Entry `(i, f)` of the gated activation `silu z₁ · z₂`. -/
def act (h : FVec Ideal SRow .bf16) (w₁ : FVec Ideal SIn .f32) (i : Fin 8192) (f : Fin 2816) : EReal :=
  pre h w₁ i (lo f) * sig (pre h w₁ i (lo f)) * pre h w₁ i (hi f)

/-- The gradient reaching entry `(i, f)` of the activation: a row of `dy` against a row of `w₂`. -/
def dact (dy : FVec Ideal SRow .f32) (w₂ : FVec Ideal SOut .f32) (i : Fin 8192) (f : Fin 2816) : EReal :=
  ∑ k : Fin 1024, dy (ix2 i k) * w₂ (ix2 f k)

/-- The derivative of the gate, as one product: the gradient `c` of `silu z · t` carried to `z`. -/
def gate (c z t : EReal) : EReal := c * t * sig z * (1 + z * (1 - sig z))

/-- The gradient reaching `z₁`. -/
def dz₁ (h : FVec Ideal SRow .bf16) (dy : FVec Ideal SRow .f32) (w₁ : FVec Ideal SIn .f32) (w₂ : FVec Ideal SOut .f32)
    (i : Fin 8192) (f : Fin 2816) : EReal :=
  gate (dact dy w₂ i f) (pre h w₁ i (lo f)) (pre h w₁ i (hi f))

/-- The gradient reaching `z₂`. -/
def dz₂ (h : FVec Ideal SRow .bf16) (dy : FVec Ideal SRow .f32) (w₁ : FVec Ideal SIn .f32) (w₂ : FVec Ideal SOut .f32)
    (i : Fin 8192) (f : Fin 2816) : EReal :=
  dact dy w₂ i f * (pre h w₁ i (lo f) * sig (pre h w₁ i (lo f)))

/-- Column `u` of the `q`-th quarter of the 2816 columns. -/
def col (q : Fin 4) (u : Fin 704) : Fin 2816 := ⟨q.val * 704 + u.val, by omega⟩

/-- Row `r` of the `s`-th block of 512 rows. -/
def row (s : Fin 16) (r : Fin 512) : Fin 8192 := ⟨s.val * 512 + r.val, by omega⟩

/-- A sum over all rows, block by block. -/
theorem sum_row (F : Fin 8192 → EReal) : ∑ s : Fin 16, ∑ r : Fin 512, F (row s r) = ∑ i : Fin 8192, F i :=
  Fin.sum_mul_add_congr fun _ _ _ => rfl

/-- A sum over the 2816 columns, quarter by quarter. -/
theorem sum_col (F : Fin 2816 → EReal) : ∑ q : Fin 4, ∑ u : Fin 704, F (col q u) = ∑ f : Fin 2816, F f :=
  Fin.sum_mul_add_congr fun _ _ _ => rfl

/-- A column of `w₁` lies in its first half or in its second. -/
theorem lo_or_hi (f : Fin 5632) : (∃ g, f = lo g) ∨ ∃ g, f = hi g := by
  by_cases h : f.val < 2816
  · exact Or.inl ⟨⟨f.val, h⟩, Fin.ext rfl⟩
  · exact Or.inr ⟨⟨f.val - 2816, by omega⟩, Fin.ext (by simp only [hi]; omega)⟩

/-- At a real number the logistic function is a real number. -/
theorem sig_coe (z : ℝ) : sig z = ((1 / (1 + Real.exp (-z)) : ℝ) : EReal) := by
  have hz : (1 : EReal) + Ideal.exp (0 - (z : EReal)) = ((1 + Real.exp (-z) : ℝ) : EReal) := by
    rw [zero_sub, ← EReal.coe_neg, Ideal.exp_coe, EReal.coe_add, EReal.coe_one]
  rw [sig, hz, Ideal.div_coe (by positivity), one_mul]

/-- The derivative of the gate multiplied out, at real numbers. -/
theorem gate_eq {c z t : EReal} (hc : IsReal c) (hz : IsReal z) (ht : IsReal t) :
    gate c z t = c * t * sig z + z * (c * t) * (sig z * (1 - sig z)) := by
  obtain ⟨c, rfl⟩ := hc
  obtain ⟨z, rfl⟩ := hz
  obtain ⟨t, rfl⟩ := ht
  rw [gate, sig_coe]
  generalize (1 / (1 + Real.exp (-z)) : ℝ) = s
  norm_cast
  ring

/-- With real entries the products `h · w₁` are real. -/
theorem pre_real {h : FVec Ideal SRow .bf16} {w₁ : FVec Ideal SIn .f32} (hh : ∀ j, IsReal (h j)) (hw : ∀ j, IsReal (w₁ j))
    (i : Fin 8192) (f : Fin 5632) : IsReal (pre h w₁ i f) :=
  IsReal.sum fun _ => (hh _).mul (hw _)

/-- With real entries the gradients reaching the activation are real. -/
theorem dact_real {dy : FVec Ideal SRow .f32} {w₂ : FVec Ideal SOut .f32} (hd : ∀ j, IsReal (dy j)) (hw : ∀ j, IsReal (w₂ j))
    (i : Fin 8192) (f : Fin 2816) : IsReal (dact dy w₂ i f) :=
  IsReal.sum fun _ => (hd _).mul (hw _)

/-- A sum over the 5632 columns, first half and second half. -/
theorem sum_halves (F : Fin 5632 → EReal) :
    ∑ f : Fin 5632, F f = ∑ f : Fin 2816, F (lo f) + ∑ f : Fin 2816, F (hi f) :=
  Fin.sum_univ_add (a := 2816) (b := 2816) (fun f : Fin (2816 + 2816) => F f)

end Ffn
end
-- ==== Proof.FfnBwd.Value.lean ====
module

public import proofs.«01_k».proof.Proof.Gen.FfnBwdIdeal.Frame
public import proofs.«01_k».proof.Proof.FfnBwd.Maths
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the feed-forward gradient call leaves in its four result arrays -/

namespace Cert.FfnBwdIdeal.Value
open Cert.FfnBwdIdeal Cert.FfnBwdIdeal.Gen

/-! ## The body's arithmetic, at one entry -/

/-- The activation block. -/
theorem pay13_apply (v6 v9 : FVec Ideal S1x512x704 .bf16) (r : Fin 512) (u : Fin 704) :
    k0_pay13 (F := Ideal) v6 v9 (ix2 r u)
      = v6 (ix3 0 r u) * Ffn.sig (v6 (ix3 0 r u)) * v9 (ix3 0 r u) := by
  pointwise [k0_pay13, k0_pay12, k0_pay11, k0_pay10, k0_pay9, Ffn.sig]

/-- The block of gradients reaching the activation. -/
theorem pay14_apply (v4 : FVec Ideal S512x1024 .f32) (v22 : FVec Ideal S1x1x704x1024 .bf16) (r : Fin 512) (u : Fin 704) :
    k0_pay14 (F := Ideal) v4 v22 (ix2 r u) = ∑ k : Fin 1024, v4 (ix2 r k) * v22 (ix4 0 0 u k) := by
  pointwise [k0_pay14, k0_pay8]

/-- The block of gradients reaching `z₂`. -/
theorem pay15_apply (v4 : FVec Ideal S512x1024 .f32) (v6 : FVec Ideal S1x512x704 .bf16) (v22 : FVec Ideal S1x1x704x1024 .bf16)
    (r : Fin 512) (u : Fin 704) :
    k0_pay15 (F := Ideal) v4 v6 v22 (ix2 r u)
      = (∑ k : Fin 1024, v4 (ix2 r k) * v22 (ix4 0 0 u k)) * (v6 (ix3 0 r u) * Ffn.sig (v6 (ix3 0 r u))) := by
  rw [← pay14_apply]
  pointwise [k0_pay15, k0_pay12, k0_pay11, k0_pay9, Ffn.sig]

/-- The block of gradients reaching `z₁`. -/
theorem pay16_apply (v4 : FVec Ideal S512x1024 .f32) (v6 v9 : FVec Ideal S1x512x704 .bf16)
    (v22 : FVec Ideal S1x1x704x1024 .bf16) (r : Fin 512) (u : Fin 704) :
    k0_pay16 (F := Ideal) v4 v6 v9 v22 (ix2 r u)
      = Ffn.gate (∑ k : Fin 1024, v4 (ix2 r k) * v22 (ix4 0 0 u k)) (v6 (ix3 0 r u)) (v9 (ix3 0 r u)) := by
  rw [← pay14_apply]
  pointwise [k0_pay16, k0_pay11, k0_pay10, k0_pay9, Ffn.sig, Ffn.gate]

/-- The block of gradients of the input rows. -/
theorem pay18_apply (v26 : FVec Ideal S512x704 .bf16) (v34 : FVec Ideal S512x704 .f32) (v36 v39 : FVec Ideal S1x1x1024x704 .bf16)
    (r : Fin 512) (d : Fin 1024) :
    k0_pay18 (F := Ideal) v26 v34 v36 v39 (ix3 0 r d)
      = (∑ u : Fin 704, v34 (ix2 r u) * v36 (ix4 0 0 d u)) + ∑ u : Fin 704, v26 (ix2 r u) * v39 (ix4 0 0 d u) := by
  pointwise [k0_pay18, k0_pay17]

/-- One step of the running sum for the first half of the gradient of `w₁`. -/
theorem pay19_apply (v3 : FVec Ideal S512x1024 .bf16) (v34 : FVec Ideal S512x704 .f32) (v47 : FVec Ideal S1024x704 .f32)
    (d : Fin 1024) (u : Fin 704) :
    k0_pay19 (F := Ideal) v3 v34 v47 (ix2 d u) = v47 (ix2 d u) + ∑ r : Fin 512, v3 (ix2 r d) * v34 (ix2 r u) := by
  pointwise [k0_pay19, k0_pay17]

/-- One step of the running sum for the second half of the gradient of `w₁`. -/
theorem pay20_apply (v3 : FVec Ideal S512x1024 .bf16) (v26 : FVec Ideal S512x704 .bf16) (v53 : FVec Ideal S1024x704 .f32)
    (d : Fin 1024) (u : Fin 704) :
    k0_pay20 (F := Ideal) v3 v26 v53 (ix2 d u) = v53 (ix2 d u) + ∑ r : Fin 512, v3 (ix2 r d) * v26 (ix2 r u) := by
  pointwise [k0_pay20]

/-- One step of the running sum for the gradient of `w₂`. -/
theorem pay21_apply (v5 : FVec Ideal S512x1024 .bf16) (v21 : FVec Ideal S512x704 .bf16) (v59 : FVec Ideal S704x1024 .f32)
    (u : Fin 704) (d : Fin 1024) :
    k0_pay1 (F := Ideal) (k0_pay21 (F := Ideal) v5 v21 v59) (ix2 u d)
      = v59 (ix2 u d) + ∑ r : Fin 512, v21 (ix2 r u) * v5 (ix2 r d) := by
  pointwise [k0_pay1, k0_pay21]

/-! ## The arrays as the call finds them -/

variable (m : (ℓ : Loc nD τ sig) → Buf (Elt Ideal) ℓ)

abbrev argH (c : Dev nD) : FVec Ideal Ffn.SRow .bf16 := m ((c.tc : Thread nD τ).loc main_arg0)
abbrev argDy (c : Dev nD) : FVec Ideal Ffn.SRow .f32 := m ((c.tc : Thread nD τ).loc main_arg1)
abbrev argW₁ (c : Dev nD) : FVec Ideal Ffn.SIn .f32 := m ((c.tc : Thread nD τ).loc main_arg2)
abbrev argW₂ (c : Dev nD) : FVec Ideal Ffn.SOut .f32 := m ((c.tc : Thread nD τ).loc main_arg3)

/-- The saved `z₁`, a quarter of its columns to a leading index. -/
theorem entry_z₁ (c : Dev nD) (q : Fin 4) (i : Fin 8192) (u : Fin 704) :
    (V m c main_v5 : S4x8192x704.Idx → EReal) (ix3 q i u) = Ffn.pre (argH m c) (argW₁ m c) i (Ffn.lo (Ffn.col q u)) := by
  unfold V V0
  simp only [List.flatten_cons, List.flatten_nil, List.append_nil]
  after_results
  pointwise
  rfl

/-- The saved `z₂`, likewise. -/
theorem entry_z₂ (c : Dev nD) (q : Fin 4) (i : Fin 8192) (u : Fin 704) :
    (V m c main_v8 : S4x8192x704.Idx → EReal) (ix3 q i u) = Ffn.pre (argH m c) (argW₁ m c) i (Ffn.hi (Ffn.col q u)) := by
  unfold V V0
  simp only [List.flatten_cons, List.flatten_nil, List.append_nil]
  after_results
  pointwise
  rfl

/-- `w₁` in eight blocks of columns. -/
theorem entry_w₁ (c : Dev nD) (q : Fin 8) (d : Fin 1024) (u : Fin 704) :
    (V m c main_v12 : S1x8x1024x704.Idx → EReal) (ix4 0 q d u) = argW₁ m c (ix2 d ⟨q.val * 704 + u.val, by omega⟩) := by
  unfold V V0
  simp only [List.flatten_cons, List.flatten_nil, List.append_nil]
  after_results
  pointwise

/-- `w₂` in four blocks of rows. -/
theorem entry_w₂ (c : Dev nD) (q : Fin 4) (u : Fin 704) (d : Fin 1024) :
    (V m c main_v16 : S1x4x704x1024.Idx → EReal) (ix4 0 q u d) = argW₂ m c (ix2 (Ffn.col q u) d) := by
  unfold V V0
  simp only [List.flatten_cons, List.flatten_nil, List.append_nil]
  after_results
  pointwise
  exact congrArg (argW₂ m c) (congrArg (fun f : Fin 2816 => (ix2 f d : Ffn.SOut.Idx)) (Fin.ext (by simp only [Ffn.col]; omega)))

/-! ## The blocks -/

/-- Which block every window takes at every grid point. -/
theorem idx_val : ∀ t : Fin cfg0.N, win0_0.index t = ![t.val % 16, 0]
    ∧ win0_1.index t = ![t.val % 16, 0]
    ∧ win0_2.index t = ![t.val / 16, t.val % 16, 0]
    ∧ win0_3.index t = ![t.val / 16, t.val % 16, 0]
    ∧ win0_4.index t = ![0, t.val / 16, 0, 0]
    ∧ win0_5.index t = ![0, (t.val / 16) + 4, 0, 0]
    ∧ win0_6.index t = ![0, t.val / 16, 0, 0]
    ∧ win0_7.index t = ![t.val / 16, t.val % 16, 0]
    ∧ win0_8.index t = ![t.val / 16, 0, 0]
    ∧ win0_9.index t = ![t.val / 16, 0, 0]
    ∧ win0_10.index t = ![t.val / 16, 0, 0] :=
  (by decide +kernel : ∀ t : Fin grid0.N, _)

/-- The quarter of the columns a grid point works on. -/
def qOf (t : Fin cfg0.N) : Fin 4 := ⟨t.val / 16, by have := t.isLt; have : cfg0.N = 64 := rfl; omega⟩
/-- The block of rows a grid point works on. -/
def sOf (t : Fin cfg0.N) : Fin 16 := ⟨t.val % 16, Nat.mod_lt _ (by decide)⟩

theorem blk0 (c : Dev nD) (t : Fin cfg0.N) (r : Fin 512) (d : Fin 1024) :
    (iblk m c 0 t : S512x1024.Idx → EReal) (ix2 r d) = argH m c (ix2 (Ffn.row (sOf t) r) d) := by
  blk_point [iblk, V, idx_val t]
  all_goals rfl

theorem blk1 (c : Dev nD) (t : Fin cfg0.N) (r : Fin 512) (d : Fin 1024) :
    (iblk m c 1 t : S512x1024.Idx → EReal) (ix2 r d) = argDy m c (ix2 (Ffn.row (sOf t) r) d) := by
  blk_point [iblk, V, idx_val t]
  all_goals rfl

theorem blk2 (c : Dev nD) (t : Fin cfg0.N) (r : Fin 512) (u : Fin 704) :
    (iblk m c 2 t : S1x512x704.Idx → EReal) (ix3 0 r u)
      = Ffn.pre (argH m c) (argW₁ m c) (Ffn.row (sOf t) r) (Ffn.lo (Ffn.col (qOf t) u)) := by
  rw [← entry_z₁]
  blk_ext [iblk, idx_val t]
  all_goals rfl

theorem blk3 (c : Dev nD) (t : Fin cfg0.N) (r : Fin 512) (u : Fin 704) :
    (iblk m c 3 t : S1x512x704.Idx → EReal) (ix3 0 r u)
      = Ffn.pre (argH m c) (argW₁ m c) (Ffn.row (sOf t) r) (Ffn.hi (Ffn.col (qOf t) u)) := by
  rw [← entry_z₂]
  blk_ext [iblk, idx_val t]
  all_goals rfl

theorem blk4 (c : Dev nD) (t : Fin cfg0.N) (d : Fin 1024) (u : Fin 704) :
    (iblk m c 4 t : S1x1x1024x704.Idx → EReal) (ix4 0 0 d u) = argW₁ m c (ix2 d (Ffn.lo (Ffn.col (qOf t) u))) := by
  refine Eq.trans ?_ (entry_w₁ m c ⟨t.val / 16, by have := t.isLt; have : cfg0.N = 64 := rfl; omega⟩ d u)
  blk_ext [iblk, idx_val t]
  all_goals rfl

theorem blk5 (c : Dev nD) (t : Fin cfg0.N) (d : Fin 1024) (u : Fin 704) :
    (iblk m c 5 t : S1x1x1024x704.Idx → EReal) (ix4 0 0 d u) = argW₁ m c (ix2 d (Ffn.hi (Ffn.col (qOf t) u))) := by
  refine Eq.trans ?_ ((entry_w₁ m c ⟨t.val / 16 + 4, by have := t.isLt; have : cfg0.N = 64 := rfl; omega⟩ d u).trans ?_)
  · blk_ext [iblk, idx_val t]
  · exact congrArg (argW₁ m c) (congrArg (fun f : Fin 5632 => (ix2 d f : Ffn.SIn.Idx)) (Fin.ext (by simp only [Ffn.col, Ffn.hi, qOf]; omega)))

theorem blk6 (c : Dev nD) (t : Fin cfg0.N) (u : Fin 704) (d : Fin 1024) :
    (iblk m c 6 t : S1x1x704x1024.Idx → EReal) (ix4 0 0 u d) = argW₂ m c (ix2 (Ffn.col (qOf t) u) d) := by
  rw [← entry_w₂]
  blk_ext [iblk, idx_val t]
  all_goals rfl

/-! ## The body's intermediate blocks -/

theorem act_at (c : Dev nD) (t : Fin cfg0.N) (r : Fin 512) (u : Fin 704) :
    k0_pay13 (F := Ideal) (iblk m c 2 t) (iblk m c 3 t) (ix2 r u)
      = Ffn.act (argH m c) (argW₁ m c) (Ffn.row (sOf t) r) (Ffn.col (qOf t) u) := by
  refine (pay13_apply _ _ r u).trans ?_
  rw [blk2, blk3]
  rfl

theorem dact_at (c : Dev nD) (t : Fin cfg0.N) (r : Fin 512) (u : Fin 704) (v4 : FVec Ideal S512x1024 .f32)
    (v22 : FVec Ideal S1x1x704x1024 .bf16) (h4 : v4 = iblk m c 1 t) (h22 : v22 = iblk m c 6 t) :
    (∑ k : Fin 1024, v4 (ix2 r k) * v22 (ix4 0 0 u k))
      = Ffn.dact (argDy m c) (argW₂ m c) (Ffn.row (sOf t) r) (Ffn.col (qOf t) u) :=
  Finset.sum_congr rfl fun k _ => by rw [h4, h22, blk1, blk6]

theorem dz₂_at (c : Dev nD) (t : Fin cfg0.N) (r : Fin 512) (u : Fin 704) :
    k0_pay15 (F := Ideal) (iblk m c 1 t) (iblk m c 2 t) (iblk m c 6 t) (ix2 r u)
      = Ffn.dz₂ (argH m c) (argDy m c) (argW₁ m c) (argW₂ m c) (Ffn.row (sOf t) r) (Ffn.col (qOf t) u) := by
  refine (pay15_apply _ _ _ r u).trans ?_
  rw [blk2, dact_at m c t r u _ _ rfl rfl]
  rfl

theorem dz₁_at (c : Dev nD) (t : Fin cfg0.N) (r : Fin 512) (u : Fin 704) :
    k0_pay16 (F := Ideal) (iblk m c 1 t) (iblk m c 2 t) (iblk m c 3 t) (iblk m c 6 t) (ix2 r u)
      = Ffn.dz₁ (argH m c) (argDy m c) (argW₁ m c) (argW₂ m c) (Ffn.row (sOf t) r) (Ffn.col (qOf t) u) := by
  refine (pay16_apply _ _ _ _ r u).trans ?_
  rw [blk2, blk3, dact_at m c t r u _ _ rfl rfl]
  rfl

/-! ## The gradient of the rows -/

/-- Quarter `q`'s contribution to entry `(i, d)` of the gradient of the rows. -/
def dhPart (c : Dev nD) (q : Fin 4) (i : Fin 8192) (d : Fin 1024) : EReal :=
  (∑ u : Fin 704, Ffn.dz₁ (argH m c) (argDy m c) (argW₁ m c) (argW₂ m c) i (Ffn.col q u) * argW₁ m c (ix2 d (Ffn.lo (Ffn.col q u))))
    + ∑ u : Fin 704, Ffn.dz₂ (argH m c) (argDy m c) (argW₁ m c) (argW₂ m c) i (Ffn.col q u) * argW₁ m c (ix2 d (Ffn.hi (Ffn.col q u)))

theorem dh_at (c : Dev nD) (t : Fin cfg0.N) (r : Fin 512) (d : Fin 1024) :
    k0_pay18 (F := Ideal) (k0_pay15 (iblk m c 1 t) (iblk m c 2 t) (iblk m c 6 t))
        (k0_pay16 (iblk m c 1 t) (iblk m c 2 t) (iblk m c 3 t) (iblk m c 6 t)) (iblk m c 4 t) (iblk m c 5 t) (ix3 0 r d)
      = dhPart m c (qOf t) (Ffn.row (sOf t) r) d := by
  refine (pay18_apply _ _ _ _ r d).trans ?_
  refine congrArg₂ (· + ·) (Finset.sum_congr rfl fun u _ => ?_) (Finset.sum_congr rfl fun u _ => ?_)
  · rw [blk4, dz₁_at]
  · rw [blk5, dz₂_at]

/-- What every grid point leaves in its block of the gradient of the rows. -/
theorem out7 (c : Dev nD) (t : Fin cfg0.N) (r : Fin 512) (d : Fin 1024) :
    ((outsAt0 m c t.val t.isLt).1 : S1x512x1024.Idx → EReal) (ix3 0 r d) = dhPart m c (qOf t) (Ffn.row (sOf t) r) d := by
  by_cases h0 : t.val % 16 = 0
  · rw [outsAt0_A m c t h0 (by omega)]; frame_out
    exact dh_at m c t r d
  by_cases h1 : t.val % 16 = 15
  · rw [outsAt0_C m c t h0 h1]; frame_out
    exact dh_at m c t r d
  · rw [outsAt0_B m c t h0 h1]; frame_out
    exact dh_at m c t r d

theorem final_7 (c : Dev nD) : (dats m 0 c).arrAt 7 cfg0.N
    = (fun j => dhPart m c (j 0) (j 1) (j 2) : S4x8192x1024.Idx → EReal) := by
  refine (dats m 0 c).arrAt_eq_of_covers 7 _ (by decide +kernel) fun t hf y => ?_
  blk_simp; rw [after0_7]
  obtain ⟨r, d, hy⟩ : ∃ (r : Fin 512) (d : Fin 1024), y = (ix3 0 r d : S1x512x1024.Idx) :=
    ⟨y 1, y 2, (eq_ix3 (y : S1x512x1024.Idx)).trans (congrArg (fun z : Fin 1 => (ix3 z (y 1) (y 2) : S1x512x1024.Idx)) (Subsingleton.elim _ _))⟩
  subst hy
  refine (out7 m c t r d).trans ?_
  refine congr (congrArg₂ (dhPart m c) (Fin.ext ?_) (Fin.ext ?_)) (Fin.ext ?_)
  all_goals blk_simp [idx_val t]
  all_goals rfl

/-! ## The running sums -/

/-- One block of rows of the first half of the gradient of `w₁`. -/
def termA (c : Dev nD) (t : Fin cfg0.N) (d : Fin 1024) (u : Fin 704) : EReal :=
  ∑ r : Fin 512, argH m c (ix2 (Ffn.row (sOf t) r) d)
    * Ffn.dz₁ (argH m c) (argDy m c) (argW₁ m c) (argW₂ m c) (Ffn.row (sOf t) r) (Ffn.col (qOf t) u)

/-- One block of rows of the second half of the gradient of `w₁`. -/
def termB (c : Dev nD) (t : Fin cfg0.N) (d : Fin 1024) (u : Fin 704) : EReal :=
  ∑ r : Fin 512, argH m c (ix2 (Ffn.row (sOf t) r) d)
    * Ffn.dz₂ (argH m c) (argDy m c) (argW₁ m c) (argW₂ m c) (Ffn.row (sOf t) r) (Ffn.col (qOf t) u)

/-- One block of rows of the gradient of `w₂`. -/
def termC (c : Dev nD) (t : Fin cfg0.N) (u : Fin 704) (d : Fin 1024) : EReal :=
  ∑ r : Fin 512, Ffn.act (argH m c) (argW₁ m c) (Ffn.row (sOf t) r) (Ffn.col (qOf t) u)
    * argDy m c (ix2 (Ffn.row (sOf t) r) d)

theorem step_a (c : Dev nD) (t : Fin cfg0.N) (X : FVec Ideal S1024x704 .f32) (d : Fin 1024) (u : Fin 704) :
    k0_pay19 (F := Ideal) (iblk m c 0 t) (k0_pay16 (iblk m c 1 t) (iblk m c 2 t) (iblk m c 3 t) (iblk m c 6 t)) X (ix2 d u)
      = X (ix2 d u) + termA m c t d u := by
  refine (pay19_apply _ _ _ d u).trans (congrArg (X (ix2 d u) + ·) (Finset.sum_congr rfl fun r _ => ?_))
  rw [blk0, dz₁_at]

theorem step_b (c : Dev nD) (t : Fin cfg0.N) (X : FVec Ideal S1024x704 .f32) (d : Fin 1024) (u : Fin 704) :
    k0_pay20 (F := Ideal) (iblk m c 0 t) (k0_pay15 (iblk m c 1 t) (iblk m c 2 t) (iblk m c 6 t)) X (ix2 d u)
      = X (ix2 d u) + termB m c t d u := by
  refine (pay20_apply _ _ _ d u).trans (congrArg (X (ix2 d u) + ·) (Finset.sum_congr rfl fun r _ => ?_))
  rw [blk0, dz₂_at]

theorem step_c (c : Dev nD) (t : Fin cfg0.N) (X : FVec Ideal S704x1024 .f32) (u : Fin 704) (d : Fin 1024) :
    k0_pay1 (F := Ideal) (k0_pay21 (F := Ideal) (k0_pay8 (iblk m c 1 t)) (k0_pay13 (iblk m c 2 t) (iblk m c 3 t)) X) (ix2 u d)
      = X (ix2 u d) + termC m c t u d := by
  refine (pay21_apply _ _ _ u d).trans (congrArg (X (ix2 u d) + ·) (Finset.sum_congr rfl fun r _ => ?_))
  rw [act_at]
  exact congrArg (Ffn.act (argH m c) (argW₁ m c) (Ffn.row (sOf t) r) (Ffn.col (qOf t) u) * ·) (blk1 m c t r d)

theorem acc_a (c : Dev nD) (t : Fin cfg0.N) (ht : t.val % 16 = 15) (a : Fin 1024) (b : Fin 704) :
    ((outsAt0 m c t.val t.isLt).2.2.2.2.1 : S1024x704.Idx → EReal) (ix2 a b)
      = ∑ s : Fin 16, termA m c ⟨16 * (t.val / 16) + s.val, Pipeline.run_point_lt_of_flush t ht s⟩ a b := by
  rw [Pipeline.eq_sum_fin_of_reset_step_apply_of_flush (fun n h => ((outsAt0 m c n h).2.2.2.2.1 : S1024x704.Idx → EReal)) 16
     (fun _ => 0) (fun t j => termA m c t (j 0) (j 1)) ?_ ?_ t ht]
  · exact zero_add _
  · intro t h j
    idx_vars j
    rw [outsAt0_A m c t h (by omega)]; frame_out
    refine (step_a m c t _ j0 j1).trans ?_
    pointwise [k0_pay5]
  · intro t h j
    idx_vars j
    by_cases h1 : t.val % 16 = 15
    · rw [outsAt0_C m c t h h1]; frame_out
      exact (step_a m c t _ j0 j1).trans (congrArg (· + termA m c t j0 j1) (congrFun ((Memref.isWhole_whole _).read_unread _) _))
    · rw [outsAt0_B m c t h h1]; frame_out
      exact (step_a m c t _ j0 j1).trans (congrArg (· + termA m c t j0 j1) (congrFun ((Memref.isWhole_whole _).read_unread _) _))

theorem acc_b (c : Dev nD) (t : Fin cfg0.N) (ht : t.val % 16 = 15) (a : Fin 1024) (b : Fin 704) :
    ((outsAt0 m c t.val t.isLt).2.2.2.2.2.1 : S1024x704.Idx → EReal) (ix2 a b)
      = ∑ s : Fin 16, termB m c ⟨16 * (t.val / 16) + s.val, Pipeline.run_point_lt_of_flush t ht s⟩ a b := by
  rw [Pipeline.eq_sum_fin_of_reset_step_apply_of_flush (fun n h => ((outsAt0 m c n h).2.2.2.2.2.1 : S1024x704.Idx → EReal)) 16
     (fun _ => 0) (fun t j => termB m c t (j 0) (j 1)) ?_ ?_ t ht]
  · exact zero_add _
  · intro t h j
    idx_vars j
    rw [outsAt0_A m c t h (by omega)]; frame_out
    refine (step_b m c t _ j0 j1).trans ?_
    pointwise [k0_pay6]
  · intro t h j
    idx_vars j
    by_cases h1 : t.val % 16 = 15
    · rw [outsAt0_C m c t h h1]; frame_out
      exact (step_b m c t _ j0 j1).trans (congrArg (· + termB m c t j0 j1) (congrFun ((Memref.isWhole_whole _).read_unread _) _))
    · rw [outsAt0_B m c t h h1]; frame_out
      exact (step_b m c t _ j0 j1).trans (congrArg (· + termB m c t j0 j1) (congrFun ((Memref.isWhole_whole _).read_unread _) _))

theorem acc_c (c : Dev nD) (t : Fin cfg0.N) (ht : t.val % 16 = 15) (a : Fin 704) (b : Fin 1024) :
    ((outsAt0 m c t.val t.isLt).2.2.2.2.2.2 : S704x1024.Idx → EReal) (ix2 a b)
      = ∑ s : Fin 16, termC m c ⟨16 * (t.val / 16) + s.val, Pipeline.run_point_lt_of_flush t ht s⟩ a b := by
  rw [Pipeline.eq_sum_fin_of_reset_step_apply_of_flush (fun n h => ((outsAt0 m c n h).2.2.2.2.2.2 : S704x1024.Idx → EReal)) 16
     (fun _ => 0) (fun t j => termC m c t (j 0) (j 1)) ?_ ?_ t ht]
  · exact zero_add _
  · intro t h j
    idx_vars j
    rw [outsAt0_A m c t h (by omega)]; frame_out
    refine (step_c m c t _ j0 j1).trans ?_
    pointwise [k0_pay7]
  · intro t h j
    idx_vars j
    by_cases h1 : t.val % 16 = 15
    · rw [outsAt0_C m c t h h1]; frame_out
      exact (step_c m c t _ j0 j1).trans (congrArg (· + termC m c t j0 j1) (congrFun ((Memref.isWhole_whole _).read_unread _) _))
    · rw [outsAt0_B m c t h h1]; frame_out
      exact (step_c m c t _ j0 j1).trans (congrArg (· + termC m c t j0 j1) (congrFun ((Memref.isWhole_whole _).read_unread _) _))

/-- The sixteen grid points of a run work on the same quarter of the columns, each on its own block of rows. -/
theorem sum_run (t : Fin cfg0.N) (ht : t.val % 16 = 15) (F : Fin 8192 → Fin 4 → EReal) :
    ∑ s : Fin 16, ∑ r : Fin 512, F (Ffn.row (sOf ⟨16 * (t.val / 16) + s.val, Pipeline.run_point_lt_of_flush t ht s⟩) r)
        (qOf ⟨16 * (t.val / 16) + s.val, Pipeline.run_point_lt_of_flush t ht s⟩)
      = ∑ i : Fin 8192, F i (qOf t) := by
  rw [← Ffn.sum_row]
  refine Finset.sum_congr rfl fun s _ => Finset.sum_congr rfl fun r _ => ?_
  refine congrArg₂ F (congrArg (Ffn.row · r) (Fin.ext ?_)) (Fin.ext ?_)
  · simp only [sOf]; omega
  · simp only [qOf]; omega

/-! ## The gradients of the weights -/

/-- Entry `(d, u)` of quarter `q` of the first half of the gradient of `w₁`. -/
def dwa (c : Dev nD) (q : Fin 4) (d : Fin 1024) (u : Fin 704) : EReal :=
  ∑ i : Fin 8192, argH m c (ix2 i d) * Ffn.dz₁ (argH m c) (argDy m c) (argW₁ m c) (argW₂ m c) i (Ffn.col q u)

/-- Entry `(d, u)` of quarter `q` of the second half of the gradient of `w₁`. -/
def dwb (c : Dev nD) (q : Fin 4) (d : Fin 1024) (u : Fin 704) : EReal :=
  ∑ i : Fin 8192, argH m c (ix2 i d) * Ffn.dz₂ (argH m c) (argDy m c) (argW₁ m c) (argW₂ m c) i (Ffn.col q u)

/-- Entry `(u, d)` of quarter `q` of the gradient of `w₂`. -/
def dwc (c : Dev nD) (q : Fin 4) (u : Fin 704) (d : Fin 1024) : EReal :=
  ∑ i : Fin 8192, Ffn.act (argH m c) (argW₁ m c) i (Ffn.col q u) * argDy m c (ix2 i d)

theorem pay2_apply (x : FVec Ideal S1024x704 .f32) (a : Fin 1024) (b : Fin 704) :
    k0_pay2 (F := Ideal) x (ix3 0 a b) = x (ix2 a b) := by
  pointwise [k0_pay2]

theorem out8 (c : Dev nD) (t : Fin cfg0.N) (ht : t.val % 16 = 15) (a : Fin 1024) (b : Fin 704) :
    ((outsAt0 m c t.val t.isLt).2.1 : S1x1024x704.Idx → EReal) (ix3 0 a b) = dwa m c (qOf t) a b := by
  refine Eq.trans ?_ ((acc_a m c t ht a b).trans (sum_run t ht fun i q => argH m c (ix2 i a)
    * Ffn.dz₁ (argH m c) (argDy m c) (argW₁ m c) (argW₂ m c) i (Ffn.col q b)))
  rw [outsAt0_C m c t (by omega) ht]; frame_out
  exact pay2_apply _ a b

theorem final_8 (c : Dev nD) : (dats m 0 c).arrAt 8 cfg0.N
    = (fun j => dwa m c (j 0) (j 1) (j 2) : S4x1024x704.Idx → EReal) := by
  refine (dats m 0 c).arrAt_eq_of_covers 8 _ (by decide +kernel) fun t hf y => ?_
  blk_simp; rw [after0_8]
  obtain ⟨a, b, hy⟩ : ∃ (a : Fin 1024) (b : Fin 704), y = (ix3 0 a b : S1x1024x704.Idx) :=
    ⟨y 1, y 2, (eq_ix3 (y : S1x1024x704.Idx)).trans
      (congrArg (fun z : Fin 1 => (ix3 z (y 1) (y 2) : S1x1024x704.Idx)) (Subsingleton.elim _ _))⟩
  subst hy
  refine (out8 m c t ((flush0_8 t).mp hf) a b).trans ?_
  refine congr (congrArg₂ (dwa m c) (Fin.ext ?_) (Fin.ext ?_)) (Fin.ext ?_)
  all_goals blk_simp [idx_val t]
  all_goals rfl

theorem pay3_apply (x : FVec Ideal S1024x704 .f32) (a : Fin 1024) (b : Fin 704) :
    k0_pay3 (F := Ideal) x (ix3 0 a b) = x (ix2 a b) := by
  pointwise [k0_pay3]

theorem out9 (c : Dev nD) (t : Fin cfg0.N) (ht : t.val % 16 = 15) (a : Fin 1024) (b : Fin 704) :
    ((outsAt0 m c t.val t.isLt).2.2.1 : S1x1024x704.Idx → EReal) (ix3 0 a b) = dwb m c (qOf t) a b := by
  refine Eq.trans ?_ ((acc_b m c t ht a b).trans (sum_run t ht fun i q => argH m c (ix2 i a)
    * Ffn.dz₂ (argH m c) (argDy m c) (argW₁ m c) (argW₂ m c) i (Ffn.col q b)))
  rw [outsAt0_C m c t (by omega) ht]; frame_out
  exact pay3_apply _ a b

theorem final_9 (c : Dev nD) : (dats m 0 c).arrAt 9 cfg0.N
    = (fun j => dwb m c (j 0) (j 1) (j 2) : S4x1024x704.Idx → EReal) := by
  refine (dats m 0 c).arrAt_eq_of_covers 9 _ (by decide +kernel) fun t hf y => ?_
  blk_simp; rw [after0_9]
  obtain ⟨a, b, hy⟩ : ∃ (a : Fin 1024) (b : Fin 704), y = (ix3 0 a b : S1x1024x704.Idx) :=
    ⟨y 1, y 2, (eq_ix3 (y : S1x1024x704.Idx)).trans
      (congrArg (fun z : Fin 1 => (ix3 z (y 1) (y 2) : S1x1024x704.Idx)) (Subsingleton.elim _ _))⟩
  subst hy
  refine (out9 m c t ((flush0_9 t).mp hf) a b).trans ?_
  refine congr (congrArg₂ (dwb m c) (Fin.ext ?_) (Fin.ext ?_)) (Fin.ext ?_)
  all_goals blk_simp [idx_val t]
  all_goals rfl

theorem pay4_apply (x : FVec Ideal S704x1024 .f32) (a : Fin 704) (b : Fin 1024) :
    k0_pay4 (F := Ideal) x (ix3 0 a b) = x (ix2 a b) := by
  pointwise [k0_pay4]

theorem out10 (c : Dev nD) (t : Fin cfg0.N) (ht : t.val % 16 = 15) (a : Fin 704) (b : Fin 1024) :
    ((outsAt0 m c t.val t.isLt).2.2.2.1 : S1x704x1024.Idx → EReal) (ix3 0 a b) = dwc m c (qOf t) a b := by
  refine Eq.trans ?_ ((acc_c m c t ht a b).trans (sum_run t ht fun i q => Ffn.act (argH m c) (argW₁ m c) i (Ffn.col q a) * argDy m c (ix2 i b)))
  rw [outsAt0_C m c t (by omega) ht]; frame_out
  exact pay4_apply _ a b

theorem final_10 (c : Dev nD) : (dats m 0 c).arrAt 10 cfg0.N
    = (fun j => dwc m c (j 0) (j 1) (j 2) : S4x704x1024.Idx → EReal) := by
  refine (dats m 0 c).arrAt_eq_of_covers 10 _ (by decide +kernel) fun t hf y => ?_
  blk_simp; rw [after0_10]
  obtain ⟨a, b, hy⟩ : ∃ (a : Fin 704) (b : Fin 1024), y = (ix3 0 a b : S1x704x1024.Idx) :=
    ⟨y 1, y 2, (eq_ix3 (y : S1x704x1024.Idx)).trans
      (congrArg (fun z : Fin 1 => (ix3 z (y 1) (y 2) : S1x704x1024.Idx)) (Subsingleton.elim _ _))⟩
  subst hy
  refine (out10 m c t ((flush0_10 t).mp hf) a b).trans ?_
  refine congr (congrArg₂ (dwc m c) (Fin.ext ?_) (Fin.ext ?_)) (Fin.ext ?_)
  all_goals blk_simp [idx_val t]
  all_goals rfl

/-! ## What the host lines after the call make of the four arrays -/

/-- The results of the host lines after the call. -/
abbrev res (c : Dev nD) (b : Ref sig .tc) := Pipeline.afterTail₀ cfgs (dats m) 0 (V0 m) [hostOps1] c b

/-- Reading result window `w`'s array after the call. -/
theorem exit_at (c : Dev nD) (w : Fin cfg0.W) :
    Pipeline.withArrays (cfgs 0).spec c (V0 m c) (fun w => (dats m 0 c).arrAt w (cfgs 0).N)
        (Proc.devRef .tc (Pipeline.arrRef cfg0.spec w)) = (dats m 0 c).arrAt w cfg0.N :=
  Dat.withArrays_arrAt (dats m 0 c) sharedIn0 (V0 m c) (A_eq m c) w

theorem col_eq (f : Fin 2816) (h₁ : f.val / 704 < 4) (h₂ : f.val % 704 < 704) :
    Ffn.col ⟨f.val / 704, h₁⟩ ⟨f.val % 704, h₂⟩ = f := Fin.ext (by simp only [Ffn.col]; omega)

theorem dwa_at (c : Dev nD) (q : Fin 4) (d : Fin 1024) (u : Fin 704) (f : Fin 2816) (h : Ffn.col q u = f) :
    dwa m c q d u = ∑ i : Fin 8192, argH m c (ix2 i d) * Ffn.dz₁ (argH m c) (argDy m c) (argW₁ m c) (argW₂ m c) i f := by
  rw [← h]; rfl

theorem dwb_at (c : Dev nD) (q : Fin 4) (d : Fin 1024) (u : Fin 704) (f : Fin 2816) (h : Ffn.col q u = f) :
    dwb m c q d u = ∑ i : Fin 8192, argH m c (ix2 i d) * Ffn.dz₂ (argH m c) (argDy m c) (argW₁ m c) (argW₂ m c) i f := by
  rw [← h]; rfl

theorem dwc_at (c : Dev nD) (q : Fin 4) (u : Fin 704) (d : Fin 1024) (f : Fin 2816) (h : Ffn.col q u = f) :
    dwc m c q u d = ∑ i : Fin 8192, Ffn.act (argH m c) (argW₁ m c) i f * argDy m c (ix2 i d) := by
  rw [← h]; rfl

/-- The gradient of the rows: the four quarters' contributions added up. -/
theorem res_dh (c : Dev nD) (i : Fin 8192) (d : Fin 1024) :
    (res m c main_v22 : S8192x1024.Idx → EReal) (ix2 i d) = ∑ q : Fin 4, dhPart m c q i d := by
  unfold res Pipeline.afterTail₀
  simp only [List.flatten_cons, List.flatten_nil, List.append_nil]
  after_results
  pointwise
  exact Fin.sum_fin_congr fun q => congrFun ((exit_at m c 7).trans (final_7 m c)) (ix3 q i d : S4x8192x1024.Idx)

/-- The gradient of `w₂`. -/
theorem res_dw₂ (c : Dev nD) (f : Fin 2816) (d : Fin 1024) :
    (res m c main_v25 : S2816x1024.Idx → EReal) (ix2 f d)
      = ∑ i : Fin 8192, Ffn.act (argH m c) (argW₁ m c) i f * argDy m c (ix2 i d) := by
  unfold res Pipeline.afterTail₀
  simp only [List.flatten_cons, List.flatten_nil, List.append_nil]
  after_results
  pointwise
  exact (congrFun ((exit_at m c 10).trans (final_10 m c)) _).trans
    (dwc_at m c ⟨f.val / 704, by omega⟩ ⟨f.val % 704, by omega⟩ d f (Fin.ext (by simp only [Ffn.col]; omega)))

/-- The first half of the gradient of `w₁`. -/
theorem res_dw₁_lo (c : Dev nD) (d : Fin 1024) (f : Fin 2816) :
    (res m c main_v23 : S1024x5632.Idx → EReal) (ix2 d (Ffn.lo f))
      = ∑ i : Fin 8192, argH m c (ix2 i d) * Ffn.dz₁ (argH m c) (argDy m c) (argW₁ m c) (argW₂ m c) i f := by
  unfold res Pipeline.afterTail₀
  simp only [List.flatten_cons, List.flatten_nil, List.append_nil]
  after_results
  pointwise
  rw [dif_pos (by simp only [Ffn.lo]; omega)]
  exact (congrFun ((exit_at m c 8).trans (final_8 m c)) _).trans
    (dwa_at m c ⟨f.val / 704, by omega⟩ d ⟨f.val % 704, by omega⟩ f (Fin.ext (by simp only [Ffn.col]; omega)))

/-- The second half of the gradient of `w₁`. -/
theorem res_dw₁_hi (c : Dev nD) (d : Fin 1024) (f : Fin 2816) :
    (res m c main_v23 : S1024x5632.Idx → EReal) (ix2 d (Ffn.hi f))
      = ∑ i : Fin 8192, argH m c (ix2 i d) * Ffn.dz₂ (argH m c) (argDy m c) (argW₁ m c) (argW₂ m c) i f := by
  unfold res Pipeline.afterTail₀
  simp only [List.flatten_cons, List.flatten_nil, List.append_nil]
  after_results
  pointwise
  rw [dif_neg (by simp only [Ffn.hi]; omega)]
  exact (congrFun ((exit_at m c 9).trans (final_9 m c)) _).trans
    (dwb_at m c ⟨(2816 + f.val) / 704 - 4, by omega⟩ d ⟨(2816 + f.val) % 704, by omega⟩ f (Fin.ext (by simp only [Ffn.col]; omega)))

end Cert.FfnBwdIdeal.Value
end
-- ==== Proof.FfnBwd.Ref.lean ====
module

public import proofs.«01_k».proof.Proof.Gen.FfnGradIdeal.Read
public import proofs.«01_k».proof.Proof.FfnBwd.Maths
public import Idealize.ShloMosaic.Lib.Pointwise

@[expose] public section

set_option maxRecDepth 16384
noncomputable section
open Idealize.ShloMosaic Idealize.ShloMosaic.TcCoe Idealize.SL.Sem

/-! # What the reference's three results are, entry by entry -/

namespace Cert.FfnGradIdeal.Entry
open Cert.FfnGradIdeal Cert.FfnGradIdeal.Read

variable (h : FVec Ideal Ffn.SRow .bf16) (dy : FVec Ideal Ffn.SRow .f32) (w₁ : FVec Ideal Ffn.SIn .f32) (w₂ : FVec Ideal Ffn.SOut .f32)

theorem pre_eq (i : Fin 8192) (f : Fin 5632) :
    val_main_v1 (F := Ideal) h w₁ (ix2 i f) = Ffn.pre h w₁ i f := by
  pointwise [val_main_v1, val_main_v0]
  rfl

theorem z₁_eq (i : Fin 8192) (f : Fin 2816) : val_main_v2 (F := Ideal) h w₁ (ix2 i f) = Ffn.pre h w₁ i (Ffn.lo f) := by
  rw [← pre_eq]
  pointwise [val_main_v2]
  rfl

theorem z₂_eq (i : Fin 8192) (f : Fin 2816) : val_main_v4 (F := Ideal) h w₁ (ix2 i f) = Ffn.pre h w₁ i (Ffn.hi f) := by
  rw [← pre_eq]
  pointwise [val_main_v4]
  rfl

theorem sig_eq (i : Fin 8192) (f : Fin 2816) : val_main_v3_2 (F := Ideal) h w₁ (ix2 i f) = Ffn.sig (Ffn.pre h w₁ i (Ffn.lo f)) := by
  rw [← z₁_eq, Ffn.sig, zero_sub]
  pointwise [val_main_v3_2, val_main_call0_v4, val_main_call0_v3, val_main_call0_v2, val_main_call0_v1, val_main_call0_v0,
    val_main_call0_cst, val_main_call0_cst_0]

theorem dact_eq (i : Fin 8192) (f : Fin 2816) : val_main_v9 (F := Ideal) dy w₂ (ix2 i f) = Ffn.dact dy w₂ i f := by
  pointwise [val_main_v9]
  rfl

theorem act_eq (i : Fin 8192) (f : Fin 2816) : val_main_v5 (F := Ideal) h w₁ (ix2 i f) = Ffn.act h w₁ i f := by
  rw [Ffn.act, ← sig_eq, ← z₁_eq, ← z₂_eq]
  pointwise [val_main_v5, val_main_v3_0]

theorem dz₂_eq (i : Fin 8192) (f : Fin 2816) : val_main_v10 (F := Ideal) h dy w₁ w₂ (ix2 i f) = Ffn.dz₂ h dy w₁ w₂ i f := by
  rw [Ffn.dz₂, ← sig_eq, ← z₁_eq, ← dact_eq, mul_comm]
  pointwise [val_main_v10, val_main_v3_0]

variable {h dy w₁ w₂} (hh : ∀ j, IsReal (h j)) (hd : ∀ j, IsReal (dy j)) (h₁ : ∀ j, IsReal (w₁ j)) (h₂ : ∀ j, IsReal (w₂ j))
include hh hd h₁ h₂

theorem dz₁_eq (i : Fin 8192) (f : Fin 2816) : val_main_v13 (F := Ideal) h dy w₁ w₂ (ix2 i f) = Ffn.dz₁ h dy w₁ w₂ i f := by
  rw [Ffn.dz₁, Ffn.gate_eq (Ffn.dact_real hd h₂ i f) (Ffn.pre_real hh h₁ i _) (Ffn.pre_real hh h₁ i _), ← sig_eq, ← z₁_eq, ← z₂_eq,
    ← dact_eq]
  pointwise [val_main_v13, val_main_call1_v2, val_main_call1_v1, val_main_call1_v0, val_main_v11, val_main_v3_1,
    val_main_call0_v7, val_main_call0_v6, val_main_call0_cst_1]

theorem dz_lo (i : Fin 8192) (f : Fin 2816) :
    val_main_v15 (F := Ideal) h dy w₁ w₂ (ix2 i (Ffn.lo f)) = Ffn.dz₁ h dy w₁ w₂ i f := by
  rw [← dz₁_eq hh hd h₁ h₂]
  pointwise [val_main_v15, val_main_v12, val_main_v14, val_main_cst, val_main_cst_0]
  rw [dif_neg (by simp only [Ffn.lo]; omega), dif_pos (by simp only [Ffn.lo]; omega)]
  exact zero_add _

theorem dz_hi (i : Fin 8192) (f : Fin 2816) :
    val_main_v15 (F := Ideal) h dy w₁ w₂ (ix2 i (Ffn.hi f)) = Ffn.dz₂ h dy w₁ w₂ i f := by
  rw [← dz₂_eq]
  pointwise [val_main_v15, val_main_v12, val_main_v14, val_main_cst, val_main_cst_0]
  rw [dif_pos (by simp only [Ffn.hi]; omega), dif_neg (by simp only [Ffn.hi]; omega)]
  refine (add_zero _).trans (congrArg (fun g : Fin 2816 => val_main_v10 (F := Ideal) h dy w₁ w₂ (ix2 i g)) (Fin.ext ?_))
  simp only [Ffn.hi]; omega

/-- The gradient of the rows. -/
theorem dh_eq (i : Fin 8192) (d : Fin 1024) :
    val_main_v18 (F := Ideal) h dy w₁ w₂ (ix2 i d)
      = ∑ f : Fin 2816, Ffn.dz₁ h dy w₁ w₂ i f * w₁ (ix2 d (Ffn.lo f)) + ∑ f : Fin 2816, Ffn.dz₂ h dy w₁ w₂ i f * w₁ (ix2 d (Ffn.hi f)) := by
  have e : val_main_v18 (F := Ideal) h dy w₁ w₂ (ix2 i d)
      = ∑ f : Fin 5632, val_main_v15 (F := Ideal) h dy w₁ w₂ (ix2 i f) * w₁ (ix2 d f) := by
    pointwise [val_main_v18]
  rw [e, Ffn.sum_halves]
  exact congrArg₂ (· + ·) (Finset.sum_congr rfl fun f _ => by rw [dz_lo hh hd h₁ h₂]) (Finset.sum_congr rfl fun f _ => by rw [dz_hi hh hd h₁ h₂])

/-- The first half of the gradient of `w₁`. -/
theorem dw₁_lo_eq (d : Fin 1024) (f : Fin 2816) :
    val_main_v17 (F := Ideal) h dy w₁ w₂ (ix2 d (Ffn.lo f)) = ∑ i : Fin 8192, h (ix2 i d) * Ffn.dz₁ h dy w₁ w₂ i f := by
  have e : val_main_v17 (F := Ideal) h dy w₁ w₂ (ix2 d (Ffn.lo f))
      = ∑ i : Fin 8192, val_main_v15 (F := Ideal) h dy w₁ w₂ (ix2 i (Ffn.lo f)) * h (ix2 i d) := by
    pointwise [val_main_v17, val_main_v16, val_main_v0]
  rw [e]
  exact Finset.sum_congr rfl fun i _ => by rw [dz_lo hh hd h₁ h₂, mul_comm]

/-- The second half of the gradient of `w₁`. -/
theorem dw₁_hi_eq (d : Fin 1024) (f : Fin 2816) :
    val_main_v17 (F := Ideal) h dy w₁ w₂ (ix2 d (Ffn.hi f)) = ∑ i : Fin 8192, h (ix2 i d) * Ffn.dz₂ h dy w₁ w₂ i f := by
  have e : val_main_v17 (F := Ideal) h dy w₁ w₂ (ix2 d (Ffn.hi f))
      = ∑ i : Fin 8192, val_main_v15 (F := Ideal) h dy w₁ w₂ (ix2 i (Ffn.hi f)) * h (ix2 i d) := by
    pointwise [val_main_v17, val_main_v16, val_main_v0]
  rw [e]
  exact Finset.sum_congr rfl fun i _ => by rw [dz_hi hh hd h₁ h₂, mul_comm]

omit hh hd h₁ h₂

/-- The gradient of `w₂`. -/
theorem dw₂_eq (f : Fin 2816) (d : Fin 1024) :
    val_main_v8 (F := Ideal) h dy w₁ (ix2 f d) = ∑ i : Fin 8192, Ffn.act h w₁ i f * dy (ix2 i d) := by
  have e : val_main_v8 (F := Ideal) h dy w₁ (ix2 f d) = ∑ i : Fin 8192, dy (ix2 i d) * val_main_v5 (F := Ideal) h w₁ (ix2 i f) := by
    pointwise [val_main_v8, val_main_v7]
  rw [e]
  exact Finset.sum_congr rfl fun i _ => by rw [act_eq, mul_comm]

end Cert.FfnGradIdeal.Entry
end
-- ==== Proof.FfnBwd.Claim.lean ====
module

public import proofs.«01_k».proof.Defs
public import proofs.«01_k».proof.Proof.FfnBwd.Value
public import proofs.«01_k».proof.Proof.FfnBwd.Ref
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The feed-forward gradient: the call's results are the reference's -/

namespace Cert.Pre_finite

/-- The shape relations of the precondition's operations. -/
theorem facts : Cert.Pre_finite.Facts where
  bitsLt_bf16_f32 := by decide
  bcast_S_S8192x1024 := by decide
  bcast_S_S1024x5632 := by decide
  bcast_S_S2816x1024 := by decide

end Cert.Pre_finite

namespace Cert.Proof.FfnBwd

/-- The comparison with positive infinity, read back. -/
theorem lt_top_of {x : EReal} (e : BitVec.ofBool (decide (x < Ideal.ofBits FTy.f32 2139095040#32)) = 1#1) : x < ⊤ := by
  have ht : Ideal.ofBits FTy.f32 2139095040#32 = ⊤ := by simp [Ideal.ofBits, Ideal.ieee]
  rw [ht] at e
  by_contra h
  rw [decide_eq_false h] at e
  exact absurd e (by decide)

/-- The precondition says that every entry of every argument is a real number. -/
theorem args_real (m : (ℓ : Loc Cert.FfnBwdIdeal.nD Cert.FfnBwdIdeal.τ Cert.FfnBwdIdeal.sig) → Buf (Elt Ideal) ℓ)
    (hpre : Cert.Pre_FfnBwdIdeal_finite (hPre_finite := Cert.Pre_finite.facts) m) (c : Dev Cert.FfnBwdIdeal.nD) :
    (∀ j, IsReal (Cert.FfnBwdIdeal.Value.argH m c j)) ∧ (∀ j, IsReal (Cert.FfnBwdIdeal.Value.argDy m c j))
      ∧ (∀ j, IsReal (Cert.FfnBwdIdeal.Value.argW₁ m c j)) ∧ (∀ j, IsReal (Cert.FfnBwdIdeal.Value.argW₂ m c j)) := by
  obtain ⟨e0, e1, e2, e3⟩ := hpre c
  refine ⟨fun j => IsReal.of_abs_lt ?_, fun j => IsReal.of_abs_lt ?_, fun j => IsReal.of_abs_lt ?_, fun j => IsReal.of_abs_lt ?_⟩
  · exact lt_top_of (by have e := congrFun e0 j; pointwise [Cert.Pre_finite.fn] at e; exact e)
  · exact lt_top_of (by have e := congrFun e1 j; pointwise [Cert.Pre_finite.fn] at e; exact e)
  · exact lt_top_of (by have e := congrFun e2 j; pointwise [Cert.Pre_finite.fn] at e; exact e)
  · exact lt_top_of (by have e := congrFun e3 j; pointwise [Cert.Pre_finite.fn] at e; exact e)

open Cert.FfnGradIdeal.Read Cert.FfnGradIdeal.Entry

section Same

variable (m : (ℓ : Loc Cert.FfnBwdIdeal.nD Cert.FfnBwdIdeal.τ Cert.FfnBwdIdeal.sig) → Buf (Elt Ideal) ℓ)
  (hpre : Cert.Pre_FfnBwdIdeal_finite (hPre_finite := Cert.Pre_finite.facts) m) (c : Dev Cert.FfnBwdIdeal.nD)
include hpre

/-- The gradient of the rows is the same. -/
theorem dh_same : val_main_v18 (F := Ideal) (FfnBwdIdeal.Value.argH m c) (FfnBwdIdeal.Value.argDy m c) (FfnBwdIdeal.Value.argW₁ m c) (FfnBwdIdeal.Value.argW₂ m c)
    = FfnBwdIdeal.Value.res m c FfnBwdIdeal.main_v22 := by
  obtain ⟨hh, hd, h₁, h₂⟩ := args_real m hpre c
  funext j
  idx_vars j
  refine (dh_eq hh hd h₁ h₂ j0 j1).trans (Eq.trans ?_ (FfnBwdIdeal.Value.res_dh m c j0 j1).symm)
  unfold FfnBwdIdeal.Value.dhPart
  rw [Finset.sum_add_distrib]
  exact congrArg₂ (· + ·) (Ffn.sum_col fun f => Ffn.dz₁ (FfnBwdIdeal.Value.argH m c) (FfnBwdIdeal.Value.argDy m c) (FfnBwdIdeal.Value.argW₁ m c) (FfnBwdIdeal.Value.argW₂ m c) j0 f * FfnBwdIdeal.Value.argW₁ m c (ix2 j1 (Ffn.lo f))).symm
    (Ffn.sum_col fun f => Ffn.dz₂ (FfnBwdIdeal.Value.argH m c) (FfnBwdIdeal.Value.argDy m c) (FfnBwdIdeal.Value.argW₁ m c) (FfnBwdIdeal.Value.argW₂ m c) j0 f * FfnBwdIdeal.Value.argW₁ m c (ix2 j1 (Ffn.hi f))).symm

/-- The gradient of `w₁` is the same: a column lies in the first half or in the second. -/
theorem dw₁_same : val_main_v17 (F := Ideal) (FfnBwdIdeal.Value.argH m c) (FfnBwdIdeal.Value.argDy m c) (FfnBwdIdeal.Value.argW₁ m c) (FfnBwdIdeal.Value.argW₂ m c)
    = FfnBwdIdeal.Value.res m c FfnBwdIdeal.main_v23 := by
  obtain ⟨hh, hd, h₁, h₂⟩ := args_real m hpre c
  funext j
  idx_vars j
  rcases Ffn.lo_or_hi j1 with ⟨f, rfl⟩ | ⟨f, rfl⟩
  · exact (dw₁_lo_eq hh hd h₁ h₂ j0 f).trans (FfnBwdIdeal.Value.res_dw₁_lo m c j0 f).symm
  · exact (dw₁_hi_eq hh hd h₁ h₂ j0 f).trans (FfnBwdIdeal.Value.res_dw₁_hi m c j0 f).symm

omit hpre in
/-- The gradient of `w₂` is the same. -/
theorem dw₂_same : val_main_v8 (F := Ideal) (FfnBwdIdeal.Value.argH m c) (FfnBwdIdeal.Value.argDy m c) (FfnBwdIdeal.Value.argW₁ m c)
    = FfnBwdIdeal.Value.res m c FfnBwdIdeal.main_v25 := by
  funext j
  idx_vars j
  exact (dw₂_eq j0 j1).trans (FfnBwdIdeal.Value.res_dw₂ m c j0 j1).symm

end Same

/-- The call and its reference, at arguments of real entries, leave the same three results. -/
theorem alg : Cert.algebraic_FfnBwdIdeal_FfnGradIdeal_pre_finite (hPre_finite := Cert.Pre_finite.facts)
    (hFfnBwdIdeal := Cert.FfnBwdIdeal.Gen.facts) (hFfnGradIdeal := Cert.FfnGradIdeal.Gen.facts) := by
  pair_intro
  · run_from Cert.FfnBwdIdeal.Gen.unchanged m g & Cert.FfnBwdIdeal.Gen.run_main m g
  · run_from Cert.FfnGradIdeal.Value.run m' g'
    · exact (val_main_v18_eq _ _ _ _).trans (dh_same m hpre c)
    · exact (val_main_v17_eq _ _ _ _).trans (dw₁_same m hpre c)
    · exact (val_main_v8_eq _ _ _).trans (dw₂_same m c)

/-- The reference, which has host lines only, leaves its arguments and every counter as they were. -/
theorem refFrame : Cert.quiescent_FfnGradIdeal (hFfnGradIdeal := Cert.FfnGradIdeal.Gen.facts) := fun m ρ _ =>
  θ_run_mono (Cert.FfnGradIdeal.Value.run m ρ) fun r h =>
    ⟨fun c => (h c).2.2.2, sem_eq_zero_of_no_sems (by decide) r.2⟩

end Cert.Proof.FfnBwd
end
-- ==== Proof.Tiles.lean ====
module

public import Idealize.ShloMosaic.Lib.Pipeline.ValueKit
public import Idealize.ShloMosaic.Lib.Pointwise

@[expose] public section

noncomputable section
open Idealize.ShloMosaic

/-! # Tiles of rows and of columns -/

namespace Tile

/-- Row `r` of the `s`-th tile of 1024 rows. -/
def row (s : Fin 8) (r : Fin 1024) : Fin 8192 := ⟨s.val * 1024 + r.val, by omega⟩

/-- Column `u` of the `q`-th block of 896 columns. -/
def col (q : Fin 8) (u : Fin 896) : Fin 7168 := ⟨q.val * 896 + u.val, by omega⟩

/-- Row `r` of the `s`-th tile of 512 rows. -/
def row₅ (s : Fin 16) (r : Fin 512) : Fin 8192 := ⟨s.val * 512 + r.val, by omega⟩

/-- A sum over all rows, tile by tile. -/
theorem sum_row (F : Fin 8192 → EReal) : ∑ s : Fin 8, ∑ r : Fin 1024, F (row s r) = ∑ i : Fin 8192, F i :=
  Fin.sum_mul_add_congr fun _ _ _ => rfl

/-- A sum over all rows, in smaller tiles. -/
theorem sum_row₅ (F : Fin 8192 → EReal) : ∑ s : Fin 16, ∑ r : Fin 512, F (row₅ s r) = ∑ i : Fin 8192, F i :=
  Fin.sum_mul_add_congr fun _ _ _ => rfl

/-- A sum over all columns, block by block. -/
theorem sum_col (F : Fin 7168 → EReal) : ∑ q : Fin 8, ∑ u : Fin 896, F (col q u) = ∑ f : Fin 7168, F f :=
  Fin.sum_mul_add_congr fun _ _ _ => rfl

end Tile
end
-- ==== Proof.Inproj.Value.lean ====
module

public import proofs.«01_k».proof.Proof.Gen.InprojIdeal.Value
public import proofs.«01_k».proof.Proof.Tiles
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the input projection leaves in its result array -/

namespace Cert.InprojIdeal.Value
open Cert.InprojIdeal Cert.InprojIdeal.Gen

theorem pay1_apply (v0 : FVec Ideal S1024x1024 .bf16) (v1 : FVec Ideal S1x1x1024x896 .bf16) (r : Fin 1024) (u : Fin 896) :
    k0_pay1 (F := Ideal) v0 v1 (ix2 r u) = ∑ k : Fin 1024, v0 (ix2 r k) * v1 (ix4 0 0 k u) := by
  pointwise [k0_pay1]

variable (m : (ℓ : Loc nD τ sig) → Buf (Elt Ideal) ℓ)

/-- The normed rows. -/
abbrev argH (c : Dev nD) : FVec Ideal S8192x1024 .bf16 := m ((c.tc : Thread nD τ).loc main_arg0)
/-- The weight. -/
abbrev argW (c : Dev nD) : FVec Ideal S1024x7168 .f32 := m ((c.tc : Thread nD τ).loc main_arg1)

/-- The weight in eight blocks of columns. -/
theorem entry_w (c : Dev nD) (q : Fin 8) (d : Fin 1024) (u : Fin 896) :
    (V m c main_v3 : S1x8x1024x896.Idx → EReal) (ix4 0 q d u) = argW m c (ix2 d (Tile.col q u)) := by
  unfold V
  after_results
  pointwise
  rfl

/-- Which block every window takes at every grid point. -/
theorem idx_val : ∀ t : Fin cfg0.N, win0_0.index t = ![t.val % 8, 0]
    ∧ win0_1.index t = ![0, t.val / 8, 0, 0]
    ∧ win0_2.index t = ![t.val % 8, t.val / 8] :=
  (by decide +kernel : ∀ t : Fin grid0.N, _)

/-- The block of columns a grid point works on. -/
def qOf (t : Fin cfg0.N) : Fin 8 := ⟨t.val / 8, by have := t.isLt; have : cfg0.N = 64 := rfl; omega⟩
/-- The tile of rows a grid point works on. -/
def sOf (t : Fin cfg0.N) : Fin 8 := ⟨t.val % 8, Nat.mod_lt _ (by decide)⟩

theorem blk0 (c : Dev nD) (t : Fin cfg0.N) (r : Fin 1024) (d : Fin 1024) :
    (iblk m c 0 t : S1024x1024.Idx → EReal) (ix2 r d) = argH m c (ix2 (Tile.row (sOf t) r) d) := by
  blk_point [iblk, V, idx_val t]
  all_goals rfl

theorem blk1 (c : Dev nD) (t : Fin cfg0.N) (d : Fin 1024) (u : Fin 896) :
    (iblk m c 1 t : S1x1x1024x896.Idx → EReal) (ix4 0 0 d u) = argW m c (ix2 d (Tile.col (qOf t) u)) := by
  rw [← entry_w]
  blk_ext [iblk, idx_val t]
  all_goals rfl

/-- Entry `(i, f)` of the projected rows. -/
def prod (c : Dev nD) (i : Fin 8192) (f : Fin 7168) : EReal := ∑ k : Fin 1024, argH m c (ix2 i k) * argW m c (ix2 k f)

theorem out2 (c : Dev nD) (t : Fin cfg0.N) (r : Fin 1024) (u : Fin 896) :
    (out0_2 (F := Ideal) (iblk m c 0 t) (iblk m c 1 t) : S1024x896.Idx → EReal) (ix2 r u)
      = prod m c (Tile.row (sOf t) r) (Tile.col (qOf t) u) := by
  frame_out
  refine (pay1_apply _ _ r u).trans (Finset.sum_congr rfl fun k _ => ?_)
  rw [blk0, blk1]

theorem final_2 (c : Dev nD) : (dats m 0 c).arrAt 2 cfg0.N = (fun j => prod m c (j 0) (j 1) : S8192x7168.Idx → EReal) := by
  refine (dats m 0 c).arrAt_eq_of_covers 2 _ (by decide +kernel) fun t hf y => ?_
  blk_simp; rw [after0_2]
  obtain ⟨r, u, hy⟩ : ∃ (r : Fin 1024) (u : Fin 896), y = (ix2 r u : S1024x896.Idx) := ⟨y 0, y 1, eq_ix2 (y : S1024x896.Idx)⟩
  subst hy
  refine (out2 m c t r u).trans ?_
  refine congrArg₂ (prod m c) (Fin.ext ?_) (Fin.ext ?_)
  all_goals blk_simp [idx_val t]
  all_goals rfl

end Cert.InprojIdeal.Value
end
-- ==== Proof.Inproj.Claim.lean ====
module

public import proofs.«01_k».proof.Defs
public import proofs.«01_k».proof.Proof.Inproj.Value
public import proofs.«01_k».proof.Proof.Gen.InprojRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The input projection: the call's result is the reference's -/

namespace Cert.Proof.Inproj
open Cert.InprojRefIdeal.Read

/-- The reference, entry by entry. -/
theorem ref_apply (h : FVec Ideal Cert.InprojRefIdeal.S8192x1024 .bf16) (w : FVec Ideal Cert.InprojRefIdeal.S1024x7168 .f32)
    (i : Fin 8192) (f : Fin 7168) :
    val_main_v2 (F := Ideal) h w (ix2 i f) = ∑ k : Fin 1024, h (ix2 i k) * w (ix2 k f) := by
  pointwise [val_main_v2, val_main_v1, val_main_v0]

/-- The two result arrays are one. -/
theorem same (m : (ℓ : Loc Cert.InprojIdeal.nD Cert.InprojIdeal.τ Cert.InprojIdeal.sig) → Buf (Elt Ideal) ℓ) (c : Dev Cert.InprojIdeal.nD) :
    val_main_v2 (F := Ideal) (InprojIdeal.Value.argH m c) (InprojIdeal.Value.argW m c)
      = (InprojIdeal.Gen.dats m 0 c).arrAt 2 InprojIdeal.cfg0.N := by
  rw [InprojIdeal.Value.final_2]
  funext j
  idx_vars j
  exact ref_apply _ _ j0 j1

/-- The call and its reference leave the same result. -/
theorem alg : Cert.algebraic_InprojIdeal_InprojRefIdeal (hInprojIdeal := Cert.InprojIdeal.Gen.facts) (hInprojRefIdeal := Cert.InprojRefIdeal.Gen.facts) := by
  pair_intro
  · run_from Cert.InprojIdeal.Value.run_blocks m g
  · run_from Cert.InprojRefIdeal.Value.run m' g'
    exact (val_main_v2_eq _ _).trans (same m c)

/-- The reference, which has host lines only, leaves its arguments and every counter as they were. -/
theorem refFrame : Cert.quiescent_InprojRefIdeal (hInprojRefIdeal := Cert.InprojRefIdeal.Gen.facts) := fun m ρ _ =>
  θ_run_mono (Cert.InprojRefIdeal.Value.run m ρ) fun r h =>
    ⟨fun c => (h c).2, sem_eq_zero_of_no_sems (by decide) r.2⟩

end Cert.Proof.Inproj
end
-- ==== Proof.DwIn.Value.lean ====
module

public import proofs.«01_k».proof.Proof.Gen.DwInIdeal.Value
public import proofs.«01_k».proof.Proof.Tiles
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the input projection's weight gradient call leaves in its result array -/

namespace Cert.DwInIdeal.Value
open Cert.DwInIdeal Cert.DwInIdeal.Gen

/-- One step of the running sum. -/
theorem pay2_apply (v3 : FVec Ideal S1024x1024 .bf16) (v4 : FVec Ideal S1024x896 .bf16) (v5 : FVec Ideal S1024x896 .f32)
    (d : Fin 1024) (u : Fin 896) :
    k0_pay2 (F := Ideal) v3 v4 v5 (ix2 d u) = v5 (ix2 d u) + ∑ r : Fin 1024, v3 (ix2 r d) * v4 (ix2 r u) := by
  pointwise [k0_pay2]

theorem pay3_apply (x : FVec Ideal S1024x896 .f32) (d : Fin 1024) (u : Fin 896) :
    k0_pay3 (F := Ideal) x (ix3 0 d u) = x (ix2 d u) := by
  pointwise [k0_pay3]

variable (m : (ℓ : Loc nD τ sig) → Buf (Elt Ideal) ℓ)

/-- The normed rows. -/
abbrev argH (c : Dev nD) : FVec Ideal S8192x1024 .bf16 := m ((c.tc : Thread nD τ).loc main_arg0)
/-- The gradients reaching the projected rows. -/
abbrev argD (c : Dev nD) : FVec Ideal S8192x7168 .bf16 := m ((c.tc : Thread nD τ).loc main_arg1)

/-- Which block every window takes at every grid point. -/
theorem idx_val : ∀ t : Fin cfg0.N, win0_0.index t = ![t.val % 8, 0]
    ∧ win0_1.index t = ![t.val % 8, t.val / 8]
    ∧ win0_2.index t = ![t.val / 8, 0, 0] :=
  (by decide +kernel : ∀ t : Fin grid0.N, _)

/-- The block of columns a grid point works on. -/
def qOf (t : Fin cfg0.N) : Fin 8 := ⟨t.val / 8, by have := t.isLt; have : cfg0.N = 64 := rfl; omega⟩
/-- The tile of rows a grid point works on. -/
def sOf (t : Fin cfg0.N) : Fin 8 := ⟨t.val % 8, Nat.mod_lt _ (by decide)⟩

theorem blk0 (c : Dev nD) (t : Fin cfg0.N) (r : Fin 1024) (d : Fin 1024) :
    (iblk m c 0 t : S1024x1024.Idx → EReal) (ix2 r d) = argH m c (ix2 (Tile.row (sOf t) r) d) := by
  blk_point [iblk, V, idx_val t]
  all_goals rfl

theorem blk1 (c : Dev nD) (t : Fin cfg0.N) (r : Fin 1024) (u : Fin 896) :
    (iblk m c 1 t : S1024x896.Idx → EReal) (ix2 r u) = argD m c (ix2 (Tile.row (sOf t) r) (Tile.col (qOf t) u)) := by
  blk_point [iblk, V, idx_val t]
  all_goals rfl

/-- One tile of rows of the gradient. -/
def term (c : Dev nD) (t : Fin cfg0.N) (d : Fin 1024) (u : Fin 896) : EReal :=
  ∑ r : Fin 1024, argH m c (ix2 (Tile.row (sOf t) r) d) * argD m c (ix2 (Tile.row (sOf t) r) (Tile.col (qOf t) u))

theorem step (c : Dev nD) (t : Fin cfg0.N) (X : FVec Ideal S1024x896 .f32) (d : Fin 1024) (u : Fin 896) :
    k0_pay2 (F := Ideal) (iblk m c 0 t) (iblk m c 1 t) X (ix2 d u) = X (ix2 d u) + term m c t d u := by
  refine (pay2_apply _ _ _ d u).trans (congrArg (X (ix2 d u) + ·) (Finset.sum_congr rfl fun r _ => ?_))
  rw [blk0, blk1]

theorem acc (c : Dev nD) (t : Fin cfg0.N) (ht : t.val % 8 = 7) (a : Fin 1024) (b : Fin 896) :
    ((outsAt0 m c t.val t.isLt).2 : S1024x896.Idx → EReal) (ix2 a b)
      = ∑ s : Fin 8, term m c ⟨8 * (t.val / 8) + s.val, Pipeline.run_point_lt_of_flush t ht s⟩ a b := by
  rw [Pipeline.eq_sum_fin_of_reset_step_apply_of_flush (fun n h => ((outsAt0 m c n h).2 : S1024x896.Idx → EReal)) 8
     (fun _ => 0) (fun t j => term m c t (j 0) (j 1)) ?_ ?_ t ht]
  · exact zero_add _
  · intro t h j
    idx_vars j
    rw [outsAt0_A m c t h (by omega)]; frame_out
    refine (step m c t _ j0 j1).trans ?_
    pointwise [k0_pay1]
  · intro t h j
    idx_vars j
    by_cases h1 : t.val % 8 = 7
    · rw [outsAt0_C m c t h h1]; frame_out
      exact (step m c t _ j0 j1).trans (congrArg (· + term m c t j0 j1) (congrFun ((Memref.isWhole_whole _).read_unread _) _))
    · rw [outsAt0_B m c t h h1]; frame_out
      exact (step m c t _ j0 j1).trans (congrArg (· + term m c t j0 j1) (congrFun ((Memref.isWhole_whole _).read_unread _) _))

/-- The eight grid points of a run work on the same block of columns, each on its own tile of rows. -/
theorem sum_run (t : Fin cfg0.N) (ht : t.val % 8 = 7) (F : Fin 8192 → Fin 8 → EReal) :
    ∑ s : Fin 8, ∑ r : Fin 1024, F (Tile.row (sOf ⟨8 * (t.val / 8) + s.val, Pipeline.run_point_lt_of_flush t ht s⟩) r)
        (qOf ⟨8 * (t.val / 8) + s.val, Pipeline.run_point_lt_of_flush t ht s⟩)
      = ∑ i : Fin 8192, F i (qOf t) := by
  rw [← Tile.sum_row]
  refine Finset.sum_congr rfl fun s _ => Finset.sum_congr rfl fun r _ => ?_
  refine congrArg₂ F (congrArg (Tile.row · r) (Fin.ext ?_)) (Fin.ext ?_)
  · simp only [sOf]; omega
  · simp only [qOf]; omega

/-- Entry `(d, u)` of block `q` of the gradient. -/
def dw (c : Dev nD) (q : Fin 8) (d : Fin 1024) (u : Fin 896) : EReal :=
  ∑ i : Fin 8192, argH m c (ix2 i d) * argD m c (ix2 i (Tile.col q u))

theorem out2 (c : Dev nD) (t : Fin cfg0.N) (ht : t.val % 8 = 7) (a : Fin 1024) (b : Fin 896) :
    ((outsAt0 m c t.val t.isLt).1 : S1x1024x896.Idx → EReal) (ix3 0 a b) = dw m c (qOf t) a b := by
  refine Eq.trans ?_ ((acc m c t ht a b).trans (sum_run t ht fun i q => argH m c (ix2 i a) * argD m c (ix2 i (Tile.col q b))))
  rw [outsAt0_C m c t (by omega) ht]; frame_out
  exact pay3_apply _ a b

theorem final_2 (c : Dev nD) : (dats m 0 c).arrAt 2 cfg0.N
    = (fun j => dw m c (j 0) (j 1) (j 2) : S8x1024x896.Idx → EReal) := by
  refine (dats m 0 c).arrAt_eq_of_covers 2 _ (by decide +kernel) fun t hf y => ?_
  blk_simp; rw [after0_2]
  obtain ⟨a, b, hy⟩ : ∃ (a : Fin 1024) (b : Fin 896), y = (ix3 0 a b : S1x1024x896.Idx) :=
    ⟨y 1, y 2, (eq_ix3 (y : S1x1024x896.Idx)).trans
      (congrArg (fun z : Fin 1 => (ix3 z (y 1) (y 2) : S1x1024x896.Idx)) (Subsingleton.elim _ _))⟩
  subst hy
  refine (out2 m c t ((flush0_2 t).mp hf) a b).trans ?_
  refine congr (congrArg₂ (dw m c) (Fin.ext ?_) (Fin.ext ?_)) (Fin.ext ?_)
  all_goals blk_simp [idx_val t]
  all_goals rfl

end Cert.DwInIdeal.Value
end
-- ==== Proof.DwIn.Claim.lean ====
module

public import proofs.«01_k».proof.Defs
public import proofs.«01_k».proof.Proof.DwIn.Value
public import proofs.«01_k».proof.Proof.Gen.DwInRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The input projection's weight gradient: the call's result is the reference's -/

namespace Cert.Proof.DwIn
open Cert.DwInRefIdeal.Read

/-- The reference, entry by entry. -/
theorem ref_apply (h : FVec Ideal Cert.DwInRefIdeal.S8192x1024 .bf16) (d : FVec Ideal Cert.DwInRefIdeal.S8192x7168 .bf16)
    (q : Fin 8) (a : Fin 1024) (b : Fin 896) :
    val_main_v8 (F := Ideal) h d (ix3 q a b) = ∑ i : Fin 8192, h (ix2 i a) * d (ix2 i (Tile.col q b)) := by
  pointwise [val_main_v8, val_main_v7, val_main_v6, val_main_v5, val_main_v4, val_main_v3, val_main_v0]
  exact Finset.sum_congr rfl fun i _ => mul_comm _ _

/-- The two result arrays are one. -/
theorem same (m : (ℓ : Loc Cert.DwInIdeal.nD Cert.DwInIdeal.τ Cert.DwInIdeal.sig) → Buf (Elt Ideal) ℓ) (c : Dev Cert.DwInIdeal.nD) :
    val_main_v8 (F := Ideal) (DwInIdeal.Value.argH m c) (DwInIdeal.Value.argD m c)
      = (DwInIdeal.Gen.dats m 0 c).arrAt 2 DwInIdeal.cfg0.N := by
  rw [DwInIdeal.Value.final_2]
  funext j
  idx_vars j
  exact ref_apply _ _ j0 j1 j2

/-- The call and its reference leave the same result. -/
theorem alg : Cert.algebraic_DwInIdeal_DwInRefIdeal (hDwInIdeal := Cert.DwInIdeal.Gen.facts) (hDwInRefIdeal := Cert.DwInRefIdeal.Gen.facts) := by
  pair_intro
  · run_from Cert.DwInIdeal.Value.run_blocks m g
  · run_from Cert.DwInRefIdeal.Value.run m' g'
    exact (val_main_v8_eq _ _).trans (same m c)

/-- The reference, which has host lines only, leaves its arguments and every counter as they were. -/
theorem refFrame : Cert.quiescent_DwInRefIdeal (hDwInRefIdeal := Cert.DwInRefIdeal.Gen.facts) := fun m ρ _ =>
  θ_run_mono (Cert.DwInRefIdeal.Value.run m ρ) fun r h =>
    ⟨fun c => (h c).2, sem_eq_zero_of_no_sems (by decide) r.2⟩

end Cert.Proof.DwIn
end
-- ==== Proof.Rms.lean ====
module

public import Idealize.ShloMosaic.Lib.Pipeline.ValueKit
public import Idealize.ShloMosaic.Lib.Pointwise

@[expose] public section

noncomputable section
open Idealize.ShloMosaic

/-! # The gradient of a row's division by its root mean square, two ways -/

namespace Rms

/-- The width of a row, as the programs write it. -/
abbrev width : EReal := Ideal.ofBits .f32 0x44800000#32
/-- What both programs add to the mean square. -/
abbrev eps : EReal := Ideal.ofBits .f32 0x358637BD#32
/-- Minus one half. -/
abbrev mhalf : EReal := Ideal.ofBits .f32 0xBF000000#32

theorem width_eq : width = ((1024 : ℝ) : EReal) := by
  simp [width, Ideal.ofBits, Ideal.ieee]
  rw [← EReal.coe_mul]
  norm_num

theorem mhalf_eq : mhalf = ((-(1 / 2) : ℝ) : EReal) := by
  simp [mhalf, Ideal.ofBits, Ideal.ieee]
  rw [← EReal.coe_mul]
  norm_num

theorem eps_pos : 0 < eps := by
  simp [eps, Ideal.ofBits, Ideal.ieee]
  rw [← EReal.coe_mul]
  norm_num

/-- The mean square of a row, `eps` added. -/
def ms (x : Fin 1024 → EReal) : EReal := Ideal.div (∑ k : Fin 1024, x k * x k) width + eps

/-- The factor a row is scaled by. -/
def scale (x : Fin 1024 → EReal) : EReal := Ideal.rsqrt (ms x)

/-- The gradient of the normed row with respect to the row, in the form that uses the cube of the factor. -/
def dx (x g dh : Fin 1024 → EReal) (j : Fin 1024) : EReal :=
  scale x * (dh j * g j) - x j * (scale x * scale x * scale x) * Ideal.div (∑ k : Fin 1024, dh k * g k * x k) width

/-- The gradient reaching the mean square, for each of the two factors of the square. -/
def half (x g dh : Fin 1024 → EReal) : EReal :=
  Ideal.div ((∑ k : Fin 1024, x k * (dh k * g k)) * (mhalf * Ideal.div (scale x) (ms x))) width

theorem sq_nonneg (a : EReal) : 0 ≤ a * a := by
  induction a with
  | bot => simp
  | top => simp
  | coe r => exact_mod_cast mul_self_nonneg r

theorem ms_pos (x : Fin 1024 → EReal) : 0 < ms x := by
  have h : 0 ≤ Ideal.div (∑ k : Fin 1024, x k * x k) width := by
    rw [width_eq, Ideal.div_coe (by norm_num)]
    refine mul_nonneg (Finset.sum_nonneg fun k _ => sq_nonneg _) ?_
    exact_mod_cast (by norm_num : (0 : ℝ) ≤ 1 / 1024)
  exact lt_of_lt_of_le eps_pos (le_add_of_nonneg_left h)

/-- The cube of the reciprocal root is the derivative's quotient. -/
theorem cube {v : EReal} (hv : 0 < v) : Ideal.rsqrt v * Ideal.rsqrt v * Ideal.rsqrt v = Ideal.div (Ideal.rsqrt v) v := by
  induction v with
  | bot => simp at hv
  | top => simp [Ideal.div]
  | coe r =>
    have hr : 0 < r := by exact_mod_cast hv
    rw [Ideal.rsqrt_coe, if_neg (not_lt.mpr hr.le), if_neg hr.ne', Ideal.div_coe hr.ne']
    norm_cast
    have h := Real.sq_sqrt hr.le
    have hs : Real.sqrt r ≠ 0 := (Real.sqrt_pos.mpr hr).ne'
    rw [mul_assoc, ← mul_inv, ← sq, h, one_div]

theorem add_self (a : EReal) : a + a = ((2 : ℝ) : EReal) * a := by
  induction a with
  | bot => rw [EReal.coe_mul_bot_of_pos (by norm_num)]; rfl
  | top => rw [EReal.coe_mul_top_of_pos (by norm_num)]; rfl
  | coe r => norm_cast; ring

/-- The two forms of the gradient agree, whatever the entries. -/
theorem dx_eq (x g dh : Fin 1024 → EReal) (dr : EReal) (j : Fin 1024) :
    dr + dh j * g j * scale x + x j * half x g dh + half x g dh * x j = dr + dx x g dh j := by
  have hs : (∑ k : Fin 1024, x k * (dh k * g k)) = ∑ k : Fin 1024, dh k * g k * x k :=
    Finset.sum_congr rfl fun k _ => mul_comm _ _
  have hc : scale x * scale x * scale x = Ideal.div (scale x) (ms x) := cube (ms_pos x)
  have key : x j * half x g dh + half x g dh * x j
      = -(x j * (scale x * scale x * scale x) * Ideal.div (∑ k : Fin 1024, dh k * g k * x k) width) := by
    rw [mul_comm (half x g dh), add_self, half, hs, hc, width_eq, Ideal.div_coe (by norm_num), Ideal.div_coe (by norm_num), mhalf_eq]
    generalize (∑ k : Fin 1024, dh k * g k * x k) = S
    generalize Ideal.div (scale x) (ms x) = q
    have h2 : ((2 : ℝ) : EReal) * ((-(1 / 2) : ℝ) : EReal) = -1 := by norm_cast; norm_num
    refine Eq.trans ?_ (neg_one_mul (x j * q * (S * ((1 / 1024 : ℝ) : EReal))))
    rw [← h2]
    ac_rfl
  rw [dx, sub_eq_add_neg, ← key, mul_comm (scale x)]
  ac_rfl

/-- The factors of each summand, turned round. -/
theorem sum_turn {n : ℕ} (x r h : Fin n → EReal) : ∑ i : Fin n, x i * r i * h i = ∑ i : Fin n, h i * x i * r i :=
  Finset.sum_congr rfl fun i _ => by rw [mul_comm, mul_assoc]

end Rms
end
-- ==== Proof.InprojBwd.Value.lean ====
module

public import proofs.«01_k».proof.Proof.Gen.InprojBwdIdeal.Value
public import proofs.«01_k».proof.Proof.Tiles
public import proofs.«01_k».proof.Proof.Rms
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the input projection's gradient call leaves in its two result arrays -/

namespace Cert.InprojBwdIdeal.Value
open Cert.InprojBwdIdeal Cert.InprojBwdIdeal.Gen

/-! ## The body's arithmetic, at one entry -/

/-- One step of the running sum of the gradient of the normed rows. -/
theorem pay3_apply (v8 : FVec Ideal S1024x1024 .f32) (v9 : FVec Ideal S1024x896 .bf16) (v10 : FVec Ideal S1x1x1024x896 .bf16)
    (r d : Fin 1024) :
    k0_pay3 (F := Ideal) v8 v9 v10 (ix2 r d) = v8 (ix2 r d) + ∑ u : Fin 896, v9 (ix2 r u) * v10 (ix4 0 0 d u) := by
  pointwise [k0_pay3]

/-- A row's factor. -/
theorem pay4_apply (x : FVec Ideal S1024x1024 .f32) (r : Fin 1024) :
    k0_pay4 (F := Ideal) x (ix2 r 0) = Rms.scale fun k => x (ix2 r k) := by
  pointwise [k0_pay4, Rms.scale, Rms.ms]

/-- The gradient of the rows, from the whole gradient of the normed rows. -/
theorem pay5_apply (x : FVec Ideal S1024x1024 .f32) (g : FVec Ideal S1x1024 .f32) (dh dr : FVec Ideal S1024x1024 .f32) (r d : Fin 1024) :
    k0_pay5 (F := Ideal) x g dh dr (ix2 r d)
      = dr (ix2 r d) + Rms.dx (fun k => x (ix2 r k)) (fun k => g (ix2 0 k)) (fun k => dh (ix2 r k)) d := by
  rw [Rms.dx, ← pay4_apply]
  pointwise [k0_pay5]

/-- One step of the running sum of the gradient of the gain. -/
theorem pay6_apply (x dh : FVec Ideal S1024x1024 .f32) (a : FVec Ideal S1x1024 .f32) (d : Fin 1024) :
    k0_pay6 (F := Ideal) x dh a (ix2 0 d)
      = a (ix2 0 d) + ∑ r : Fin 1024, dh (ix2 r d) * x (ix2 r d) * Rms.scale fun k => x (ix2 r k) := by
  simp only [← pay4_apply]
  pointwise [k0_pay6]

/-! ## The arrays as the call finds them -/

variable (m : (ℓ : Loc nD τ sig) → Buf (Elt Ideal) ℓ)

/-- The gradients reaching the projected rows. -/
abbrev argD (c : Dev nD) : FVec Ideal S8192x7168 .bf16 := m ((c.tc : Thread nD τ).loc main_arg0)
/-- The weight. -/
abbrev argW (c : Dev nD) : FVec Ideal S1024x7168 .f32 := m ((c.tc : Thread nD τ).loc main_arg1)
/-- The rows before the norm. -/
abbrev argX (c : Dev nD) : FVec Ideal S8192x1024 .f32 := m ((c.tc : Thread nD τ).loc main_arg2)
/-- The gain. -/
abbrev argG (c : Dev nD) : FVec Ideal S1024 .f32 := m ((c.tc : Thread nD τ).loc main_arg3)
/-- The gradients that pass the norm by. -/
abbrev argR (c : Dev nD) : FVec Ideal S8192x1024 .f32 := m ((c.tc : Thread nD τ).loc main_arg4)

/-- The weight in eight blocks of columns. -/
theorem entry_w (c : Dev nD) (q : Fin 8) (d : Fin 1024) (u : Fin 896) :
    (V m c main_v3 : S1x8x1024x896.Idx → EReal) (ix4 0 q d u) = argW m c (ix2 d (Tile.col q u)) := by
  unfold V
  after_results
  pointwise
  rfl

/-- The gain as one row. -/
theorem entry_g (c : Dev nD) (d : Fin 1024) :
    (V m c main_v4 : S1x1024.Idx → EReal) (ix2 0 d) = argG m c (ix1 d) := by
  unfold V
  after_results
  pointwise

/-- Which block every window takes at every grid point. -/
theorem idx_val : ∀ t : Fin cfg0.N, win0_0.index t = ![t.val / 8, t.val % 8]
    ∧ win0_1.index t = ![0, t.val % 8, 0, 0]
    ∧ win0_2.index t = ![t.val / 8, 0]
    ∧ win0_3.index t = ![0, 0]
    ∧ win0_4.index t = ![t.val / 8, 0]
    ∧ win0_5.index t = ![t.val / 8, 0]
    ∧ win0_6.index t = ![0, 0] :=
  (by decide +kernel : ∀ t : Fin grid0.N, _)

/-- The block of columns a grid point works on. -/
def qOf (t : Fin cfg0.N) : Fin 8 := ⟨t.val % 8, Nat.mod_lt _ (by decide)⟩
/-- The tile of rows a grid point works on. -/
def sOf (t : Fin cfg0.N) : Fin 8 := ⟨t.val / 8, by have := t.isLt; have : cfg0.N = 64 := rfl; omega⟩

theorem blk0 (c : Dev nD) (t : Fin cfg0.N) (r : Fin 1024) (u : Fin 896) :
    (iblk m c 0 t : S1024x896.Idx → EReal) (ix2 r u) = argD m c (ix2 (Tile.row (sOf t) r) (Tile.col (qOf t) u)) := by
  blk_point [iblk, V, idx_val t]
  all_goals rfl

theorem blk1 (c : Dev nD) (t : Fin cfg0.N) (d : Fin 1024) (u : Fin 896) :
    (iblk m c 1 t : S1x1x1024x896.Idx → EReal) (ix4 0 0 d u) = argW m c (ix2 d (Tile.col (qOf t) u)) := by
  rw [← entry_w]
  blk_ext [iblk, idx_val t]
  all_goals rfl

theorem blk2 (c : Dev nD) (t : Fin cfg0.N) (r d : Fin 1024) :
    (iblk m c 2 t : S1024x1024.Idx → EReal) (ix2 r d) = argX m c (ix2 (Tile.row (sOf t) r) d) := by
  blk_point [iblk, V, idx_val t]
  all_goals rfl

theorem blk3 (c : Dev nD) (t : Fin cfg0.N) (d : Fin 1024) :
    (iblk m c 3 t : S1x1024.Idx → EReal) (ix2 0 d) = argG m c (ix1 d) := by
  rw [← entry_g]
  blk_ext [iblk, idx_val t]
  all_goals rfl

theorem blk4 (c : Dev nD) (t : Fin cfg0.N) (r d : Fin 1024) :
    (iblk m c 4 t : S1024x1024.Idx → EReal) (ix2 r d) = argR m c (ix2 (Tile.row (sOf t) r) d) := by
  blk_point [iblk, V, idx_val t]
  all_goals rfl

/-! ## The gradient of the normed rows, summed over the blocks of columns -/

/-- One block of columns of the gradient of the normed rows. -/
def term (c : Dev nD) (t : Fin cfg0.N) (r d : Fin 1024) : EReal :=
  ∑ u : Fin 896, argD m c (ix2 (Tile.row (sOf t) r) (Tile.col (qOf t) u)) * argW m c (ix2 d (Tile.col (qOf t) u))

/-- Entry `(i, d)` of the gradient of the normed rows. -/
def dh (c : Dev nD) (i : Fin 8192) (d : Fin 1024) : EReal :=
  ∑ f : Fin 7168, argD m c (ix2 i f) * argW m c (ix2 d f)

theorem step (c : Dev nD) (t : Fin cfg0.N) (X : FVec Ideal S1024x1024 .f32) (r d : Fin 1024) :
    k0_pay3 (F := Ideal) X (iblk m c 0 t) (iblk m c 1 t) (ix2 r d) = X (ix2 r d) + term m c t r d := by
  refine (pay3_apply _ _ _ r d).trans (congrArg (X (ix2 r d) + ·) (Finset.sum_congr rfl fun u _ => ?_))
  rw [blk0, blk1]

theorem acc (c : Dev nD) (t : Fin cfg0.N) (ht : t.val % 8 = 7) (a b : Fin 1024) :
    ((outsAt0 m c t.val t.isLt).2.2 : S1024x1024.Idx → EReal) (ix2 a b)
      = ∑ s : Fin 8, term m c ⟨8 * (t.val / 8) + s.val, Pipeline.run_point_lt_of_flush t ht s⟩ a b := by
  rw [Pipeline.eq_sum_fin_of_reset_step_apply_of_flush (fun n h => ((outsAt0 m c n h).2.2 : S1024x1024.Idx → EReal)) 8
     (fun _ => 0) (fun t j => term m c t (j 0) (j 1)) ?_ ?_ t ht]
  · exact zero_add _
  · intro t h j
    idx_vars j
    by_cases h1 : t.val % 64 = 0
    · rw [outsAt0_A m c t h h1 (by omega)]; frame_out
      refine (step m c t _ j0 j1).trans ?_
      pointwise [k0_pay1]
    · rw [outsAt0_D m c t h h1 (by omega)]; frame_out
      refine (step m c t _ j0 j1).trans ?_
      pointwise [k0_pay1]
  · intro t h j
    idx_vars j
    by_cases h1 : t.val % 8 = 7
    · rw [outsAt0_C m c t h (by omega) h1]; frame_out
      exact (step m c t _ j0 j1).trans (congrArg (· + term m c t j0 j1) (congrFun ((Memref.isWhole_whole _).read_unread _) _))
    · rw [outsAt0_B m c t h (by omega) h1]; frame_out
      exact (step m c t _ j0 j1).trans (congrArg (· + term m c t j0 j1) (congrFun ((Memref.isWhole_whole _).read_unread _) _))

/-- The eight grid points of a run work on the same tile of rows, each on its own block of columns. -/
theorem sum_run (t : Fin cfg0.N) (ht : t.val % 8 = 7) (F : Fin 8 → Fin 7168 → EReal) :
    ∑ s : Fin 8, ∑ u : Fin 896, F (sOf ⟨8 * (t.val / 8) + s.val, Pipeline.run_point_lt_of_flush t ht s⟩)
        (Tile.col (qOf ⟨8 * (t.val / 8) + s.val, Pipeline.run_point_lt_of_flush t ht s⟩) u)
      = ∑ f : Fin 7168, F (sOf t) f := by
  rw [← Tile.sum_col]
  refine Finset.sum_congr rfl fun s _ => Finset.sum_congr rfl fun r _ => ?_
  refine congrArg₂ F (Fin.ext ?_) (congrArg (Tile.col · r) (Fin.ext ?_))
  · simp only [sOf]; omega
  · simp only [qOf]; omega

/-- After the last block of columns the running sum is the whole gradient of the normed rows. -/
theorem acc_dh (c : Dev nD) (t : Fin cfg0.N) (ht : t.val % 8 = 7) (a b : Fin 1024) :
    ((outsAt0 m c t.val t.isLt).2.2 : S1024x1024.Idx → EReal) (ix2 a b) = dh m c (Tile.row (sOf t) a) b :=
  (acc m c t ht a b).trans (sum_run t ht fun s f => argD m c (ix2 (Tile.row s a) f) * argW m c (ix2 b f))

/-! ## The gradient of the rows -/

/-- Row `i` before the norm. -/
def rowX (c : Dev nD) (i : Fin 8192) : Fin 1024 → EReal := fun k => argX m c (ix2 i k)
/-- The gain. -/
def rowG (c : Dev nD) : Fin 1024 → EReal := fun k => argG m c (ix1 k)

/-- Entry `(i, d)` of the gradient of the rows. -/
def dx (c : Dev nD) (i : Fin 8192) (d : Fin 1024) : EReal :=
  argR m c (ix2 i d) + Rms.dx (rowX m c i) (rowG m c) (dh m c i) d

theorem dx_at (c : Dev nD) (t : Fin cfg0.N) (X : FVec Ideal S1024x1024 .f32)
    (hX : ∀ a b, X (ix2 a b) = dh m c (Tile.row (sOf t) a) b) (r d : Fin 1024) :
    k0_pay5 (F := Ideal) (iblk m c 2 t) (iblk m c 3 t) X (iblk m c 4 t) (ix2 r d) = dx m c (Tile.row (sOf t) r) d := by
  refine (pay5_apply _ _ _ _ r d).trans ?_
  rw [blk4, dx]
  refine congrArg (argR m c (ix2 (Tile.row (sOf t) r) d) + ·) ?_
  have e1 : (fun k : Fin 1024 => (iblk m c 2 t : S1024x1024.Idx → EReal) (ix2 r k)) = rowX m c (Tile.row (sOf t) r) :=
    funext fun k => blk2 m c t r k
  have e2 : (fun k : Fin 1024 => (iblk m c 3 t : S1x1024.Idx → EReal) (ix2 0 k)) = rowG m c := funext fun k => blk3 m c t k
  have e3 : (fun k : Fin 1024 => X (ix2 r k)) = dh m c (Tile.row (sOf t) r) := funext fun k => hX r k
  rw [e1, e2, e3]

theorem out5 (c : Dev nD) (t : Fin cfg0.N) (ht : t.val % 8 = 7) (r d : Fin 1024) :
    ((outsAt0 m c t.val t.isLt).1 : S1024x1024.Idx → EReal) (ix2 r d) = dx m c (Tile.row (sOf t) r) d := by
  have hacc := acc_dh m c t ht
  rw [outsAt0_C m c t (by omega) (by omega) ht] at hacc ⊢
  frame_out
  frame_out at hacc
  exact dx_at m c t _ hacc r d

theorem final_5 (c : Dev nD) : (dats m 0 c).arrAt 5 cfg0.N = (fun j => dx m c (j 0) (j 1) : S8192x1024.Idx → EReal) := by
  refine (dats m 0 c).arrAt_eq_of_covers 5 _ (by decide +kernel) fun t hf y => ?_
  blk_simp; rw [after0_5]
  obtain ⟨r, u, hy⟩ : ∃ (r : Fin 1024) (u : Fin 1024), y = (ix2 r u : S1024x1024.Idx) := ⟨y 0, y 1, eq_ix2 (y : S1024x1024.Idx)⟩
  subst hy
  refine (out5 m c t ((flush0_5 t).mp hf) r u).trans ?_
  refine congrArg₂ (dx m c) (Fin.ext ?_) (Fin.ext ?_)
  all_goals blk_simp [idx_val t]
  all_goals rfl

/-! ## The gradient of the gain -/

/-- One tile of rows of the gradient of the gain. -/
def gtile (c : Dev nD) (s : Fin 8) (d : Fin 1024) : EReal :=
  ∑ r : Fin 1024, dh m c (Tile.row s r) d * argX m c (ix2 (Tile.row s r) d) * Rms.scale (rowX m c (Tile.row s r))

/-- What a grid point adds to the gradient of the gain: its tile of rows, once the sum over the columns is whole. -/
def gterm (c : Dev nD) (t : Fin cfg0.N) (d : Fin 1024) : EReal := if t.val % 8 = 7 then gtile m c (sOf t) d else 0

theorem dg_at (c : Dev nD) (t : Fin cfg0.N) (X : FVec Ideal S1024x1024 .f32) (A : FVec Ideal S1x1024 .f32)
    (hX : ∀ a b, X (ix2 a b) = dh m c (Tile.row (sOf t) a) b) (d : Fin 1024) :
    k0_pay6 (F := Ideal) (iblk m c 2 t) X A (ix2 0 d) = A (ix2 0 d) + gtile m c (sOf t) d := by
  refine (pay6_apply _ _ _ d).trans (congrArg (A (ix2 0 d) + ·) (Finset.sum_congr rfl fun r _ => ?_))
  have e1 : (fun k : Fin 1024 => (iblk m c 2 t : S1024x1024.Idx → EReal) (ix2 r k)) = rowX m c (Tile.row (sOf t) r) :=
    funext fun k => blk2 m c t r k
  rw [e1, hX, blk2]

theorem gacc (c : Dev nD) (t : Fin cfg0.N) (ht : t.val % 64 = 63) (d : Fin 1024) :
    ((outsAt0 m c t.val t.isLt).2.1 : S1x1024.Idx → EReal) (ix2 0 d)
      = ∑ s : Fin 64, gterm m c ⟨64 * (t.val / 64) + s.val, Pipeline.run_point_lt_of_flush t ht s⟩ d := by
  rw [Pipeline.eq_sum_fin_of_reset_step_apply_of_flush (fun n h => ((outsAt0 m c n h).2.1 : S1x1024.Idx → EReal)) 64
     (fun _ => 0) (fun t j => gterm m c t (j 1)) ?_ ?_ t ht]
  · exact zero_add _
  · intro t h j
    idx_vars j
    rw [outsAt0_A m c t (by omega) h (by omega)]; frame_out
    rw [gterm, if_neg (by omega)]
    pointwise [k0_pay2]
  · intro t h j
    obtain ⟨d, rfl⟩ : ∃ d : Fin 1024, j = ix2 0 d :=
      ⟨j 1, (eq_ix2 j).trans (congrArg (fun z : Fin 1 => (ix2 z (j 1) : S1x1024.Idx)) (Subsingleton.elim _ _))⟩
    by_cases h1 : t.val % 8 = 7
    · have hacc := acc_dh m c t h1
      rw [outsAt0_C m c t (by omega) h h1] at hacc ⊢
      frame_out
      frame_out at hacc
      refine (dg_at m c t _ _ hacc d).trans ?_
      show _ = _ + gterm m c t d
      rw [gterm, if_pos h1]
    · show _ = _ + gterm m c t d
      rw [gterm, if_neg h1, add_zero]
      by_cases h0 : t.val % 8 = 0
      · rw [outsAt0_D m c t h0 h h1]
        rfl
      · rw [outsAt0_B m c t h0 h h1]
        rfl

/-- Entry `d` of the gradient of the gain. -/
def dg (c : Dev nD) (d : Fin 1024) : EReal :=
  ∑ i : Fin 8192, dh m c i d * argX m c (ix2 i d) * Rms.scale (rowX m c i)

theorem out6 (c : Dev nD) (t : Fin cfg0.N) (ht : t.val % 64 = 63) (d : Fin 1024) :
    ((outsAt0 m c t.val t.isLt).2.1 : S1x1024.Idx → EReal) (ix2 0 d) = dg m c d := by
  refine (gacc m c t ht d).trans ?_
  have hN : t.val < 64 := lt_of_lt_of_eq t.isLt N_0
  refine Eq.trans (Fin.sum_mul_add_congr (F := fun (a b : Fin 8) => gterm m c ⟨a.val * 8 + b.val, lt_of_lt_of_eq (by omega) N_0.symm⟩ d)
    fun a b h => congrArg (gterm m c · d) (Fin.ext (by show a.val * 8 + b.val = 64 * (t.val / 64) + (a.val * 8 + b.val); omega))).symm ?_
  refine Eq.trans (Finset.sum_congr rfl fun s _ => ?_) (Tile.sum_row fun i => dh m c i d * argX m c (ix2 i d) * Rms.scale (rowX m c i))
  rw [Finset.sum_eq_single (7 : Fin 8)]
  · rw [gterm, if_pos (by show (s.val * 8 + 7) % 8 = 7; omega)]
    exact congrArg (gtile m c · d) (Fin.ext (by show (s.val * 8 + 7) / 8 = s.val; omega))
  · intro b _ hb
    rw [gterm, if_neg]
    intro h
    exact hb (Fin.ext (by have h' : (s.val * 8 + b.val) % 8 = 7 := h; show b.val = 7; omega))
  · exact fun h => absurd (Finset.mem_univ _) h

theorem final_6 (c : Dev nD) : (dats m 0 c).arrAt 6 cfg0.N = (fun j => dg m c (j 1) : S1x1024.Idx → EReal) := by
  refine (dats m 0 c).arrAt_eq_of_covers 6 _ (by decide +kernel) fun t hf y => ?_
  blk_simp; rw [after0_6]
  obtain ⟨d, hy⟩ : ∃ d : Fin 1024, y = (ix2 0 d : S1x1024.Idx) :=
    ⟨y 1, (eq_ix2 (y : S1x1024.Idx)).trans (congrArg (fun z : Fin 1 => (ix2 z (y 1) : S1x1024.Idx)) (Subsingleton.elim _ _))⟩
  subst hy
  refine (out6 m c t ((flush0_6 t).mp hf) d).trans ?_
  refine congrArg (dg m c) (Fin.ext ?_)
  blk_simp [idx_val t]
  all_goals rfl

end Cert.InprojBwdIdeal.Value
end
-- ==== Proof.InprojBwd.Claim.lean ====
module

public import proofs.«01_k».proof.Defs
public import proofs.«01_k».proof.Proof.InprojBwd.Value
public import proofs.«01_k».proof.Proof.Gen.InprojBwdRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The input projection's gradient: the call's results are the reference's -/

namespace Cert.Proof.InprojBwd
open Cert.InprojBwdRefIdeal Cert.InprojBwdRefIdeal.Read

section Entries

variable (dp : FVec Ideal S8192x7168 .bf16) (w : FVec Ideal S1024x7168 .f32) (x : FVec Ideal S8192x1024 .f32)
  (g : FVec Ideal S1024 .f32) (dr : FVec Ideal S8192x1024 .f32)

/-- Entry `(i, d)` of the gradient of the normed rows. -/
def dh (i : Fin 8192) (d : Fin 1024) : EReal := ∑ f : Fin 7168, dp (ix2 i f) * w (ix2 d f)

theorem dh_eq (i : Fin 8192) (d : Fin 1024) : val_main_v18 (F := Ideal) dp w (ix2 i d) = dh dp w i d := by
  pointwise [val_main_v18, val_main_v17]
  rfl

theorem ms_eq (i : Fin 8192) : val_main_v6 (F := Ideal) x (ix2 i 0) = Rms.ms fun k => x (ix2 i k) := by
  pointwise [val_main_v6, val_main_v5, val_main_v4, val_main_v3, val_main_v2, val_main_v1, val_main_v0, val_main_cst, val_main_cst_0, val_main_cst_1, Rms.ms]

theorem scale_eq (i : Fin 8192) : val_main_v7 (F := Ideal) x (ix2 i 0) = Rms.scale fun k => x (ix2 i k) := by
  rw [Rms.scale, ← ms_eq]
  pointwise [val_main_v7]

theorem half_eq (i : Fin 8192) (d : Fin 1024) : val_main_v35 (F := Ideal) dp w x g (ix2 i d)
    = Rms.half (fun k => x (ix2 i k)) (fun k => g (ix1 k)) (dh dp w i) := by
  rw [Rms.half, ← ms_eq, ← scale_eq]
  simp only [← dh_eq]
  pointwise [val_main_v35, val_main_v34, val_main_v33, val_main_v32, val_main_v31, val_main_v27, val_main_v26, val_main_v25, val_main_v23,
    val_main_v22, val_main_v13, val_main_v10, val_main_v9, val_main_v8,
    val_main_cst_2, val_main_cst_5, val_main_cst_6, val_main_cst_7]
  exact Fin.sum_univ_one _

/-- The gradient of the rows. -/
theorem dx_eq (i : Fin 8192) (d : Fin 1024) : val_main_v39 (F := Ideal) dp w x g dr (ix2 i d)
    = dr (ix2 i d) + Rms.dx (fun k => x (ix2 i k)) (fun k => g (ix1 k)) (dh dp w i) d := by
  rw [← Rms.dx_eq, ← half_eq dp w x g i d, ← scale_eq, ← dh_eq]
  pointwise [val_main_v39, val_main_v38, val_main_v37, val_main_v36, val_main_v30, val_main_v29, val_main_v28, val_main_v23, val_main_v22, val_main_v13]

/-- The gradient of the gain. -/
theorem dg_eq (d : Fin 1024) : val_main_v40 (F := Ideal) dp w x (ix2 0 d)
    = ∑ i : Fin 8192, dh dp w i d * x (ix2 i d) * Rms.scale fun k => x (ix2 i k) := by
  simp only [← scale_eq, ← dh_eq]
  pointwise [val_main_v40, val_main_v24, val_main_v21, val_main_v20, val_main_v19, val_main_v12, val_main_v11,
    val_main_cst_3, val_main_cst_4]
  exact (Fin.sum_univ_one _).trans (Rms.sum_turn _ _ _)

end Entries

variable (m : (ℓ : Loc Cert.InprojBwdIdeal.nD Cert.InprojBwdIdeal.τ Cert.InprojBwdIdeal.sig) → Buf (Elt Ideal) ℓ) (c : Dev Cert.InprojBwdIdeal.nD)

/-- The gradient of the rows is the same. -/
theorem dx_same : val_main_v39 (F := Ideal) (InprojBwdIdeal.Value.argD m c) (InprojBwdIdeal.Value.argW m c) (InprojBwdIdeal.Value.argX m c)
      (InprojBwdIdeal.Value.argG m c) (InprojBwdIdeal.Value.argR m c)
    = (InprojBwdIdeal.Gen.dats m 0 c).arrAt 5 InprojBwdIdeal.cfg0.N := by
  rw [InprojBwdIdeal.Value.final_5]
  funext j
  idx_vars j
  exact dx_eq _ _ _ _ _ j0 j1

/-- The gradient of the gain is the same. -/
theorem dg_same : val_main_v40 (F := Ideal) (InprojBwdIdeal.Value.argD m c) (InprojBwdIdeal.Value.argW m c) (InprojBwdIdeal.Value.argX m c)
    = (InprojBwdIdeal.Gen.dats m 0 c).arrAt 6 InprojBwdIdeal.cfg0.N := by
  rw [InprojBwdIdeal.Value.final_6]
  funext j
  obtain ⟨d, rfl⟩ : ∃ d : Fin 1024, j = ix2 0 d :=
    ⟨j 1, (eq_ix2 j).trans (congrArg (fun z : Fin 1 => (ix2 z (j 1) : S1x1024.Idx)) (Subsingleton.elim _ _))⟩
  exact dg_eq _ _ _ d

/-- The call and its reference leave the same two results. -/
theorem alg : Cert.algebraic_InprojBwdIdeal_InprojBwdRefIdeal (hInprojBwdIdeal := Cert.InprojBwdIdeal.Gen.facts)
    (hInprojBwdRefIdeal := Cert.InprojBwdRefIdeal.Gen.facts) := by
  pair_intro
  · run_from Cert.InprojBwdIdeal.Value.run_blocks m g
  · run_from Cert.InprojBwdRefIdeal.Value.run m' g'
    · obtain ⟨e0, e1, e2, e3, e4⟩ := hagree c
      rw [val_main_v39_eq, e0, e1, e2, e3, e4]
      exact dx_same m c
    · exact (val_main_v40_eq _ _ _).trans (dg_same m c)

/-- The reference, which has host lines only, leaves its arguments and every counter as they were. -/
theorem refFrame : Cert.quiescent_InprojBwdRefIdeal (hInprojBwdRefIdeal := Cert.InprojBwdRefIdeal.Gen.facts) := fun m ρ _ =>
  θ_run_mono (Cert.InprojBwdRefIdeal.Value.run m ρ) fun r h =>
    ⟨fun c => (h c).2.2, sem_eq_zero_of_no_sems (by decide) r.2⟩

end Cert.Proof.InprojBwd
end
-- ==== Proof.FfnBwdFin.Value.lean ====
module

public import proofs.«01_k».proof.Proof.Gen.FfnBwdFinIdeal.Value
public import proofs.«01_k».proof.Proof.Tiles
public import proofs.«01_k».proof.Proof.Rms
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the gradient call of the feed-forward part's norm leaves in its two result arrays -/

namespace Cert.FfnBwdFinIdeal.Value
open Cert.FfnBwdFinIdeal Cert.FfnBwdFinIdeal.Gen

/-! ## The body's arithmetic, at one entry -/

/-- The four parts of the gradient of the normed rows, added. -/
theorem pay4_apply (a b c e : FVec Ideal S1x512x1024 .bf16) (r : Fin 512) (d : Fin 1024) :
    k0_pay4 (F := Ideal) a b c e (ix2 r d) = a (ix3 0 r d) + b (ix3 0 r d) + c (ix3 0 r d) + e (ix3 0 r d) := by
  pointwise [k0_pay4]

/-- A row's factor. -/
theorem pay5_apply (x : FVec Ideal S512x1024 .f32) (r : Fin 512) :
    k0_pay5 (F := Ideal) x (ix2 r 0) = Rms.scale fun k => x (ix2 r k) := by
  pointwise [k0_pay5, Rms.scale, Rms.ms]

/-- The gradient of the rows, from the whole gradient of the normed rows. -/
theorem pay1_apply (x : FVec Ideal S512x1024 .f32) (g : FVec Ideal S1x1024 .f32) (a b c e : FVec Ideal S1x512x1024 .bf16)
    (dr : FVec Ideal S512x1024 .f32) (r : Fin 512) (d : Fin 1024) :
    k0_pay1 (F := Ideal) x (k0_pay6 a b c e g) (k0_pay7 a b c e x g) (k0_pay8 x) dr (ix2 r d)
      = dr (ix2 r d) + Rms.dx (fun k => x (ix2 r k)) (fun k => g (ix2 0 k)) (fun k => k0_pay4 (F := Ideal) a b c e (ix2 r k)) d := by
  rw [Rms.dx, ← pay5_apply]
  pointwise [k0_pay1, k0_pay6, k0_pay7, k0_pay8]

/-- One step of the running sum of the gradient of the gain. -/
theorem pay2_apply (x h : FVec Ideal S512x1024 .f32) (a : FVec Ideal S1x1024 .f32) (d : Fin 1024) :
    k0_pay2 (F := Ideal) h x (k0_pay5 x) a (ix2 0 d)
      = a (ix2 0 d) + ∑ r : Fin 512, h (ix2 r d) * x (ix2 r d) * Rms.scale fun k => x (ix2 r k) := by
  simp only [← pay5_apply]
  pointwise [k0_pay2]

/-! ## The arrays as the call finds them -/

variable (m : (ℓ : Loc nD τ sig) → Buf (Elt Ideal) ℓ)

/-- The rows before the norm. -/
abbrev argX (c : Dev nD) : FVec Ideal S8192x1024 .f32 := m ((c.tc : Thread nD τ).loc main_arg0)
/-- The gain. -/
abbrev argG (c : Dev nD) : FVec Ideal S1024 .f32 := m ((c.tc : Thread nD τ).loc main_arg1)
/-- The gradients that pass the norm by. -/
abbrev argR (c : Dev nD) : FVec Ideal S8192x1024 .f32 := m ((c.tc : Thread nD τ).loc main_arg2)
/-- The four parts of the gradient of the normed rows. -/
abbrev argH (c : Dev nD) : FVec Ideal S4x8192x1024 .bf16 := m ((c.tc : Thread nD τ).loc main_arg3)

/-- The gain as one row. -/
theorem entry_g (c : Dev nD) (d : Fin 1024) :
    (V m c main_v0 : S1x1024.Idx → EReal) (ix2 0 d) = argG m c (ix1 d) := by
  unfold V
  after_results
  pointwise

/-- Which block every window takes at every grid point. -/
theorem idx_val : ∀ t : Fin cfg0.N, win0_0.index t = ![t.val, 0]
    ∧ win0_1.index t = ![0, 0]
    ∧ win0_2.index t = ![t.val, 0]
    ∧ win0_3.index t = ![0, t.val, 0]
    ∧ win0_4.index t = ![t.val, 0]
    ∧ win0_5.index t = ![0, 0] :=
  (by decide +kernel : ∀ t : Fin grid0.N, _)

/-- The tile of rows a grid point works on. -/
def sOf (t : Fin cfg0.N) : Fin 16 := ⟨t.val, lt_of_lt_of_eq t.isLt N_0⟩

theorem blk0 (c : Dev nD) (t : Fin cfg0.N) (r : Fin 512) (d : Fin 1024) :
    (iblk m c 0 t : S512x1024.Idx → EReal) (ix2 r d) = argX m c (ix2 (Tile.row₅ (sOf t) r) d) := by
  blk_point [iblk, V, idx_val t]
  all_goals rfl

theorem blk1 (c : Dev nD) (t : Fin cfg0.N) (d : Fin 1024) :
    (iblk m c 1 t : S1x1024.Idx → EReal) (ix2 0 d) = argG m c (ix1 d) := by
  rw [← entry_g]
  blk_ext [iblk, idx_val t]
  all_goals rfl

theorem blk2 (c : Dev nD) (t : Fin cfg0.N) (r : Fin 512) (d : Fin 1024) :
    (iblk m c 2 t : S512x1024.Idx → EReal) (ix2 r d) = argR m c (ix2 (Tile.row₅ (sOf t) r) d) := by
  blk_point [iblk, V, idx_val t]
  all_goals rfl

theorem blk3 (c : Dev nD) (t : Fin cfg0.N) (p : Fin 4) (r : Fin 512) (d : Fin 1024) :
    (iblk m c 3 t : S4x512x1024.Idx → EReal) (ix3 p r d) = argH m c (ix3 p (Tile.row₅ (sOf t) r) d) := by
  blk_point [iblk, V, idx_val t]
  all_goals rfl

/-- Entry `(i, d)` of the gradient of the normed rows. -/
def dh (c : Dev nD) (i : Fin 8192) (d : Fin 1024) : EReal := ∑ p : Fin 4, argH m c (ix3 p i d)

/-- Row `i` before the norm. -/
def rowX (c : Dev nD) (i : Fin 8192) : Fin 1024 → EReal := fun k => argX m c (ix2 i k)
/-- The gain. -/
def rowG (c : Dev nD) : Fin 1024 → EReal := fun k => argG m c (ix1 k)

/-- Entry `(i, d)` of the gradient of the rows. -/
def dx (c : Dev nD) (i : Fin 8192) (d : Fin 1024) : EReal :=
  argR m c (ix2 i d) + Rms.dx (rowX m c i) (rowG m c) (dh m c i) d

/-- A load of one part's rows out of a block of the four parts. -/
theorem ld_at {Val : EltTy → Type} {e : EltTy} (X : S4x512x1024.Idx → Val e) (p : Fin 4) (inb) (r : Fin 512) (d : Fin 1024) :
    View.ld X (Rect.unit (s := S4x512x1024) ![p.val, 0, 0] ![1, 512, 1024] inb) (ix3 0 r d : S1x512x1024.Idx) = X (ix3 p r d) :=
  View.ld_unit_apply_of X _ _ _ _ _ fun a => by fin_cases a <;> simp [ix3]

/-- The four parts' rows within a block, as the body loads them. -/
abbrev sl0 (X : FVec Ideal S4x512x1024 .bf16) : FVec Ideal S1x512x1024 .bf16 :=
  View.ld (Val := Elt Ideal) (e' := .bf16) X (Rect.unit (s := S4x512x1024) ![0, 0, 0] ![1, 512, 1024] inb_S4x512x1024_S1x512x1024_0_0_0)
abbrev sl1 (X : FVec Ideal S4x512x1024 .bf16) : FVec Ideal S1x512x1024 .bf16 :=
  View.ld (Val := Elt Ideal) (e' := .bf16) X (Rect.unit (s := S4x512x1024) ![1, 0, 0] ![1, 512, 1024] inb_S4x512x1024_S1x512x1024_1_0_0)
abbrev sl2 (X : FVec Ideal S4x512x1024 .bf16) : FVec Ideal S1x512x1024 .bf16 :=
  View.ld (Val := Elt Ideal) (e' := .bf16) X (Rect.unit (s := S4x512x1024) ![2, 0, 0] ![1, 512, 1024] inb_S4x512x1024_S1x512x1024_2_0_0)
abbrev sl3 (X : FVec Ideal S4x512x1024 .bf16) : FVec Ideal S1x512x1024 .bf16 :=
  View.ld (Val := Elt Ideal) (e' := .bf16) X (Rect.unit (s := S4x512x1024) ![3, 0, 0] ![1, 512, 1024] inb_S4x512x1024_S1x512x1024_3_0_0)

/-- The parts of a grid point's block, added. -/
theorem dh_at (c : Dev nD) (t : Fin cfg0.N) (r : Fin 512) (d : Fin 1024) :
    k0_pay4 (F := Ideal) (sl0 (iblk m c 3 t)) (sl1 (iblk m c 3 t)) (sl2 (iblk m c 3 t)) (sl3 (iblk m c 3 t)) (ix2 r d)
      = dh m c (Tile.row₅ (sOf t) r) d := by
  rw [pay4_apply, dh, Fin.sum_univ_four, ← blk3, ← blk3, ← blk3, ← blk3]
  refine congrArg₂ _ (congrArg₂ _ (congrArg₂ _ ?_ ?_) ?_) ?_
  · exact ld_at _ 0 _ r d
  · exact ld_at _ 1 _ r d
  · exact ld_at _ 2 _ r d
  · exact ld_at _ 3 _ r d

theorem dx_at (c : Dev nD) (t : Fin cfg0.N) (r : Fin 512) (d : Fin 1024) :
    k0_pay1 (F := Ideal) (iblk m c 0 t)
      (k0_pay6 (sl0 (iblk m c 3 t)) (sl1 (iblk m c 3 t)) (sl2 (iblk m c 3 t)) (sl3 (iblk m c 3 t)) (iblk m c 1 t))
      (k0_pay7 (sl0 (iblk m c 3 t)) (sl1 (iblk m c 3 t)) (sl2 (iblk m c 3 t)) (sl3 (iblk m c 3 t)) (iblk m c 0 t) (iblk m c 1 t))
      (k0_pay8 (iblk m c 0 t)) (iblk m c 2 t) (ix2 r d)
      = dx m c (Tile.row₅ (sOf t) r) d := by
  refine (pay1_apply _ _ _ _ _ _ _ r d).trans ?_
  rw [blk2, dx]
  refine congrArg (argR m c (ix2 (Tile.row₅ (sOf t) r) d) + ·) ?_
  have e1 : (fun k : Fin 1024 => (iblk m c 0 t : S512x1024.Idx → EReal) (ix2 r k)) = rowX m c (Tile.row₅ (sOf t) r) :=
    funext fun k => blk0 m c t r k
  have e2 : (fun k : Fin 1024 => (iblk m c 1 t : S1x1024.Idx → EReal) (ix2 0 k)) = rowG m c := funext fun k => blk1 m c t k
  have e3 : (fun k : Fin 1024 => k0_pay4 (F := Ideal) (sl0 (iblk m c 3 t)) (sl1 (iblk m c 3 t)) (sl2 (iblk m c 3 t)) (sl3 (iblk m c 3 t)) (ix2 r k))
      = dh m c (Tile.row₅ (sOf t) r) := funext fun k => dh_at m c t r k
  rw [e1, e2, e3]

theorem out4 (c : Dev nD) (t : Fin cfg0.N) (r : Fin 512) (d : Fin 1024) :
    ((outsAt0 m c t.val t.isLt).1 : S512x1024.Idx → EReal) (ix2 r d) = dx m c (Tile.row₅ (sOf t) r) d := by
  by_cases h : t.val % 16 = 0
  · rw [outsAt0_A m c t h]
    frame_out
    exact dx_at m c t r d
  · rw [outsAt0_B m c t h]
    frame_out
    exact dx_at m c t r d

theorem final_4 (c : Dev nD) : (dats m 0 c).arrAt 4 cfg0.N = (fun j => dx m c (j 0) (j 1) : S8192x1024.Idx → EReal) := by
  refine (dats m 0 c).arrAt_eq_of_covers 4 _ (by decide +kernel) fun t hf y => ?_
  blk_simp; rw [after0_4]
  obtain ⟨r, u, hy⟩ : ∃ (r : Fin 512) (u : Fin 1024), y = (ix2 r u : S512x1024.Idx) := ⟨y 0, y 1, eq_ix2 (y : S512x1024.Idx)⟩
  subst hy
  refine (out4 m c t r u).trans ?_
  refine congrArg₂ (dx m c) (Fin.ext ?_) (Fin.ext ?_)
  all_goals blk_simp [idx_val t]
  all_goals rfl

/-! ## The gradient of the gain -/

/-- One tile of rows of the gradient of the gain. -/
def gtile (c : Dev nD) (s : Fin 16) (d : Fin 1024) : EReal :=
  ∑ r : Fin 512, dh m c (Tile.row₅ s r) d * argX m c (ix2 (Tile.row₅ s r) d) * Rms.scale (rowX m c (Tile.row₅ s r))

theorem dg_at (c : Dev nD) (t : Fin cfg0.N) (A : FVec Ideal S1x1024 .f32) (d : Fin 1024) :
    k0_pay2 (F := Ideal) (k0_pay4 (sl0 (iblk m c 3 t)) (sl1 (iblk m c 3 t)) (sl2 (iblk m c 3 t)) (sl3 (iblk m c 3 t)))
      (iblk m c 0 t) (k0_pay5 (iblk m c 0 t)) A (ix2 0 d) = A (ix2 0 d) + gtile m c (sOf t) d := by
  refine (pay2_apply _ _ _ d).trans (congrArg (A (ix2 0 d) + ·) (Finset.sum_congr rfl fun r _ => ?_))
  have e1 : (fun k : Fin 1024 => (iblk m c 0 t : S512x1024.Idx → EReal) (ix2 r k)) = rowX m c (Tile.row₅ (sOf t) r) :=
    funext fun k => blk0 m c t r k
  rw [e1, dh_at, blk0]

theorem gacc (c : Dev nD) (t : Fin cfg0.N) (ht : t.val % 16 = 15) (d : Fin 1024) :
    ((outsAt0 m c t.val t.isLt).2 : S1x1024.Idx → EReal) (ix2 0 d)
      = ∑ s : Fin 16, gtile m c (sOf ⟨16 * (t.val / 16) + s.val, Pipeline.run_point_lt_of_flush t ht s⟩) d := by
  rw [Pipeline.eq_sum_fin_of_reset_step_apply_of_flush (fun n h => ((outsAt0 m c n h).2 : S1x1024.Idx → EReal)) 16
     (fun _ => 0) (fun t j => gtile m c (sOf t) (j 1)) ?_ ?_ t ht]
  · exact zero_add _
  · intro t h j
    obtain ⟨d, rfl⟩ : ∃ d : Fin 1024, j = ix2 0 d :=
      ⟨j 1, (eq_ix2 j).trans (congrArg (fun z : Fin 1 => (ix2 z (j 1) : S1x1024.Idx)) (Subsingleton.elim _ _))⟩
    rw [outsAt0_A m c t h]; frame_out
    refine (dg_at m c t _ d).trans ?_
    pointwise [k0_pay3]
  · intro t h j
    obtain ⟨d, rfl⟩ : ∃ d : Fin 1024, j = ix2 0 d :=
      ⟨j 1, (eq_ix2 j).trans (congrArg (fun z : Fin 1 => (ix2 z (j 1) : S1x1024.Idx)) (Subsingleton.elim _ _))⟩
    rw [outsAt0_B m c t h]; frame_out
    exact dg_at m c t _ d

/-- Entry `d` of the gradient of the gain. -/
def dg (c : Dev nD) (d : Fin 1024) : EReal :=
  ∑ i : Fin 8192, dh m c i d * argX m c (ix2 i d) * Rms.scale (rowX m c i)

theorem out5 (c : Dev nD) (t : Fin cfg0.N) (ht : t.val % 16 = 15) (d : Fin 1024) :
    ((outsAt0 m c t.val t.isLt).2 : S1x1024.Idx → EReal) (ix2 0 d) = dg m c d := by
  refine (gacc m c t ht d).trans ?_
  have hN : t.val < 16 := lt_of_lt_of_eq t.isLt N_0
  refine Eq.trans (Finset.sum_congr rfl fun s _ => ?_) (Tile.sum_row₅ fun i => dh m c i d * argX m c (ix2 i d) * Rms.scale (rowX m c i))
  exact congrArg (gtile m c · d) (Fin.ext (by show 16 * (t.val / 16) + s.val = s.val; omega))

theorem final_5 (c : Dev nD) : (dats m 0 c).arrAt 5 cfg0.N = (fun j => dg m c (j 1) : S1x1024.Idx → EReal) := by
  refine (dats m 0 c).arrAt_eq_of_covers 5 _ (by decide +kernel) fun t hf y => ?_
  blk_simp; rw [after0_5]
  obtain ⟨d, hy⟩ : ∃ d : Fin 1024, y = (ix2 0 d : S1x1024.Idx) :=
    ⟨y 1, (eq_ix2 (y : S1x1024.Idx)).trans (congrArg (fun z : Fin 1 => (ix2 z (y 1) : S1x1024.Idx)) (Subsingleton.elim _ _))⟩
  subst hy
  refine (out5 m c t ((flush0_5 t).mp hf) d).trans ?_
  refine congrArg (dg m c) (Fin.ext ?_)
  blk_simp [idx_val t]
  all_goals rfl

end Cert.FfnBwdFinIdeal.Value
end
-- ==== Proof.FfnBwdFin.Claim.lean ====
module

public import proofs.«01_k».proof.Defs
public import proofs.«01_k».proof.Proof.FfnBwdFin.Value
public import proofs.«01_k».proof.Proof.Gen.FfnBwdFinRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The gradient of the norm: the call's results are the reference's -/

namespace Cert.Proof.FfnBwdFin
open Cert.FfnBwdFinRefIdeal Cert.FfnBwdFinRefIdeal.Read

section Entries

variable (x : FVec Ideal S8192x1024 .f32) (g : FVec Ideal S1024 .f32) (dr : FVec Ideal S8192x1024 .f32)
  (dp : FVec Ideal S4x8192x1024 .bf16)

/-- Entry `(i, d)` of the gradient of the normed rows. -/
def dh (i : Fin 8192) (d : Fin 1024) : EReal := ∑ p : Fin 4, dp (ix3 p i d)

theorem dh_eq (i : Fin 8192) (d : Fin 1024) : val_main_v17 (F := Ideal) dp (ix2 i d) = dh dp i d := by
  pointwise [val_main_v17, val_main_v16, val_main_cst_3]
  rfl

theorem ms_eq (i : Fin 8192) : val_main_v6 (F := Ideal) x (ix2 i 0) = Rms.ms fun k => x (ix2 i k) := by
  pointwise [val_main_v6, val_main_v5, val_main_v4, val_main_v3, val_main_v2, val_main_v1, val_main_v0, val_main_cst, val_main_cst_0, val_main_cst_1, Rms.ms]

theorem scale_eq (i : Fin 8192) : val_main_v7 (F := Ideal) x (ix2 i 0) = Rms.scale fun k => x (ix2 i k) := by
  rw [Rms.scale, ← ms_eq]
  pointwise [val_main_v7]

theorem half_eq (i : Fin 8192) (d : Fin 1024) : val_main_v34 (F := Ideal) x g dp (ix2 i d)
    = Rms.half (fun k => x (ix2 i k)) (fun k => g (ix1 k)) (dh dp i) := by
  rw [Rms.half, ← ms_eq, ← scale_eq]
  simp only [← dh_eq]
  pointwise [val_main_v34, val_main_v33, val_main_v32, val_main_v31, val_main_v30, val_main_v26, val_main_v25, val_main_v24, val_main_v22,
    val_main_v21, val_main_v13, val_main_v10, val_main_v9, val_main_v8,
    val_main_cst_2, val_main_cst_5, val_main_cst_6, val_main_cst_7, val_main_cst_8]
  exact Fin.sum_univ_one _

/-- The gradient of the rows. -/
theorem dx_eq (i : Fin 8192) (d : Fin 1024) : val_main_v38 (F := Ideal) x g dr dp (ix2 i d)
    = dr (ix2 i d) + Rms.dx (fun k => x (ix2 i k)) (fun k => g (ix1 k)) (dh dp i) d := by
  rw [← Rms.dx_eq, ← half_eq x g dp i d, ← scale_eq, ← dh_eq]
  pointwise [val_main_v38, val_main_v37, val_main_v36, val_main_v35, val_main_v29, val_main_v28, val_main_v27, val_main_v22, val_main_v21, val_main_v13]

/-- The gradient of the gain. -/
theorem dg_eq (d : Fin 1024) : val_main_v39 (F := Ideal) x dp (ix2 0 d)
    = ∑ i : Fin 8192, dh dp i d * x (ix2 i d) * Rms.scale fun k => x (ix2 i k) := by
  simp only [← scale_eq, ← dh_eq]
  pointwise [val_main_v39, val_main_v23, val_main_v20, val_main_v19, val_main_v18, val_main_v12, val_main_v11,
    val_main_cst_4, val_main_cst_5]
  exact (Fin.sum_univ_one _).trans (Rms.sum_turn _ _ _)

end Entries

variable (m : (ℓ : Loc Cert.FfnBwdFinIdeal.nD Cert.FfnBwdFinIdeal.τ Cert.FfnBwdFinIdeal.sig) → Buf (Elt Ideal) ℓ) (c : Dev Cert.FfnBwdFinIdeal.nD)

/-- The gradient of the rows is the same. -/
theorem dx_same : val_main_v38 (F := Ideal) (FfnBwdFinIdeal.Value.argX m c) (FfnBwdFinIdeal.Value.argG m c) (FfnBwdFinIdeal.Value.argR m c)
      (FfnBwdFinIdeal.Value.argH m c)
    = (FfnBwdFinIdeal.Gen.dats m 0 c).arrAt 4 FfnBwdFinIdeal.cfg0.N := by
  rw [FfnBwdFinIdeal.Value.final_4]
  funext j
  idx_vars j
  exact dx_eq _ _ _ _ j0 j1

/-- The gradient of the gain is the same. -/
theorem dg_same : val_main_v39 (F := Ideal) (FfnBwdFinIdeal.Value.argX m c) (FfnBwdFinIdeal.Value.argH m c)
    = (FfnBwdFinIdeal.Gen.dats m 0 c).arrAt 5 FfnBwdFinIdeal.cfg0.N := by
  rw [FfnBwdFinIdeal.Value.final_5]
  funext j
  obtain ⟨d, rfl⟩ : ∃ d : Fin 1024, j = ix2 0 d :=
    ⟨j 1, (eq_ix2 j).trans (congrArg (fun z : Fin 1 => (ix2 z (j 1) : S1x1024.Idx)) (Subsingleton.elim _ _))⟩
  exact dg_eq _ _ d

/-- The call and its reference leave the same two results. -/
theorem alg : Cert.algebraic_FfnBwdFinIdeal_FfnBwdFinRefIdeal (hFfnBwdFinIdeal := Cert.FfnBwdFinIdeal.Gen.facts)
    (hFfnBwdFinRefIdeal := Cert.FfnBwdFinRefIdeal.Gen.facts) := by
  pair_intro
  · run_from Cert.FfnBwdFinIdeal.Value.run_blocks m g
  · run_from Cert.FfnBwdFinRefIdeal.Value.run m' g'
    · obtain ⟨e0, e1, e2, e3⟩ := hagree c
      rw [val_main_v38_eq, e0, e1, e2, e3]
      exact dx_same m c
    · exact (val_main_v39_eq _ _).trans (dg_same m c)

/-- The reference, which has host lines only, leaves its arguments and every counter as they were. -/
theorem refFrame : Cert.quiescent_FfnBwdFinRefIdeal (hFfnBwdFinRefIdeal := Cert.FfnBwdFinRefIdeal.Gen.facts) := fun m ρ _ =>
  θ_run_mono (Cert.FfnBwdFinRefIdeal.Value.run m ρ) fun r h =>
    ⟨fun c => (h c).2.2, sem_eq_zero_of_no_sems (by decide) r.2⟩

end Cert.Proof.FfnBwdFin
end
-- ==== Proof.FfnFwd.Run.lean ====
module

public import proofs.«01_k».proof.Proof.Gen.FfnFwdIdeal.Frame
public import proofs.«01_k».proof.Proof.Gen.FfnFwdIdeal.Skeleton
public import Idealize.ShloMosaic.Lib.Pipeline.ValueKit
public import Idealize.ShloMosaic.Lib.Claim
public import Idealize.ShloMosaic.Lib.WritesUnit

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

/-! # One run of the feed-forward call's body

The normed rows are stored at the first of a tile's four points and read at all four, so the body runs in two cases. -/

namespace Cert.FfnFwdIdeal.Run
open Cert.FfnFwdIdeal Cert.FfnFwdIdeal.Gen

variable {F : FTy → Type} [FloatOps F]

/-- The first of a tile's points. -/
abbrev first (i : grid0.Coords) : Prop := k0_cond1 i = 1#1

theorem first_iff (t : Fin cfg0.N) : first (grid0.coords t) ↔ t.val % 4 = 0 :=
  (by decide +kernel : ∀ t : Fin grid0.N, first (grid0.coords t) ↔ t.val % 4 = 0) t

/-- What a store over the whole of a buffer leaves there. -/
theorem read_whole {S : Shape} {e : EltTy} {sp : Space} (v : View sig .tc sp S e) (f : v.ty.Contents (Elt F))
    {off : Fin S.rank → Nat} (inb : ∀ a, off a + S.size a ≤ S.size a) (w : S.Idx → Elt F e) (L : List (View.Piece (Elt F) S e))
    (h : ∀ a, off a = 0) :
    v.read (Elt F) (v.writes (Elt F) f ((⟨Rect.unit off S.size inb, w⟩ : View.Piece (Elt F) S e) :: L)) = w := by
  funext y
  exact View.read_writes_cons_unit_of_mem v f inb w L y y rfl fun a => by rw [h a]; exact (Nat.zero_add _).symm

set_option maxHeartbeats 1000000 in
/-- The body at a tile's first point: the rows normed, the two products, and the output started from the rows. -/
theorem body_first (c : Dev nD) (i : grid0.Coords) (a0 : Memref sig .tc .vmem S1024x1024 .f32) (h0 : a0.IsWhole)
    (a1 : Memref sig .tc .vmem S1x1024 .f32) (h1 : a1.IsWhole) (a2 : Memref sig .tc .vmem S1x1x1024x704 .bf16) (h2 : a2.IsWhole)
    (a3 : Memref sig .tc .vmem S1x1x1024x704 .bf16) (h3 : a3.IsWhole) (a4 : Memref sig .tc .vmem S1x1x704x1024 .bf16) (h4 : a4.IsWhole)
    (a5 : Memref sig .tc .vmem S1024x1024 .f32) (h5 : a5.IsWhole) (a6 : Memref sig .tc .vmem S1x1024x704 .bf16) (h6 : a6.IsWhole)
    (a7 : Memref sig .tc .vmem S1x1024x704 .bf16) (h7 : a7.IsWhole) (a8 : Memref sig .tc .vmem S1024x1024 .bf16) (h8 : a8.IsWhole)
    (hc : first i) (x : Vec F S1024x1024 .f32) (g : Vec F S1x1024 .f32) (u v : Vec F S1x1x1024x704 .bf16) (w : Vec F S1x1x704x1024 .bf16)
    (E : Set ℕ) (K : PUnit → sProp (MT nD τ sig Unit (Elt F) ℕ (UR sig nD τ) ℕ)) :
    iprop(owns (c : Thread nD τ) a0 fullShare x ∗ owns (c : Thread nD τ) a1 fullShare g ∗ owns (c : Thread nD τ) a2 fullShare u
        ∗ owns (c : Thread nD τ) a3 fullShare v ∗ owns (c : Thread nD τ) a4 fullShare w
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a0 fullShare x ∗ owns (c : Thread nD τ) a1 fullShare g ∗ owns (c : Thread nD τ) a2 fullShare u
            ∗ owns (c : Thread nD τ) a3 fullShare v ∗ owns (c : Thread nD τ) a4 fullShare w
            ∗ owns (c : Thread nD τ) a5 fullShare (k0_pay1 (k0_pay8 (k0_pay2 x g) u v) x w)
            ∗ owns (c : Thread nD τ) a6 fullShare (k0_pay6 (k0_pay2 x g) u)
            ∗ owns (c : Thread nD τ) a7 fullShare (k0_pay7 (k0_pay2 x g) v)
            ∗ owns (c : Thread nD τ) a8 fullShare (k0_pay2 x g)) -∗ K ⟨⟩))
      ⊢ wp frame (wpE (defs₀ (F := F)) Variants.none c none) E
          (cc0_ffn_fwd i a0 h0 a1 h1 a2 h2 a3 h3 a4 h4 a5 h5 a6 h6 a7 h7 a8 h8) K := by
  simp only [cc0_ffn_fwd_eq_skeleton]; unfold cc0_ffn_fwd_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  obtain rfl := h0.eq_unread e0; obtain rfl := h1.eq_unread e1; obtain rfl := h2.eq_unread e2
  obtain rfl := h3.eq_unread e3; obtain rfl := h4.eq_unread e4
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    frame_out
    exact read_whole _ _ _ _ _ (by decide)
  isplitl [H6]
  · iexists _; isplitr; swap; · iexact H6
    ipureintro
    frame_out
    exact read_whole _ _ _ _ _ (by decide)
  isplitl [H7]
  · iexists _; isplitr; swap; · iexact H7
    ipureintro
    frame_out
    exact read_whole _ _ _ _ _ (by decide)
  iexists _; isplitr; swap; · iexact H8
  ipureintro
  frame_out
  exact read_whole _ _ _ _ _ (by decide)

set_option maxHeartbeats 1000000 in
/-- The body at a tile's later points: the two products of the normed rows as the first point left them, and the output carried on. -/
theorem body_later (c : Dev nD) (i : grid0.Coords) (a0 : Memref sig .tc .vmem S1024x1024 .f32) (h0 : a0.IsWhole)
    (a1 : Memref sig .tc .vmem S1x1024 .f32) (h1 : a1.IsWhole) (a2 : Memref sig .tc .vmem S1x1x1024x704 .bf16) (h2 : a2.IsWhole)
    (a3 : Memref sig .tc .vmem S1x1x1024x704 .bf16) (h3 : a3.IsWhole) (a4 : Memref sig .tc .vmem S1x1x704x1024 .bf16) (h4 : a4.IsWhole)
    (a5 : Memref sig .tc .vmem S1024x1024 .f32) (h5 : a5.IsWhole) (a6 : Memref sig .tc .vmem S1x1024x704 .bf16) (h6 : a6.IsWhole)
    (a7 : Memref sig .tc .vmem S1x1024x704 .bf16) (h7 : a7.IsWhole) (a8 : Memref sig .tc .vmem S1024x1024 .bf16) (h8 : a8.IsWhole)
    (hc : ¬first i) (x : Vec F S1024x1024 .f32) (g : Vec F S1x1024 .f32) (u v : Vec F S1x1x1024x704 .bf16) (w : Vec F S1x1x704x1024 .bf16)
    (y : Vec F S1024x1024 .f32) (h : Vec F S1024x1024 .bf16)
    (E : Set ℕ) (K : PUnit → sProp (MT nD τ sig Unit (Elt F) ℕ (UR sig nD τ) ℕ)) :
    iprop(owns (c : Thread nD τ) a0 fullShare x ∗ owns (c : Thread nD τ) a1 fullShare g ∗ owns (c : Thread nD τ) a2 fullShare u
        ∗ owns (c : Thread nD τ) a3 fullShare v ∗ owns (c : Thread nD τ) a4 fullShare w
        ∗ owns (c : Thread nD τ) a5 fullShare y ∗ (∃ d, owns (c : Thread nD τ) a6 fullShare d)
        ∗ (∃ d, owns (c : Thread nD τ) a7 fullShare d) ∗ owns (c : Thread nD τ) a8 fullShare h
        ∗ (iprop(owns (c : Thread nD τ) a0 fullShare x ∗ owns (c : Thread nD τ) a1 fullShare g ∗ owns (c : Thread nD τ) a2 fullShare u
            ∗ owns (c : Thread nD τ) a3 fullShare v ∗ owns (c : Thread nD τ) a4 fullShare w
            ∗ owns (c : Thread nD τ) a5 fullShare (k0_pay1 (k0_pay8 h u v) y w)
            ∗ owns (c : Thread nD τ) a6 fullShare (k0_pay6 h u)
            ∗ owns (c : Thread nD τ) a7 fullShare (k0_pay7 h v)
            ∗ owns (c : Thread nD τ) a8 fullShare h) -∗ K ⟨⟩))
      ⊢ wp frame (wpE (defs₀ (F := F)) Variants.none c none) E
          (cc0_ffn_fwd i a0 h0 a1 h1 a2 h2 a3 h3 a4 h4 a5 h5 a6 h6 a7 h7 a8 h8) K := by
  simp only [cc0_ffn_fwd_eq_skeleton]; unfold cc0_ffn_fwd_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, Hk⟩
  obtain rfl := h0.eq_unread e0; obtain rfl := h1.eq_unread e1; obtain rfl := h2.eq_unread e2
  obtain rfl := h3.eq_unread e3; obtain rfl := h4.eq_unread e4; obtain rfl := h5.eq_unread e5; obtain rfl := h8.eq_unread e8
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; swap; · iexact H5
    ipureintro
    frame_out
    exact read_whole _ _ _ _ _ (by decide)
  isplitl [H6]
  · iexists _; isplitr; swap; · iexact H6
    ipureintro
    frame_out
    exact read_whole _ _ _ _ _ (by decide)
  isplitl [H7]
  · iexists _; isplitr; swap; · iexact H7
    ipureintro
    frame_out
    exact read_whole _ _ _ _ _ (by decide)
  iexists _; isplitr; · ipureintro; exact h8.read_unread _
  iexact H8

end Cert.FfnFwdIdeal.Run

end
-- ==== Proof.FfnFwd.Frame.lean ====
module

public import proofs.«01_k».proof.Proof.FfnFwd.Run
public import Idealize.ShloMosaic.Lib.Pipeline.TableIdle

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-! # The feed-forward call as a whole: what every point leaves, and that the arguments stay as they were -/

namespace Cert.FfnFwdIdeal.Run
open Cert.FfnFwdIdeal Cert.FfnFwdIdeal.Gen

variable {F : FTy → Type} [FloatOps F]

variable (m : (ℓ : Loc nD τ sig) → Buf (Elt F) ℓ) (ρ : Dev nD → PrngReg)

/-- The first point of a point's tile. -/
abbrev head (t : Fin cfg0.N) : Fin cfg0.N := ⟨t.val / 4 * 4, Nat.lt_of_le_of_lt (Nat.div_mul_le_self _ _) t.isLt⟩

/-- The normed rows of a point's tile. -/
def rows (c : Dev nD) (t : Fin cfg0.N) : Vec F S1024x1024 .bf16 := k0_pay2 (iblk m c 0 (head t)) (iblk m c 1 (head t))

/-- The gated columns of a point. -/
def gated (c : Dev nD) (t : Fin cfg0.N) : FVec F S1024x704 .bf16 := k0_pay8 (rows m c t) (iblk m c 2 t) (iblk m c 3 t)

/-- The output's tile after a point. -/
def outAt (c : Dev nD) : (n : ℕ) → n < cfg0.N → Vec F S1024x1024 .f32
  | 0, h => k0_pay1 (gated m c ⟨0, h⟩) (iblk m c 0 ⟨0, h⟩) (iblk m c 4 ⟨0, h⟩)
  | n + 1, h => k0_pay1 (gated m c ⟨n + 1, h⟩)
      (if (n + 1) % 4 = 0 then iblk m c 0 ⟨n + 1, h⟩ else outAt c n (Nat.lt_of_succ_lt h)) (iblk m c 4 ⟨n + 1, h⟩)

theorem outAt_first (c : Dev nD) (t : Fin cfg0.N) (h : t.val % 4 = 0) :
    outAt m c t.val t.isLt = k0_pay1 (gated m c t) (iblk m c 0 t) (iblk m c 4 t) := by
  obtain ⟨n, hn⟩ := t
  cases n with
  | zero => rfl
  | succ n => rw [outAt, if_pos h]

theorem outAt_later (c : Dev nD) (t : Fin cfg0.N) (h : t.val % 4 ≠ 0) :
    outAt m c t.val t.isLt
      = k0_pay1 (gated m c t) (outAt m c (t.val - 1) (Nat.lt_of_le_of_lt (Nat.sub_le _ _) t.isLt)) (iblk m c 4 t) := by
  obtain ⟨n, hn⟩ := t
  cases n with
  | zero => exact absurd rfl h
  | succ n => rw [outAt, if_neg h]; rfl

theorem head_first (t : Fin cfg0.N) (h : t.val % 4 = 0) : head t = t := Fin.ext (by show t.val / 4 * 4 = t.val; omega)

theorem rows_first (c : Dev nD) (t : Fin cfg0.N) (h : t.val % 4 = 0) :
    rows m c t = k0_pay2 (iblk m c 0 t) (iblk m c 1 t) := by rw [rows, head_first t h]

theorem rows_carry (c : Dev nD) (t t' : Fin cfg0.N) (h : t.val / 4 = t'.val / 4) : rows m c t = rows m c t' := by
  have e : head t = head t' := Fin.ext (by show t.val / 4 * 4 = t'.val / 4 * 4; rw [h])
  rw [rows, rows, e]

/-! ## What each window holds around a point -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
    | ⟨6, _⟩ => k0_pay6 (rows m c t) (iblk m c 2 t)
    | ⟨7, _⟩ => k0_pay7 (rows m c t) (iblk m c 3 t)
    | ⟨8, _⟩ => rows m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

section After
variable (c : Dev nD) (t : Fin cfg0.N)
theorem after_x : (dats m 0 c).after 0 t = iblk m c 0 t := by dsimp only [dats]
theorem after_g : (dats m 0 c).after 1 t = iblk m c 1 t := by dsimp only [dats]
theorem after_u : (dats m 0 c).after 2 t = iblk m c 2 t := by dsimp only [dats]
theorem after_v : (dats m 0 c).after 3 t = iblk m c 3 t := by dsimp only [dats]
theorem after_w : (dats m 0 c).after 4 t = iblk m c 4 t := by dsimp only [dats]
theorem after_y : (dats m 0 c).after 5 t = outAt m c t.val t.isLt := by dsimp only [dats]
theorem after_z : (dats m 0 c).after 6 t = k0_pay6 (rows m c t) (iblk m c 2 t) := by dsimp only [dats]
theorem after_z' : (dats m 0 c).after 7 t = k0_pay7 (rows m c t) (iblk m c 3 t) := by dsimp only [dats]
theorem after_h : (dats m 0 c).after 8 t = rows m c t := by dsimp only [dats]

theorem before_x (d) : (dats m 0 c).before 0 t d = iblk m c 0 t := before0_0_of m (dats m 0 c) (A_eq m c 0) (after_x m c) t d
theorem before_g (d) : (dats m 0 c).before 1 t d = iblk m c 1 t := before0_1_of m (dats m 0 c) (A_eq m c 1) (after_g m c) t d
theorem before_u (d) : (dats m 0 c).before 2 t d = iblk m c 2 t := before0_2_of m (dats m 0 c) (A_eq m c 2) (after_u m c) t d
theorem before_v (d) : (dats m 0 c).before 3 t d = iblk m c 3 t := before0_3_of m (dats m 0 c) (A_eq m c 3) (after_v m c) t d
theorem before_w (d) : (dats m 0 c).before 4 t d = iblk m c 4 t := before0_4_of m (dats m 0 c) (A_eq m c 4) (after_w m c) t d
end After

theorem held_y (t : Fin cfg0.N) (h : t.val % 4 ≠ 0) : cfg0.fresh 5 t.val = false :=
  (by decide +kernel : ∀ t : Fin grid0.N, t.val % 4 ≠ 0 → cfg0.fresh 5 t.val = false) t h

theorem held_h (t : Fin cfg0.N) (h : t.val % 4 ≠ 0) : cfg0.fresh 8 t.val = false :=
  (by decide +kernel : ∀ t : Fin grid0.N, t.val % 4 ≠ 0 → cfg0.fresh 8 t.val = false) t h

theorem idle_h (t : Fin cfg0.N) : cfg0.idle 8 (grid0.coords t) = true ↔ t.val % 4 ≠ 0 :=
  (by decide +kernel : ∀ t : Fin grid0.N, cfg0.idle 8 (grid0.coords t) = true ↔ t.val % 4 ≠ 0) t

/-- The output's tile, before a later point: as the point before left it. -/
theorem before_y (c : Dev nD) (t : Fin cfg0.N) (h : t.val % 4 ≠ 0) (d) :
    (dats m 0 c).before 5 t d = outAt m c (t.val - 1) (Nat.lt_of_le_of_lt (Nat.sub_le _ _) t.isLt) := by
  rw [Dat.before_out_traj _ 5 rfl (fun _ _ => rfl) (fun _ _ hi _ => Bool.noConfusion hi) t.val t rfl d,
    if_neg (by rw [held_y t h]; exact Bool.false_ne_true)]
  dsimp only [dats]

/-- The normed rows, before a later point: as the tile's first point left them. -/
theorem before_h (c : Dev nD) (t : Fin cfg0.N) (h : t.val % 4 ≠ 0) (d) :
    (dats m 0 c).before 8 t d = rows m c t := by
  rw [Dat.before_out_traj _ 8 rfl (fun _ _ => rfl)
      (fun t ht hi _ => by
        have := (idle_h t).mp hi
        rw [after_h, after_h]
        exact rows_carry m c _ _ (show t.val / 4 = (t.val - 1) / 4 by omega)) t.val t rfl d,
    if_neg (by rw [held_h t h]; exact Bool.false_ne_true), after_h]
  exact rows_carry m c _ _ (show (t.val - 1) / 4 = t.val / 4 by omega)

/-! ## The body at every point -/

/-- The buffer of a window at a point. -/
abbrev ms0 (t : Fin cfg0.N) : Memref sig .tc .vmem S1024x1024 .f32 := win0_0.stage (cfg0.slots t 0)
abbrev ms1 (t : Fin cfg0.N) : Memref sig .tc .vmem S1x1024 .f32 := win0_1.stage (cfg0.slots t 1)
abbrev ms2 (t : Fin cfg0.N) : Memref sig .tc .vmem S1x1x1024x704 .bf16 := win0_2.stage (cfg0.slots t 2)
abbrev ms3 (t : Fin cfg0.N) : Memref sig .tc .vmem S1x1x1024x704 .bf16 := win0_3.stage (cfg0.slots t 3)
abbrev ms4 (t : Fin cfg0.N) : Memref sig .tc .vmem S1x1x704x1024 .bf16 := win0_4.stage (cfg0.slots t 4)
abbrev ms5 (t : Fin cfg0.N) : Memref sig .tc .vmem S1024x1024 .f32 := win0_5.stage (cfg0.slots t 5)
abbrev ms6 (t : Fin cfg0.N) : Memref sig .tc .vmem S1x1024x704 .bf16 := win0_6.stage (cfg0.slots t 6)
abbrev ms7 (t : Fin cfg0.N) : Memref sig .tc .vmem S1x1024x704 .bf16 := win0_7.stage (cfg0.slots t 7)
abbrev ms8 (t : Fin cfg0.N) : Memref sig .tc .vmem S1024x1024 .bf16 := win0_8.stage (cfg0.slots t 8)

def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def post (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

section Leaves
variable (c : Dev nD) (t : Fin cfg0.N)
theorem leaves_x : (dats m 0 c).leavesExact 0 t = owns (c : Thread nD τ) (ms0 t) fullShare (iblk m c 0 t) := by
  unfold Dat.leavesExact; rw [show cfg0.idle 0 (grid0.coords t) = false from rfl, after_x]
theorem leaves_g : (dats m 0 c).leavesExact 1 t = owns (c : Thread nD τ) (ms1 t) fullShare (iblk m c 1 t) := by
  unfold Dat.leavesExact; rw [show cfg0.idle 1 (grid0.coords t) = false from rfl, after_g]
theorem leaves_u : (dats m 0 c).leavesExact 2 t = owns (c : Thread nD τ) (ms2 t) fullShare (iblk m c 2 t) := by
  unfold Dat.leavesExact; rw [show cfg0.idle 2 (grid0.coords t) = false from rfl, after_u]
theorem leaves_v : (dats m 0 c).leavesExact 3 t = owns (c : Thread nD τ) (ms3 t) fullShare (iblk m c 3 t) := by
  unfold Dat.leavesExact; rw [show cfg0.idle 3 (grid0.coords t) = false from rfl, after_v]
theorem leaves_w : (dats m 0 c).leavesExact 4 t = owns (c : Thread nD τ) (ms4 t) fullShare (iblk m c 4 t) := by
  unfold Dat.leavesExact; rw [show cfg0.idle 4 (grid0.coords t) = false from rfl, after_w]
theorem leaves_y : (dats m 0 c).leavesExact 5 t = owns (c : Thread nD τ) (ms5 t) fullShare (outAt m c t.val t.isLt) := by
  unfold Dat.leavesExact; rw [show cfg0.idle 5 (grid0.coords t) = false from rfl, after_y]
theorem leaves_z : (dats m 0 c).leavesExact 6 t
    = owns (c : Thread nD τ) (ms6 t) fullShare (k0_pay6 (rows m c t) (iblk m c 2 t)) := by
  unfold Dat.leavesExact; rw [show cfg0.idle 6 (grid0.coords t) = false from rfl, after_z]
theorem leaves_z' : (dats m 0 c).leavesExact 7 t
    = owns (c : Thread nD τ) (ms7 t) fullShare (k0_pay7 (rows m c t) (iblk m c 3 t)) := by
  unfold Dat.leavesExact; rw [show cfg0.idle 7 (grid0.coords t) = false from rfl, after_z']
/-- The rows, stored at a tile's first point and left alone at the others. -/
theorem leaves_h : owns (c : Thread nD τ) (ms8 t) fullShare (rows m c t) ⊢ (dats m 0 c).leavesExact 8 t := by
  by_cases hi : cfg0.idle 8 (grid0.coords t) = true
  · by_cases hf : (cfg0.win 8).flush t = true
    · unfold Dat.leavesExact; rw [hi, hf, after_h]
    · rw [Dat.leavesExact_idle _ _ _ hi (Bool.eq_false_iff.mpr hf)]
      simp only [before_h m c t ((idle_h t).mp hi)]
      iintro H
      iexists fun _ => (Scalar.ofBits .bf16 0#16 : F .bf16)
      iexact H
  · unfold Dat.leavesExact; rw [Bool.eq_false_iff.mpr hi, after_h]
end Leaves

set_option maxHeartbeats 1600000 in
theorem sound (c : Dev nD) (t : Fin cfg0.N) :
    pre m c t ⊢ wp frame (wpE (defs₀ (F := F)) Variants.none c none) Set.univ (bodyAt0 t) (fun _ => post m c t) := by
  unfold pre post bodyAt0
  simp only [before_x, before_g, before_u, before_v, before_w]
  rw [show (dats m 0 c).Φ t.succ = (dats m 0 c).Φ t.castSucc from rfl,
    show (dats m 0 c).owesAt () t.succ = (dats m 0 c).owesAt () t.castSucc from rfl,
    leaves_x, leaves_g, leaves_u, leaves_v, leaves_w, leaves_y, leaves_z, leaves_z']
  by_cases h : t.val % 4 = 0
  · rw [outAt_first m c t h, gated]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ ((first_iff t).mpr h)
      (iblk m c 0 t) (iblk m c 1 t) (iblk m c 2 t) (iblk m c 3 t) (iblk m c 4 t) Set.univ _)
    rw [← rows_first m c t h]
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves_h m c t); iexact H8
  · rw [outAt_later m c t h, gated]
    simp only [before_y m c t h, before_h m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_later c (grid0.coords t) _ _ _ _ _ _ _ _ _ _ _ _ _ _ _ _ _ _ (fun h' => h ((first_iff t).mp h'))
      (iblk m c 0 t) (iblk m c 1 t) (iblk m c 2 t) (iblk m c 3 t) (iblk m c 4 t)
      (outAt m c (t.val - 1) (Nat.lt_of_le_of_lt (Nat.sub_le _ _) t.isLt)) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves_h m c t); iexact H8

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
set_option maxHeartbeats 800000 in
theorem run_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := fun _ => Idealize.SL.BI.Entails.refl _)
    (hout := fun _ => Idealize.SL.BI.Entails.refl _)

theorem run_main : θ_run defs (onTc (τ := τ) (main (F := F))) (s₀ m ρ) (Pipeline.FramePost cfgs (dats m) 0 (V m)) :=
  θ_run_mono (run_quiescent m ρ) fun _ h => h.1

/-- The arguments end as they were launched, and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) (θ_run_mono (run_quiescent m ρ) fun _ h => h.2)

end Cert.FfnFwdIdeal.Run

end
-- ==== Proof.FfnFwd.Value.lean ====
module

public import proofs.«01_k».proof.Proof.FfnFwd.Frame
public import proofs.«01_k».proof.Proof.FfnBwd.Maths
public import proofs.«01_k».proof.Proof.Tiles
public import proofs.«01_k».proof.Proof.Rms
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the feed-forward call leaves in its four result arrays -/

namespace Cert.FfnFwdIdeal.Value
open Cert.FfnFwdIdeal Cert.FfnFwdIdeal.Gen Cert.FfnFwdIdeal.Run

/-! ## The body's arithmetic, at one entry -/

/-- A normed row. -/
theorem pay2_apply (x : FVec Ideal S1024x1024 .f32) (g : FVec Ideal S1x1024 .f32) (r d : Fin 1024) :
    k0_pay2 (F := Ideal) x g (ix2 r d) = x (ix2 r d) * (Rms.scale fun k => x (ix2 r k)) * g (ix2 0 d) := by
  pointwise [k0_pay2, Rms.scale, Rms.ms]

theorem pay4_apply (h : FVec Ideal S1024x1024 .bf16) (w : FVec Ideal S1x1x1024x704 .bf16) (r : Fin 1024) (u : Fin 704) :
    k0_pay4 (F := Ideal) h w (ix2 r u) = ∑ k : Fin 1024, h (ix2 r k) * w (ix4 0 0 k u) := by
  pointwise [k0_pay4, k0_pay3]

theorem pay5_apply (h : FVec Ideal S1024x1024 .bf16) (w : FVec Ideal S1x1x1024x704 .bf16) (r : Fin 1024) (u : Fin 704) :
    k0_pay5 (F := Ideal) h w (ix2 r u) = ∑ k : Fin 1024, h (ix2 r k) * w (ix4 0 0 k u) := by
  pointwise [k0_pay5, k0_pay3]

theorem pay6_apply (h : FVec Ideal S1024x1024 .bf16) (w : FVec Ideal S1x1x1024x704 .bf16) (r : Fin 1024) (u : Fin 704) :
    k0_pay6 (F := Ideal) h w (ix3 0 r u) = ∑ k : Fin 1024, h (ix2 r k) * w (ix4 0 0 k u) := by
  rw [← pay4_apply]
  pointwise [k0_pay6]

theorem pay7_apply (h : FVec Ideal S1024x1024 .bf16) (w : FVec Ideal S1x1x1024x704 .bf16) (r : Fin 1024) (u : Fin 704) :
    k0_pay7 (F := Ideal) h w (ix3 0 r u) = ∑ k : Fin 1024, h (ix2 r k) * w (ix4 0 0 k u) := by
  rw [← pay5_apply]
  pointwise [k0_pay7]

/-- The gated columns. -/
theorem pay8_apply (h : FVec Ideal S1024x1024 .bf16) (v w : FVec Ideal S1x1x1024x704 .bf16) (r : Fin 1024) (u : Fin 704) :
    k0_pay8 (F := Ideal) h v w (ix2 r u)
      = k0_pay4 (F := Ideal) h v (ix2 r u) * Ffn.sig (k0_pay4 (F := Ideal) h v (ix2 r u)) * k0_pay5 (F := Ideal) h w (ix2 r u) := by
  pointwise [k0_pay8, Ffn.sig]

/-- One step of the output's running sum. -/
theorem pay1_apply (a : FVec Ideal S1024x704 .bf16) (y : FVec Ideal S1024x1024 .f32) (w : FVec Ideal S1x1x704x1024 .bf16) (r d : Fin 1024) :
    k0_pay1 (F := Ideal) a y w (ix2 r d) = y (ix2 r d) + ∑ u : Fin 704, a (ix2 r u) * w (ix4 0 0 u d) := by
  pointwise [k0_pay1]

/-! ## The arrays as the call finds them -/

variable (m : (ℓ : Loc nD τ sig) → Buf (Elt Ideal) ℓ) (ρ : Dev nD → PrngReg)

/-- The rows. -/
abbrev argX (c : Dev nD) : FVec Ideal S8192x1024 .f32 := m ((c.tc : Thread nD τ).loc main_arg0)
/-- The gain. -/
abbrev argG (c : Dev nD) : FVec Ideal S1024 .f32 := m ((c.tc : Thread nD τ).loc main_arg1)
/-- The first weight. -/
abbrev argW₁ (c : Dev nD) : FVec Ideal S1024x5632 .f32 := m ((c.tc : Thread nD τ).loc main_arg2)
/-- The second weight. -/
abbrev argW₂ (c : Dev nD) : FVec Ideal S2816x1024 .f32 := m ((c.tc : Thread nD τ).loc main_arg3)

theorem entry_w₁ (c : Dev nD) (q : Fin 8) (d : Fin 1024) (u : Fin 704) :
    (V m c main_v3 : S1x8x1024x704.Idx → EReal) (ix4 0 q d u) = argW₁ m c (ix2 d ⟨q.val * 704 + u.val, by omega⟩) := by
  unfold V
  after_results
  pointwise

theorem entry_w₂ (c : Dev nD) (q : Fin 4) (u : Fin 704) (d : Fin 1024) :
    (V m c main_v8 : S1x4x704x1024.Idx → EReal) (ix4 0 q u d) = argW₂ m c (ix2 (Ffn.col q u) d) := by
  unfold V
  after_results
  pointwise
  exact congrArg (argW₂ m c) (congrArg (fun f : Fin 2816 => (ix2 f d : Ffn.SOut.Idx)) (Fin.ext (by simp only [Ffn.col]; omega)))

theorem entry_g (c : Dev nD) (d : Fin 1024) : (V m c main_v7 : S1x1024.Idx → EReal) (ix2 0 d) = argG m c (ix1 d) := by
  unfold V
  after_results
  pointwise

/-- Which block every window takes at every grid point. -/
theorem idx_val : ∀ t : Fin cfg0.N, win0_0.index t = ![t.val / 4, 0]
    ∧ win0_1.index t = ![0, 0]
    ∧ win0_2.index t = ![0, t.val % 4, 0, 0]
    ∧ win0_3.index t = ![0, t.val % 4 + 4, 0, 0]
    ∧ win0_4.index t = ![0, t.val % 4, 0, 0]
    ∧ win0_5.index t = ![t.val / 4, 0]
    ∧ win0_6.index t = ![t.val % 4, t.val / 4, 0]
    ∧ win0_7.index t = ![t.val % 4, t.val / 4, 0]
    ∧ win0_8.index t = ![t.val / 4, 0] :=
  (by decide +kernel : ∀ t : Fin grid0.N, _)

/-- The quarter of the columns a grid point works on. -/
def qOf (t : Fin cfg0.N) : Fin 4 := ⟨t.val % 4, Nat.mod_lt _ (by decide)⟩
/-- The tile of rows a grid point works on. -/
def sOf (t : Fin cfg0.N) : Fin 8 := ⟨t.val / 4, by have := t.isLt; have : cfg0.N = 32 := rfl; omega⟩

theorem blk0 (c : Dev nD) (t : Fin cfg0.N) (r d : Fin 1024) :
    (iblk m c 0 t : S1024x1024.Idx → EReal) (ix2 r d) = argX m c (ix2 (Tile.row (sOf t) r) d) := by
  blk_point [iblk, V, idx_val t]
  all_goals rfl

theorem blk1 (c : Dev nD) (t : Fin cfg0.N) (d : Fin 1024) :
    (iblk m c 1 t : S1x1024.Idx → EReal) (ix2 0 d) = argG m c (ix1 d) := by
  rw [← entry_g]
  blk_ext [iblk, idx_val t]
  all_goals rfl

theorem blk2 (c : Dev nD) (t : Fin cfg0.N) (d : Fin 1024) (u : Fin 704) :
    (iblk m c 2 t : S1x1x1024x704.Idx → EReal) (ix4 0 0 d u) = argW₁ m c (ix2 d (Ffn.lo (Ffn.col (qOf t) u))) := by
  refine Eq.trans ?_ (entry_w₁ m c ⟨t.val % 4, by omega⟩ d u)
  blk_ext [iblk, idx_val t]
  all_goals rfl

theorem blk3 (c : Dev nD) (t : Fin cfg0.N) (d : Fin 1024) (u : Fin 704) :
    (iblk m c 3 t : S1x1x1024x704.Idx → EReal) (ix4 0 0 d u) = argW₁ m c (ix2 d (Ffn.hi (Ffn.col (qOf t) u))) := by
  refine Eq.trans ?_ ((entry_w₁ m c ⟨t.val % 4 + 4, by omega⟩ d u).trans ?_)
  · blk_ext [iblk, idx_val t]
  · exact congrArg (argW₁ m c) (congrArg (fun f : Fin 5632 => (ix2 d f : Ffn.SIn.Idx)) (Fin.ext (by simp only [Ffn.col, Ffn.hi, qOf]; omega)))

theorem blk4 (c : Dev nD) (t : Fin cfg0.N) (u : Fin 704) (d : Fin 1024) :
    (iblk m c 4 t : S1x1x704x1024.Idx → EReal) (ix4 0 0 u d) = argW₂ m c (ix2 (Ffn.col (qOf t) u) d) := by
  rw [← entry_w₂]
  blk_ext [iblk, idx_val t]
  all_goals rfl

/-! ## The results, entry by entry -/

/-- The normed rows. -/
def normed (c : Dev nD) : FVec Ideal Ffn.SRow .bf16 := fun j =>
  argX m c (ix2 (j 0) (j 1)) * (Rms.scale fun k => argX m c (ix2 (j 0) k)) * argG m c (ix1 (j 1))

theorem rows_apply (c : Dev nD) (t : Fin cfg0.N) (r d : Fin 1024) :
    (rows m c t : S1024x1024.Idx → EReal) (ix2 r d) = normed m c (ix2 (Tile.row (sOf t) r) d) := by
  have hs : sOf (head t) = sOf t := Fin.ext (by show t.val / 4 * 4 / 4 = t.val / 4; omega)
  refine (pay2_apply _ _ r d).trans ?_
  have e : (fun k : Fin 1024 => (iblk m c 0 (head t) : S1024x1024.Idx → EReal) (ix2 r k))
      = fun k => argX m c (ix2 (Tile.row (sOf t) r) k) := funext fun k => by rw [blk0, hs]
  rw [e, blk0, blk1, hs]
  rfl

theorem pre_lo (c : Dev nD) (t : Fin cfg0.N) (r : Fin 1024) (u : Fin 704) :
    (∑ k : Fin 1024, (rows m c t : S1024x1024.Idx → EReal) (ix2 r k) * (iblk m c 2 t : S1x1x1024x704.Idx → EReal) (ix4 0 0 k u))
      = Ffn.pre (normed m c) (argW₁ m c) (Tile.row (sOf t) r) (Ffn.lo (Ffn.col (qOf t) u)) :=
  Finset.sum_congr rfl fun k _ => by rw [rows_apply, blk2]

theorem pre_hi (c : Dev nD) (t : Fin cfg0.N) (r : Fin 1024) (u : Fin 704) :
    (∑ k : Fin 1024, (rows m c t : S1024x1024.Idx → EReal) (ix2 r k) * (iblk m c 3 t : S1x1x1024x704.Idx → EReal) (ix4 0 0 k u))
      = Ffn.pre (normed m c) (argW₁ m c) (Tile.row (sOf t) r) (Ffn.hi (Ffn.col (qOf t) u)) :=
  Finset.sum_congr rfl fun k _ => by rw [rows_apply, blk3]

theorem gated_apply (c : Dev nD) (t : Fin cfg0.N) (r : Fin 1024) (u : Fin 704) :
    (gated m c t : S1024x704.Idx → EReal) (ix2 r u)
      = Ffn.act (normed m c) (argW₁ m c) (Tile.row (sOf t) r) (Ffn.col (qOf t) u) := by
  refine (pay8_apply _ _ _ r u).trans ?_
  rw [pay4_apply, pay5_apply, pre_lo, pre_hi]
  rfl

/-- What a grid point adds to the output. -/
def term (c : Dev nD) (s : Fin 8) (q : Fin 4) (r d : Fin 1024) : EReal :=
  ∑ u : Fin 704, Ffn.act (normed m c) (argW₁ m c) (Tile.row s r) (Ffn.col q u) * argW₂ m c (ix2 (Ffn.col q u) d)

theorem step (c : Dev nD) (t : Fin cfg0.N) (Y : FVec Ideal S1024x1024 .f32) (r d : Fin 1024) :
    k0_pay1 (F := Ideal) (gated m c t) Y (iblk m c 4 t) (ix2 r d) = Y (ix2 r d) + term m c (sOf t) (qOf t) r d := by
  refine (pay1_apply _ _ _ r d).trans (congrArg (Y (ix2 r d) + ·) (Finset.sum_congr rfl fun u _ => ?_))
  rw [gated_apply, blk4]

/-- The output's tile after a point: the rows and the quarters so far. -/
theorem acc (c : Dev nD) (s : Fin 8) (r d : Fin 1024) : ∀ (q : ℕ) (hq : q < 4),
    (outAt m c (s.val * 4 + q) (by have : cfg0.N = 32 := rfl; omega) : S1024x1024.Idx → EReal) (ix2 r d)
      = argX m c (ix2 (Tile.row s r) d) + ∑ k : Fin (q + 1), term m c s ⟨k.val, by omega⟩ r d := by
  intro q
  induction q with
  | zero =>
    intro hq
    have hN : s.val * 4 + 0 < cfg0.N := by have : cfg0.N = 32 := rfl; omega
    have hs : sOf ⟨s.val * 4 + 0, hN⟩ = s := Fin.ext (by show (s.val * 4 + 0) / 4 = s.val; omega)
    have hq : qOf ⟨s.val * 4 + 0, hN⟩ = 0 := Fin.ext (by show (s.val * 4 + 0) % 4 = 0; omega)
    have e := outAt_first m c ⟨s.val * 4 + 0, hN⟩ (by show (s.val * 4 + 0) % 4 = 0; omega)
    refine (congrFun e (ix2 r d)).trans ((step m c _ _ r d).trans ?_)
    rw [blk0, hs, hq, Fin.sum_univ_one]
    rfl
  | succ q ih =>
    intro hq
    have hN : s.val * 4 + (q + 1) < cfg0.N := by have : cfg0.N = 32 := rfl; omega
    have hs : sOf ⟨s.val * 4 + (q + 1), hN⟩ = s := Fin.ext (by show (s.val * 4 + (q + 1)) / 4 = s.val; omega)
    have hq' : qOf ⟨s.val * 4 + (q + 1), hN⟩ = ⟨q + 1, hq⟩ := Fin.ext (by show (s.val * 4 + (q + 1)) % 4 = q + 1; omega)
    have e := outAt_later m c ⟨s.val * 4 + (q + 1), hN⟩ (by show (s.val * 4 + (q + 1)) % 4 ≠ 0; omega)
    refine (congrFun e (ix2 r d)).trans ((step m c _ _ r d).trans ?_)
    rw [hs, hq', Fin.sum_univ_castSucc, ← add_assoc (argX m c (ix2 (Tile.row s r) d))]
    exact congrArg (· + _) (ih (by omega))

/-- Entry `(i, d)` of the output. -/
def out (c : Dev nD) (i : Fin 8192) (d : Fin 1024) : EReal :=
  argX m c (ix2 i d) + ∑ f : Fin 2816, Ffn.act (normed m c) (argW₁ m c) i f * argW₂ m c (ix2 f d)

theorem acc_out (c : Dev nD) (t : Fin cfg0.N) (ht : t.val % 4 = 3) (r d : Fin 1024) :
    (outAt m c t.val t.isLt : S1024x1024.Idx → EReal) (ix2 r d) = out m c (Tile.row (sOf t) r) d := by
  have e : t.val = (sOf t).val * 4 + 3 := by show t.val = t.val / 4 * 4 + 3; omega
  have h := acc m c (sOf t) r d 3 (by omega)
  have e' : outAt m c t.val t.isLt = outAt m c ((sOf t).val * 4 + 3) (by rw [← e]; exact t.isLt) := by congr 1
  rw [e', h, out, ← Ffn.sum_col]
  rfl

theorem final_y (c : Dev nD) : (dats m 0 c).arrAt 5 cfg0.N = (fun j => out m c (j 0) (j 1) : S8192x1024.Idx → EReal) := by
  refine (dats m 0 c).arrAt_eq_of_covers 5 _ (by decide +kernel) fun t hf y => ?_
  blk_simp; rw [after_y]
  obtain ⟨r, d, hy⟩ : ∃ (r d : Fin 1024), y = (ix2 r d : S1024x1024.Idx) := ⟨y 0, y 1, eq_ix2 (y : S1024x1024.Idx)⟩
  subst hy
  refine (acc_out m c t ((flush0_5 t).mp hf) r d).trans ?_
  refine congrArg₂ (out m c) (Fin.ext ?_) (Fin.ext ?_)
  all_goals blk_simp [idx_val t]
  all_goals rfl

theorem final_h (c : Dev nD) : (dats m 0 c).arrAt 8 cfg0.N = (fun j => normed m c (ix2 (j 0) (j 1)) : S8192x1024.Idx → EReal) := by
  refine (dats m 0 c).arrAt_eq_of_covers 8 _ (by decide +kernel) fun t hf y => ?_
  blk_simp; rw [after_h]
  obtain ⟨r, d, hy⟩ : ∃ (r d : Fin 1024), y = (ix2 r d : S1024x1024.Idx) := ⟨y 0, y 1, eq_ix2 (y : S1024x1024.Idx)⟩
  subst hy
  refine (rows_apply m c t r d).trans ?_
  refine congrArg₂ (fun i k => normed m c (ix2 i k)) (Fin.ext ?_) (Fin.ext ?_)
  all_goals blk_simp [idx_val t]
  all_goals rfl

/-- Entry of the first half of the columns before the gate, in quarters. -/
def z₁ (c : Dev nD) (q : Fin 4) (i : Fin 8192) (u : Fin 704) : EReal := Ffn.pre (normed m c) (argW₁ m c) i (Ffn.lo (Ffn.col q u))
/-- And of the second half. -/
def z₂ (c : Dev nD) (q : Fin 4) (i : Fin 8192) (u : Fin 704) : EReal := Ffn.pre (normed m c) (argW₁ m c) i (Ffn.hi (Ffn.col q u))

theorem congr₃ {α β γ δ : Type} (f : α → β → γ → δ) {a a' : α} {b b' : β} {c c' : γ} (h : a = a') (h' : b = b') (h'' : c = c') :
    f a b c = f a' b' c' := by rw [h, h', h'']

theorem ix3_zero (y : S1x1024x704.Idx) : ∃ (r : Fin 1024) (u : Fin 704), y = ix3 0 r u :=
  ⟨y 1, y 2, (eq_ix3 y).trans (congrArg (fun z : Fin 1 => (ix3 z (y 1) (y 2) : S1x1024x704.Idx)) (Subsingleton.elim _ _))⟩

theorem final_z₁ (c : Dev nD) : (dats m 0 c).arrAt 6 cfg0.N = (fun j => z₁ m c (j 0) (j 1) (j 2) : S4x8192x704.Idx → EReal) := by
  refine (dats m 0 c).arrAt_eq_of_covers 6 _ (by decide +kernel) fun t hf y => ?_
  blk_simp; rw [after_z]
  obtain ⟨r, u, hy⟩ := ix3_zero y
  subst hy
  refine (pay6_apply _ _ r u).trans ((pre_lo m c t r u).trans ?_)
  refine congr₃ (z₁ m c) (Fin.ext ?_) (Fin.ext ?_) (Fin.ext ?_)
  all_goals blk_simp [idx_val t]
  all_goals rfl

theorem final_z₂ (c : Dev nD) : (dats m 0 c).arrAt 7 cfg0.N = (fun j => z₂ m c (j 0) (j 1) (j 2) : S4x8192x704.Idx → EReal) := by
  refine (dats m 0 c).arrAt_eq_of_covers 7 _ (by decide +kernel) fun t hf y => ?_
  blk_simp; rw [after_z']
  obtain ⟨r, u, hy⟩ := ix3_zero y
  subst hy
  refine (pay7_apply _ _ r u).trans ((pre_hi m c t r u).trans ?_)
  refine congr₃ (z₂ m c) (Fin.ext ?_) (Fin.ext ?_) (Fin.ext ?_)
  all_goals blk_simp [idx_val t]
  all_goals rfl

/-- The run, its result arrays named. -/
theorem run_named : θ_run defs (onTc (τ := τ) (main (F := Ideal))) ⟨m, fun _ => 0, ρ⟩ fun r => ∀ c : Dev nD,
      r.2.mem ((c.tc : Thread nD τ).loc main_v9_0) = (dats m 0 c).arrAt 5 cfg0.N
      ∧ r.2.mem ((c.tc : Thread nD τ).loc main_v9_1) = (dats m 0 c).arrAt 6 cfg0.N
      ∧ r.2.mem ((c.tc : Thread nD τ).loc main_v9_2) = (dats m 0 c).arrAt 7 cfg0.N
      ∧ r.2.mem ((c.tc : Thread nD τ).loc main_v9_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (run_main m ρ) (unchanged m ρ)) fun r h c =>
    ⟨(h.1 c).1 5, (h.1 c).1 6, (h.1 c).1 7, (h.1 c).1 8, h.2.1 c⟩

end Cert.FfnFwdIdeal.Value
end
-- ==== Proof.FfnFwd.Claim.lean ====
module

public import proofs.«01_k».proof.Defs
public import proofs.«01_k».proof.Proof.FfnFwd.Value
public import proofs.«01_k».proof.Proof.Gen.FfnFwd
public import proofs.«01_k».proof.Proof.Gen.FfnFwdRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The feed-forward block: the call's results are the reference's -/

namespace Cert.Proof.FfnFwd
open Cert.FfnFwdRefIdeal Cert.FfnFwdRefIdeal.Read

section Entries

variable (x : FVec Ideal S8192x1024 .f32) (g : FVec Ideal S1024 .f32) (w₁ : FVec Ideal S1024x5632 .f32) (w₂ : FVec Ideal S2816x1024 .f32)

/-- The normed rows, on whole arrays. -/
def nrm : FVec Ideal Ffn.SRow .bf16 := fun j => x (ix2 (j 0) (j 1)) * (Rms.scale fun k => x (ix2 (j 0) k)) * g (ix1 (j 1))

theorem ms_eq (i : Fin 8192) : val_main_v6 (F := Ideal) x (ix2 i 0) = Rms.ms fun k => x (ix2 i k) := by
  pointwise [val_main_v6, val_main_v5, val_main_v4, val_main_v3, val_main_v2, val_main_v1, val_main_v0, val_main_cst, val_main_cst_0, val_main_cst_1, Rms.ms]

theorem scale_eq (i : Fin 8192) : val_main_v7 (F := Ideal) x (ix2 i 0) = Rms.scale fun k => x (ix2 i k) := by
  rw [Rms.scale, ← ms_eq]
  pointwise [val_main_v7]

theorem nrm_eq (i : Fin 8192) (d : Fin 1024) : val_main_v12 (F := Ideal) x g (ix2 i d) = nrm x g (ix2 i d) := by
  refine Eq.trans ?_ (congrArg (fun z => x (ix2 i d) * z * g (ix1 d)) (scale_eq x i))
  pointwise [val_main_v12, val_main_v11, val_main_v10, val_main_v9, val_main_v8]

theorem pre_eq (i : Fin 8192) (f : Fin 5632) : val_main_v13 (F := Ideal) x g w₁ (ix2 i f) = Ffn.pre (nrm x g) w₁ i f := by
  simp only [Ffn.pre, ← nrm_eq]
  pointwise [val_main_v13]

theorem lo_eq (i : Fin 8192) (f : Fin 2816) : val_main_v14 (F := Ideal) x g w₁ (ix2 i f) = Ffn.pre (nrm x g) w₁ i (Ffn.lo f) := by
  rw [← pre_eq]
  pointwise [val_main_v14]
  rfl

theorem hi_eq (i : Fin 8192) (f : Fin 2816) : val_main_v16 (F := Ideal) x g w₁ (ix2 i f) = Ffn.pre (nrm x g) w₁ i (Ffn.hi f) := by
  rw [← pre_eq]
  pointwise [val_main_v16]
  rfl

theorem sig_eq (i : Fin 8192) (f : Fin 2816) : val_main_call0_v5 (F := Ideal) x g w₁ (ix2 i f) = Ffn.sig (Ffn.pre (nrm x g) w₁ i (Ffn.lo f)) := by
  rw [← lo_eq, Ffn.sig, zero_sub]
  pointwise [val_main_call0_v5, val_main_call0_v4, val_main_call0_v3, val_main_call0_v2, val_main_call0_v1, val_main_call0_v0,
    val_main_call0_cst, val_main_call0_cst_0]

theorem act_eq (i : Fin 8192) (f : Fin 2816) : val_main_v17 (F := Ideal) x g w₁ (ix2 i f) = Ffn.act (nrm x g) w₁ i f := by
  rw [Ffn.act, ← sig_eq, ← lo_eq, ← hi_eq]
  pointwise [val_main_v17, val_main_v15]

/-- The block's output. -/
theorem y_eq (i : Fin 8192) (d : Fin 1024) : val_main_v19 (F := Ideal) x g w₁ w₂ (ix2 i d)
    = x (ix2 i d) + ∑ f : Fin 2816, Ffn.act (nrm x g) w₁ i f * w₂ (ix2 f d) := by
  simp only [← act_eq]
  pointwise [val_main_v19, val_main_v18]

/-- The first half of the columns before the gate, in quarters. -/
theorem z₁_eq (q : Fin 4) (i : Fin 8192) (u : Fin 704) : val_main_v23 (F := Ideal) x g w₁ (ix3 q i u)
    = Ffn.pre (nrm x g) w₁ i (Ffn.lo (Ffn.col q u)) := by
  rw [← pre_eq]
  pointwise [val_main_v23, val_main_v22, val_main_v21, val_main_v20]
  exact congrArg (val_main_v13 (F := Ideal) x g w₁) (congrArg (fun f : Fin 5632 => (ix2 i f : S8192x5632.Idx)) (Fin.ext (by simp only [Ffn.col, Ffn.lo])))

/-- The second half. -/
theorem z₂_eq (q : Fin 4) (i : Fin 8192) (u : Fin 704) : val_main_v27 (F := Ideal) x g w₁ (ix3 q i u)
    = Ffn.pre (nrm x g) w₁ i (Ffn.hi (Ffn.col q u)) := by
  rw [← pre_eq]
  pointwise [val_main_v27, val_main_v26, val_main_v25, val_main_v24]
  exact congrArg (val_main_v13 (F := Ideal) x g w₁) (congrArg (fun f : Fin 5632 => (ix2 i f : S8192x5632.Idx)) (Fin.ext (by simp only [Ffn.col, Ffn.hi])))

end Entries

variable (m : (ℓ : Loc Cert.FfnFwdIdeal.nD Cert.FfnFwdIdeal.τ Cert.FfnFwdIdeal.sig) → Buf (Elt Ideal) ℓ) (c : Dev Cert.FfnFwdIdeal.nD)

theorem y_same : val_main_v19 (F := Ideal) (FfnFwdIdeal.Value.argX m c) (FfnFwdIdeal.Value.argG m c) (FfnFwdIdeal.Value.argW₁ m c) (FfnFwdIdeal.Value.argW₂ m c)
    = (FfnFwdIdeal.Run.dats m 0 c).arrAt 5 FfnFwdIdeal.cfg0.N := by
  rw [FfnFwdIdeal.Value.final_y]
  funext j
  idx_vars j
  exact y_eq _ _ _ _ j0 j1

theorem z₁_same : val_main_v23 (F := Ideal) (FfnFwdIdeal.Value.argX m c) (FfnFwdIdeal.Value.argG m c) (FfnFwdIdeal.Value.argW₁ m c)
    = (FfnFwdIdeal.Run.dats m 0 c).arrAt 6 FfnFwdIdeal.cfg0.N := by
  rw [FfnFwdIdeal.Value.final_z₁]
  funext j
  idx_vars j
  exact z₁_eq _ _ _ j0 j1 j2

theorem z₂_same : val_main_v27 (F := Ideal) (FfnFwdIdeal.Value.argX m c) (FfnFwdIdeal.Value.argG m c) (FfnFwdIdeal.Value.argW₁ m c)
    = (FfnFwdIdeal.Run.dats m 0 c).arrAt 7 FfnFwdIdeal.cfg0.N := by
  rw [FfnFwdIdeal.Value.final_z₂]
  funext j
  idx_vars j
  exact z₂_eq _ _ _ j0 j1 j2

theorem h_same : val_main_v28 (F := Ideal) (FfnFwdIdeal.Value.argX m c) (FfnFwdIdeal.Value.argG m c)
    = (FfnFwdIdeal.Run.dats m 0 c).arrAt 8 FfnFwdIdeal.cfg0.N := by
  rw [FfnFwdIdeal.Value.final_h]
  funext j
  idx_vars j
  refine Eq.trans ?_ (nrm_eq _ _ j0 j1)
  pointwise [val_main_v28]

/-- The call and its reference leave the same four results. -/
theorem alg : Cert.algebraic_FfnFwdIdeal_FfnFwdRefIdeal (hFfnFwdIdeal := Cert.FfnFwdIdeal.Gen.facts)
    (hFfnFwdRefIdeal := Cert.FfnFwdRefIdeal.Gen.facts) := by
  pair_intro
  · run_from Cert.FfnFwdIdeal.Value.run_named m g
  · run_from Cert.FfnFwdRefIdeal.Value.run m' g'
    · exact (val_main_v19_eq _ _ _ _).trans (y_same m c)
    · exact (val_main_v23_eq _ _ _).trans (z₁_same m c)
    · exact (val_main_v27_eq _ _ _).trans (z₂_same m c)
    · exact (val_main_v28_eq _ _).trans (h_same m c)

/-- The reference, which has host lines only, leaves its arguments and every counter as they were. -/
theorem refFrame : Cert.quiescent_FfnFwdRefIdeal (hFfnFwdRefIdeal := Cert.FfnFwdRefIdeal.Gen.facts) := fun m ρ _ =>
  θ_run_mono (Cert.FfnFwdRefIdeal.Value.run m ρ) fun r h =>
    ⟨fun c => (h c).2.2.2.2, sem_eq_zero_of_no_sems (by decide) r.2⟩

set_option smartUnfolding false in
/-- The call itself, whose text is its idealisation's, leaves its arguments and every counter as they were. -/
theorem frameBits : Cert.quiescent_FfnFwd (hFfnFwd := Cert.FfnFwd.Gen.facts) := fun m ρ _ =>
  (θ_run Cert.FfnFwdIdeal.defs _ _).mono (fun _ h => h) (Cert.FfnFwdIdeal.Run.unchanged (F := Bits) m ρ)

end Cert.Proof.FfnFwd
end
-- ==== Proof.LossHead.Value.lean ====
module

public import proofs.«01_k».proof.Proof.Gen.LossHeadIdeal.Value
public import proofs.«01_k».proof.Proof.Tiles
public import proofs.«01_k».proof.Proof.Rms
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the loss call leaves in its three result arrays -/

namespace Loss

/-- One half. -/
abbrev hf : EReal := Ideal.ofBits .f32 0x3F000000#32
/-- The reciprocal of the width. -/
abbrev w : EReal := Ideal.ofBits .f32 0x3A800000#32

theorem hf_eq : hf = ((1 / 2 : ℝ) : EReal) := by
  simp [hf, Ideal.ofBits, Ideal.ieee]
  rw [← EReal.coe_mul]
  norm_num

theorem w_eq : w = ((1 / 1024 : ℝ) : EReal) := by
  simp [w, Ideal.ofBits, Ideal.ieee]
  rw [← EReal.coe_mul]
  norm_num

/-- A factor goes into a sum of terms none of which is negative. -/
theorem mul_sum {ι : Type} (s : Finset ι) (a : EReal) (f : ι → EReal) (hf : ∀ i, 0 ≤ f i) : a * ∑ i ∈ s, f i = ∑ i ∈ s, a * f i := by
  classical
  induction s using Finset.induction_on with
  | empty => simp
  | insert i s hi ih =>
    rw [Finset.sum_insert hi, Finset.sum_insert hi, EReal.left_distrib_of_nonneg (hf i) (Finset.sum_nonneg fun i _ => hf i), ih]

/-- The tiles' shares of the loss add up to half the sum of the rows' means. -/
theorem shares (S : Fin 8192 → EReal) (hS : ∀ i, 0 ≤ S i) :
    ∑ s : Fin 16, hf * (∑ r : Fin 512, S (Tile.row₅ s r)) * w = hf * ∑ i : Fin 8192, Ideal.div (S i) Rms.width := by
  have hd : ∀ i, Ideal.div (S i) Rms.width = w * S i := fun i => by
    rw [Rms.width_eq, Ideal.div_coe (by norm_num), w_eq, mul_comm]
  simp only [hd]
  rw [← mul_sum _ _ _ hS, ← Tile.sum_row₅, mul_sum _ w _ (fun s => Finset.sum_nonneg fun r _ => hS _),
    mul_sum _ hf _ (fun s => mul_nonneg (by rw [w_eq]; exact_mod_cast (by norm_num : (0 : ℝ) ≤ 1 / 1024)) (Finset.sum_nonneg fun r _ => hS _))]
  refine Finset.sum_congr rfl fun s _ => ?_
  rw [mul_assoc, mul_comm w]

end Loss

namespace Cert.LossHeadIdeal.Value
open Cert.LossHeadIdeal Cert.LossHeadIdeal.Gen

/-! ## The body's arithmetic, at one entry -/

/-- The error of a normed row. -/
theorem pay7_apply (x : FVec Ideal S512x1024 .f32) (g : FVec Ideal S1x1024 .f32) (t : FVec Ideal S512x1024 .f32) (r : Fin 512) (d : Fin 1024) :
    k0_pay7 (F := Ideal) x g t (ix2 r d) = x (ix2 r d) * (Rms.scale fun k => x (ix2 r k)) * g (ix2 0 d) - t (ix2 r d) := by
  pointwise [k0_pay7, Rms.scale, Rms.ms]

/-- A row's factor. -/
theorem pay2_apply (x : FVec Ideal S512x1024 .f32) (r : Fin 512) :
    k0_pay2 (F := Ideal) x (ix2 r 0) = Rms.scale fun k => x (ix2 r k) := by
  pointwise [k0_pay2, Rms.scale, Rms.ms]

/-- The gradient of the rows. -/
theorem pay3_apply (x e : FVec Ideal S512x1024 .f32) (g : FVec Ideal S1x1024 .f32) (r : Fin 512) (d : Fin 1024) :
    k0_pay3 (F := Ideal) x e (k0_pay9 g) (ix2 r d)
      = Rms.dx (fun k => x (ix2 r k)) (fun k => g (ix2 0 k)) (fun k => e (ix2 r k) * Loss.w) d := by
  rw [Rms.dx, ← pay2_apply]
  pointwise [k0_pay3, k0_pay1, k0_pay9]

/-- One step of the running sum of the gradient of the gain. -/
theorem pay4_apply (x e : FVec Ideal S512x1024 .f32) (a : FVec Ideal S1x1024 .f32) (d : Fin 1024) :
    k0_pay4 (F := Ideal) x e a (ix2 0 d)
      = a (ix2 0 d) + ∑ r : Fin 512, e (ix2 r d) * Loss.w * x (ix2 r d) * Rms.scale fun k => x (ix2 r k) := by
  simp only [← pay2_apply]
  pointwise [k0_pay4, k0_pay1]

/-- One step of the running sum of the loss. -/
theorem pay8_apply (x : FVec Ideal S512x1024 .f32) (g : FVec Ideal S1x1024 .f32) (t : FVec Ideal S512x1024 .f32) (a : FVec Ideal S8x128 .f32)
    (p : Fin 8) (q : Fin 128) :
    k0_pay8 (F := Ideal) x g t a (ix2 p q)
      = a (ix2 p q) + Loss.hf * (∑ r : Fin 512, ∑ k : Fin 1024, k0_pay7 (F := Ideal) x g t (ix2 r k) * k0_pay7 (F := Ideal) x g t (ix2 r k)) * Loss.w := by
  pointwise [k0_pay8]

/-! ## The arrays as the call finds them -/

variable (m : (ℓ : Loc nD τ sig) → Buf (Elt Ideal) ℓ)

/-- The rows before the norm. -/
abbrev argX (c : Dev nD) : FVec Ideal S8192x1024 .f32 := m ((c.tc : Thread nD τ).loc main_arg0)
/-- The gain. -/
abbrev argG (c : Dev nD) : FVec Ideal S1024 .f32 := m ((c.tc : Thread nD τ).loc main_arg1)
/-- The targets. -/
abbrev argT (c : Dev nD) : FVec Ideal S8192x1024 .f32 := m ((c.tc : Thread nD τ).loc main_arg2)

/-- The gain as one row. -/
theorem entry_g (c : Dev nD) (d : Fin 1024) :
    (V m c main_v0 : S1x1024.Idx → EReal) (ix2 0 d) = argG m c (ix1 d) := by
  unfold V
  after_results
  pointwise

/-- Which block every window takes at every grid point. -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![t.val, 0]
    ∧ win0_5.index t = ![0, 0] :=
  (by decide +kernel : ∀ t : Fin grid0.N, _)

/-- The tile of rows a grid point works on. -/
def sOf (t : Fin cfg0.N) : Fin 16 := ⟨t.val, lt_of_lt_of_eq t.isLt N_0⟩

theorem blk0 (c : Dev nD) (t : Fin cfg0.N) (r : Fin 512) (d : Fin 1024) :
    (iblk m c 0 t : S512x1024.Idx → EReal) (ix2 r d) = argX m c (ix2 (Tile.row₅ (sOf t) r) d) := by
  blk_point [iblk, V, idx_val t]
  all_goals rfl

theorem blk1 (c : Dev nD) (t : Fin cfg0.N) (d : Fin 1024) :
    (iblk m c 1 t : S1x1024.Idx → EReal) (ix2 0 d) = argG m c (ix1 d) := by
  rw [← entry_g]
  blk_ext [iblk, idx_val t]
  all_goals rfl

theorem blk2 (c : Dev nD) (t : Fin cfg0.N) (r : Fin 512) (d : Fin 1024) :
    (iblk m c 2 t : S512x1024.Idx → EReal) (ix2 r d) = argT m c (ix2 (Tile.row₅ (sOf t) r) d) := by
  blk_point [iblk, V, idx_val t]
  all_goals rfl

/-- Row `i` before the norm. -/
def rowX (c : Dev nD) (i : Fin 8192) : Fin 1024 → EReal := fun k => argX m c (ix2 i k)
/-- The gain. -/
def rowG (c : Dev nD) : Fin 1024 → EReal := fun k => argG m c (ix1 k)

/-- The error at entry `(i, d)`. -/
def err (c : Dev nD) (i : Fin 8192) (d : Fin 1024) : EReal :=
  argX m c (ix2 i d) * Rms.scale (rowX m c i) * argG m c (ix1 d) - argT m c (ix2 i d)

/-- Entry `(i, d)` of the gradient of the normed rows. -/
def dh (c : Dev nD) (i : Fin 8192) (d : Fin 1024) : EReal := err m c i d * Loss.w

/-- The error at the entries of a grid point's rows. -/
abbrev errs (c : Dev nD) (t : Fin cfg0.N) : FVec Ideal S512x1024 .f32 := k0_pay7 (iblk m c 0 t) (iblk m c 1 t) (iblk m c 2 t)

theorem row_at (c : Dev nD) (t : Fin cfg0.N) (r : Fin 512) :
    (fun k : Fin 1024 => (iblk m c 0 t : S512x1024.Idx → EReal) (ix2 r k)) = rowX m c (Tile.row₅ (sOf t) r) :=
  funext fun k => blk0 m c t r k

theorem err_at (c : Dev nD) (t : Fin cfg0.N) (r : Fin 512) (d : Fin 1024) :
    errs m c t (ix2 r d) = err m c (Tile.row₅ (sOf t) r) d := by
  refine (pay7_apply _ _ _ r d).trans ?_
  rw [row_at, blk0, blk1, blk2]
  rfl

theorem dx_at (c : Dev nD) (t : Fin cfg0.N) (r : Fin 512) (d : Fin 1024) :
    k0_pay3 (F := Ideal) (iblk m c 0 t) (errs m c t) (k0_pay9 (iblk m c 1 t)) (ix2 r d)
      = Rms.dx (rowX m c (Tile.row₅ (sOf t) r)) (rowG m c) (dh m c (Tile.row₅ (sOf t) r)) d := by
  refine (pay3_apply _ _ _ r d).trans ?_
  have e2 : (fun k : Fin 1024 => (iblk m c 1 t : S1x1024.Idx → EReal) (ix2 0 k)) = rowG m c := funext fun k => blk1 m c t k
  have e3 : (fun k : Fin 1024 => errs m c t (ix2 r k) * Loss.w) = dh m c (Tile.row₅ (sOf t) r) :=
    funext fun k => congrArg (· * Loss.w) (err_at m c t r k)
  rw [row_at, e2, e3]

/-- Entry `(i, d)` of the gradient of the rows. -/
def dx (c : Dev nD) (i : Fin 8192) (d : Fin 1024) : EReal := Rms.dx (rowX m c i) (rowG m c) (dh m c i) d

theorem out4 (c : Dev nD) (t : Fin cfg0.N) (r : Fin 512) (d : Fin 1024) :
    ((outsAt0 m c t.val t.isLt).2.1 : S512x1024.Idx → EReal) (ix2 r d) = dx m c (Tile.row₅ (sOf t) r) d := by
  by_cases h : t.val % 16 = 0
  · rw [outsAt0_A m c t h]
    frame_out
    exact dx_at m c t r d
  · rw [outsAt0_B m c t h]
    frame_out
    exact dx_at m c t r d

theorem final_4 (c : Dev nD) : (dats m 0 c).arrAt 4 cfg0.N = (fun j => dx m c (j 0) (j 1) : S8192x1024.Idx → EReal) := by
  refine (dats m 0 c).arrAt_eq_of_covers 4 _ (by decide +kernel) fun t hf y => ?_
  blk_simp; rw [after0_4]
  obtain ⟨r, u, hy⟩ : ∃ (r : Fin 512) (u : Fin 1024), y = (ix2 r u : S512x1024.Idx) := ⟨y 0, y 1, eq_ix2 (y : S512x1024.Idx)⟩
  subst hy
  refine (out4 m c t r u).trans ?_
  refine congrArg₂ (dx m c) (Fin.ext ?_) (Fin.ext ?_)
  all_goals blk_simp [idx_val t]
  all_goals rfl

/-! ## The gradient of the gain -/

/-- One tile of rows of the gradient of the gain. -/
def gtile (c : Dev nD) (s : Fin 16) (d : Fin 1024) : EReal :=
  ∑ r : Fin 512, dh m c (Tile.row₅ s r) d * argX m c (ix2 (Tile.row₅ s r) d) * Rms.scale (rowX m c (Tile.row₅ s r))

theorem dg_at (c : Dev nD) (t : Fin cfg0.N) (A : FVec Ideal S1x1024 .f32) (d : Fin 1024) :
    k0_pay4 (F := Ideal) (iblk m c 0 t) (errs m c t) A (ix2 0 d) = A (ix2 0 d) + gtile m c (sOf t) d := by
  refine (pay4_apply _ _ _ d).trans (congrArg (A (ix2 0 d) + ·) (Finset.sum_congr rfl fun r _ => ?_))
  rw [row_at, err_at, blk0]
  rfl

theorem gacc (c : Dev nD) (t : Fin cfg0.N) (ht : t.val % 16 = 15) (d : Fin 1024) :
    ((outsAt0 m c t.val t.isLt).2.2 : S1x1024.Idx → EReal) (ix2 0 d)
      = ∑ s : Fin 16, gtile m c (sOf ⟨16 * (t.val / 16) + s.val, Pipeline.run_point_lt_of_flush t ht s⟩) d := by
  rw [Pipeline.eq_sum_fin_of_reset_step_apply_of_flush (fun n h => ((outsAt0 m c n h).2.2 : S1x1024.Idx → EReal)) 16
     (fun _ => 0) (fun t j => gtile m c (sOf t) (j 1)) ?_ ?_ t ht]
  · exact zero_add _
  · intro t h j
    obtain ⟨d, rfl⟩ : ∃ d : Fin 1024, j = ix2 0 d :=
      ⟨j 1, (eq_ix2 j).trans (congrArg (fun z : Fin 1 => (ix2 z (j 1) : S1x1024.Idx)) (Subsingleton.elim _ _))⟩
    rw [outsAt0_A m c t h]; frame_out
    refine (dg_at m c t _ d).trans ?_
    pointwise [k0_pay6]
  · intro t h j
    obtain ⟨d, rfl⟩ : ∃ d : Fin 1024, j = ix2 0 d :=
      ⟨j 1, (eq_ix2 j).trans (congrArg (fun z : Fin 1 => (ix2 z (j 1) : S1x1024.Idx)) (Subsingleton.elim _ _))⟩
    rw [outsAt0_B m c t h]; frame_out
    exact dg_at m c t _ d

/-- Entry `d` of the gradient of the gain. -/
def dg (c : Dev nD) (d : Fin 1024) : EReal :=
  ∑ i : Fin 8192, dh m c i d * argX m c (ix2 i d) * Rms.scale (rowX m c i)

theorem out5 (c : Dev nD) (t : Fin cfg0.N) (ht : t.val % 16 = 15) (d : Fin 1024) :
    ((outsAt0 m c t.val t.isLt).2.2 : S1x1024.Idx → EReal) (ix2 0 d) = dg m c d := by
  refine (gacc m c t ht d).trans ?_
  have hN : t.val < 16 := lt_of_lt_of_eq t.isLt N_0
  refine Eq.trans (Finset.sum_congr rfl fun s _ => ?_) (Tile.sum_row₅ fun i => dh m c i d * argX m c (ix2 i d) * Rms.scale (rowX m c i))
  exact congrArg (gtile m c · d) (Fin.ext (by show 16 * (t.val / 16) + s.val = s.val; omega))

theorem final_5 (c : Dev nD) : (dats m 0 c).arrAt 5 cfg0.N = (fun j => dg m c (j 1) : S1x1024.Idx → EReal) := by
  refine (dats m 0 c).arrAt_eq_of_covers 5 _ (by decide +kernel) fun t hf y => ?_
  blk_simp; rw [after0_5]
  obtain ⟨d, hy⟩ : ∃ d : Fin 1024, y = (ix2 0 d : S1x1024.Idx) :=
    ⟨y 1, (eq_ix2 (y : S1x1024.Idx)).trans (congrArg (fun z : Fin 1 => (ix2 z (y 1) : S1x1024.Idx)) (Subsingleton.elim _ _))⟩
  subst hy
  refine (out5 m c t ((flush0_5 t).mp hf) d).trans ?_
  refine congrArg (dg m c) (Fin.ext ?_)
  blk_simp [idx_val t]
  all_goals rfl

/-! ## The loss -/

/-- The sum of the squares of row `i`'s errors. -/
def sq (c : Dev nD) (i : Fin 8192) : EReal := ∑ k : Fin 1024, err m c i k * err m c i k

theorem sq_nonneg (c : Dev nD) (i : Fin 8192) : 0 ≤ sq m c i := Finset.sum_nonneg fun k _ => Rms.sq_nonneg _

/-- One tile's share of the loss. -/
def ltile (c : Dev nD) (s : Fin 16) : EReal := Loss.hf * (∑ r : Fin 512, sq m c (Tile.row₅ s r)) * Loss.w

theorem loss_at (c : Dev nD) (t : Fin cfg0.N) (A : FVec Ideal S8x128 .f32) (p : Fin 8) (q : Fin 128) :
    k0_pay8 (F := Ideal) (iblk m c 0 t) (iblk m c 1 t) (iblk m c 2 t) A (ix2 p q) = A (ix2 p q) + ltile m c (sOf t) := by
  refine (pay8_apply _ _ _ _ p q).trans ?_
  have e : (∑ r : Fin 512, ∑ k : Fin 1024, errs m c t (ix2 r k) * errs m c t (ix2 r k)) = ∑ r : Fin 512, sq m c (Tile.row₅ (sOf t) r) :=
    Finset.sum_congr rfl fun r _ => Finset.sum_congr rfl fun k _ => by rw [err_at]
  exact congrArg (fun z => A (ix2 p q) + Loss.hf * z * Loss.w) e

theorem lacc (c : Dev nD) (t : Fin cfg0.N) (ht : t.val % 16 = 15) (p : Fin 8) (q : Fin 128) :
    ((outsAt0 m c t.val t.isLt).1 : S8x128.Idx → EReal) (ix2 p q)
      = ∑ s : Fin 16, ltile m c (sOf ⟨16 * (t.val / 16) + s.val, Pipeline.run_point_lt_of_flush t ht s⟩) := by
  rw [Pipeline.eq_sum_fin_of_reset_step_apply_of_flush (fun n h => ((outsAt0 m c n h).1 : S8x128.Idx → EReal)) 16
     (fun _ => 0) (fun t j => ltile m c (sOf t)) ?_ ?_ t ht]
  · exact zero_add _
  · intro t h j
    obtain ⟨p, q, rfl⟩ : ∃ (p : Fin 8) (q : Fin 128), j = ix2 p q := ⟨j 0, j 1, eq_ix2 j⟩
    rw [outsAt0_A m c t h]; frame_out
    refine (loss_at m c t _ p q).trans ?_
    pointwise [k0_pay5]
  · intro t h j
    obtain ⟨p, q, rfl⟩ : ∃ (p : Fin 8) (q : Fin 128), j = ix2 p q := ⟨j 0, j 1, eq_ix2 j⟩
    rw [outsAt0_B m c t h]; frame_out
    exact loss_at m c t _ p q

/-- The loss. -/
def loss (c : Dev nD) : EReal := Loss.hf * ∑ i : Fin 8192, Ideal.div (sq m c i) Rms.width

theorem out3 (c : Dev nD) (t : Fin cfg0.N) (ht : t.val % 16 = 15) (p : Fin 8) (q : Fin 128) :
    ((outsAt0 m c t.val t.isLt).1 : S8x128.Idx → EReal) (ix2 p q) = loss m c := by
  refine (lacc m c t ht p q).trans ?_
  have hN : t.val < 16 := lt_of_lt_of_eq t.isLt N_0
  refine Eq.trans (Finset.sum_congr rfl fun s _ => ?_) (Loss.shares (sq m c) (sq_nonneg m c))
  exact congrArg (ltile m c) (Fin.ext (by show 16 * (t.val / 16) + s.val = s.val; omega))

theorem final_3 (c : Dev nD) : (dats m 0 c).arrAt 3 cfg0.N = (fun _ => loss m c : S8x128.Idx → EReal) := by
  refine (dats m 0 c).arrAt_eq_of_covers 3 _ (by decide +kernel) fun t hf y => ?_
  blk_simp; rw [after0_3]
  obtain ⟨p, q, hy⟩ : ∃ (p : Fin 8) (q : Fin 128), y = (ix2 p q : S8x128.Idx) := ⟨y 0, y 1, eq_ix2 (y : S8x128.Idx)⟩
  subst hy
  exact out3 m c t ((flush0_3 t).mp hf) p q

end Cert.LossHeadIdeal.Value
end
-- ==== Proof.LossHead.Claim.lean ====
module

public import proofs.«01_k».proof.Defs
public import proofs.«01_k».proof.Proof.LossHead.Value
public import proofs.«01_k».proof.Proof.Gen.LossHeadRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The loss and its gradient: the call's results are the reference's -/

namespace Cert.Proof.LossHead
open Cert.LossHeadRefIdeal Cert.LossHeadRefIdeal.Read

section Entries

variable (x : FVec Ideal S8192x1024 .f32) (g : FVec Ideal S1024 .f32) (t : FVec Ideal S8192x1024 .f32)

theorem ms_eq (i : Fin 8192) : val_main_v6 (F := Ideal) x (ix2 i 0) = Rms.ms fun k => x (ix2 i k) := by
  pointwise [val_main_v6, val_main_v5, val_main_v4, val_main_v3, val_main_v2, val_main_v1, val_main_v0, val_main_cst, val_main_cst_0, val_main_cst_1, Rms.ms]

theorem scale_eq (i : Fin 8192) : val_main_v7 (F := Ideal) x (ix2 i 0) = Rms.scale fun k => x (ix2 i k) := by
  rw [Rms.scale, ← ms_eq]
  pointwise [val_main_v7]

/-- The error at an entry. -/
def err (i : Fin 8192) (d : Fin 1024) : EReal := x (ix2 i d) * (Rms.scale fun k => x (ix2 i k)) * g (ix1 d) - t (ix2 i d)

theorem err_eq (i : Fin 8192) (d : Fin 1024) : val_main_v16 (F := Ideal) x g t (ix2 i d) = err x g t i d := by
  rw [err, ← scale_eq]
  pointwise [val_main_v16, val_main_v15, val_main_v14, val_main_v13, val_main_v12, val_main_v11]

/-- The loss. -/
theorem loss_eq (p : Fin 8) (q : Fin 128) : val_main_v51 (F := Ideal) x g t (ix2 p q)
    = Loss.hf * ∑ i : Fin 8192, Ideal.div (∑ k : Fin 1024, err x g t i k * err x g t i k) Rms.width := by
  simp only [← err_eq]
  pointwise [val_main_v51, val_main_v24, val_main_v23, val_main_v22, val_main_v21, val_main_v20, val_main_v17,
    val_main_cst_4, val_main_cst_5, val_main_cst_6, val_main_cst_7]

/-- What the mean of a square puts before the error is the reciprocal of the width. -/
theorem factor : Ideal.div (Loss.hf * Ideal.ofBits .f32 0x3F800000#32) Rms.width * (Ideal.ofBits .f32 0x40000000#32) = Loss.w := by
  have h1 : Ideal.ofBits .f32 0x3F800000#32 = ((1 : ℝ) : EReal) := by
    simp [Ideal.ofBits, Ideal.ieee]
    try rw [← EReal.coe_mul]
    try norm_num
  have h2 : Ideal.ofBits .f32 0x40000000#32 = ((2 : ℝ) : EReal) := by
    simp [Ideal.ofBits, Ideal.ieee]
    try rw [← EReal.coe_mul]
    try norm_num
  rw [h1, h2, Loss.hf_eq, Loss.w_eq, Rms.width_eq, Ideal.div_coe (by norm_num)]
  norm_cast
  norm_num

/-- The gradient of the normed rows. -/
theorem dh_eq (i : Fin 8192) (d : Fin 1024) : val_main_v30 (F := Ideal) x g t (ix2 i d) = err x g t i d * Loss.w := by
  rw [← factor, mul_comm (err x g t i d), mul_assoc, ← err_eq]
  pointwise [val_main_v30, val_main_v29, val_main_v28, val_main_v27, val_main_v26, val_main_v25, val_main_v19, val_main_v18,
    val_main_cst_3, val_main_cst_8, val_main_cst_9, val_main_cst_10]

theorem half_eq (i : Fin 8192) (d : Fin 1024) : val_main_v46 (F := Ideal) x g t (ix2 i d)
    = Rms.half (fun k => x (ix2 i k)) (fun k => g (ix1 k)) (fun k => err x g t i k * Loss.w) := by
  rw [Rms.half, ← ms_eq, ← scale_eq]
  simp only [← dh_eq]
  pointwise [val_main_v46, val_main_v45, val_main_v44, val_main_v43, val_main_v42, val_main_v39, val_main_v38, val_main_v37, val_main_v35,
    val_main_v34, val_main_v13, val_main_v10, val_main_v9, val_main_v8,
    val_main_cst_2, val_main_cst_13, val_main_cst_14, val_main_cst_15]
  exact Fin.sum_univ_one _

/-- The gradient of the rows. -/
theorem dx_eq (i : Fin 8192) (d : Fin 1024) : val_main_v50 (F := Ideal) x g t (ix2 i d)
    = Rms.dx (fun k => x (ix2 i k)) (fun k => g (ix1 k)) (fun k => err x g t i k * Loss.w) d := by
  have h := Rms.dx_eq (fun k => x (ix2 i k)) (fun k => g (ix1 k)) (fun k => err x g t i k * Loss.w) 0 d
  rw [zero_add, zero_add] at h
  rw [← h, ← half_eq x g t i d, ← scale_eq, ← dh_eq]
  pointwise [val_main_v50, val_main_v49, val_main_v48, val_main_v47, val_main_v41, val_main_v40, val_main_v35, val_main_v34, val_main_v13]

/-- The gradient of the gain. -/
theorem dg_eq (d : Fin 1024) : val_main_v52 (F := Ideal) x g t (ix2 0 d)
    = ∑ i : Fin 8192, err x g t i d * Loss.w * x (ix2 i d) * Rms.scale fun k => x (ix2 i k) := by
  simp only [← scale_eq, ← dh_eq]
  pointwise [val_main_v52, val_main_v36, val_main_v33, val_main_v32, val_main_v31, val_main_v12, val_main_v11,
    val_main_cst_11, val_main_cst_12]
  exact (Fin.sum_univ_one _).trans (Rms.sum_turn _ _ _)

end Entries

variable (m : (ℓ : Loc Cert.LossHeadIdeal.nD Cert.LossHeadIdeal.τ Cert.LossHeadIdeal.sig) → Buf (Elt Ideal) ℓ) (c : Dev Cert.LossHeadIdeal.nD)

/-- The loss is the same. -/
theorem loss_same : val_main_v51 (F := Ideal) (LossHeadIdeal.Value.argX m c) (LossHeadIdeal.Value.argG m c) (LossHeadIdeal.Value.argT m c)
    = (LossHeadIdeal.Gen.dats m 0 c).arrAt 3 LossHeadIdeal.cfg0.N := by
  rw [LossHeadIdeal.Value.final_3]
  funext j
  idx_vars j
  exact loss_eq _ _ _ j0 j1

/-- The gradient of the rows is the same. -/
theorem dx_same : val_main_v50 (F := Ideal) (LossHeadIdeal.Value.argX m c) (LossHeadIdeal.Value.argG m c) (LossHeadIdeal.Value.argT m c)
    = (LossHeadIdeal.Gen.dats m 0 c).arrAt 4 LossHeadIdeal.cfg0.N := by
  rw [LossHeadIdeal.Value.final_4]
  funext j
  idx_vars j
  exact dx_eq _ _ _ j0 j1

/-- The gradient of the gain is the same. -/
theorem dg_same : val_main_v52 (F := Ideal) (LossHeadIdeal.Value.argX m c) (LossHeadIdeal.Value.argG m c) (LossHeadIdeal.Value.argT m c)
    = (LossHeadIdeal.Gen.dats m 0 c).arrAt 5 LossHeadIdeal.cfg0.N := by
  rw [LossHeadIdeal.Value.final_5]
  funext j
  obtain ⟨d, rfl⟩ : ∃ d : Fin 1024, j = ix2 0 d :=
    ⟨j 1, (eq_ix2 j).trans (congrArg (fun z : Fin 1 => (ix2 z (j 1) : S1x1024.Idx)) (Subsingleton.elim _ _))⟩
  exact dg_eq _ _ _ d

/-- The call and its reference leave the same three results. -/
theorem alg : Cert.algebraic_LossHeadIdeal_LossHeadRefIdeal (hLossHeadIdeal := Cert.LossHeadIdeal.Gen.facts)
    (hLossHeadRefIdeal := Cert.LossHeadRefIdeal.Gen.facts) := by
  pair_intro
  · run_from Cert.LossHeadIdeal.Value.run_blocks m g
  · run_from Cert.LossHeadRefIdeal.Value.run m' g'
    · exact (val_main_v51_eq _ _ _).trans (loss_same m c)
    · obtain ⟨e0, e1, e2⟩ := hagree c
      rw [val_main_v50_eq, e0, e1, e2]
      exact dx_same m c
    · exact (val_main_v52_eq _ _ _).trans (dg_same m c)

/-- The reference, which has host lines only, leaves its arguments and every counter as they were. -/
theorem refFrame : Cert.quiescent_LossHeadRefIdeal (hLossHeadRefIdeal := Cert.LossHeadRefIdeal.Gen.facts) := fun m ρ _ =>
  θ_run_mono (Cert.LossHeadRefIdeal.Value.run m ρ) fun r h =>
    ⟨fun c => (h c).2.2.2, sem_eq_zero_of_no_sems (by decide) r.2⟩

end Cert.Proof.LossHead
end
-- ==== Proof.DwMix.Value.lean ====
module

public import proofs.«01_k».proof.Proof.Gen.DwMixIdeal.Value
public import proofs.«01_k».proof.Proof.Tiles
public import Idealize.ShloMosaic.Lib.Pipeline.ValueKit
public import Idealize.ShloMosaic.Lib.Claim
public import Idealize.ShloMosaic.Lib.WritesUnit

@[expose] public section

set_option maxRecDepth 16384
noncomputable section
open Idealize.ShloMosaic Idealize.ShloMosaic.TcCoe Idealize.SL.Sem
open Idealize.ShloMosaic.Pipeline (Dat)

/-! # What the mixing weights' gradient call leaves in its four result arrays -/

namespace Tile

/-- Entry `b` of block `s` of eight blocks of 256. -/
def at256 (s : Fin 8) (b : Fin 256) : Fin 2048 := ⟨s.val * 256 + b.val, by omega⟩
/-- Entry `b` of block `s` of eight blocks of 128. -/
def at128 (s : Fin 8) (b : Fin 128) : Fin 1024 := ⟨s.val * 128 + b.val, by omega⟩

end Tile

namespace Cert.DwMixIdeal.Value
open Cert.DwMixIdeal Cert.DwMixIdeal.Gen

/-! ## The body's arithmetic, at one entry -/

theorem pay41_apply (c : FVec Ideal S512x2048 .f32) (a : FVec Ideal S512x512 .bf16) (b : FVec Ideal S512x2048 .bf16) (d : Fin 512) (u : Fin 2048) :
    k0_pay41 (F := Ideal) c a b (ix2 d u) = c (ix2 d u) + ∑ r : Fin 512, a (ix2 r d) * b (ix2 r u) := by
  pointwise [k0_pay41]

theorem pay42_apply (c : FVec Ideal S512x1024 .f32) (a : FVec Ideal S512x512 .bf16) (b : FVec Ideal S512x1024 .bf16) (d : Fin 512) (u : Fin 1024) :
    k0_pay42 (F := Ideal) c a b (ix2 d u) = c (ix2 d u) + ∑ r : Fin 512, a (ix2 r d) * b (ix2 r u) := by
  pointwise [k0_pay42]

theorem pay43_apply (c : FVec Ideal S512x1024 .f32) (a : FVec Ideal S512x512 .bf16) (b : FVec Ideal S512x1024 .bf16) (d : Fin 512) (u : Fin 1024) :
    k0_pay43 (F := Ideal) c a b (ix2 d u) = c (ix2 d u) + ∑ r : Fin 512, a (ix2 r d) * b (ix2 r u) := by
  pointwise [k0_pay43]

theorem pay1_apply (c : FVec Ideal S1024x1024 .f32) (a : FVec Ideal S512x1024 .bf16) (b : FVec Ideal S512x1024 .f32) (d : Fin 1024) (u : Fin 1024) :
    k0_pay1 (F := Ideal) c a b (ix2 d u) = c (ix2 d u) + ∑ r : Fin 512, a (ix2 r d) * b (ix2 r u) := by
  pointwise [k0_pay1]

/-! ## The arrays as the call finds them -/

variable (m : (ℓ : Loc nD τ sig) → Buf (Elt Ideal) ℓ)

/-- The state-space outputs. -/
abbrev arg0 (c : Dev nD) : FVec Ideal S8192x512 .bf16 := m ((c.tc : Thread nD τ).loc main_arg0)
/-- Their gradients' rows. -/
abbrev arg1 (c : Dev nD) : FVec Ideal S8192x2048 .bf16 := m ((c.tc : Thread nD τ).loc main_arg1)
/-- The attention outputs. -/
abbrev arg2 (c : Dev nD) : FVec Ideal S8192x512 .bf16 := m ((c.tc : Thread nD τ).loc main_arg2)
/-- The gradients of the projected attention outputs. -/
abbrev arg3 (c : Dev nD) : FVec Ideal S8192x1024 .bf16 := m ((c.tc : Thread nD τ).loc main_arg3)
/-- The convolved rows. -/
abbrev arg4 (c : Dev nD) : FVec Ideal S8192x512 .bf16 := m ((c.tc : Thread nD τ).loc main_arg4)
/-- The gradients of the projected convolved rows. -/
abbrev arg5 (c : Dev nD) : FVec Ideal S8192x1024 .bf16 := m ((c.tc : Thread nD τ).loc main_arg5)
/-- The merged rows. -/
abbrev arg6 (c : Dev nD) : FVec Ideal S8192x1024 .bf16 := m ((c.tc : Thread nD τ).loc main_arg6)
/-- The gradients of the rows. -/
abbrev arg7 (c : Dev nD) : FVec Ideal S8192x1024 .f32 := m ((c.tc : Thread nD τ).loc main_arg7)

/-- Which block every window takes at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0, 0]
    ∧ win0_9.index t = ![0, 0, 0]
    ∧ win0_10.index t = ![0, 0, 0]
    ∧ win0_11.index t = ![0, 0, 0] :=
  (by decide +kernel : ∀ t : Fin grid0.N, _)

/-- The tile of rows a grid point works on. -/
def sOf (t : Fin cfg0.N) : Fin 16 := ⟨t.val, lt_of_lt_of_eq t.isLt N_0⟩

theorem blk0 (c : Dev nD) (t : Fin cfg0.N) (r : Fin 512) (d : Fin 512) :
    (iblk m c 0 t : S512x512.Idx → EReal) (ix2 r d) = arg0 m c (ix2 (Tile.row₅ (sOf t) r) d) := by
  blk_point [iblk, V, idx_val t]
  all_goals rfl

theorem blk1 (c : Dev nD) (t : Fin cfg0.N) (r : Fin 512) (d : Fin 2048) :
    (iblk m c 1 t : S512x2048.Idx → EReal) (ix2 r d) = arg1 m c (ix2 (Tile.row₅ (sOf t) r) d) := by
  blk_point [iblk, V, idx_val t]
  all_goals rfl

theorem blk2 (c : Dev nD) (t : Fin cfg0.N) (r : Fin 512) (d : Fin 512) :
    (iblk m c 2 t : S512x512.Idx → EReal) (ix2 r d) = arg2 m c (ix2 (Tile.row₅ (sOf t) r) d) := by
  blk_point [iblk, V, idx_val t]
  all_goals rfl

theorem blk3 (c : Dev nD) (t : Fin cfg0.N) (r : Fin 512) (d : Fin 1024) :
    (iblk m c 3 t : S512x1024.Idx → EReal) (ix2 r d) = arg3 m c (ix2 (Tile.row₅ (sOf t) r) d) := by
  blk_point [iblk, V, idx_val t]
  all_goals rfl

theorem blk4 (c : Dev nD) (t : Fin cfg0.N) (r : Fin 512) (d : Fin 512) :
    (iblk m c 4 t : S512x512.Idx → EReal) (ix2 r d) = arg4 m c (ix2 (Tile.row₅ (sOf t) r) d) := by
  blk_point [iblk, V, idx_val t]
  all_goals rfl

theorem blk5 (c : Dev nD) (t : Fin cfg0.N) (r : Fin 512) (d : Fin 1024) :
    (iblk m c 5 t : S512x1024.Idx → EReal) (ix2 r d) = arg5 m c (ix2 (Tile.row₅ (sOf t) r) d) := by
  blk_point [iblk, V, idx_val t]
  all_goals rfl

theorem blk6 (c : Dev nD) (t : Fin cfg0.N) (r : Fin 512) (d : Fin 1024) :
    (iblk m c 6 t : S512x1024.Idx → EReal) (ix2 r d) = arg6 m c (ix2 (Tile.row₅ (sOf t) r) d) := by
  blk_point [iblk, V, idx_val t]
  all_goals rfl

theorem blk7 (c : Dev nD) (t : Fin cfg0.N) (r : Fin 512) (d : Fin 1024) :
    (iblk m c 7 t : S512x1024.Idx → EReal) (ix2 r d) = arg7 m c (ix2 (Tile.row₅ (sOf t) r) d) := by
  blk_point [iblk, V, idx_val t]
  all_goals rfl

/-! ## Accumulator 0 -/

/-- One tile of rows of the product. -/
def term0 (c : Dev nD) (s : Fin 16) (d : Fin 512) (u : Fin 2048) : EReal :=
  ∑ r : Fin 512, arg0 m c (ix2 (Tile.row₅ s r) d) * arg1 m c (ix2 (Tile.row₅ s r) u)

theorem step0 (c : Dev nD) (t : Fin cfg0.N) (X : FVec Ideal S512x2048 .f32) (d : Fin 512) (u : Fin 2048) :
    k0_pay41 (F := Ideal) X (iblk m c 0 t) (iblk m c 1 t) (ix2 d u) = X (ix2 d u) + term0 m c (sOf t) d u := by
  refine (pay41_apply _ _ _ d u).trans (congrArg (X (ix2 d u) + ·) (Finset.sum_congr rfl fun r _ => ?_))
  rw [blk0, blk1]

theorem acc0 (c : Dev nD) (t : Fin cfg0.N) (ht : t.val % 16 = 15) (a : Fin 512) (b : Fin 2048) :
    ((outsAt0 m c t.val t.isLt).2.2.2.2.1 : S512x2048.Idx → EReal) (ix2 a b)
      = ∑ s : Fin 16, term0 m c (sOf ⟨16 * (t.val / 16) + s.val, Pipeline.run_point_lt_of_flush t ht s⟩) a b := by
  rw [Pipeline.eq_sum_fin_of_reset_step_apply_of_flush (fun n h => ((outsAt0 m c n h).2.2.2.2.1 : S512x2048.Idx → EReal)) 16
     (fun _ => 0) (fun t j => term0 m c (sOf t) (j 0) (j 1)) ?_ ?_ t ht]
  · exact zero_add _
  · intro t h j
    idx_vars j
    rw [outsAt0_A m c t h (by omega)]; frame_out
    refine (step0 m c t _ j0 j1).trans ?_
    pointwise [k0_pay37]
  · intro t h j
    idx_vars j
    by_cases h1 : t.val % 16 = 15
    · rw [outsAt0_C m c t h h1]; frame_out
      exact (step0 m c t _ j0 j1).trans (congrArg (· + term0 m c (sOf t) j0 j1) (congrFun ((Memref.isWhole_whole _).read_unread _) _))
    · rw [outsAt0_B m c t h h1]; frame_out
      exact (step0 m c t _ j0 j1).trans (congrArg (· + term0 m c (sOf t) j0 j1) (congrFun ((Memref.isWhole_whole _).read_unread _) _))

/-- Entry `(d, u)` of the product. -/
def dw0 (c : Dev nD) (d : Fin 512) (u : Fin 2048) : EReal := ∑ i : Fin 8192, arg0 m c (ix2 i d) * arg1 m c (ix2 i u)

theorem full0 (c : Dev nD) (t : Fin cfg0.N) (ht : t.val % 16 = 15) (a : Fin 512) (b : Fin 2048) :
    ((outsAt0 m c t.val t.isLt).2.2.2.2.1 : S512x2048.Idx → EReal) (ix2 a b) = dw0 m c a b := by
  refine (acc0 m c t ht a b).trans ?_
  have hN : t.val < 16 := lt_of_lt_of_eq t.isLt N_0
  refine Eq.trans (Finset.sum_congr rfl fun s _ => ?_) (Tile.sum_row₅ fun i => arg0 m c (ix2 i a) * arg1 m c (ix2 i b))
  exact congrArg (term0 m c · a b) (Fin.ext (by show 16 * (t.val / 16) + s.val = s.val; omega))

/-! ## Accumulator 1 -/

/-- One tile of rows of the product. -/
def term1 (c : Dev nD) (s : Fin 16) (d : Fin 512) (u : Fin 1024) : EReal :=
  ∑ r : Fin 512, arg2 m c (ix2 (Tile.row₅ s r) d) * arg3 m c (ix2 (Tile.row₅ s r) u)

theorem step1 (c : Dev nD) (t : Fin cfg0.N) (X : FVec Ideal S512x1024 .f32) (d : Fin 512) (u : Fin 1024) :
    k0_pay42 (F := Ideal) X (iblk m c 2 t) (iblk m c 3 t) (ix2 d u) = X (ix2 d u) + term1 m c (sOf t) d u := by
  refine (pay42_apply _ _ _ d u).trans (congrArg (X (ix2 d u) + ·) (Finset.sum_congr rfl fun r _ => ?_))
  rw [blk2, blk3]

theorem acc1 (c : Dev nD) (t : Fin cfg0.N) (ht : t.val % 16 = 15) (a : Fin 512) (b : Fin 1024) :
    ((outsAt0 m c t.val t.isLt).2.2.2.2.2.1 : S512x1024.Idx → EReal) (ix2 a b)
      = ∑ s : Fin 16, term1 m c (sOf ⟨16 * (t.val / 16) + s.val, Pipeline.run_point_lt_of_flush t ht s⟩) a b := by
  rw [Pipeline.eq_sum_fin_of_reset_step_apply_of_flush (fun n h => ((outsAt0 m c n h).2.2.2.2.2.1 : S512x1024.Idx → EReal)) 16
     (fun _ => 0) (fun t j => term1 m c (sOf t) (j 0) (j 1)) ?_ ?_ t ht]
  · exact zero_add _
  · intro t h j
    idx_vars j
    rw [outsAt0_A m c t h (by omega)]; frame_out
    refine (step1 m c t _ j0 j1).trans ?_
    pointwise [k0_pay38]
  · intro t h j
    idx_vars j
    by_cases h1 : t.val % 16 = 15
    · rw [outsAt0_C m c t h h1]; frame_out
      exact (step1 m c t _ j0 j1).trans (congrArg (· + term1 m c (sOf t) j0 j1) (congrFun ((Memref.isWhole_whole _).read_unread _) _))
    · rw [outsAt0_B m c t h h1]; frame_out
      exact (step1 m c t _ j0 j1).trans (congrArg (· + term1 m c (sOf t) j0 j1) (congrFun ((Memref.isWhole_whole _).read_unread _) _))

/-- Entry `(d, u)` of the product. -/
def dw1 (c : Dev nD) (d : Fin 512) (u : Fin 1024) : EReal := ∑ i : Fin 8192, arg2 m c (ix2 i d) * arg3 m c (ix2 i u)

theorem full1 (c : Dev nD) (t : Fin cfg0.N) (ht : t.val % 16 = 15) (a : Fin 512) (b : Fin 1024) :
    ((outsAt0 m c t.val t.isLt).2.2.2.2.2.1 : S512x1024.Idx → EReal) (ix2 a b) = dw1 m c a b := by
  refine (acc1 m c t ht a b).trans ?_
  have hN : t.val < 16 := lt_of_lt_of_eq t.isLt N_0
  refine Eq.trans (Finset.sum_congr rfl fun s _ => ?_) (Tile.sum_row₅ fun i => arg2 m c (ix2 i a) * arg3 m c (ix2 i b))
  exact congrArg (term1 m c · a b) (Fin.ext (by show 16 * (t.val / 16) + s.val = s.val; omega))

/-! ## Accumulator 2 -/

/-- One tile of rows of the product. -/
def term2 (c : Dev nD) (s : Fin 16) (d : Fin 512) (u : Fin 1024) : EReal :=
  ∑ r : Fin 512, arg4 m c (ix2 (Tile.row₅ s r) d) * arg5 m c (ix2 (Tile.row₅ s r) u)

theorem step2 (c : Dev nD) (t : Fin cfg0.N) (X : FVec Ideal S512x1024 .f32) (d : Fin 512) (u : Fin 1024) :
    k0_pay43 (F := Ideal) X (iblk m c 4 t) (iblk m c 5 t) (ix2 d u) = X (ix2 d u) + term2 m c (sOf t) d u := by
  refine (pay43_apply _ _ _ d u).trans (congrArg (X (ix2 d u) + ·) (Finset.sum_congr rfl fun r _ => ?_))
  rw [blk4, blk5]

theorem acc2 (c : Dev nD) (t : Fin cfg0.N) (ht : t.val % 16 = 15) (a : Fin 512) (b : Fin 1024) :
    ((outsAt0 m c t.val t.isLt).2.2.2.2.2.2.1 : S512x1024.Idx → EReal) (ix2 a b)
      = ∑ s : Fin 16, term2 m c (sOf ⟨16 * (t.val / 16) + s.val, Pipeline.run_point_lt_of_flush t ht s⟩) a b := by
  rw [Pipeline.eq_sum_fin_of_reset_step_apply_of_flush (fun n h => ((outsAt0 m c n h).2.2.2.2.2.2.1 : S512x1024.Idx → EReal)) 16
     (fun _ => 0) (fun t j => term2 m c (sOf t) (j 0) (j 1)) ?_ ?_ t ht]
  · exact zero_add _
  · intro t h j
    idx_vars j
    rw [outsAt0_A m c t h (by omega)]; frame_out
    refine (step2 m c t _ j0 j1).trans ?_
    pointwise [k0_pay39]
  · intro t h j
    idx_vars j
    by_cases h1 : t.val % 16 = 15
    · rw [outsAt0_C m c t h h1]; frame_out
      exact (step2 m c t _ j0 j1).trans (congrArg (· + term2 m c (sOf t) j0 j1) (congrFun ((Memref.isWhole_whole _).read_unread _) _))
    · rw [outsAt0_B m c t h h1]; frame_out
      exact (step2 m c t _ j0 j1).trans (congrArg (· + term2 m c (sOf t) j0 j1) (congrFun ((Memref.isWhole_whole _).read_unread _) _))

/-- Entry `(d, u)` of the product. -/
def dw2 (c : Dev nD) (d : Fin 512) (u : Fin 1024) : EReal := ∑ i : Fin 8192, arg4 m c (ix2 i d) * arg5 m c (ix2 i u)

theorem full2 (c : Dev nD) (t : Fin cfg0.N) (ht : t.val % 16 = 15) (a : Fin 512) (b : Fin 1024) :
    ((outsAt0 m c t.val t.isLt).2.2.2.2.2.2.1 : S512x1024.Idx → EReal) (ix2 a b) = dw2 m c a b := by
  refine (acc2 m c t ht a b).trans ?_
  have hN : t.val < 16 := lt_of_lt_of_eq t.isLt N_0
  refine Eq.trans (Finset.sum_congr rfl fun s _ => ?_) (Tile.sum_row₅ fun i => arg4 m c (ix2 i a) * arg5 m c (ix2 i b))
  exact congrArg (term2 m c · a b) (Fin.ext (by show 16 * (t.val / 16) + s.val = s.val; omega))

/-! ## Accumulator 3 -/

/-- One tile of rows of the product. -/
def term3 (c : Dev nD) (s : Fin 16) (d : Fin 1024) (u : Fin 1024) : EReal :=
  ∑ r : Fin 512, arg6 m c (ix2 (Tile.row₅ s r) d) * arg7 m c (ix2 (Tile.row₅ s r) u)

theorem step3 (c : Dev nD) (t : Fin cfg0.N) (X : FVec Ideal S1024x1024 .f32) (d : Fin 1024) (u : Fin 1024) :
    k0_pay1 (F := Ideal) X (iblk m c 6 t) (iblk m c 7 t) (ix2 d u) = X (ix2 d u) + term3 m c (sOf t) d u := by
  refine (pay1_apply _ _ _ d u).trans (congrArg (X (ix2 d u) + ·) (Finset.sum_congr rfl fun r _ => ?_))
  rw [blk6, blk7]

theorem acc3 (c : Dev nD) (t : Fin cfg0.N) (ht : t.val % 16 = 15) (a : Fin 1024) (b : Fin 1024) :
    ((outsAt0 m c t.val t.isLt).2.2.2.2.2.2.2 : S1024x1024.Idx → EReal) (ix2 a b)
      = ∑ s : Fin 16, term3 m c (sOf ⟨16 * (t.val / 16) + s.val, Pipeline.run_point_lt_of_flush t ht s⟩) a b := by
  rw [Pipeline.eq_sum_fin_of_reset_step_apply_of_flush (fun n h => ((outsAt0 m c n h).2.2.2.2.2.2.2 : S1024x1024.Idx → EReal)) 16
     (fun _ => 0) (fun t j => term3 m c (sOf t) (j 0) (j 1)) ?_ ?_ t ht]
  · exact zero_add _
  · intro t h j
    idx_vars j
    rw [outsAt0_A m c t h (by omega)]; frame_out
    refine (step3 m c t _ j0 j1).trans ?_
    pointwise [k0_pay40]
  · intro t h j
    idx_vars j
    by_cases h1 : t.val % 16 = 15
    · rw [outsAt0_C m c t h h1]; frame_out
      exact (step3 m c t _ j0 j1).trans (congrArg (· + term3 m c (sOf t) j0 j1) (congrFun ((Memref.isWhole_whole _).read_unread _) _))
    · rw [outsAt0_B m c t h h1]; frame_out
      exact (step3 m c t _ j0 j1).trans (congrArg (· + term3 m c (sOf t) j0 j1) (congrFun ((Memref.isWhole_whole _).read_unread _) _))

/-- Entry `(d, u)` of the product. -/
def dw3 (c : Dev nD) (d : Fin 1024) (u : Fin 1024) : EReal := ∑ i : Fin 8192, arg6 m c (ix2 i d) * arg7 m c (ix2 i u)

theorem full3 (c : Dev nD) (t : Fin cfg0.N) (ht : t.val % 16 = 15) (a : Fin 1024) (b : Fin 1024) :
    ((outsAt0 m c t.val t.isLt).2.2.2.2.2.2.2 : S1024x1024.Idx → EReal) (ix2 a b) = dw3 m c a b := by
  refine (acc3 m c t ht a b).trans ?_
  have hN : t.val < 16 := lt_of_lt_of_eq t.isLt N_0
  refine Eq.trans (Finset.sum_congr rfl fun s _ => ?_) (Tile.sum_row₅ fun i => arg6 m c (ix2 i a) * arg7 m c (ix2 i b))
  exact congrArg (term3 m c · a b) (Fin.ext (by show 16 * (t.val / 16) + s.val = s.val; omega))

/-! ## What the last point cuts out of the accumulators -/

/-- A block of an array just written whole. -/
theorem cut_whole {K W p q : Nat} (v : View sig .tc .vmem (⟨2, ![K, W]⟩ : Shape) .f32) (Z : (⟨2, ![K, W]⟩ : Shape).Idx → EReal) (o o' : Nat)
    (inb : ∀ a, (![0, 0] : Fin 2 → Nat) a + (![K, W] : Fin 2 → Nat) a ≤ (⟨2, ![K, W]⟩ : Shape).size a)
    (inb' : ∀ a, (![o, o'] : Fin 2 → Nat) a + (![p, q] : Fin 2 → Nat) a ≤ (⟨2, ![K, W]⟩ : Shape).size a)
    (a : Fin p) (b : Fin q) (i : Fin K) (j : Fin W) (hi : i.val = o + a.val) (hj : j.val = o' + b.val) :
    (v.readCov (Val := Elt Ideal) [⟨Rect.unit (s := (⟨2, ![K, W]⟩ : Shape)) ![0, 0] ![K, W] inb, Z⟩]
      (Rect.unit (s := (⟨2, ![K, W]⟩ : Shape)) ![o, o'] ![p, q] inb').toLoadRect : (⟨2, ![p, q]⟩ : Shape).Idx → EReal) (ix2 a b) = Z (ix2 i j) := by
  refine (View.read_writes_cons_unit_of_mem (Val := Elt Ideal) v v.junk inb Z [] _ (ix2 i j) rfl fun c => ?_).trans rfl
  fin_cases c
  · show o + 1 * a.val = 0 + i.val
    omega
  · show o' + 1 * b.val = 0 + j.val
    omega

theorem out8 (c : Dev nD) (t : Fin cfg0.N) (ht : t.val % 16 = 15) (s : Fin 8) (a : Fin 512) (b : Fin 256) :
    ((outsAt0 m c t.val t.isLt).1 : S8x512x256.Idx → EReal) (ix3 s a b) = dw0 m c a (Tile.at256 s b) := by
  rw [← full0 m c t ht]
  rw [outsAt0_C m c t (by omega) ht]
  frame_out
  generalize (k0_pay41 (F := Ideal) _ _ _) = Z
  canon_tiles x h
  all_goals
    obtain ⟨y, z, rfl⟩ : ∃ (y : Fin 512) (z : Fin 256), x = ix3 0 y z :=
      ⟨x 1, x 2, (eq_ix3 x).trans (congrArg (fun i : Fin 1 => (ix3 i (x 1) (x 2) : S1x512x256.Idx)) (Subsingleton.elim _ _))⟩
    change s.val = _ at h0
    change b.val = z.val at h2
    pointwise [k0_pay3, k0_pay7, k0_pay11, k0_pay16, k0_pay20, k0_pay24, k0_pay25, k0_pay29, k0_pay34]
    exact cut_whole (View.whole cc0_scratch0) Z _ _ _ _ y z a _ (h1.trans (Nat.zero_add _).symm)
      (by show s.val * 256 + b.val = _ + z.val; omega)

theorem out9 (c : Dev nD) (t : Fin cfg0.N) (ht : t.val % 16 = 15) (s : Fin 8) (a : Fin 512) (b : Fin 128) :
    ((outsAt0 m c t.val t.isLt).2.1 : S8x512x128.Idx → EReal) (ix3 s a b) = dw1 m c a (Tile.at128 s b) := by
  rw [← full1 m c t ht]
  rw [outsAt0_C m c t (by omega) ht]
  frame_out
  generalize (k0_pay42 (F := Ideal) _ _ _) = Z
  canon_tiles x h
  all_goals
    obtain ⟨y, z, rfl⟩ : ∃ (y : Fin 512) (z : Fin 128), x = ix3 0 y z :=
      ⟨x 1, x 2, (eq_ix3 x).trans (congrArg (fun i : Fin 1 => (ix3 i (x 1) (x 2) : S1x512x128.Idx)) (Subsingleton.elim _ _))⟩
    change s.val = _ at h0
    change b.val = z.val at h2
    pointwise [k0_pay4, k0_pay8, k0_pay12, k0_pay13, k0_pay17, k0_pay21, k0_pay26, k0_pay30, k0_pay31, k0_pay35]
    exact cut_whole (View.whole cc0_scratch1) Z _ _ _ _ y z a _ (h1.trans (Nat.zero_add _).symm)
      (by show s.val * 128 + b.val = _ + z.val; omega)

theorem out10 (c : Dev nD) (t : Fin cfg0.N) (ht : t.val % 16 = 15) (s : Fin 8) (a : Fin 512) (b : Fin 128) :
    ((outsAt0 m c t.val t.isLt).2.2.1 : S8x512x128.Idx → EReal) (ix3 s a b) = dw2 m c a (Tile.at128 s b) := by
  rw [← full2 m c t ht]
  rw [outsAt0_C m c t (by omega) ht]
  frame_out
  generalize (k0_pay43 (F := Ideal) _ _ _) = Z
  canon_tiles x h
  all_goals
    obtain ⟨y, z, rfl⟩ : ∃ (y : Fin 512) (z : Fin 128), x = ix3 0 y z :=
      ⟨x 1, x 2, (eq_ix3 x).trans (congrArg (fun i : Fin 1 => (ix3 i (x 1) (x 2) : S1x512x128.Idx)) (Subsingleton.elim _ _))⟩
    change s.val = _ at h0
    change b.val = z.val at h2
    pointwise [k0_pay5, k0_pay9, k0_pay14, k0_pay18, k0_pay22, k0_pay27, k0_pay32, k0_pay36]
    exact cut_whole (View.whole cc0_scratch2) Z _ _ _ _ y z a _ (h1.trans (Nat.zero_add _).symm)
      (by show s.val * 128 + b.val = _ + z.val; omega)

theorem out11 (c : Dev nD) (t : Fin cfg0.N) (ht : t.val % 16 = 15) (s : Fin 8) (a : Fin 128) (b : Fin 1024) :
    ((outsAt0 m c t.val t.isLt).2.2.2.1 : S8x128x1024.Idx → EReal) (ix3 s a b) = dw3 m c (Tile.at128 s a) b := by
  rw [← full3 m c t ht]
  rw [outsAt0_C m c t (by omega) ht]
  frame_out
  generalize (k0_pay1 (F := Ideal) _ _ _) = Z
  canon_tiles x h
  all_goals
    obtain ⟨y, z, rfl⟩ : ∃ (y : Fin 128) (z : Fin 1024), x = ix3 0 y z :=
      ⟨x 1, x 2, (eq_ix3 x).trans (congrArg (fun i : Fin 1 => (ix3 i (x 1) (x 2) : S1x128x1024.Idx)) (Subsingleton.elim _ _))⟩
    change s.val = _ at h0
    change a.val = y.val at h1
    pointwise [k0_pay2, k0_pay6, k0_pay10, k0_pay15, k0_pay19, k0_pay23, k0_pay28, k0_pay33]
    exact cut_whole (View.whole cc0_scratch3) Z _ _ _ _ y z _ b
      (by show s.val * 128 + a.val = _ + y.val; omega) (h2.trans (Nat.zero_add _).symm)

theorem final_8 (c : Dev nD) : (dats m 0 c).arrAt 8 cfg0.N
    = (fun j => dw0 m c (j 1) (Tile.at256 (j 0) (j 2)) : S8x512x256.Idx → EReal) := by
  refine (dats m 0 c).arrAt_eq_of_covers 8 _ (by decide +kernel) fun t hf y => ?_
  blk_simp; rw [after0_8]
  obtain ⟨s, a, b, hy⟩ : ∃ (s : Fin 8) (a : Fin 512) (b : Fin 256), y = (ix3 s a b : S8x512x256.Idx) :=
    ⟨y 0, y 1, y 2, eq_ix3 (y : S8x512x256.Idx)⟩
  subst hy
  refine (out8 m c t ((flush0_8 t).mp hf) s a b).trans ?_
  have e : ∀ (s' : Fin 8) (a' : Fin 512) (b' : Fin 256), s = s' → a = a' → b = b' → dw0 m c a (Tile.at256 s b) = dw0 m c a' (Tile.at256 s' b') := by
    rintro _ _ _ rfl rfl rfl; rfl
  refine e _ _ _ (Fin.ext ?_) (Fin.ext ?_) (Fin.ext ?_)
  all_goals blk_simp [idx_val t]
  all_goals rfl

theorem final_9 (c : Dev nD) : (dats m 0 c).arrAt 9 cfg0.N
    = (fun j => dw1 m c (j 1) (Tile.at128 (j 0) (j 2)) : S8x512x128.Idx → EReal) := by
  refine (dats m 0 c).arrAt_eq_of_covers 9 _ (by decide +kernel) fun t hf y => ?_
  blk_simp; rw [after0_9]
  obtain ⟨s, a, b, hy⟩ : ∃ (s : Fin 8) (a : Fin 512) (b : Fin 128), y = (ix3 s a b : S8x512x128.Idx) :=
    ⟨y 0, y 1, y 2, eq_ix3 (y : S8x512x128.Idx)⟩
  subst hy
  refine (out9 m c t ((flush0_9 t).mp hf) s a b).trans ?_
  have e : ∀ (s' : Fin 8) (a' : Fin 512) (b' : Fin 128), s = s' → a = a' → b = b' → dw1 m c a (Tile.at128 s b) = dw1 m c a' (Tile.at128 s' b') := by
    rintro _ _ _ rfl rfl rfl; rfl
  refine e _ _ _ (Fin.ext ?_) (Fin.ext ?_) (Fin.ext ?_)
  all_goals blk_simp [idx_val t]
  all_goals rfl

theorem final_10 (c : Dev nD) : (dats m 0 c).arrAt 10 cfg0.N
    = (fun j => dw2 m c (j 1) (Tile.at128 (j 0) (j 2)) : S8x512x128.Idx → EReal) := by
  refine (dats m 0 c).arrAt_eq_of_covers 10 _ (by decide +kernel) fun t hf y => ?_
  blk_simp; rw [after0_10]
  obtain ⟨s, a, b, hy⟩ : ∃ (s : Fin 8) (a : Fin 512) (b : Fin 128), y = (ix3 s a b : S8x512x128.Idx) :=
    ⟨y 0, y 1, y 2, eq_ix3 (y : S8x512x128.Idx)⟩
  subst hy
  refine (out10 m c t ((flush0_10 t).mp hf) s a b).trans ?_
  have e : ∀ (s' : Fin 8) (a' : Fin 512) (b' : Fin 128), s = s' → a = a' → b = b' → dw2 m c a (Tile.at128 s b) = dw2 m c a' (Tile.at128 s' b') := by
    rintro _ _ _ rfl rfl rfl; rfl
  refine e _ _ _ (Fin.ext ?_) (Fin.ext ?_) (Fin.ext ?_)
  all_goals blk_simp [idx_val t]
  all_goals rfl

theorem final_11 (c : Dev nD) : (dats m 0 c).arrAt 11 cfg0.N
    = (fun j => dw3 m c (Tile.at128 (j 0) (j 1)) (j 2) : S8x128x1024.Idx → EReal) := by
  refine (dats m 0 c).arrAt_eq_of_covers 11 _ (by decide +kernel) fun t hf y => ?_
  blk_simp; rw [after0_11]
  obtain ⟨s, a, b, hy⟩ : ∃ (s : Fin 8) (a : Fin 128) (b : Fin 1024), y = (ix3 s a b : S8x128x1024.Idx) :=
    ⟨y 0, y 1, y 2, eq_ix3 (y : S8x128x1024.Idx)⟩
  subst hy
  refine (out11 m c t ((flush0_11 t).mp hf) s a b).trans ?_
  have e : ∀ (s' : Fin 8) (a' : Fin 128) (b' : Fin 1024), s = s' → a = a' → b = b' → dw3 m c (Tile.at128 s a) b = dw3 m c (Tile.at128 s' a') b' := by
    rintro _ _ _ rfl rfl rfl; rfl
  refine e _ _ _ (Fin.ext ?_) (Fin.ext ?_) (Fin.ext ?_)
  all_goals blk_simp [idx_val t]
  all_goals rfl

end Cert.DwMixIdeal.Value
end
-- ==== Proof.DwMix.Claim.lean ====
module

public import proofs.«01_k».proof.Defs
public import proofs.«01_k».proof.Proof.DwMix.Value
public import proofs.«01_k».proof.Proof.Gen.DwMixRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The mixing weights' gradients: the call's results are the reference's -/

namespace Cert.Proof.DwMix
open Cert.DwMixRefIdeal Cert.DwMixRefIdeal.Read

theorem ref0 (x : FVec Ideal S8192x512 .bf16) (y : FVec Ideal S8192x2048 .bf16) (s : Fin 8) (a : Fin 512) (b : Fin 256) :
    val_main_v8 (F := Ideal) x y (ix3 s a b) = ∑ i : Fin 8192, x (ix2 i a) * y (ix2 i (Tile.at256 s b)) := by
  pointwise [val_main_v8, val_main_v7, val_main_v6, val_main_v5, val_main_v4, val_main_v3, val_main_v2, val_main_v1, val_main_v0]
  exact Finset.sum_congr rfl fun i _ => mul_comm _ _

theorem ref1 (x : FVec Ideal S8192x512 .bf16) (y : FVec Ideal S8192x1024 .bf16) (s : Fin 8) (a : Fin 512) (b : Fin 128) :
    val_main_v17 (F := Ideal) x y (ix3 s a b) = ∑ i : Fin 8192, x (ix2 i a) * y (ix2 i (Tile.at128 s b)) := by
  pointwise [val_main_v17, val_main_v16, val_main_v15, val_main_v14, val_main_v13, val_main_v12, val_main_v11, val_main_v10, val_main_v9]
  exact Finset.sum_congr rfl fun i _ => mul_comm _ _

theorem ref2 (x : FVec Ideal S8192x512 .bf16) (y : FVec Ideal S8192x1024 .bf16) (s : Fin 8) (a : Fin 512) (b : Fin 128) :
    val_main_v26 (F := Ideal) x y (ix3 s a b) = ∑ i : Fin 8192, x (ix2 i a) * y (ix2 i (Tile.at128 s b)) := by
  pointwise [val_main_v26, val_main_v25, val_main_v24, val_main_v23, val_main_v22, val_main_v21, val_main_v20, val_main_v19, val_main_v18]
  exact Finset.sum_congr rfl fun i _ => mul_comm _ _

theorem ref3 (x : FVec Ideal S8192x1024 .bf16) (y : FVec Ideal S8192x1024 .f32) (s : Fin 8) (a : Fin 128) (b : Fin 1024) :
    val_main_v33 (F := Ideal) x y (ix3 s a b) = ∑ i : Fin 8192, x (ix2 i (Tile.at128 s a)) * y (ix2 i b) := by
  pointwise [val_main_v33, val_main_v32, val_main_v31, val_main_v30, val_main_v29, val_main_v28, val_main_v27]
  exact Finset.sum_congr rfl fun i _ => mul_comm _ _

variable (m : (ℓ : Loc Cert.DwMixIdeal.nD Cert.DwMixIdeal.τ Cert.DwMixIdeal.sig) → Buf (Elt Ideal) ℓ) (c : Dev Cert.DwMixIdeal.nD)

theorem same0 : val_main_v8 (F := Ideal) (DwMixIdeal.Value.arg0 m c) (DwMixIdeal.Value.arg1 m c)
    = (DwMixIdeal.Gen.dats m 0 c).arrAt 8 DwMixIdeal.cfg0.N := by
  rw [DwMixIdeal.Value.final_8]
  funext j
  idx_vars j
  exact ref0 _ _ j0 j1 j2

theorem same1 : val_main_v17 (F := Ideal) (DwMixIdeal.Value.arg2 m c) (DwMixIdeal.Value.arg3 m c)
    = (DwMixIdeal.Gen.dats m 0 c).arrAt 9 DwMixIdeal.cfg0.N := by
  rw [DwMixIdeal.Value.final_9]
  funext j
  idx_vars j
  exact ref1 _ _ j0 j1 j2

theorem same2 : val_main_v26 (F := Ideal) (DwMixIdeal.Value.arg4 m c) (DwMixIdeal.Value.arg5 m c)
    = (DwMixIdeal.Gen.dats m 0 c).arrAt 10 DwMixIdeal.cfg0.N := by
  rw [DwMixIdeal.Value.final_10]
  funext j
  idx_vars j
  exact ref2 _ _ j0 j1 j2

theorem same3 : val_main_v33 (F := Ideal) (DwMixIdeal.Value.arg6 m c) (DwMixIdeal.Value.arg7 m c)
    = (DwMixIdeal.Gen.dats m 0 c).arrAt 11 DwMixIdeal.cfg0.N := by
  rw [DwMixIdeal.Value.final_11]
  funext j
  idx_vars j
  exact ref3 _ _ j0 j1 j2

/-- The call and its reference leave the same four results. -/
theorem alg : Cert.algebraic_DwMixIdeal_DwMixRefIdeal (hDwMixIdeal := Cert.DwMixIdeal.Gen.facts)
    (hDwMixRefIdeal := Cert.DwMixRefIdeal.Gen.facts) := by
  pair_intro
  · run_from Cert.DwMixIdeal.Value.run_blocks m g
  · run_from Cert.DwMixRefIdeal.Value.run m' g'
    · exact (val_main_v8_eq _ _).trans (same0 m c)
    · exact (val_main_v17_eq _ _).trans (same1 m c)
    · exact (val_main_v26_eq _ _).trans (same2 m c)
    · exact (val_main_v33_eq _ _).trans (same3 m c)

/-- The reference, which has host lines only, leaves its arguments and every counter as they were. -/
theorem refFrame : Cert.quiescent_DwMixRefIdeal (hDwMixRefIdeal := Cert.DwMixRefIdeal.Gen.facts) := fun m ρ _ =>
  θ_run_mono (Cert.DwMixRefIdeal.Value.run m ρ) fun r h =>
    ⟨fun c => (h c).2.2.2.2, sem_eq_zero_of_no_sems (by decide) r.2⟩

end Cert.Proof.DwMix
end
-- ==== Proof.Params.Zoh.lean ====
module

public import Idealize.ShloMosaic.Lib.Pipeline.ValueKit
public import Idealize.ShloMosaic.Lib.Claim

@[expose] public section

noncomputable section
open Idealize.ShloMosaic

/-! # The discretised recurrence at one state, and its backward pass -/

namespace Zoh

/-- One. -/
abbrev one : EReal := Ideal.ofBits .f32 0x3F800000#32

section Forward
variable (lr li dt : EReal)

/-- How much the state shrinks in a step. -/
def mag : EReal := Ideal.exp (lr * dt)
def cs : EReal := Ideal.cos (li * dt)
def sn : EReal := Ideal.sin (li * dt)
def nr : EReal := mag lr dt * cs li dt - one
def ni : EReal := mag lr dt * sn li dt
def den : EReal := lr * lr + li * li
def numr : EReal := nr lr li dt * lr + ni lr li dt * li
def numi : EReal := ni lr li dt * lr - nr lr li dt * li
/-- The factor of the input, its two parts. -/
def zr : EReal := Ideal.div (numr lr li dt) (den lr li)
def zi : EReal := Ideal.div (numi lr li dt) (den lr li)
def rec : EReal := Ideal.div one (den lr li * den lr li)
end Forward

section Backward
variable (lr li dt da db dr di : EReal)

/-- What comes back to the two numerators. -/
def gr : EReal := Ideal.div dr (den lr li)
def gi : EReal := Ideal.div di (den lr li)
/-- What comes back to the denominator. -/
def dden : EReal := -(di * rec lr li * numi lr li dt) + -(dr * rec lr li * numr lr li dt)
/-- What comes back to the two parts of the transition. -/
def dar : EReal := da + -gi lr li di * li + gr lr li dr * lr
def dai : EReal := db + gi lr li di * lr + gr lr li dr * li
def t1 : EReal := mag lr dt * dai lr li db dr di * cs li dt
def t2 : EReal := -(mag lr dt * dar lr li da dr di) * sn li dt
def t3 : EReal := (dai lr li db dr di * sn li dt + dar lr li da dr di * cs li dt) * mag lr dt
/-- The gradient of the real part of the rate. -/
def dlr : EReal := ni lr li dt * gi lr li di + nr lr li dt * gr lr li dr + lr * dden lr li dt dr di + dden lr li dt dr di * lr
  + t3 lr li dt da db dr di * dt
/-- The gradient of its imaginary part. -/
def dli : EReal := nr lr li dt * -gi lr li di + ni lr li dt * gr lr li dr + li * dden lr li dt dr di + dden lr li dt dr di * li
  + t1 lr li dt db dr di * dt + t2 lr li dt da dr di * dt
/-- The three ways the step itself comes in. -/
def w1 : EReal := li * t1 lr li dt db dr di
def w2 : EReal := li * t2 lr li dt da dr di
def w3 : EReal := lr * t3 lr li dt da db dr di
end Backward

/-! ## A common step comes out of a sum -/

/-- Zero or an infinity. -/
def Tri (x : EReal) : Prop := x = 0 ∨ x = ⊤ ∨ x = ⊥

theorem Tri.mul_top {x : EReal} (h : Tri x) : x * ⊤ = x := by
  rcases h with rfl | rfl | rfl <;> simp

theorem tri_top (x : EReal) : Tri (x * ⊤) := by
  rcases lt_trichotomy x 0 with h | rfl | h
  · exact .inr (.inr (EReal.mul_top_of_neg h))
  · exact .inl (zero_mul _)
  · exact .inr (.inl (EReal.mul_top_of_pos h))

theorem tri_bot (x : EReal) : Tri (x * ⊥) := by
  rcases lt_trichotomy x 0 with h | rfl | h
  · exact .inr (.inl (EReal.mul_bot_of_neg h))
  · exact .inl (zero_mul _)
  · exact .inr (.inr (EReal.mul_bot_of_pos h))

theorem Tri.mul (x : EReal) {y : EReal} (h : Tri y) : Tri (x * y) := by
  rcases h with rfl | rfl | rfl
  · exact .inl (mul_zero _)
  · exact tri_top x
  · exact tri_bot x

theorem Tri.add {x y : EReal} (hx : Tri x) (hy : Tri y) : Tri (x + y) := by
  rcases hx with rfl | rfl | rfl <;> rcases hy with rfl | rfl | rfl <;> simp [Tri]

theorem Tri.sum {ι : Type} (s : Finset ι) (f : ι → EReal) (h : ∀ i, Tri (f i)) : Tri (∑ i ∈ s, f i) := by
  classical
  induction s using Finset.induction_on with
  | empty => exact .inl (by simp)
  | insert i s hi ih => rw [Finset.sum_insert hi]; exact (h i).add ih

/-- An angle without bound has no cosine and no sine. -/
theorem cs_top {li : EReal} (h : li ≠ 0) : cs li ⊤ = ⊥ := by
  unfold cs
  rcases lt_or_gt_of_ne h with h | h
  · rw [EReal.mul_top_of_neg h]; rfl
  · rw [EReal.mul_top_of_pos h]; rfl

theorem sn_top {li : EReal} (h : li ≠ 0) : sn li ⊤ = ⊥ := by
  unfold sn
  rcases lt_or_gt_of_ne h with h | h
  · rw [EReal.mul_top_of_neg h]; rfl
  · rw [EReal.mul_top_of_pos h]; rfl

theorem mag_top {lr : EReal} (h : lr ≠ 0) : Tri (mag lr ⊤) := by
  unfold mag
  rcases lt_or_gt_of_ne h with h | h
  · rw [EReal.mul_top_of_neg h]; exact .inl rfl
  · rw [EReal.mul_top_of_pos h]; exact .inr (.inl rfl)

variable (lr li da db dr di : EReal)

theorem w1_top : Tri (w1 lr li ⊤ db dr di) := by
  by_cases h : li = 0
  · exact .inl (by rw [w1, h, zero_mul])
  · rw [w1, t1, cs_top h]; exact (tri_bot _).mul _

theorem w2_top : Tri (w2 lr li ⊤ da dr di) := by
  by_cases h : li = 0
  · exact .inl (by rw [w2, h, zero_mul])
  · rw [w2, t2, sn_top h]; exact (tri_bot _).mul _

theorem w3_top : Tri (w3 lr li ⊤ da db dr di) := by
  by_cases h : lr = 0
  · exact .inl (by rw [w3, h, zero_mul])
  · rw [w3, t3]; exact ((mag_top h).mul _).mul _

theorem exp_nonneg (x : EReal) : 0 ≤ Ideal.exp x := by
  induction x with
  | bot => exact le_refl _
  | top => exact le_top
  | coe r => rw [Ideal.exp_coe]; exact_mod_cast (Real.exp_pos r).le

/-- A step that is not infinite goes into a sum. -/
theorem sum_mul {ι : Type} (s : Finset ι) {a : EReal} (h0 : 0 ≤ a) (h : a ≠ ⊤) (f : ι → EReal) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 h, ih]

/-- The states of a group share one step: it may be multiplied in before the sum over them or after. -/
theorem group_sum {n : ℕ} (ld : EReal) (lr li da db dr di : Fin n → EReal) :
    ∑ p : Fin n, (w1 (lr p) (li p) (Ideal.exp ld) (db p) (dr p) (di p) + w2 (lr p) (li p) (Ideal.exp ld) (da p) (dr p) (di p)
        + w3 (lr p) (li p) (Ideal.exp ld) (da p) (db p) (dr p) (di p)) * Ideal.exp ld
      = ((∑ p : Fin n, w1 (lr p) (li p) (Ideal.exp ld) (db p) (dr p) (di p)) + (∑ p : Fin n, w2 (lr p) (li p) (Ideal.exp ld) (da p) (dr p) (di p))
        + ∑ p : Fin n, w3 (lr p) (li p) (Ideal.exp ld) (da p) (db p) (dr p) (di p)) * Ideal.exp ld := by
  rw [← Finset.sum_add_distrib, ← Finset.sum_add_distrib]
  by_cases h : Ideal.exp ld = ⊤
  · rw [h]
    have hw := fun p => ((w1_top (lr p) (li p) (db p) (dr p) (di p)).add (w2_top (lr p) (li p) (da p) (dr p) (di p))).add
      (w3_top (lr p) (li p) (da p) (db p) (dr p) (di p))
    rw [(Tri.sum _ _ hw).mul_top]
    exact Finset.sum_congr rfl fun p _ => (hw p).mul_top
  · exact (sum_mul _ (exp_nonneg ld) h _).symm

end Zoh
end
-- ==== Proof.Adam.Step.lean ====
module

public import Idealize.ShloMosaic.Lib.Pipeline.ValueKit
public import Idealize.ShloMosaic.Lib.Pointwise
public import Idealize.ShloMosaic.Lib.Claim

@[expose] public section

noncomputable section
open Idealize.ShloMosaic

/-! # One step of the optimiser, entry by entry -/

namespace Adam

/-- The new first moment. -/
def mom (g m : EReal) : EReal := Ideal.ofBits .f32 0x3F666666#32 * m + Ideal.ofBits .f32 0x3DCCCCCD#32 * g
/-- The new second moment. -/
def vel (g v : EReal) : EReal := Ideal.ofBits .f32 0x3F7FBE77#32 * v + Ideal.ofBits .f32 0x3A83126F#32 * (g * g)

/-- What the first moment is divided by. -/
abbrev d1 : EReal := Ideal.ofBits .f32 0x3F26BD02#32
/-- What the second moment is divided by. -/
abbrev d2 : EReal := Ideal.ofBits .f32 0x3C231ACC#32

/-- The change of a weight, from the new moments. -/
def change (w m' v' : EReal) : EReal :=
  Ideal.ofBits .f32 0xBA83126F#32 * (Ideal.div (Ideal.div m' d1) (Ideal.sqrt (Ideal.div v' d2) + Ideal.ofBits .f32 0x322BCC77#32)
    + Ideal.ofBits .f32 0x3C23D70A#32 * w)
/-- The change of a weight. -/
def delta (w g m v : EReal) : EReal := change w (mom g m) (vel g v)

theorem d1_eq : d1 = ((5463681 / 8388608 : ℝ) : EReal) := by
  simp [d1, Ideal.ofBits, Ideal.ieee]
  rw [← EReal.coe_mul]
  norm_num

theorem d2_eq : d2 = ((2672307 / 268435456 : ℝ) : EReal) := by
  simp [d2, Ideal.ofBits, Ideal.ieee]
  rw [← EReal.coe_mul]
  norm_num

/-- Dividing by the first divisor is multiplying by its reciprocal. -/
theorem div_d1 (x : EReal) : Ideal.div x d1 = x * (((5463681 / 8388608)⁻¹ : ℝ) : EReal) := by
  rw [d1_eq, Ideal.div_coe (by norm_num), one_div]

/-- Dividing by the second divisor is multiplying by its reciprocal. -/
theorem div_d2 (x : EReal) : Ideal.div x d2 = x * (((2672307 / 268435456)⁻¹ : ℝ) : EReal) := by
  rw [d2_eq, Ideal.div_coe (by norm_num), one_div]

variable {k n : Nat}

/-- A gradient's entry from one device's own part and the seven other parts. -/
def part (l : (⟨3, ![7, k, n]⟩ : Shape).Idx → EReal) (o : (⟨2, ![k, n]⟩ : Shape).Idx → EReal) (a : Fin k) (b : Fin n) : EReal :=
  o (ix2 a b) + l (ix3 0 a b) + l (ix3 1 a b) + l (ix3 2 a b) + l (ix3 3 a b) + l (ix3 4 a b) + l (ix3 5 a b) + l (ix3 6 a b)

theorem part_eq (l : (⟨3, ![7, k, n]⟩ : Shape).Idx → EReal) (o : (⟨2, ![k, n]⟩ : Shape).Idx → EReal) (a : Fin k) (b : Fin n) :
    o (ix2 a b) + ∑ s : Fin 7, l (ix3 s a b) = part l o a b := by
  rw [Fin.sum_univ_seven]
  simp only [part, add_assoc]

/-- A gradient's entry, of the first or the second layer. -/
def grad (l0 l1 : (⟨3, ![7, k, n]⟩ : Shape).Idx → EReal) (o0 o1 : (⟨2, ![k, n]⟩ : Shape).Idx → EReal) (s : Fin 2) (a : Fin k) (b : Fin n) : EReal :=
  if s.val = 0 then part l0 o0 a b else part l1 o1 a b

/-- A gradient's entry is read off at the parts' entries. -/
theorem grad_congr {k' : Nat} {l0 l1 : (⟨3, ![7, k, n]⟩ : Shape).Idx → EReal} {o0 o1 : (⟨2, ![k, n]⟩ : Shape).Idx → EReal}
    {L0 L1 : (⟨3, ![7, k', n]⟩ : Shape).Idx → EReal} {O0 O1 : (⟨2, ![k', n]⟩ : Shape).Idx → EReal} {a : Fin k} {a' : Fin k'} {b : Fin n}
    (h0 : ∀ s, l0 (ix3 s a b) = L0 (ix3 s a' b)) (h1 : ∀ s, l1 (ix3 s a b) = L1 (ix3 s a' b))
    (h2 : o0 (ix2 a b) = O0 (ix2 a' b)) (h3 : o1 (ix2 a b) = O1 (ix2 a' b)) (s : Fin 2) :
    grad l0 l1 o0 o1 s a b = grad L0 L1 O0 O1 s a' b := by
  simp only [grad, part, h0, h1, h2, h3]

/-- An entry of the piece that holds the second layer. -/
theorem second {s : Fin 2} {a : Fin k} {b : Fin n} (x : (⟨3, ![1, k, n]⟩ : Shape).Idx)
    (h0 : s.val = 1 + (x 0).val) (h1 : a.val = (x 1).val) (h2 : b.val = (x 2).val) : x = ix3 0 a b ∧ s = 1 := by
  refine ⟨?_, Fin.ext (by have := (x 0).isLt; have := s.isLt; show s.val = 1; omega)⟩
  rw [eq_ix3 x]
  congr 1
  · exact Subsingleton.elim (α := Fin 1) _ _
  · exact Fin.ext h1.symm
  · exact Fin.ext h2.symm

/-- An entry of the piece that holds the first layer. -/
theorem first {s : Fin 2} {a : Fin k} {b : Fin n} (x : (⟨3, ![1, k, n]⟩ : Shape).Idx)
    (h0 : s.val = (x 0).val) (h1 : a.val = (x 1).val) (h2 : b.val = (x 2).val) : x = ix3 0 a b ∧ s = 0 := by
  refine ⟨?_, Fin.ext (by have h : (x 0).val < 1 := (x 0).isLt; show s.val = 0; omega)⟩
  rw [eq_ix3 x]
  congr 1
  · exact Subsingleton.elim (α := Fin 1) _ _
  · exact Fin.ext h1.symm
  · exact Fin.ext h2.symm

/-! ## Whole arrays -/

/-- Two layers of a matrix. -/
abbrev Two (k n : Nat) : Shape := ⟨3, ![2, k, n]⟩
/-- One layer. -/
abbrev One (k n : Nat) : Shape := ⟨3, ![1, k, n]⟩

/-- The gradients of both layers. -/
def grads (l0 l1 : (⟨3, ![7, k, n]⟩ : Shape).Idx → EReal) (o0 o1 : (⟨2, ![k, n]⟩ : Shape).Idx → EReal) : (Two k n).Idx → EReal :=
  fun j => grad l0 l1 o0 o1 (j 0) (j 1) (j 2)
/-- The new first moments. -/
def moms {s : Shape} (g m : s.Idx → EReal) : s.Idx → EReal := fun j => mom (g j) (m j)
/-- The new second moments. -/
def vels {s : Shape} (g v : s.Idx → EReal) : s.Idx → EReal := fun j => vel (g j) (v j)
/-- The changes of the weights. -/
def deltas {s : Shape} (w g m v : s.Idx → EReal) : s.Idx → EReal := fun j => delta (w j) (g j) (m j) (v j)

theorem deltas_of {s : Shape} (w g m v : s.Idx → EReal) : deltas w g m v = fun j => change (w j) (moms g m j) (vels g v j) := rfl

/-- Under the last store a buffer holds what was stored. -/
theorem last {S : Shape} {r : Rect S} (w : r.shape.Idx → EReal) (L : List (View.Piece (Elt Ideal) S .f32)) {y : S.Idx} (x : r.shape.Idx) (h : y = r.emb x) :
    View.canon (Val := Elt Ideal) (e := .f32) (⟨r, w⟩ :: L) y = w x := by
  subst h
  exact View.canon_cons_emb (Val := Elt Ideal) (e := .f32) r w L x

/-- Off the last store it holds what the store before left. -/
theorem before {S : Shape} {r r' : Rect S} (w : r.shape.Idx → EReal) (w' : r'.shape.Idx → EReal) (L : List (View.Piece (Elt Ideal) S .f32))
    {y : S.Idx} (x : r'.shape.Idx) (h : y = r'.emb x) (off : y ∉ r.set) :
    View.canon (Val := Elt Ideal) (e := .f32) (⟨r, w⟩ :: ⟨r', w'⟩ :: L) y = w' x :=
  (View.canon_cons_of_not_mem (Val := Elt Ideal) (e := .f32) ⟨r, w⟩ _ off).trans (last w' L x h)

/-- A buffer that one store fills in the first layer and another in the second holds what the stores say. -/
theorem pair (i0 : ∀ a, (![0, 0, 0] : Fin 3 → Nat) a + (One k n).size a ≤ (Two k n).size a)
    (i1 : ∀ a, (![1, 0, 0] : Fin 3 → Nat) a + (One k n).size a ≤ (Two k n).size a)
    (p1 p0 : (One k n).Idx → EReal) (f : (Two k n).Idx → EReal)
    (e1 : ∀ a b, p1 (ix3 0 a b) = f (ix3 1 a b)) (e0 : ∀ a b, p0 (ix3 0 a b) = f (ix3 0 a b)) :
    View.canon (Val := Elt Ideal) (e := .f32)
      [⟨Rect.unit (s := Two k n) ![1, 0, 0] (One k n).size i1, p1⟩, ⟨Rect.unit (s := Two k n) ![0, 0, 0] (One k n).size i0, p0⟩] = f := by
  funext j
  obtain ⟨s, a, b, rfl⟩ : ∃ (s : Fin 2) (a : Fin k) (b : Fin n), j = ix3 s a b := ⟨j 0, j 1, j 2, eq_ix3 j⟩
  have at1 : (ix3 1 a b : (Two k n).Idx) = (Rect.unit (s := Two k n) ![1, 0, 0] (One k n).size i1).emb (ix3 0 a b : (One k n).Idx) :=
    funext fun x => Fin.ext (match x with
      | ⟨0, _⟩ => rfl
      | ⟨1, _⟩ => show a.val = 0 + 1 * a.val by omega
      | ⟨2, _⟩ => show b.val = 0 + 1 * b.val by omega)
  have at0 : (ix3 0 a b : (Two k n).Idx) = (Rect.unit (s := Two k n) ![0, 0, 0] (One k n).size i0).emb (ix3 0 a b : (One k n).Idx) :=
    funext fun x => Fin.ext (match x with
      | ⟨0, _⟩ => rfl
      | ⟨1, _⟩ => show a.val = 0 + 1 * a.val by omega
      | ⟨2, _⟩ => show b.val = 0 + 1 * b.val by omega)
  have off : (ix3 0 a b : (Two k n).Idx) ∉ (Rect.unit (s := Two k n) ![1, 0, 0] (One k n).size i1).set := fun h =>
    absurd (Rect.mem_set_unit.1 h 0).1 (show ¬ 1 ≤ 0 by omega)
  obtain rfl | rfl : s = 1 ∨ s = 0 := by omega
  · exact (last _ _ _ at1).trans (e1 a b)
  · exact (before _ _ _ _ at0 off).trans (e0 a b)

/-- Two layers joined along a new first axis hold what the layers say. -/
theorem joined (hc : Shape.Concatenates [One k n, One k n] (Two k n) 0)
    (p0 p1 : (One k n).Idx → EReal) (f : (Two k n).Idx → EReal)
    (e0 : ∀ a b, p0 (ix3 0 a b) = f (ix3 0 a b)) (e1 : ∀ a b, p1 (ix3 0 a b) = f (ix3 1 a b)) :
    concatenate (Two k n) 0 [⟨One k n, p0⟩, ⟨One k n, p1⟩] hc = f := by
  funext j
  obtain ⟨s, a, b, rfl⟩ : ∃ (s : Fin 2) (a : Fin k) (b : Fin n), j = ix3 s a b := ⟨j 0, j 1, j 2, eq_ix3 j⟩
  have n1 : (1 : Fin (Two k n).rank) ≠ 0 := fun e => absurd (congrArg Fin.val e) (show ¬ (1 : Nat) = 0 by decide)
  have n2 : (2 : Fin (Two k n).rank) ≠ 0 := fun e => absurd (congrArg Fin.val e) (show ¬ (2 : Nat) = 0 by decide)
  refine concatenate_unit_eq (t := Two k n) 0 [⟨One k n, p0⟩, ⟨One k n, p1⟩] hc _ _ rfl ⟨?_, ?_, trivial⟩ <;> intro h _ x h0 hx
  · obtain ⟨rfl, rfl⟩ := first (s := s) (a := a) (b := b) x ((show s.val = 0 from h).trans h0.symm)
      (hx 1 n1).symm (hx 2 n2).symm
    exact e0 a b
  · obtain ⟨rfl, rfl⟩ := second (s := s) (a := a) (b := b) x
      (by have e : s.val = 1 := h; have e' : (x 0).val = 0 := h0; omega) (hx 1 n1).symm (hx 2 n2).symm
    exact e1 a b

/-! ## The small weights, packed -/

/-- The sum of the eight devices' parts. -/
def total (p : (⟨3, ![8, k, n]⟩ : Shape).Idx → EReal) : (⟨2, ![k, n]⟩ : Shape).Idx → EReal := fun j =>
  p (ix3 0 (j 0) (j 1)) + p (ix3 1 (j 0) (j 1)) + p (ix3 2 (j 0) (j 1)) + p (ix3 3 (j 0) (j 1)) + p (ix3 4 (j 0) (j 1)) + p (ix3 5 (j 0) (j 1))
    + p (ix3 6 (j 0) (j 1)) + p (ix3 7 (j 0) (j 1))

theorem total_eq (p : (⟨3, ![8, k, n]⟩ : Shape).Idx → EReal) (a : Fin k) (b : Fin n) : ∑ s : Fin 8, p (ix3 s a b) = total p (ix2 a b) := by
  rw [Fin.sum_univ_eight]
  rfl

/-- A sum is read off at the parts' entries. -/
theorem total_congr {k' : Nat} {p : (⟨3, ![8, k, n]⟩ : Shape).Idx → EReal} {p' : (⟨3, ![8, k', n]⟩ : Shape).Idx → EReal} {a : Fin k} {a' : Fin k'} {b : Fin n}
    (h : ∀ s, p (ix3 s a b) = p' (ix3 s a' b)) : total p (ix2 a b) = total p' (ix2 a' b) := by
  rw [← total_eq, ← total_eq]
  exact Finset.sum_congr rfl fun s _ => h s

/-- A buffer that one store fills holds what was stored. -/
theorem whole (i : ∀ a, (![0, 0] : Fin 2 → Nat) a + (⟨2, ![k, n]⟩ : Shape).size a ≤ (⟨2, ![k, n]⟩ : Shape).size a) (w : (⟨2, ![k, n]⟩ : Shape).Idx → EReal) :
    View.canon (Val := Elt Ideal) (e := .f32) [⟨Rect.unit (s := ⟨2, ![k, n]⟩) ![0, 0] (⟨2, ![k, n]⟩ : Shape).size i, w⟩] = w := by
  funext j
  refine last (r := Rect.unit (s := ⟨2, ![k, n]⟩) ![0, 0] (⟨2, ![k, n]⟩ : Shape).size i) w [] j (funext fun x => Fin.ext ?_)
  match x with
  | ⟨0, _⟩ => show (j 0).val = 0 + 1 * (j 0).val; omega
  | ⟨1, _⟩ => show (j 1).val = 0 + 1 * (j 1).val; omega

end Adam
end
-- ==== Proof.Params.Value.lean ====
module

public import proofs.«01_k».proof.Proof.Gen.ParamsIdeal.Frame
public import proofs.«01_k».proof.Proof.Params.Zoh
public import proofs.«01_k».proof.Proof.Adam.Step

@[expose] public section

set_option maxRecDepth 16384
noncomputable section
open Idealize.ShloMosaic Idealize.ShloMosaic.TcCoe Idealize.SL.Sem
open Idealize.ShloMosaic.Pipeline (Dat)

/-! # What the backward of the recurrence's parameters leaves in its five result arrays -/

namespace Cert.ParamsIdeal.Value
open Cert.ParamsIdeal Cert.ParamsIdeal.Gen

/-! ## The blocks on the diagonal -/

theorem quot16 : ∀ r : Fin 128, Scalar.select
      (IntOp.andi
        (IntOp.cmpi CmpIPredicate.ne
          (IntOp.subi (BitVec.setWidth 32 (IntOp.cmpi CmpIPredicate.sgt (BitVec.ofNat 32 ↑r) 0#32))
            (BitVec.setWidth 32 (IntOp.cmpi CmpIPredicate.slt (BitVec.ofNat 32 ↑r) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 ↑r) 16#32) 0#32))
      (IntOp.subi (IntOp.divsi ArithUnit.vector (BitVec.ofNat 32 ↑r) 16#32) 1#32)
      (IntOp.divsi ArithUnit.vector (BitVec.ofNat 32 ↑r) 16#32) =
    BitVec.ofNat 32 (↑r / 16) := by
  decide +kernel

theorem quot64 : ∀ q : Fin 2048, Scalar.select
      (IntOp.andi
        (IntOp.cmpi CmpIPredicate.ne
          (IntOp.subi (BitVec.setWidth 32 (IntOp.cmpi CmpIPredicate.sgt (BitVec.ofNat 32 ↑q) 0#32))
            (BitVec.setWidth 32 (IntOp.cmpi CmpIPredicate.slt (BitVec.ofNat 32 ↑q) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑q) 64#32) 0#32))
      (IntOp.subi (IntOp.divsi ArithUnit.vector (BitVec.ofNat 32 ↑q) 64#32) 1#32)
      (IntOp.divsi ArithUnit.vector (BitVec.ofNat 32 ↑q) 64#32) =
    BitVec.ofNat 32 (↑q / 64) := by
  decide +kernel

/-- Whether two small numbers are the same, as the body asks it. -/
theorem cmp_eq {a b : Nat} (ha : a < 256) (hb : b < 256) (x y : EReal) :
    Scalar.select (IntOp.cmpi CmpIPredicate.eq (BitVec.ofNat 32 a) (BitVec.ofNat 32 b)) x y = if a = b then x else y := by
  by_cases h : a = b
  · subst h
    simp [Scalar.select, IntOp.cmpi]
  · have hne : BitVec.ofNat 32 a ≠ BitVec.ofNat 32 b := fun e => h (by
      have := congrArg BitVec.toNat e
      simp only [BitVec.toNat_ofNat] at this
      omega)
    have hb : (BitVec.ofNat 32 a == BitVec.ofNat 32 b) = false := beq_false_of_ne hne
    simp [Scalar.select, IntOp.cmpi, h, hb]

/-- The mask keeps the blocks on the diagonal. -/
def Diag (M : IVec S128x512 1) : Prop := ∀ (r : Fin 128) (q : Fin 512) (x : EReal), Scalar.select (M (ix2 r q)) x 0 = if r.val / 16 = q.val / 64 then x else 0

theorem diag : Diag (k0_pay4 k0_pay1 k0_pay2 k0_pay3) := fun r q x => by
  rw [← cmp_eq (a := r.val / 16) (b := q.val / 64) (by omega) (by omega), ← quot16 r, ← quot64 ⟨q.val, by omega⟩]
  pointwise [k0_pay4, k0_pay1, k0_pay2, k0_pay3]

/-- The row of a tile at which channel `h` of column `q`'s group is. -/
def rowIn (h : Fin 16) (q : Fin 512) : Fin 128 := ⟨q.val / 64 * 16 + h.val, by omega⟩

/-- A tile's blocks on the diagonal, one beside the other. -/
theorem part_apply {M : IVec S128x512 1} (hM : Diag M) (v : FVec Ideal S1x1x128x512 .f32) (h : Fin 16) (q : Fin 512) :
    k0_pay8 (F := Ideal) M v (ix2 h q) = v (ix4 0 0 (rowIn h q) q) := by
  have e : k0_pay8 (F := Ideal) M v (ix2 h q)
      = ∑ a : Fin 8, Scalar.select (M (ix2 (⟨a.val * 16 + h.val, by omega⟩ : Fin 128) q)) (v (ix4 0 0 (⟨a.val * 16 + h.val, by omega⟩ : Fin 128) q)) 0 := by
    pointwise [k0_pay8]
  rw [e, Finset.sum_congr rfl fun a _ => hM _ q _]
  rw [Finset.sum_eq_single (⟨q.val / 64, by omega⟩ : Fin 8)]
  · exact if_pos (show (q.val / 64 * 16 + h.val) / 16 = q.val / 64 by omega)
  · intro a _ ha
    exact if_neg fun e => ha (Fin.ext (show a.val = q.val / 64 by have : (a.val * 16 + h.val) / 16 = q.val / 64 := e; omega))
  · exact fun hn => absurd (Finset.mem_univ _) hn

/-- The entries of the four block-diagonal matrices that belong to channel `h` and state `s`. -/
def fold (X : FVec Ideal S2x4x128x512 .f32) (c : Fin 2) (h : Fin 16) (s : Fin 2048) : EReal :=
  X (ix4 c (⟨s.val / 512, by omega⟩ : Fin 4) (⟨s.val % 512 / 64 * 16 + h.val, by omega⟩ : Fin 128) (⟨s.val % 512, by omega⟩ : Fin 512))

theorem fold_at (X : FVec Ideal S2x4x128x512 .f32) (c : Fin 2) (j : Fin 4) (h : Fin 16) (q : Fin 512) (s : Fin 2048) (e : s.val = j.val * 512 + q.val) :
    X (ix4 c j (rowIn h q) q) = fold X c h s := by
  refine congrArg X ?_
  have h1 : s.val / 512 = j.val := by omega
  have h2 : s.val % 512 = q.val := by omega
  congr 1
  · exact Fin.ext h1.symm
  · exact Fin.ext (show q.val / 64 * 16 + h.val = s.val % 512 / 64 * 16 + h.val by rw [h2])
  · exact Fin.ext h2.symm

/-- One tile of the eight, as the body loads it. -/
theorem ld_at {Val : EltTy → Type} {e : EltTy} (X : S2x4x128x512.Idx → Val e) (c : Fin 2) (j : Fin 4) (inb) (r : Fin 128) (q : Fin 512) :
    View.ld X (Rect.unit (s := S2x4x128x512) ![c.val, j.val, 0, 0] ![1, 1, 128, 512] inb) (ix4 0 0 r q : S1x1x128x512.Idx) = X (ix4 c j r q) :=
  View.ld_unit_apply_of X _ _ _ _ _ fun a => by fin_cases a <;> simp [ix4]

/-- Four pieces, one beside the other. -/
theorem join (f : Fin 4 → S16x512.Idx → EReal) (h : Fin 16) (s : Fin 2048) :
    concatenate S16x2048 1 [⟨S16x512, f 0⟩, ⟨S16x512, f 1⟩, ⟨S16x512, f 2⟩, ⟨S16x512, f 3⟩] concatenates_S16x512_S16x512_S16x512_S16x512_S16x2048_d1 (ix2 h s)
      = f ⟨s.val / 512, by omega⟩ (ix2 h (⟨s.val % 512, by omega⟩ : Fin 512)) :=
  concatenate_ofFn_apply (t := S16x2048) (s₁ := S16x512) 1 f concatenates_S16x512_S16x512_S16x512_S16x512_S16x2048_d1 rfl 512 rfl (ix2 h s) _ rfl _ rfl
    (fun b hb => match b with
      | ⟨0, _⟩ => rfl
      | ⟨1, _⟩ => absurd rfl hb)

theorem pay7_eq (M : IVec S128x512 1) (v : Fin 4 → FVec Ideal S1x1x128x512 .f32) : k0_pay7 (F := Ideal) M (v 0) (v 1) (v 2) (v 3)
    = concatenate S16x2048 1 [⟨S16x512, k0_pay8 (F := Ideal) M (v 0)⟩, ⟨S16x512, k0_pay8 (F := Ideal) M (v 1)⟩, ⟨S16x512, k0_pay8 (F := Ideal) M (v 2)⟩,
      ⟨S16x512, k0_pay8 (F := Ideal) M (v 3)⟩] concatenates_S16x512_S16x512_S16x512_S16x512_S16x2048_d1 := rfl

/-- Four tiles' diagonals, joined. -/
theorem joined {M : IVec S128x512 1} (hM : Diag M) (X : FVec Ideal S2x4x128x512 .f32) (c : Fin 2) (v : Fin 4 → FVec Ideal S1x1x128x512 .f32)
    (hv : ∀ j r q, v j (ix4 0 0 r q) = X (ix4 c j r q)) (h : Fin 16) (s : Fin 2048) :
    k0_pay7 (F := Ideal) M (v 0) (v 1) (v 2) (v 3) (ix2 h s) = fold X c h s := by
  rw [pay7_eq, join fun j => k0_pay8 (F := Ideal) M (v j), part_apply hM, hv]
  exact fold_at X c _ h _ s (by show s.val = s.val / 512 * 512 + s.val % 512; omega)

/-- The four tiles of one part, as the body loads them. -/
def lds (X : FVec Ideal S2x4x128x512 .f32) (c : Fin 2) : Fin 4 → FVec Ideal S1x1x128x512 .f32 :=
  if c = 0 then ![View.ld (Val := Elt Ideal) (e' := .f32) X r0_0, View.ld (Val := Elt Ideal) (e' := .f32) X r0_1,
    View.ld (Val := Elt Ideal) (e' := .f32) X r0_2, View.ld (Val := Elt Ideal) (e' := .f32) X r0_3]
  else ![View.ld (Val := Elt Ideal) (e' := .f32) X r0_5, View.ld (Val := Elt Ideal) (e' := .f32) X r0_6,
    View.ld (Val := Elt Ideal) (e' := .f32) X r0_7, View.ld (Val := Elt Ideal) (e' := .f32) X r0_8]

theorem lds_apply (X : FVec Ideal S2x4x128x512 .f32) (c : Fin 2) (j : Fin 4) (r : Fin 128) (q : Fin 512) : lds X c j (ix4 0 0 r q) = X (ix4 c j r q) := by
  obtain rfl | rfl : c = 0 ∨ c = 1 := by omega
  · match j with
    | 0 => exact ld_at (Val := Elt Ideal) (e := .f32) X 0 0 _ r q
    | 1 => exact ld_at (Val := Elt Ideal) (e := .f32) X 0 1 _ r q
    | 2 => exact ld_at (Val := Elt Ideal) (e := .f32) X 0 2 _ r q
    | 3 => exact ld_at (Val := Elt Ideal) (e := .f32) X 0 3 _ r q
  · match j with
    | 0 => exact ld_at (Val := Elt Ideal) (e := .f32) X 1 0 _ r q
    | 1 => exact ld_at (Val := Elt Ideal) (e := .f32) X 1 1 _ r q
    | 2 => exact ld_at (Val := Elt Ideal) (e := .f32) X 1 2 _ r q
    | 3 => exact ld_at (Val := Elt Ideal) (e := .f32) X 1 3 _ r q

theorem folded (X : FVec Ideal S2x4x128x512 .f32) (c : Fin 2) (h : Fin 16) (s : Fin 2048) :
    k0_pay7 (F := Ideal) (k0_pay4 k0_pay1 k0_pay2 k0_pay3) (lds X c 0) (lds X c 1) (lds X c 2) (lds X c 3) (ix2 h s) = fold X c h s :=
  joined diag X c (lds X c) (lds_apply X c) h s

section Entries

variable (x0 x1 x2 : FVec Ideal S1x2048 .f32) (x3 x4 : FVec Ideal S16x2048 .f32) (x5 : FVec Ideal S2x2048 .f32) (x6 x7 : FVec Ideal S2x4x128x512 .f32)

theorem p60 (h : Fin 16) (s : Fin 2048) : k0_pay60 (F := Ideal) x0 x1 x2 x3 x4 x5 x6 x7 (ix2 h s) = fold x6 0 h s := folded x6 0 h s
theorem p61 (h : Fin 16) (s : Fin 2048) : k0_pay61 (F := Ideal) x0 x1 x2 x3 x4 x5 x6 x7 (ix2 h s) = fold x6 1 h s := folded x6 1 h s

theorem out12 : out0_12 (F := Ideal) x0 x1 x2 x3 x4 x5 x6 x7 = fun j => fold x7 (j 0) (j 1) (j 2) := by
  refine Adam.pair _ _ _ _ _ (fun h s => ?_) (fun h s => ?_)
  · refine Eq.trans ?_ (folded x7 1 h s)
    pointwise [k0_pay6, k0_pay7, k0_pay59, k0_pay58, k0_pay57, k0_pay56, lds]
  · refine Eq.trans ?_ (folded x7 0 h s)
    pointwise [k0_pay5, k0_pay7, k0_pay59, k0_pay58, k0_pay57, k0_pay56, lds]

variable (s : Fin 2048)

/-- What comes back to the two parts of the input's factor. -/
def dr : EReal := ∑ h : Fin 16, (fold x6 0 h s * x3 (ix2 h s) + fold x6 1 h s * x4 (ix2 h s))
def di : EReal := ∑ h : Fin 16, (fold x6 1 h s * x3 (ix2 h s) - fold x6 0 h s * x4 (ix2 h s))

theorem p62 : k0_pay62 (F := Ideal) x0 x1 x2 x3 x4 x5 x6 x7 (ix2 0 s) = x0 (ix2 0 s) := by
  pointwise [k0_pay62, k0_pay10]
theorem p63 : k0_pay63 (F := Ideal) x0 x1 x2 x3 x4 x5 x6 x7 (ix2 0 s) = x1 (ix2 0 s) := by
  pointwise [k0_pay63, k0_pay11]
theorem p64 : k0_pay64 (F := Ideal) x0 x1 x2 x3 x4 x5 x6 x7 (ix2 0 s) = Ideal.exp (x2 (ix2 0 s)) := by
  pointwise [k0_pay64, k0_pay12]
theorem p65 : k0_pay65 (F := Ideal) x0 x1 x2 x3 x4 x5 x6 x7 (ix2 0 s) = Zoh.mag (x0 (ix2 0 s)) (Ideal.exp (x2 (ix2 0 s))) := by
  pointwise [k0_pay65, k0_pay13, k0_pay12, k0_pay10, Zoh.mag]
theorem p66 : k0_pay66 (F := Ideal) x0 x1 x2 x3 x4 x5 x6 x7 (ix2 0 s) = Zoh.sn (x1 (ix2 0 s)) (Ideal.exp (x2 (ix2 0 s))) := by
  pointwise [k0_pay66, k0_pay16, k0_pay14, k0_pay12, k0_pay11, Zoh.sn]
theorem p68 : k0_pay68 (F := Ideal) x0 x1 x2 x3 x4 x5 x6 x7 (ix2 0 s) = Zoh.cs (x1 (ix2 0 s)) (Ideal.exp (x2 (ix2 0 s))) := by
  pointwise [k0_pay68, k0_pay20, k0_pay18, k0_pay12, k0_pay11, Zoh.cs]
theorem p15 : k0_pay15 (F := Ideal) (View.ld x1 r0_10) (View.ld x2 r0_10) (ix2 0 s) = Zoh.cs (x1 (ix2 0 s)) (Ideal.exp (x2 (ix2 0 s))) := by
  pointwise [k0_pay15, k0_pay14, k0_pay12, k0_pay11, Zoh.cs]
theorem p19 : k0_pay19 (F := Ideal) (View.ld x1 r0_10) (View.ld x2 r0_10) (ix2 0 s) = Zoh.sn (x1 (ix2 0 s)) (Ideal.exp (x2 (ix2 0 s))) := by
  pointwise [k0_pay19, k0_pay18, k0_pay12, k0_pay11, Zoh.sn]
theorem p69 : k0_pay69 (F := Ideal) x0 x1 x2 x3 x4 x5 x6 x7 (ix2 0 s) = Zoh.ni (x0 (ix2 0 s)) (x1 (ix2 0 s)) (Ideal.exp (x2 (ix2 0 s))) := by
  pointwise [k0_pay69, k0_pay21, k0_pay19, k0_pay18, k0_pay13, k0_pay12, k0_pay11, k0_pay10, Zoh.ni, Zoh.mag, Zoh.sn]
theorem p71 : k0_pay71 (F := Ideal) x0 x1 x2 x3 x4 x5 x6 x7 (ix2 0 s) = Zoh.nr (x0 (ix2 0 s)) (x1 (ix2 0 s)) (Ideal.exp (x2 (ix2 0 s))) := by
  pointwise [k0_pay71, k0_pay70, k0_pay67, k0_pay23, k0_pay22, k0_pay17, k0_pay15, k0_pay14, k0_pay13, k0_pay12, k0_pay11, k0_pay10, Zoh.nr, Zoh.mag, Zoh.cs, Zoh.one]
theorem p72 : k0_pay72 (F := Ideal) x0 x1 x2 x3 x4 x5 x6 x7 (ix2 0 s) = Zoh.den (x0 (ix2 0 s)) (x1 (ix2 0 s)) := by
  pointwise [k0_pay72, k0_pay24, p62, p63, Zoh.den]
theorem p23 : k0_pay23 (F := Ideal) (k0_pay67 (F := Ideal) x0 x1 x2 x3 x4 x5 x6 x7) (k0_pay70 (F := Ideal) x0 x1 x2 x3 x4 x5 x6 x7) (ix2 0 s) = Zoh.nr (x0 (ix2 0 s)) (x1 (ix2 0 s)) (Ideal.exp (x2 (ix2 0 s))) := p71 x0 x1 x2 x3 x4 x5 x6 x7 s
theorem p73 : k0_pay73 (F := Ideal) x0 x1 x2 x3 x4 x5 x6 x7 (ix2 0 s) = Zoh.numr (x0 (ix2 0 s)) (x1 (ix2 0 s)) (Ideal.exp (x2 (ix2 0 s))) := by
  pointwise [k0_pay73, k0_pay25, p23, p69, p62, p63, Zoh.numr]
theorem p74 : k0_pay74 (F := Ideal) x0 x1 x2 x3 x4 x5 x6 x7 (ix2 0 s) = Zoh.rec (x0 (ix2 0 s)) (x1 (ix2 0 s)) := by
  pointwise [k0_pay74, k0_pay27, k0_pay24, p62, p63, Zoh.rec, Zoh.den, Zoh.one]
theorem p75 : k0_pay75 (F := Ideal) x0 x1 x2 x3 x4 x5 x6 x7 (ix2 0 s) = Zoh.numi (x0 (ix2 0 s)) (x1 (ix2 0 s)) (Ideal.exp (x2 (ix2 0 s))) := by
  pointwise [k0_pay75, k0_pay28, p23, p69, p62, p63, Zoh.numi]
theorem p76 : k0_pay76 (F := Ideal) x0 x1 x2 x3 x4 x5 x6 x7 (ix2 0 s) = Zoh.rec (x0 (ix2 0 s)) (x1 (ix2 0 s)) := by
  pointwise [k0_pay76, k0_pay30, k0_pay24, p62, p63, Zoh.rec, Zoh.den, Zoh.one]
theorem p77 : k0_pay77 (F := Ideal) x0 x1 x2 x3 x4 x5 x6 x7 (ix2 0 s) = dr x3 x4 x6 s := by
  pointwise [k0_pay77, k0_pay35, k0_pay31, k0_pay32, p60, p61, dr]
theorem p38 : k0_pay38 (F := Ideal) (k0_pay78 (F := Ideal) x0 x1 x2 x3 x4 x5 x6 x7) (k0_pay79 (F := Ideal) x0 x1 x2 x3 x4 x5 x6 x7) (ix2 0 s) = di x3 x4 x6 s := by
  pointwise [k0_pay38, k0_pay78, k0_pay79, k0_pay36, k0_pay37, k0_pay31, k0_pay32, p60, p61, di]
theorem p39 : k0_pay39 (F := Ideal) (k0_pay72 (F := Ideal) x0 x1 x2 x3 x4 x5 x6 x7) (k0_pay78 (F := Ideal) x0 x1 x2 x3 x4 x5 x6 x7) (k0_pay79 (F := Ideal) x0 x1 x2 x3 x4 x5 x6 x7) (ix2 0 s) = Zoh.gi (x0 (ix2 0 s)) (x1 (ix2 0 s)) (di x3 x4 x6 s) := by
  pointwise [k0_pay39, p38, p72, Zoh.gi]
theorem p40 : k0_pay40 (F := Ideal) (k0_pay72 (F := Ideal) x0 x1 x2 x3 x4 x5 x6 x7) (k0_pay78 (F := Ideal) x0 x1 x2 x3 x4 x5 x6 x7) (k0_pay79 (F := Ideal) x0 x1 x2 x3 x4 x5 x6 x7) (ix2 0 s) = -Zoh.gi (x0 (ix2 0 s)) (x1 (ix2 0 s)) (di x3 x4 x6 s) := by
  pointwise [k0_pay40, p39]
  rw [zero_sub]
theorem p42 : k0_pay42 (F := Ideal) (k0_pay72 (F := Ideal) x0 x1 x2 x3 x4 x5 x6 x7) (k0_pay77 (F := Ideal) x0 x1 x2 x3 x4 x5 x6 x7) (ix2 0 s) = Zoh.gr (x0 (ix2 0 s)) (x1 (ix2 0 s)) (dr x3 x4 x6 s) := by
  pointwise [k0_pay42, p77, p72, Zoh.gr]
theorem p41 : k0_pay41 (F := Ideal) (k0_pay73 (F := Ideal) x0 x1 x2 x3 x4 x5 x6 x7) (k0_pay74 (F := Ideal) x0 x1 x2 x3 x4 x5 x6 x7) (k0_pay75 (F := Ideal) x0 x1 x2 x3 x4 x5 x6 x7) (k0_pay76 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7) (ix2 0 s) = Zoh.dden (x0 (ix2 0 s)) (x1 (ix2 0 s)) (Ideal.exp (x2 (ix2 0 s))) (dr x3 x4 x6 s) (di x3 x4 x6 s) := by
  pointwise [k0_pay41, p38, p73, p74, p75, p76, p77, Zoh.dden]
  rw [zero_sub, zero_sub]
theorem p43 : k0_pay43 (F := Ideal) (k0_pay62 (F := Ideal) x0 x1 x2 x3 x4 x5 x6 x7) (k0_pay63 (F := Ideal) x0 x1 x2 x3 x4 x5 x6 x7) (k0_pay72 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7) (View.ld x5 r0_13) (ix2 0 s) = Zoh.dai (x0 (ix2 0 s)) (x1 (ix2 0 s)) (x5 (ix2 1 s)) (dr x3 x4 x6 s) (di x3 x4 x6 s) := by
  pointwise [k0_pay43, p39, p42, p62, p63, Zoh.dai]
theorem p44 : k0_pay44 (F := Ideal) (k0_pay62 (F := Ideal) x0 x1 x2 x3 x4 x5 x6 x7) (k0_pay63 (F := Ideal) x0 x1 x2 x3 x4 x5 x6 x7) (k0_pay72 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7) (View.ld x5 r0_12) (ix2 0 s) = Zoh.dar (x0 (ix2 0 s)) (x1 (ix2 0 s)) (x5 (ix2 0 s)) (dr x3 x4 x6 s) (di x3 x4 x6 s) := by
  pointwise [k0_pay44, p40, p42, p62, p63, Zoh.dar]
theorem p46 : k0_pay46 (F := Ideal) (k0_pay62 (F := Ideal) x0 x1 x2 x3 x4 x5 x6 x7) (k0_pay63 (F := Ideal) x0 x1 x2 x3 x4 x5 x6 x7) (k0_pay65 (F := Ideal) x0 x1 x2 x3 x4 x5 x6 x7) (k0_pay68 (F := Ideal) x0 x1 x2 x3 x4 x5 x6 x7) (k0_pay72 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7) (View.ld x5 r0_13) (ix2 0 s) = Zoh.t1 (x0 (ix2 0 s)) (x1 (ix2 0 s)) (Ideal.exp (x2 (ix2 0 s))) (x5 (ix2 1 s)) (dr x3 x4 x6 s) (di x3 x4 x6 s) := by
  pointwise [k0_pay46, p43, p65, p68, Zoh.t1]
theorem p80 : k0_pay80 (F := Ideal) x0 x1 x2 x3 x4 x5 x6 x7 (ix2 0 s) = Zoh.dai (x0 (ix2 0 s)) (x1 (ix2 0 s)) (x5 (ix2 1 s)) (dr x3 x4 x6 s) (di x3 x4 x6 s) * Zoh.sn (x1 (ix2 0 s)) (Ideal.exp (x2 (ix2 0 s))) + Zoh.dar (x0 (ix2 0 s)) (x1 (ix2 0 s)) (x5 (ix2 0 s)) (dr x3 x4 x6 s) (di x3 x4 x6 s) * Zoh.cs (x1 (ix2 0 s)) (Ideal.exp (x2 (ix2 0 s))) := by
  pointwise [k0_pay80, k0_pay49, p43, p44, p15, p19]
theorem p81 : k0_pay81 (F := Ideal) x0 x1 x2 x3 x4 x5 x6 x7 (ix2 0 s) = -(Zoh.mag (x0 (ix2 0 s)) (Ideal.exp (x2 (ix2 0 s))) * Zoh.dar (x0 (ix2 0 s)) (x1 (ix2 0 s)) (x5 (ix2 0 s)) (dr x3 x4 x6 s) (di x3 x4 x6 s)) := by
  pointwise [k0_pay81, k0_pay50, p44, p65]
  rw [zero_sub]
theorem p51 : k0_pay51 (F := Ideal) (k0_pay66 (F := Ideal) x0 x1 x2 x3 x4 x5 x6 x7) (k0_pay81 (F := Ideal) x0 x1 x2 x3 x4 x5 x6 x7) (ix2 0 s) = Zoh.t2 (x0 (ix2 0 s)) (x1 (ix2 0 s)) (Ideal.exp (x2 (ix2 0 s))) (x5 (ix2 0 s)) (dr x3 x4 x6 s) (di x3 x4 x6 s) := by
  pointwise [k0_pay51, p66, p81, Zoh.t2]
theorem p53 : k0_pay53 (F := Ideal) (k0_pay65 (F := Ideal) x0 x1 x2 x3 x4 x5 x6 x7) (k0_pay80 (F := Ideal) x0 x1 x2 x3 x4 x5 x6 x7) (ix2 0 s) = Zoh.t3 (x0 (ix2 0 s)) (x1 (ix2 0 s)) (Ideal.exp (x2 (ix2 0 s))) (x5 (ix2 0 s)) (x5 (ix2 1 s)) (dr x3 x4 x6 s) (di x3 x4 x6 s) := by
  pointwise [k0_pay53, p65, p80, Zoh.t3]
theorem e8 : k0_pay54 (F := Ideal) (k0_pay64 (F := Ideal) x0 x1 x2 x3 x4 x5 x6 x7) (k0_pay65 (F := Ideal) x0 x1 x2 x3 x4 x5 x6 x7) (k0_pay45 (k0_pay62 (F := Ideal) x0 x1 x2 x3 x4 x5 x6 x7) (k0_pay69 (F := Ideal) x0 x1 x2 x3 x4 x5 x6 x7) (k0_pay71 (F := Ideal) x0 x1 x2 x3 x4 x5 x6 x7) (k0_pay72 (F := Ideal) x0 x1 x2 x3 x4 x5 x6 x7) (k0_pay73 (F := Ideal) x0 x1 x2 x3 x4 x5 x6 x7) (k0_pay74 (F := Ideal) x0 x1 x2 x3 x4 x5 x6 x7) (k0_pay75 (F := Ideal) x0 x1 x2 x3 x4 x5 x6 x7) (k0_pay76 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7)) (k0_pay80 (F := Ideal) x0 x1 x2 x3 x4 x5 x6 x7) (ix2 0 s) = Zoh.dlr (x0 (ix2 0 s)) (x1 (ix2 0 s)) (Ideal.exp (x2 (ix2 0 s))) (x5 (ix2 0 s)) (x5 (ix2 1 s)) (dr x3 x4 x6 s) (di x3 x4 x6 s) := by
  pointwise [k0_pay54, k0_pay45, p53, p64, p69, p71, p39, p42, p41, p62, Zoh.dlr]
theorem e9 : k0_pay52 (F := Ideal) (k0_pay64 (F := Ideal) x0 x1 x2 x3 x4 x5 x6 x7) (k0_pay66 (F := Ideal) x0 x1 x2 x3 x4 x5 x6 x7) (k0_pay48 (k0_pay62 (F := Ideal) x0 x1 x2 x3 x4 x5 x6 x7) (k0_pay63 (F := Ideal) x0 x1 x2 x3 x4 x5 x6 x7) (k0_pay64 (F := Ideal) x0 x1 x2 x3 x4 x5 x6 x7) (k0_pay65 (F := Ideal) x0 x1 x2 x3 x4 x5 x6 x7) (k0_pay68 (F := Ideal) x0 x1 x2 x3 x4 x5 x6 x7) (k0_pay69 (F := Ideal) x0 x1 x2 x3 x4 x5 x6 x7) (k0_pay71 (F := Ideal) x0 x1 x2 x3 x4 x5 x6 x7) (k0_pay72 (F := Ideal) x0 x1 x2 x3 x4 x5 x6 x7) (k0_pay73 (F := Ideal) x0 x1 x2 x3 x4 x5 x6 x7) (k0_pay74 (F := Ideal) x0 x1 x2 x3 x4 x5 x6 x7) (k0_pay75 (F := Ideal) x0 x1 x2 x3 x4 x5 x6 x7) (k0_pay76 (F := Ideal) x0 x1 x2 x3 x4 x5 x6 x7) (k0_pay77 (F := Ideal) x0 x1 x2 x3 x4 x5 x6 x7) (k0_pay78 (F := Ideal) x0 x1 x2 x3 x4 x5 x6 x7) (k0_pay79 (F := Ideal) x0 x1 x2 x3 x4 x5 x6 x7) (View.ld x5 r0_13)) (k0_pay81 (F := Ideal) x0 x1 x2 x3 x4 x5 x6 x7) (ix2 0 s) = Zoh.dli (x0 (ix2 0 s)) (x1 (ix2 0 s)) (Ideal.exp (x2 (ix2 0 s))) (x5 (ix2 0 s)) (x5 (ix2 1 s)) (dr x3 x4 x6 s) (di x3 x4 x6 s) := by
  pointwise [k0_pay52, k0_pay48, p51, p46, p64, p69, p71, p40, p42, p41, p63, Zoh.dli]

end Entries

end Cert.ParamsIdeal.Value
end
-- ==== Proof.Params.Out.lean ====
module

public import proofs.«01_k».proof.Proof.Params.Value

@[expose] public section

set_option maxRecDepth 16384
noncomputable section
open Idealize.ShloMosaic Idealize.ShloMosaic.TcCoe Idealize.SL.Sem
open Idealize.ShloMosaic.Pipeline (Dat)

/-! # The five result arrays of the parameters' backward pass, from the arrays of the call -/

namespace Cert.ParamsIdeal.Value
open Cert.ParamsIdeal Cert.ParamsIdeal.Gen

section Entries

variable (x0 x1 x2 : FVec Ideal S1x2048 .f32) (x3 x4 : FVec Ideal S16x2048 .f32) (x5 : FVec Ideal S2x2048 .f32) (x6 x7 : FVec Ideal S2x4x128x512 .f32)

theorem out8 : out0_8 (F := Ideal) x0 x1 x2 x3 x4 x5 x6 x7 = fun j =>
    Zoh.dlr (x0 (ix2 0 (j 1))) (x1 (ix2 0 (j 1))) (Ideal.exp (x2 (ix2 0 (j 1)))) (x5 (ix2 0 (j 1))) (x5 (ix2 1 (j 1))) (dr x3 x4 x6 (j 1)) (di x3 x4 x6 (j 1)) := by
  refine (Adam.whole _ _).trans (funext fun j => ?_)
  obtain ⟨s, rfl⟩ : ∃ s : Fin 2048, j = ix2 0 s := ⟨j 1, (eq_ix2 j).trans (congrArg (fun z : Fin 1 => (ix2 z (j 1) : S1x2048.Idx)) (Subsingleton.elim _ _))⟩
  exact e8 x0 x1 x2 x3 x4 x5 x6 x7 s

theorem out9 : out0_9 (F := Ideal) x0 x1 x2 x3 x4 x5 x6 x7 = fun j =>
    Zoh.dli (x0 (ix2 0 (j 1))) (x1 (ix2 0 (j 1))) (Ideal.exp (x2 (ix2 0 (j 1)))) (x5 (ix2 0 (j 1))) (x5 (ix2 1 (j 1))) (dr x3 x4 x6 (j 1)) (di x3 x4 x6 (j 1)) := by
  refine (Adam.whole _ _).trans (funext fun j => ?_)
  obtain ⟨s, rfl⟩ : ∃ s : Fin 2048, j = ix2 0 s := ⟨j 1, (eq_ix2 j).trans (congrArg (fun z : Fin 1 => (ix2 z (j 1) : S1x2048.Idx)) (Subsingleton.elim _ _))⟩
  exact e9 x0 x1 x2 x3 x4 x5 x6 x7 s

/-- What comes back to the two parts of the input's matrix. -/
def back (c : Fin 2) (h : Fin 16) (s : Fin 2048) : EReal :=
  if c = 0 then Zoh.zr (x0 (ix2 0 s)) (x1 (ix2 0 s)) (Ideal.exp (x2 (ix2 0 s))) * fold x6 0 h s + Zoh.zi (x0 (ix2 0 s)) (x1 (ix2 0 s)) (Ideal.exp (x2 (ix2 0 s))) * fold x6 1 h s
  else Zoh.zr (x0 (ix2 0 s)) (x1 (ix2 0 s)) (Ideal.exp (x2 (ix2 0 s))) * fold x6 1 h s - Zoh.zi (x0 (ix2 0 s)) (x1 (ix2 0 s)) (Ideal.exp (x2 (ix2 0 s))) * fold x6 0 h s

theorem p26 (s : Fin 2048) : k0_pay26 (F := Ideal) (k0_pay62 (F := Ideal) x0 x1 x2 x3 x4 x5 x6 x7) (k0_pay63 (F := Ideal) x0 x1 x2 x3 x4 x5 x6 x7) (k0_pay67 (F := Ideal) x0 x1 x2 x3 x4 x5 x6 x7)
    (k0_pay69 (F := Ideal) x0 x1 x2 x3 x4 x5 x6 x7) (k0_pay70 (F := Ideal) x0 x1 x2 x3 x4 x5 x6 x7) (ix2 0 s)
      = Zoh.zr (x0 (ix2 0 s)) (x1 (ix2 0 s)) (Ideal.exp (x2 (ix2 0 s))) := by
  pointwise [k0_pay26, k0_pay25, k0_pay24, p23, p62, p63, p69, Zoh.zr, Zoh.numr, Zoh.den]

theorem p29 (s : Fin 2048) : k0_pay29 (F := Ideal) (k0_pay62 (F := Ideal) x0 x1 x2 x3 x4 x5 x6 x7) (k0_pay63 (F := Ideal) x0 x1 x2 x3 x4 x5 x6 x7) (k0_pay67 (F := Ideal) x0 x1 x2 x3 x4 x5 x6 x7)
    (k0_pay69 (F := Ideal) x0 x1 x2 x3 x4 x5 x6 x7) (k0_pay70 (F := Ideal) x0 x1 x2 x3 x4 x5 x6 x7) (ix2 0 s)
      = Zoh.zi (x0 (ix2 0 s)) (x1 (ix2 0 s)) (Ideal.exp (x2 (ix2 0 s))) := by
  pointwise [k0_pay29, k0_pay28, k0_pay24, p23, p62, p63, p69, Zoh.zi, Zoh.numi, Zoh.den]

theorem out11 : out0_11 (F := Ideal) x0 x1 x2 x3 x4 x5 x6 x7 = fun j => back x0 x1 x2 x6 (j 0) (j 1) (j 2) := by
  refine Adam.pair _ _ _ _ _ (fun h s => ?_) (fun h s => ?_)
  · show _ = back x0 x1 x2 x6 1 h s
    rw [back, if_neg (by decide)]
    pointwise [k0_pay34, p26, p29, p60, p61]
  · show _ = back x0 x1 x2 x6 0 h s
    rw [back, if_pos rfl]
    pointwise [k0_pay33, p26, p29, p60, p61]

/-- What comes back to the logarithm of the step at one state. -/
def stepAt (s : Fin 2048) : EReal :=
  (Zoh.w1 (x0 (ix2 0 s)) (x1 (ix2 0 s)) (Ideal.exp (x2 (ix2 0 s))) (x5 (ix2 1 s)) (dr x3 x4 x6 s) (di x3 x4 x6 s)
    + Zoh.w2 (x0 (ix2 0 s)) (x1 (ix2 0 s)) (Ideal.exp (x2 (ix2 0 s))) (x5 (ix2 0 s)) (dr x3 x4 x6 s) (di x3 x4 x6 s)
    + Zoh.w3 (x0 (ix2 0 s)) (x1 (ix2 0 s)) (Ideal.exp (x2 (ix2 0 s))) (x5 (ix2 0 s)) (x5 (ix2 1 s)) (dr x3 x4 x6 s) (di x3 x4 x6 s)) * Ideal.exp (x2 (ix2 0 s))

/-- And at a whole group of 64 states, the columns after the last group zero. -/
def stepOf (g : Fin 128) : EReal :=
  if h : g.val < 32 then ∑ p : Fin 64, stepAt x0 x1 x2 x3 x4 x5 x6 ⟨g.val * 64 + p.val, by omega⟩ else 0

/-- A sum over the states that keeps one group. -/
theorem sum_group (F : Fin 2048 → EReal) (g : Fin 128) :
    ∑ s : Fin 2048, F s * (if s.val / 64 = g.val then 1 else 0) = if h : g.val < 32 then ∑ p : Fin 64, F ⟨g.val * 64 + p.val, by omega⟩ else 0 := by
  rw [Fin.sum_univ_tiles 32 64 (by norm_num)]
  have hd : ∀ (a : Fin 32) (p : Fin 64), (a.val * 64 + p.val) / 64 = a.val := fun a p => by omega
  simp only [hd]
  by_cases h : g.val < 32
  · rw [dif_pos h, Finset.sum_eq_single (⟨g.val, h⟩ : Fin 32)]
    · exact Finset.sum_congr rfl fun p _ => by rw [if_pos rfl, mul_one]
    · exact fun a _ ha => Finset.sum_eq_zero fun p _ => by rw [if_neg fun e => ha (Fin.ext e), mul_zero]
    · exact fun hn => absurd (Finset.mem_univ _) hn
  · rw [dif_neg h]
    exact Finset.sum_eq_zero fun a _ => Finset.sum_eq_zero fun p _ => by rw [if_neg (by omega), mul_zero]

/-- Whether a state is of a group, as a number. -/
theorem ind_eq {a b : Nat} (ha : a < 256) (hb : b < 256) :
    FloatOps.sitofp (F := Ideal) FTy.f32 (BitVec.setWidth 32 (IntOp.cmpi CmpIPredicate.eq (BitVec.ofNat 32 a) (BitVec.ofNat 32 b)))
      = ((if a = b then 1 else 0 : EReal)) := by
  show (((BitVec.setWidth 32 (IntOp.cmpi CmpIPredicate.eq (BitVec.ofNat 32 a) (BitVec.ofNat 32 b))).toInt : ℝ) : EReal) = _
  by_cases h : a = b
  · subst h
    simp [IntOp.cmpi]
  · have hne : BitVec.ofNat 32 a ≠ BitVec.ofNat 32 b := fun e => h (by
      have := congrArg BitVec.toNat e
      simp only [BitVec.toNat_ofNat] at this
      omega)
    have hb : (BitVec.ofNat 32 a == BitVec.ofNat 32 b) = false := beq_false_of_ne hne
    simp [IntOp.cmpi, h, hb]

theorem out10 : out0_10 (F := Ideal) x0 x1 x2 x3 x4 x5 x6 x7 = fun j => stepOf x0 x1 x2 x3 x4 x5 x6 (j 1) := by
  refine (Adam.whole _ _).trans (funext fun j => ?_)
  obtain ⟨i, g, rfl⟩ : ∃ (i : Fin 8) (g : Fin 128), j = ix2 i g := ⟨j 0, j 1, eq_ix2 j⟩
  show _ = stepOf x0 x1 x2 x3 x4 x5 x6 g
  refine Eq.trans ?_ (sum_group (stepAt x0 x1 x2 x3 x4 x5 x6) g)
  pointwise [k0_pay55, k0_pay47, p51, p53, p46, p62, p63, p64, stepAt, Zoh.w1, Zoh.w2, Zoh.w3]
  refine Finset.sum_congr rfl fun s _ => congrArg₂ (fun y z : EReal => y * z) rfl ?_
  rw [quot64 s]
  exact ind_eq (by omega) (by omega)

end Entries

section Run

variable (m : (ℓ : Loc nD τ sig) → Buf (Elt Ideal) ℓ) (ρ : Dev nD → PrngReg) (c : Dev nD)

abbrev a0 : S32x64.Idx → EReal := m ((c.tc : Thread nD τ).loc main_arg0)
abbrev a1 : S32x64.Idx → EReal := m ((c.tc : Thread nD τ).loc main_arg1)
abbrev a2 : S32.Idx → EReal := m ((c.tc : Thread nD τ).loc main_arg2)
abbrev a3 : S32x64x16.Idx → EReal := m ((c.tc : Thread nD τ).loc main_arg3)
abbrev a4 : S32x64x16.Idx → EReal := m ((c.tc : Thread nD τ).loc main_arg4)
abbrev a5 : S2x2048.Idx → EReal := m ((c.tc : Thread nD τ).loc main_arg5)
abbrev a6 : S2x4x128x512.Idx → EReal := m ((c.tc : Thread nD τ).loc main_arg6)
abbrev a7 : S2x4x128x512.Idx → EReal := m ((c.tc : Thread nD τ).loc main_arg7)

/-- The group of a state, and its place in the group. -/
def grp (s : Fin 2048) : Fin 32 := ⟨s.val / 64, by omega⟩
def plc (s : Fin 2048) : Fin 64 := ⟨s.val % 64, by omega⟩

theorem V0_at (s : Fin 2048) : (V m c main_v0 : S1x2048.Idx → EReal) (ix2 0 s) = a0 m c (ix2 (grp s) (plc s)) := by
  unfold V
  after_results
  pointwise [grp, plc]
theorem V1_at (s : Fin 2048) : (V m c main_v1 : S1x2048.Idx → EReal) (ix2 0 s) = a1 m c (ix2 (grp s) (plc s)) := by
  unfold V
  after_results
  pointwise [grp, plc]
theorem V4_at (s : Fin 2048) : (V m c main_v4 : S1x2048.Idx → EReal) (ix2 0 s) = a2 m c (ix1 (grp s)) := by
  unfold V
  after_results
  pointwise [grp, plc]
theorem V6_at (h : Fin 16) (s : Fin 2048) : (V m c main_v6 : S16x2048.Idx → EReal) (ix2 h s) = a3 m c (ix3 (grp s) (plc s) h) := by
  unfold V
  after_results
  pointwise [grp, plc]
theorem V8_at (h : Fin 16) (s : Fin 2048) : (V m c main_v8 : S16x2048.Idx → EReal) (ix2 h s) = a4 m c (ix3 (grp s) (plc s) h) := by
  unfold V
  after_results
  pointwise [grp, plc]

variable (t : Fin cfg0.N)

theorem idx_val : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0, 0, 0] ∧ win0_7.index t = ![0, 0, 0, 0]
    ∧ win0_8.index t = ![0, 0] ∧ win0_9.index t = ![0, 0] ∧ win0_10.index t = ![0, 0] ∧ win0_11.index t = ![0, 0, 0] ∧ win0_12.index t = ![0, 0, 0] := by
  decide +kernel

theorem i0 (s : Fin 2048) : (iblk m c 0 t : S1x2048.Idx → EReal) (ix2 0 s) = a0 m c (ix2 (grp s) (plc s)) := by
  rw [← V0_at]
  blk_ext [iblk, idx_val t]
  all_goals rfl
theorem i1 (s : Fin 2048) : (iblk m c 1 t : S1x2048.Idx → EReal) (ix2 0 s) = a1 m c (ix2 (grp s) (plc s)) := by
  rw [← V1_at]
  blk_ext [iblk, idx_val t]
  all_goals rfl
theorem i2 (s : Fin 2048) : (iblk m c 2 t : S1x2048.Idx → EReal) (ix2 0 s) = a2 m c (ix1 (grp s)) := by
  rw [← V4_at]
  blk_ext [iblk, idx_val t]
  all_goals rfl
theorem i3 (h : Fin 16) (s : Fin 2048) : (iblk m c 3 t : S16x2048.Idx → EReal) (ix2 h s) = a3 m c (ix3 (grp s) (plc s) h) := by
  rw [← V6_at]
  blk_ext [iblk, idx_val t]
  all_goals rfl
theorem i4 (h : Fin 16) (s : Fin 2048) : (iblk m c 4 t : S16x2048.Idx → EReal) (ix2 h s) = a4 m c (ix3 (grp s) (plc s) h) := by
  rw [← V8_at]
  blk_ext [iblk, idx_val t]
  all_goals rfl
theorem i5 (h : Fin 2) (s : Fin 2048) : (iblk m c 5 t : S2x2048.Idx → EReal) (ix2 h s) = a5 m c (ix2 h s) := by
  rw [show a5 m c = V m c main_arg5 from (V_main_arg5 m c).symm]
  blk_ext [iblk, idx_val t]
  all_goals rfl
theorem i6 (h : Fin 2) (j : Fin 4) (r : Fin 128) (q : Fin 512) : (iblk m c 6 t : S2x4x128x512.Idx → EReal) (ix4 h j r q) = a6 m c (ix4 h j r q) := by
  rw [show a6 m c = V m c main_arg6 from (V_main_arg6 m c).symm]
  blk_ext [iblk, idx_val t]
  all_goals rfl
theorem i7 (h : Fin 2) (j : Fin 4) (r : Fin 128) (q : Fin 512) : (iblk m c 7 t : S2x4x128x512.Idx → EReal) (ix4 h j r q) = a7 m c (ix4 h j r q) := by
  rw [show a7 m c = V m c main_arg7 from (V_main_arg7 m c).symm]
  blk_ext [iblk, idx_val t]
  all_goals rfl

/-- What comes back to the matrices' entries, of one state. -/
theorem fold6 (h : Fin 2) (k : Fin 16) (s : Fin 2048) : fold (iblk m c 6 t) h k s = fold (a6 m c) h k s := i6 m c t _ _ _ _
theorem fold7 (h : Fin 2) (k : Fin 16) (s : Fin 2048) : fold (iblk m c 7 t) h k s = fold (a7 m c) h k s := i7 m c t _ _ _ _

/-- What comes back to the input's factor, from the arguments. -/
def drA (s : Fin 2048) : EReal := ∑ h : Fin 16, (fold (a6 m c) 0 h s * a3 m c (ix3 (grp s) (plc s) h) + fold (a6 m c) 1 h s * a4 m c (ix3 (grp s) (plc s) h))
def diA (s : Fin 2048) : EReal := ∑ h : Fin 16, (fold (a6 m c) 1 h s * a3 m c (ix3 (grp s) (plc s) h) - fold (a6 m c) 0 h s * a4 m c (ix3 (grp s) (plc s) h))

theorem dr_at (s : Fin 2048) : dr (iblk m c 3 t) (iblk m c 4 t) (iblk m c 6 t) s = drA m c s := by
  simp only [dr, drA, fold6, i3, i4]
theorem di_at (s : Fin 2048) : di (iblk m c 3 t) (iblk m c 4 t) (iblk m c 6 t) s = diA m c s := by
  simp only [di, diA, fold6, i3, i4]

/-- The five results. -/
def lreA (s : Fin 2048) : EReal :=
  Zoh.dlr (a0 m c (ix2 (grp s) (plc s))) (a1 m c (ix2 (grp s) (plc s))) (Ideal.exp (a2 m c (ix1 (grp s)))) (a5 m c (ix2 0 s)) (a5 m c (ix2 1 s)) (drA m c s) (diA m c s)
def limA (s : Fin 2048) : EReal :=
  Zoh.dli (a0 m c (ix2 (grp s) (plc s))) (a1 m c (ix2 (grp s) (plc s))) (Ideal.exp (a2 m c (ix1 (grp s)))) (a5 m c (ix2 0 s)) (a5 m c (ix2 1 s)) (drA m c s) (diA m c s)
def stepA (s : Fin 2048) : EReal :=
  (Zoh.w1 (a0 m c (ix2 (grp s) (plc s))) (a1 m c (ix2 (grp s) (plc s))) (Ideal.exp (a2 m c (ix1 (grp s)))) (a5 m c (ix2 1 s)) (drA m c s) (diA m c s)
    + Zoh.w2 (a0 m c (ix2 (grp s) (plc s))) (a1 m c (ix2 (grp s) (plc s))) (Ideal.exp (a2 m c (ix1 (grp s)))) (a5 m c (ix2 0 s)) (drA m c s) (diA m c s)
    + Zoh.w3 (a0 m c (ix2 (grp s) (plc s))) (a1 m c (ix2 (grp s) (plc s))) (Ideal.exp (a2 m c (ix1 (grp s)))) (a5 m c (ix2 0 s)) (a5 m c (ix2 1 s)) (drA m c s) (diA m c s))
    * Ideal.exp (a2 m c (ix1 (grp s)))
def groupA (g : Fin 128) : EReal := if h : g.val < 32 then ∑ p : Fin 64, stepA m c ⟨g.val * 64 + p.val, by omega⟩ else 0
def zrA (s : Fin 2048) : EReal := Zoh.zr (a0 m c (ix2 (grp s) (plc s))) (a1 m c (ix2 (grp s) (plc s))) (Ideal.exp (a2 m c (ix1 (grp s))))
def ziA (s : Fin 2048) : EReal := Zoh.zi (a0 m c (ix2 (grp s) (plc s))) (a1 m c (ix2 (grp s) (plc s))) (Ideal.exp (a2 m c (ix1 (grp s))))
def backA (e : Fin 2) (h : Fin 16) (s : Fin 2048) : EReal :=
  if e = 0 then zrA m c s * fold (a6 m c) 0 h s + ziA m c s * fold (a6 m c) 1 h s else zrA m c s * fold (a6 m c) 1 h s - ziA m c s * fold (a6 m c) 0 h s

theorem congr₃ {α β γ δ : Type} (f : α → β → γ → δ) {a a' : α} {b b' : β} {d d' : γ} (h : a = a') (h' : b = b') (h'' : d = d') :
    f a b d = f a' b' d' := by rw [h, h', h'']

theorem lre_at (s : Fin 2048) : Zoh.dlr ((iblk m c 0 t : S1x2048.Idx → EReal) (ix2 0 s)) ((iblk m c 1 t : S1x2048.Idx → EReal) (ix2 0 s)) (Ideal.exp ((iblk m c 2 t : S1x2048.Idx → EReal) (ix2 0 s))) ((iblk m c 5 t : S2x2048.Idx → EReal) (ix2 0 s)) ((iblk m c 5 t : S2x2048.Idx → EReal) (ix2 1 s)) (dr (iblk m c 3 t) (iblk m c 4 t) (iblk m c 6 t) s) (di (iblk m c 3 t) (iblk m c 4 t) (iblk m c 6 t) s) = lreA m c s := by
  rw [i0, i1, i2, i5, i5, dr_at, di_at, lreA]
theorem lim_at (s : Fin 2048) : Zoh.dli ((iblk m c 0 t : S1x2048.Idx → EReal) (ix2 0 s)) ((iblk m c 1 t : S1x2048.Idx → EReal) (ix2 0 s)) (Ideal.exp ((iblk m c 2 t : S1x2048.Idx → EReal) (ix2 0 s))) ((iblk m c 5 t : S2x2048.Idx → EReal) (ix2 0 s)) ((iblk m c 5 t : S2x2048.Idx → EReal) (ix2 1 s)) (dr (iblk m c 3 t) (iblk m c 4 t) (iblk m c 6 t) s) (di (iblk m c 3 t) (iblk m c 4 t) (iblk m c 6 t) s) = limA m c s := by
  rw [i0, i1, i2, i5, i5, dr_at, di_at, limA]
theorem step_at (s : Fin 2048) : stepAt (iblk m c 0 t) (iblk m c 1 t) (iblk m c 2 t) (iblk m c 3 t) (iblk m c 4 t) (iblk m c 5 t) (iblk m c 6 t) s = stepA m c s := by
  rw [stepAt, i0, i1, i2, i5, i5, dr_at, di_at, stepA]
theorem group_at (g : Fin 128) : stepOf (iblk m c 0 t) (iblk m c 1 t) (iblk m c 2 t) (iblk m c 3 t) (iblk m c 4 t) (iblk m c 5 t) (iblk m c 6 t) g = groupA m c g := by
  simp only [stepOf, groupA, step_at]
theorem back_at (e : Fin 2) (h : Fin 16) (s : Fin 2048) : back (iblk m c 0 t) (iblk m c 1 t) (iblk m c 2 t) (iblk m c 6 t) e h s = backA m c e h s := by
  rw [back, i0, i1, i2, fold6, fold6, backA, zrA, ziA]

theorem left_8 : out0_8 (F := Ideal) (iblk m c 0 t) (iblk m c 1 t) (iblk m c 2 t) (iblk m c 3 t) (iblk m c 4 t) (iblk m c 5 t) (iblk m c 6 t) (iblk m c 7 t) = (fun j => lreA m c (j 1) : S1x2048.Idx → EReal) :=
  (out8 (iblk m c 0 t) (iblk m c 1 t) (iblk m c 2 t) (iblk m c 3 t) (iblk m c 4 t) (iblk m c 5 t) (iblk m c 6 t) (iblk m c 7 t)).trans (funext fun j => lre_at m c t (j 1))
theorem left_9 : out0_9 (F := Ideal) (iblk m c 0 t) (iblk m c 1 t) (iblk m c 2 t) (iblk m c 3 t) (iblk m c 4 t) (iblk m c 5 t) (iblk m c 6 t) (iblk m c 7 t) = (fun j => limA m c (j 1) : S1x2048.Idx → EReal) :=
  (out9 (iblk m c 0 t) (iblk m c 1 t) (iblk m c 2 t) (iblk m c 3 t) (iblk m c 4 t) (iblk m c 5 t) (iblk m c 6 t) (iblk m c 7 t)).trans (funext fun j => lim_at m c t (j 1))
theorem left_10 : out0_10 (F := Ideal) (iblk m c 0 t) (iblk m c 1 t) (iblk m c 2 t) (iblk m c 3 t) (iblk m c 4 t) (iblk m c 5 t) (iblk m c 6 t) (iblk m c 7 t) = (fun j => groupA m c (j 1) : S8x128.Idx → EReal) :=
  (out10 (iblk m c 0 t) (iblk m c 1 t) (iblk m c 2 t) (iblk m c 3 t) (iblk m c 4 t) (iblk m c 5 t) (iblk m c 6 t) (iblk m c 7 t)).trans (funext fun j => group_at m c t (j 1))
theorem left_11 : out0_11 (F := Ideal) (iblk m c 0 t) (iblk m c 1 t) (iblk m c 2 t) (iblk m c 3 t) (iblk m c 4 t) (iblk m c 5 t) (iblk m c 6 t) (iblk m c 7 t) = (fun j => backA m c (j 0) (j 1) (j 2) : S2x16x2048.Idx → EReal) :=
  (out11 (iblk m c 0 t) (iblk m c 1 t) (iblk m c 2 t) (iblk m c 3 t) (iblk m c 4 t) (iblk m c 5 t) (iblk m c 6 t) (iblk m c 7 t)).trans (funext fun j => back_at m c t (j 0) (j 1) (j 2))
theorem left_12 : out0_12 (F := Ideal) (iblk m c 0 t) (iblk m c 1 t) (iblk m c 2 t) (iblk m c 3 t) (iblk m c 4 t) (iblk m c 5 t) (iblk m c 6 t) (iblk m c 7 t) = (fun j => fold (a7 m c) (j 0) (j 1) (j 2) : S2x16x2048.Idx → EReal) :=
  (out12 (iblk m c 0 t) (iblk m c 1 t) (iblk m c 2 t) (iblk m c 3 t) (iblk m c 4 t) (iblk m c 5 t) (iblk m c 6 t) (iblk m c 7 t)).trans (funext fun j => fold7 m c t (j 0) (j 1) (j 2))

theorem final_8 : (dats m 0 c).arrAt 8 cfg0.N = (fun j => lreA m c (j 1) : S1x2048.Idx → EReal) := by
  refine (dats m 0 c).arrAt_eq_of_covers 8 _ (by decide +kernel) fun t hf y => ?_
  blk_simp; rw [after0_8, left_8]
  refine congrArg (lreA m c) (Fin.ext ?_)
  all_goals blk_simp [idx_val t]
theorem final_9 : (dats m 0 c).arrAt 9 cfg0.N = (fun j => limA m c (j 1) : S1x2048.Idx → EReal) := by
  refine (dats m 0 c).arrAt_eq_of_covers 9 _ (by decide +kernel) fun t hf y => ?_
  blk_simp; rw [after0_9, left_9]
  refine congrArg (limA m c) (Fin.ext ?_)
  all_goals blk_simp [idx_val t]
theorem final_10 : (dats m 0 c).arrAt 10 cfg0.N = (fun j => groupA m c (j 1) : S8x128.Idx → EReal) := by
  refine (dats m 0 c).arrAt_eq_of_covers 10 _ (by decide +kernel) fun t hf y => ?_
  blk_simp; rw [after0_10, left_10]
  refine congrArg (groupA m c) (Fin.ext ?_)
  all_goals blk_simp [idx_val t]
theorem final_11 : (dats m 0 c).arrAt 11 cfg0.N = (fun j => backA m c (j 0) (j 1) (j 2) : S2x16x2048.Idx → EReal) := by
  refine (dats m 0 c).arrAt_eq_of_covers 11 _ (by decide +kernel) fun t hf y => ?_
  blk_simp; rw [after0_11, left_11]
  refine congr₃ (backA m c) (Fin.ext ?_) (Fin.ext ?_) (Fin.ext ?_)
  all_goals blk_simp [idx_val t]
theorem final_12 : (dats m 0 c).arrAt 12 cfg0.N = (fun j => fold (a7 m c) (j 0) (j 1) (j 2) : S2x16x2048.Idx → EReal) := by
  refine (dats m 0 c).arrAt_eq_of_covers 12 _ (by decide +kernel) fun t hf y => ?_
  blk_simp; rw [after0_12, left_12]
  refine congr₃ (fold (a7 m c)) (Fin.ext ?_) (Fin.ext ?_) (Fin.ext ?_)
  all_goals blk_simp [idx_val t]

/-- The run, its result arrays named. -/
theorem run_named : θ_run defs (onTc (τ := τ) (main (F := Ideal))) ⟨m, fun _ => 0, ρ⟩ fun r => ∀ c : Dev nD,
      r.2.mem ((c.tc : Thread nD τ).loc main_v9_0) = (fun j => lreA m c (j 1) : S1x2048.Idx → EReal)
      ∧ r.2.mem ((c.tc : Thread nD τ).loc main_v9_1) = (fun j => limA m c (j 1) : S1x2048.Idx → EReal)
      ∧ r.2.mem ((c.tc : Thread nD τ).loc main_v9_2) = (fun j => groupA m c (j 1) : S8x128.Idx → EReal)
      ∧ r.2.mem ((c.tc : Thread nD τ).loc main_v9_3) = (fun j => backA m c (j 0) (j 1) (j 2) : S2x16x2048.Idx → EReal)
      ∧ r.2.mem ((c.tc : Thread nD τ).loc main_v9_4) = (fun j => fold (a7 m c) (j 0) (j 1) (j 2) : S2x16x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun r h c =>
    ⟨((h.1 c).1 8).trans (final_8 m c), ((h.1 c).1 9).trans (final_9 m c), ((h.1 c).1 10).trans (final_10 m c), ((h.1 c).1 11).trans (final_11 m c),
      ((h.1 c).1 12).trans (final_12 m c), h.2 c⟩

end Run
end Cert.ParamsIdeal.Value
end
-- ==== Proof.Params.Ref.lean ====
module

public import proofs.«01_k».proof.Proof.Gen.ParamsRefIdeal.Read
public import proofs.«01_k».proof.Proof.Params.Out

@[expose] public section

set_option maxRecDepth 16384
noncomputable section
open Idealize.ShloMosaic Idealize.ShloMosaic.TcCoe Idealize.SL.Sem

/-! # What the reference of the parameters' backward pass computes, entry by entry -/

namespace Cert.Proof.Params
open Cert.ParamsRefIdeal Cert.ParamsRefIdeal.Read
open Cert.ParamsIdeal.Value (fold cmp_eq)

/-- State `p` of group `g`. -/
def st (g : Fin 32) (p : Fin 64) : Fin 2048 := ⟨g.val * 64 + p.val, by omega⟩

section Entries

variable (x0 x1 : FVec Ideal S32x64 .f32) (x2 : FVec Ideal S32 .f32) (x3 x4 : FVec Ideal S32x64x16 .f32) (x5 : FVec Ideal S2x2048 .f32)
  (x6 x7 : FVec Ideal S2x4x128x512 .f32) (g : Fin 32) (p : Fin 64)

/-- The two parts of the input matrix's gradient, folded from the tiles into the groups. -/
theorem d0 (h : Fin 16) : val_main_v13 (F := Ideal) x6 (ix3 g p h) = fold x6 0 h (st g p) := by
  pointwise [val_main_v13, val_main_v12, val_main_v11, val_main_v10, val_main_v9, val_main_v3, val_main_v2, val_main_v1, val_main_v7,
    val_main_v6, val_main_v4, val_main_v5, val_main_v8, val_main_cst, val_main_cst_0]
  refine (Finset.sum_eq_single (⟨g.val % 8, by omega⟩ : Fin 8) (fun b _ hb => ?_) fun hb => (hb (Finset.mem_univ _)).elim).trans ?_
  · rw [cmp_eq (by omega) (by omega), if_neg fun e => hb (Fin.ext e)]
  · rw [cmp_eq (by omega) (by omega), if_pos rfl]
    refine congrArg x6 ?_
    simp only [st]
    congr 1 <;> exact Fin.ext (by simp only []; omega)

theorem d1 (h : Fin 16) : val_main_v26 (F := Ideal) x6 (ix3 g p h) = fold x6 1 h (st g p) := by
  pointwise [val_main_v26, val_main_v25, val_main_v24, val_main_v23, val_main_v22, val_main_v16, val_main_v15, val_main_v14, val_main_v20,
    val_main_v19, val_main_v17, val_main_v18, val_main_v21, val_main_cst_1, val_main_cst_2]
  refine (Finset.sum_eq_single (⟨g.val % 8, by omega⟩ : Fin 8) (fun b _ hb => ?_) fun hb => (hb (Finset.mem_univ _)).elim).trans ?_
  · rw [cmp_eq (by omega) (by omega), if_neg fun e => hb (Fin.ext e)]
  · rw [cmp_eq (by omega) (by omega), if_pos rfl]
    refine congrArg x6 ?_
    simp only [st]
    congr 1 <;> exact Fin.ext (by simp only []; omega)

/-- The two parts of the output matrix's gradient. -/
theorem q0 (h : Fin 16) (s : Fin 2048) : val_main_v180 (F := Ideal) x7 (ix2 h s) = fold x7 0 h s := by
  pointwise [val_main_v180, val_main_v179, val_main_v178, val_main_v177, val_main_v176, val_main_v175, val_main_v169, val_main_v168,
    val_main_v167, val_main_v173, val_main_v172, val_main_v170, val_main_v171, val_main_v174, val_main_cst_16, val_main_cst_17]
  refine (Finset.sum_eq_single (⟨s.val / 64 % 8, by omega⟩ : Fin 8) (fun b _ hb => ?_) fun hb => (hb (Finset.mem_univ _)).elim).trans ?_
  · rw [cmp_eq (by omega) (by omega), if_neg fun e => hb (Fin.ext e)]
  · rw [cmp_eq (by omega) (by omega), if_pos rfl]
    refine congrArg x7 ?_
    congr 1 <;> exact Fin.ext (by simp only []; omega)

theorem q1 (h : Fin 16) (s : Fin 2048) : val_main_v194 (F := Ideal) x7 (ix2 h s) = fold x7 1 h s := by
  pointwise [val_main_v194, val_main_v193, val_main_v192, val_main_v191, val_main_v190, val_main_v189, val_main_v183, val_main_v182,
    val_main_v181, val_main_v187, val_main_v186, val_main_v184, val_main_v185, val_main_v188, val_main_cst_18, val_main_cst_19]
  refine (Finset.sum_eq_single (⟨s.val / 64 % 8, by omega⟩ : Fin 8) (fun b _ hb => ?_) fun hb => (hb (Finset.mem_univ _)).elim).trans ?_
  · rw [cmp_eq (by omega) (by omega), if_neg fun e => hb (Fin.ext e)]
  · rw [cmp_eq (by omega) (by omega), if_pos rfl]
    refine congrArg x7 ?_
    congr 1 <;> exact Fin.ext (by simp only []; omega)

/-- The gradient of the factor's real part: the two parts against the two parts of the input matrix. -/
def drR : EReal := ∑ h : Fin 16, (fold x6 0 h (st g p) * x3 (ix3 g p h) + fold x6 1 h (st g p) * x4 (ix3 g p h))
/-- The gradient of its imaginary part. -/
def diR : EReal := ∑ h : Fin 16, (fold x6 1 h (st g p) * x3 (ix3 g p h) - fold x6 0 h (st g p) * x4 (ix3 g p h))

theorem dr_val : val_main_v101 (F := Ideal) x3 x4 x6 (ix3 g p 0) = (drR x3 x4 x6 g p) := by
  pointwise [val_main_v101, val_main_v86, val_main_v85, val_main_v84, val_main_cst_7, val_main_v100, val_main_v99, val_main_v98,
    val_main_cst_9, d1, d0]
  rw [drR, Finset.sum_add_distrib, add_comm]

theorem di_val : val_main_v94 (F := Ideal) x3 x4 x6 (ix3 g p 0) = (diR x3 x4 x6 g p) := by
  pointwise [val_main_v94, val_main_v81, val_main_v80, val_main_v79, val_main_cst_6, val_main_v93, val_main_v92, val_main_v91, val_main_v87,
    val_main_cst_8, d1, d0]
  rw [diR]
  simp only [sub_eq_add_neg, Finset.sum_add_distrib, neg_mul]

theorem dr_one : val_main_v114 (F := Ideal) x3 x4 x6 (ix2 g p) = (drR x3 x4 x6 g p) := by
  pointwise [val_main_v114, val_main_cst_11, dr_val]
  exact (Fin.sum_univ_one _).trans (dr_val x3 x4 x6 g p)

theorem di_one : val_main_v102 (F := Ideal) x3 x4 x6 (ix2 g p) = (diR x3 x4 x6 g p) := by
  pointwise [val_main_v102, val_main_cst_10, di_val]
  exact (Fin.sum_univ_one _).trans (di_val x3 x4 x6 g p)

theorem mag_val : val_main_v31 (F := Ideal) x0 x2 (ix2 g p) = Zoh.mag (x0 (ix2 g p)) (Ideal.exp (x2 (ix1 g))) := by
  pointwise [val_main_v31, val_main_v30, val_main_v29, val_main_v28, val_main_v27] <;> rfl

theorem cs_val : val_main_v34 (F := Ideal) x1 x2 (ix2 g p) = Zoh.cs (x1 (ix2 g p)) (Ideal.exp (x2 (ix1 g))) := by
  pointwise [val_main_v34, val_main_v33, val_main_v32, val_main_v28, val_main_v27] <;> rfl

theorem sn_val : val_main_v35 (F := Ideal) x1 x2 (ix2 g p) = Zoh.sn (x1 (ix2 g p)) (Ideal.exp (x2 (ix1 g))) := by
  pointwise [val_main_v35, val_main_v33, val_main_v32, val_main_v28, val_main_v27] <;> rfl

theorem cs_val1 : val_main_v40 (F := Ideal) x1 x2 (ix2 g p) = Zoh.cs (x1 (ix2 g p)) (Ideal.exp (x2 (ix1 g))) := by
  pointwise [val_main_v40, val_main_v38, val_main_v37, val_main_v28, val_main_v27] <;> rfl

theorem sn_val1 : val_main_v39 (F := Ideal) x1 x2 (ix2 g p) = Zoh.sn (x1 (ix2 g p)) (Ideal.exp (x2 (ix1 g))) := by
  pointwise [val_main_v39, val_main_v38, val_main_v37, val_main_v28, val_main_v27] <;> rfl

theorem ni_val : val_main_v41 (F := Ideal) x0 x1 x2 (ix2 g p) = Zoh.ni (x0 (ix2 g p)) (x1 (ix2 g p)) (Ideal.exp (x2 (ix1 g))) := by
  pointwise [val_main_v41, mag_val, sn_val1] <;> rfl

theorem nr_val : val_main_v43 (F := Ideal) x0 x1 x2 (ix2 g p) = Zoh.nr (x0 (ix2 g p)) (x1 (ix2 g p)) (Ideal.exp (x2 (ix1 g))) := by
  pointwise [val_main_v43, val_main_v36, val_main_v42, mag_val, cs_val] <;> rfl

theorem den_val : val_main_v46 (F := Ideal) x0 x1 (ix2 g p) = Zoh.den (x0 (ix2 g p)) (x1 (ix2 g p)) := by
  pointwise [val_main_v46, val_main_v44, val_main_v45] <;> rfl

theorem numr_val : val_main_v49 (F := Ideal) x0 x1 x2 (ix2 g p) = Zoh.numr (x0 (ix2 g p)) (x1 (ix2 g p)) (Ideal.exp (x2 (ix1 g))) := by
  pointwise [val_main_v49, val_main_v47, val_main_v48, nr_val, ni_val] <;> rfl

theorem numi_val : val_main_v57 (F := Ideal) x0 x1 x2 (ix2 g p) = Zoh.numi (x0 (ix2 g p)) (x1 (ix2 g p)) (Ideal.exp (x2 (ix1 g))) := by
  pointwise [val_main_v57, val_main_v55, val_main_v56, ni_val, nr_val] <;> rfl

theorem rec_val : val_main_v53 (F := Ideal) x0 x1 (ix2 g p) = Zoh.rec (x0 (ix2 g p)) (x1 (ix2 g p)) := by
  pointwise [val_main_v53, val_main_v51, val_main_v52, den_val] <;> rfl

theorem rec_val1 : val_main_v61 (F := Ideal) x0 x1 (ix2 g p) = Zoh.rec (x0 (ix2 g p)) (x1 (ix2 g p)) := by
  pointwise [val_main_v61, val_main_v59, val_main_v60, den_val] <;> rfl

theorem zr_val : val_main_v54 (F := Ideal) x0 x1 x2 (ix3 g p 0) = Zoh.zr (x0 (ix2 g p)) (x1 (ix2 g p)) (Ideal.exp (x2 (ix1 g))) := by
  pointwise [val_main_v54, val_main_v50, den_val, numr_val] <;> rfl

theorem zi_val : val_main_v62 (F := Ideal) x0 x1 x2 (ix3 g p 0) = Zoh.zi (x0 (ix2 g p)) (x1 (ix2 g p)) (Ideal.exp (x2 (ix1 g))) := by
  pointwise [val_main_v62, val_main_v58, den_val, numi_val] <;> rfl

theorem da_val : val_main_v74 (F := Ideal) x5 (ix2 g p) = x5 (ix2 0 (st g p)) := by
  pointwise [val_main_v74, val_main_v73, val_main_v0] <;> rfl

theorem db_val : val_main_v76 (F := Ideal) x5 (ix2 g p) = x5 (ix2 1 (st g p)) := by
  pointwise [val_main_v76, val_main_v75, val_main_v0] <;> rfl

theorem gi_val : val_main_v106 (F := Ideal) x0 x1 x3 x4 x6 (ix2 g p) = Zoh.gi (x0 (ix2 g p)) (x1 (ix2 g p)) (diR x3 x4 x6 g p) := by
  pointwise [val_main_v106, den_val, di_one] <;> rfl

theorem gr_val : val_main_v119 (F := Ideal) x0 x1 x3 x4 x6 (ix2 g p) = Zoh.gr (x0 (ix2 g p)) (x1 (ix2 g p)) (drR x3 x4 x6 g p) := by
  pointwise [val_main_v119, den_val, dr_one] <;> rfl

theorem dden_val : val_main_v118 (F := Ideal) x0 x1 x2 x3 x4 x6 (ix2 g p) = Zoh.dden (x0 (ix2 g p)) (x1 (ix2 g p)) (Ideal.exp (x2 (ix1 g))) (drR x3 x4 x6 g p) (diR x3 x4 x6 g p) := by
  pointwise [val_main_v118, val_main_v105, val_main_v104, val_main_v103, val_main_v117, val_main_v116, val_main_v115, numi_val, rec_val1,
    di_one, numr_val, rec_val, dr_one] <;> rfl

theorem dar_val : val_main_v127 (F := Ideal) x0 x1 x3 x4 x5 x6 (ix2 g p) = Zoh.dar (x0 (ix2 g p)) (x1 (ix2 g p)) (x5 (ix2 0 (st g p))) (drR x3 x4 x6 g p) (diR x3 x4 x6 g p) := by
  pointwise [val_main_v127, val_main_v110, val_main_v109, val_main_v107, val_main_v126, da_val, gi_val, gr_val] <;> rfl

theorem dai_val : val_main_v123 (F := Ideal) x0 x1 x3 x4 x5 x6 (ix2 g p) = Zoh.dai (x0 (ix2 g p)) (x1 (ix2 g p)) (x5 (ix2 1 (st g p))) (drR x3 x4 x6 g p) (diR x3 x4 x6 g p) := by
  pointwise [val_main_v123, val_main_v113, val_main_v112, val_main_v122, db_val, gi_val, gr_val] <;> rfl

theorem t1_val : val_main_v138 (F := Ideal) x0 x1 x2 x3 x4 x5 x6 (ix2 g p) = Zoh.t1 (x0 (ix2 g p)) (x1 (ix2 g p)) (Ideal.exp (x2 (ix1 g))) (x5 (ix2 1 (st g p))) (drR x3 x4 x6 g p) (diR x3 x4 x6 g p) := by
  pointwise [val_main_v138, val_main_v136, cs_val1, mag_val, dai_val] <;> rfl

theorem t2_val : val_main_v149 (F := Ideal) x0 x1 x2 x3 x4 x5 x6 (ix2 g p) = Zoh.t2 (x0 (ix2 g p)) (x1 (ix2 g p)) (Ideal.exp (x2 (ix1 g))) (x5 (ix2 0 (st g p))) (drR x3 x4 x6 g p) (diR x3 x4 x6 g p) := by
  pointwise [val_main_v149, val_main_v148, val_main_v145, sn_val, mag_val, dar_val] <;> rfl

theorem t3_val : val_main_v157 (F := Ideal) x0 x1 x2 x3 x4 x5 x6 (ix2 g p) = Zoh.t3 (x0 (ix2 g p)) (x1 (ix2 g p)) (Ideal.exp (x2 (ix1 g))) (x5 (ix2 0 (st g p))) (x5 (ix2 1 (st g p))) (drR x3 x4 x6 g p) (diR x3 x4 x6 g p) := by
  pointwise [val_main_v157, val_main_v147, val_main_v137, val_main_v146, mag_val, sn_val1, dai_val, cs_val, dar_val] <;> rfl

theorem dlr_val : val_main_v164 (F := Ideal) x0 x1 x2 x3 x4 x5 x6 (ix2 g p) = Zoh.dlr (x0 (ix2 g p)) (x1 (ix2 g p)) (Ideal.exp (x2 (ix1 g))) (x5 (ix2 0 (st g p))) (x5 (ix2 1 (st g p))) (drR x3 x4 x6 g p) (diR x3 x4 x6 g p) := by
  pointwise [val_main_v164, val_main_v135, val_main_v133, val_main_v125, val_main_v111, val_main_v124, val_main_v132, val_main_v134,
    val_main_v163, val_main_v162, val_main_v28, val_main_v27, ni_val, gi_val, nr_val, gr_val, dden_val, t3_val] <;> rfl

theorem dli_val : val_main_v156 (F := Ideal) x0 x1 x2 x3 x4 x5 x6 (ix2 g p) = Zoh.dli (x0 (ix2 g p)) (x1 (ix2 g p)) (Ideal.exp (x2 (ix1 g))) (x5 (ix2 0 (st g p))) (x5 (ix2 1 (st g p))) (drR x3 x4 x6 g p) (diR x3 x4 x6 g p) := by
  pointwise [val_main_v156, val_main_v144, val_main_v131, val_main_v129, val_main_v121, val_main_v108, val_main_v107, val_main_v120,
    val_main_v128, val_main_v130, val_main_v143, val_main_v142, val_main_v28, val_main_v27, val_main_v155, val_main_v154, nr_val,
    gi_val, ni_val, gr_val, dden_val, t1_val, t2_val] <;> rfl

/-- The gradient of the input matrix: its two parts through the factor. -/
theorem re_val (h : Fin 16) : val_main_v97 (F := Ideal) x0 x1 x2 x6 (ix3 g p h) = Zoh.zr (x0 (ix2 g p)) (x1 (ix2 g p)) (Ideal.exp (x2 (ix1 g))) * fold x6 0 h (st g p) + Zoh.zi (x0 (ix2 g p)) (x1 (ix2 g p)) (Ideal.exp (x2 (ix1 g))) * fold x6 1 h (st g p) := by
  pointwise [val_main_v97, val_main_v78, val_main_v77, val_main_v96, val_main_v95, d1, zi_val, d0, zr_val]
  rw [add_comm]

theorem im_val (h : Fin 16) : val_main_v90 (F := Ideal) x0 x1 x2 x6 (ix3 g p h) = Zoh.zr (x0 (ix2 g p)) (x1 (ix2 g p)) (Ideal.exp (x2 (ix1 g))) * fold x6 1 h (st g p) - Zoh.zi (x0 (ix2 g p)) (x1 (ix2 g p)) (Ideal.exp (x2 (ix1 g))) * fold x6 0 h (st g p) := by
  pointwise [val_main_v90, val_main_v83, val_main_v82, val_main_v89, val_main_v87, val_main_v88, d1, zr_val, d0, zi_val]
  rw [sub_eq_add_neg, mul_neg]

theorem sum1 : val_main_v140 (F := Ideal) x0 x1 x2 x3 x4 x5 x6 (ix1 g) = ∑ p : Fin 64, Zoh.w1 (x0 (ix2 g p)) (x1 (ix2 g p)) (Ideal.exp (x2 (ix1 g))) (x5 (ix2 1 (st g p))) (drR x3 x4 x6 g p) (diR x3 x4 x6 g p) := by
  pointwise [val_main_v140, val_main_v139, val_main_cst_12, t1_val] <;> rfl

theorem sum2 : val_main_v151 (F := Ideal) x0 x1 x2 x3 x4 x5 x6 (ix1 g) = ∑ p : Fin 64, Zoh.w2 (x0 (ix2 g p)) (x1 (ix2 g p)) (Ideal.exp (x2 (ix1 g))) (x5 (ix2 0 (st g p))) (drR x3 x4 x6 g p) (diR x3 x4 x6 g p) := by
  pointwise [val_main_v151, val_main_v150, val_main_cst_13, t2_val] <;> rfl

theorem sum3 : val_main_v159 (F := Ideal) x0 x1 x2 x3 x4 x5 x6 (ix1 g) = ∑ p : Fin 64, Zoh.w3 (x0 (ix2 g p)) (x1 (ix2 g p)) (Ideal.exp (x2 (ix1 g))) (x5 (ix2 0 (st g p))) (x5 (ix2 1 (st g p))) (drR x3 x4 x6 g p) (diR x3 x4 x6 g p) := by
  pointwise [val_main_v159, val_main_v158, val_main_cst_14, t3_val] <;> rfl

theorem sums : val_main_v161 (F := Ideal) x0 x1 x2 x3 x4 x5 x6 (ix2 g 0) = (∑ p : Fin 64, Zoh.w1 (x0 (ix2 g p)) (x1 (ix2 g p)) (Ideal.exp (x2 (ix1 g))) (x5 (ix2 1 (st g p))) (drR x3 x4 x6 g p) (diR x3 x4 x6 g p)) + (∑ p : Fin 64, Zoh.w2 (x0 (ix2 g p)) (x1 (ix2 g p)) (Ideal.exp (x2 (ix1 g))) (x5 (ix2 0 (st g p))) (drR x3 x4 x6 g p) (diR x3 x4 x6 g p)) + ∑ p : Fin 64, Zoh.w3 (x0 (ix2 g p)) (x1 (ix2 g p)) (Ideal.exp (x2 (ix1 g))) (x5 (ix2 0 (st g p))) (x5 (ix2 1 (st g p))) (drR x3 x4 x6 g p) (diR x3 x4 x6 g p) := by
  pointwise [val_main_v161, val_main_v153, val_main_v141, val_main_v152, val_main_v160, sum1, sum2, sum3] <;> rfl

/-- The gradient of a group's step, multiplied in after the sum over the group's states. -/
theorem step_val : val_main_v166 (F := Ideal) x0 x1 x2 x3 x4 x5 x6 (ix1 g) = ∑ p : Fin 64, (Zoh.w1 (x0 (ix2 g p)) (x1 (ix2 g p)) (Ideal.exp (x2 (ix1 g))) (x5 (ix2 1 (st g p))) (drR x3 x4 x6 g p) (diR x3 x4 x6 g p) + Zoh.w2 (x0 (ix2 g p)) (x1 (ix2 g p)) (Ideal.exp (x2 (ix1 g))) (x5 (ix2 0 (st g p))) (drR x3 x4 x6 g p) (diR x3 x4 x6 g p) + Zoh.w3 (x0 (ix2 g p)) (x1 (ix2 g p)) (Ideal.exp (x2 (ix1 g))) (x5 (ix2 0 (st g p))) (x5 (ix2 1 (st g p))) (drR x3 x4 x6 g p) (diR x3 x4 x6 g p)) * (Ideal.exp (x2 (ix1 g))) := by
  pointwise [val_main_v166, val_main_v27, val_main_v165, val_main_cst_15]
  refine .trans ?_ (Zoh.group_sum _ _ _ _ _ _ _).symm
  exact congrArg (fun z : EReal => z * Ideal.exp (x2 (ix1 g))) ((Fin.sum_univ_one _).trans (sums x0 x1 x2 x3 x4 x5 x6 g))

end Entries
end Cert.Proof.Params
end
-- ==== Proof.Params.Claim.lean ====
module

public import proofs.«01_k».proof.Defs
public import proofs.«01_k».proof.Proof.Params.Ref
public import proofs.«01_k».proof.Proof.Adam.Step
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The parameters' backward pass: the call's results are the reference's -/

namespace Cert.Proof.Params
open Cert.ParamsRefIdeal Cert.ParamsRefIdeal.Read
open Cert.ParamsIdeal.Value (fold a0 a1 a2 a3 a4 a5 a6 a7 grp plc drA diA lreA limA stepA groupA zrA ziA backA)

theorem st_of (s : Fin 2048) : st (grp s) (plc s) = s := Fin.ext (by simp only [st, grp, plc]; omega)
theorem grp_st (g : Fin 32) (p : Fin 64) : grp (st g p) = g := Fin.ext (by simp only [st, grp]; omega)
theorem plc_st (g : Fin 32) (p : Fin 64) : plc (st g p) = p := Fin.ext (by simp only [st, plc]; omega)

variable (m : (ℓ : Loc Cert.ParamsIdeal.nD Cert.ParamsIdeal.τ Cert.ParamsIdeal.sig) → Buf (Elt Ideal) ℓ) (c : Dev Cert.ParamsIdeal.nD)

theorem dr_same (s : Fin 2048) : drR (a3 m c) (a4 m c) (a6 m c) (grp s) (plc s) = drA m c s := by rw [drR, drA, st_of]
theorem di_same (s : Fin 2048) : diR (a3 m c) (a4 m c) (a6 m c) (grp s) (plc s) = diA m c s := by rw [diR, diA, st_of]

/-- The gradient of a state's rate is the same. -/
theorem lre_same : val_main_v198 (F := Ideal) (a0 m c) (a1 m c) (a2 m c) (a3 m c) (a4 m c) (a5 m c) (a6 m c)
    = (fun j => lreA m c (j 1) : S1x2048.Idx → EReal) := by
  funext j
  obtain ⟨s, rfl⟩ : ∃ s : Fin 2048, j = ix2 0 s :=
    ⟨j 1, (eq_ix2 j).trans (congrArg (fun z : Fin 1 => (ix2 z (j 1) : S1x2048.Idx)) (Subsingleton.elim _ _))⟩
  have e : val_main_v198 (F := Ideal) (a0 m c) (a1 m c) (a2 m c) (a3 m c) (a4 m c) (a5 m c) (a6 m c) (ix2 0 s)
      = val_main_v164 (F := Ideal) (a0 m c) (a1 m c) (a2 m c) (a3 m c) (a4 m c) (a5 m c) (a6 m c) (ix2 (grp s) (plc s)) := by
    pointwise [val_main_v198] <;> rfl
  rw [e, dlr_val, st_of, dr_same, di_same]
  rfl

/-- The gradient of its frequency is the same. -/
theorem lim_same : val_main_v199 (F := Ideal) (a0 m c) (a1 m c) (a2 m c) (a3 m c) (a4 m c) (a5 m c) (a6 m c)
    = (fun j => limA m c (j 1) : S1x2048.Idx → EReal) := by
  funext j
  obtain ⟨s, rfl⟩ : ∃ s : Fin 2048, j = ix2 0 s :=
    ⟨j 1, (eq_ix2 j).trans (congrArg (fun z : Fin 1 => (ix2 z (j 1) : S1x2048.Idx)) (Subsingleton.elim _ _))⟩
  have e : val_main_v199 (F := Ideal) (a0 m c) (a1 m c) (a2 m c) (a3 m c) (a4 m c) (a5 m c) (a6 m c) (ix2 0 s)
      = val_main_v156 (F := Ideal) (a0 m c) (a1 m c) (a2 m c) (a3 m c) (a4 m c) (a5 m c) (a6 m c) (ix2 (grp s) (plc s)) := by
    pointwise [val_main_v199] <;> rfl
  rw [e, dli_val, st_of, dr_same, di_same]
  rfl

theorem step_same (g : Fin 32) : val_main_v166 (F := Ideal) (a0 m c) (a1 m c) (a2 m c) (a3 m c) (a4 m c) (a5 m c) (a6 m c) (ix1 g)
    = ∑ p : Fin 64, stepA m c (st g p) := by
  rw [step_val]
  refine Finset.sum_congr rfl fun p _ => ?_
  rw [stepA, ← dr_same, ← di_same, grp_st, plc_st]

theorem group_at (g : Fin 128) : val_main_v196 (F := Ideal) (a0 m c) (a1 m c) (a2 m c) (a3 m c) (a4 m c) (a5 m c) (a6 m c) (ix1 g) = groupA m c g := by
  rw [groupA]
  split
  · rename_i h
    refine Eq.trans ?_ (step_same m c ⟨g.val, h⟩)
    pointwise [val_main_v196]
    exact dif_pos h
  · rename_i h
    pointwise [val_main_v196, val_main_v195, val_main_cst_20]
    exact dif_neg h

/-- The gradient of the groups' steps is the same. -/
theorem group_same : val_main_v197 (F := Ideal) (a0 m c) (a1 m c) (a2 m c) (a3 m c) (a4 m c) (a5 m c) (a6 m c)
    = (fun j => groupA m c (j 1) : S8x128.Idx → EReal) := by
  funext j
  idx_vars j
  refine Eq.trans ?_ (group_at m c j1)
  pointwise [val_main_v197]

/-- The gradient of the input matrix is the same. -/
theorem back_same : val_main_v206 (F := Ideal) (a0 m c) (a1 m c) (a2 m c) (a6 m c)
    = (fun j => backA m c (j 0) (j 1) (j 2) : S2x16x2048.Idx → EReal) := by
  refine Adam.joined _ _ _ _ (fun h s => ?_) fun h s => ?_
  · have e : val_main_v204 (F := Ideal) (a0 m c) (a1 m c) (a2 m c) (a6 m c) (ix3 0 h s)
        = val_main_v97 (F := Ideal) (a0 m c) (a1 m c) (a2 m c) (a6 m c) (ix3 (grp s) (plc s) h) := by
      pointwise [val_main_v204, val_main_v201, val_main_v200] <;> rfl
    rw [e, re_val, st_of]
    exact (if_pos rfl).symm
  · have e : val_main_v205 (F := Ideal) (a0 m c) (a1 m c) (a2 m c) (a6 m c) (ix3 0 h s)
        = val_main_v90 (F := Ideal) (a0 m c) (a1 m c) (a2 m c) (a6 m c) (ix3 (grp s) (plc s) h) := by
      pointwise [val_main_v205, val_main_v203, val_main_v202] <;> rfl
    rw [e, im_val, st_of]
    exact (if_neg (by simp)).symm

/-- The gradient of the output matrix is the same. -/
theorem out_same : val_main_v209 (F := Ideal) (a7 m c) = (fun j => fold (a7 m c) (j 0) (j 1) (j 2) : S2x16x2048.Idx → EReal) := by
  refine Adam.joined _ _ _ _ (fun h s => ?_) fun h s => ?_
  · refine Eq.trans ?_ (q0 (a7 m c) h s)
    pointwise [val_main_v207] <;> rfl
  · refine Eq.trans ?_ (q1 (a7 m c) h s)
    pointwise [val_main_v208] <;> rfl

/-- The call and its reference leave the same five results. -/
theorem alg : Cert.algebraic_ParamsIdeal_ParamsRefIdeal (hParamsIdeal := Cert.ParamsIdeal.Gen.facts)
    (hParamsRefIdeal := Cert.ParamsRefIdeal.Gen.facts) := by
  pair_intro
  · run_from Cert.ParamsIdeal.Value.run_named m g
  · refine θ_run_mono (Cert.ParamsRefIdeal.Value.run m' g') fun r hr c => ?_
    obtain ⟨e0, e1, e2, e3, e4, e5, e6, e7⟩ := hagree c
    obtain ⟨h0, h1, h2, h3, h4, hr⟩ := hr c
    have f0 : StableHlo.launchContents m' c (Proc.tc.devRef main_arg0) = a0 m c := e0
    have f1 : StableHlo.launchContents m' c (Proc.tc.devRef main_arg1) = a1 m c := e1
    have f2 : StableHlo.launchContents m' c (Proc.tc.devRef main_arg2) = a2 m c := e2
    have f3 : StableHlo.launchContents m' c (Proc.tc.devRef main_arg3) = a3 m c := e3
    have f4 : StableHlo.launchContents m' c (Proc.tc.devRef main_arg4) = a4 m c := e4
    have f5 : StableHlo.launchContents m' c (Proc.tc.devRef main_arg5) = a5 m c := e5
    have f6 : StableHlo.launchContents m' c (Proc.tc.devRef main_arg6) = a6 m c := e6
    have f7 : StableHlo.launchContents m' c (Proc.tc.devRef main_arg7) = a7 m c := e7
    refine ⟨h0.trans ((val_main_v198_eq (F := Ideal) _).trans (Eq.trans (by rw [f0, f1, f2, f3, f4, f5, f6]) (lre_same m c))),
      h1.trans ((val_main_v199_eq (F := Ideal) _).trans (Eq.trans (by rw [f0, f1, f2, f3, f4, f5, f6]) (lim_same m c))),
      h2.trans ((val_main_v197_eq (F := Ideal) _).trans (Eq.trans (by rw [f0, f1, f2, f3, f4, f5, f6]) (group_same m c))),
      h3.trans ((val_main_v206_eq (F := Ideal) _).trans (Eq.trans (by rw [f0, f1, f2, f6]) (back_same m c))),
      h4.trans ((val_main_v209_eq (F := Ideal) _).trans (Eq.trans (by rw [f7]) (out_same m c))), hr⟩

/-- The reference, which has host lines only, leaves its arguments and every counter as they were. -/
theorem refFrame : Cert.quiescent_ParamsRefIdeal (hParamsRefIdeal := Cert.ParamsRefIdeal.Gen.facts) := fun m ρ _ =>
  θ_run_mono (Cert.ParamsRefIdeal.Value.run m ρ) fun r h =>
    ⟨fun c => (h c).2.2.2.2.2, sem_eq_zero_of_no_sems (by decide) r.2⟩

end Cert.Proof.Params
end
-- ==== Proof.Merge.Maths.lean ====
module

public import proofs.«01_k».proof.Proof.FfnBwd.Maths

@[expose] public section

set_option maxRecDepth 16384
noncomputable section
open Idealize.ShloMosaic

/-! # The merge of the three branches, entry by entry

Each definition is about one row: its entries in the branches, and the weights. The columns of the attention come in 64 for
each of the 8 heads; the three dilations of a head are weighed by the softmax of their logarithmic sums. -/

namespace Merge

/-! ## The recurrence's branch -/

/-- The tanh form of the Gaussian error linear unit. -/
def gelu (y : EReal) : EReal :=
  Ideal.ofBits .f32 0x3F000000#32 * y * (1 + Ideal.tanh (Ideal.ofBits .f32 0x3F4C422A#32 * (y + Ideal.ofBits .f32 0x3D372713#32 * y * y * y)))

/-- The same with the cube taken first and the half taken with the bracket. -/
theorem gelu_eq (y : EReal) : y * (Ideal.ofBits .f32 0x3F000000#32 *
      (1 + Ideal.tanh (Ideal.ofBits .f32 0x3F4C422A#32 * (y + Ideal.ofBits .f32 0x3D372713#32 * (y * y * y))))) = gelu y := by
  rw [gelu, ← mul_assoc, mul_comm y, ← mul_assoc _ (y * y) y, ← mul_assoc _ y y]

/-- The column of the gated unit's weight that makes the value of column `d`. -/
def lo (d : Fin 1024) : Fin 2048 := ⟨d.val, by omega⟩
/-- The column that makes its gate. -/
def hi (d : Fin 1024) : Fin 2048 := ⟨1024 + d.val, by omega⟩

/-- A column of the gated unit's product. -/
def glu (y : Fin 512 → EReal) (w : Fin 512 → Fin 2048 → EReal) (f : Fin 2048) : EReal := ∑ k, gelu (y k) * w k f

/-- The branch. -/
def ssm (y : Fin 512 → EReal) (w : Fin 512 → Fin 2048 → EReal) (d : Fin 1024) : EReal := glu y w (lo d) * Ffn.sig (glu y w (hi d))

/-! ## The attention's branch -/

/-- The head of a column, among the 128 columns of a logarithmic sum. -/
def head (q : Fin 512) : Fin 128 := ⟨q.val / 64, by omega⟩

/-- The weight of `l` before it is normalised. -/
def ex (l l₀ l₁ l₂ : EReal) : EReal := Ideal.exp (l - max (max l₀ l₁) l₂)

/-- The sum of the three. -/
def tot (l₀ l₁ l₂ : EReal) : EReal := ex l₀ l₀ l₁ l₂ + ex l₁ l₀ l₁ l₂ + ex l₂ l₀ l₁ l₂

/-- The weight of `l`. -/
def wt (l l₀ l₁ l₂ : EReal) : EReal := Ideal.div (ex l l₀ l₁ l₂) (tot l₀ l₁ l₂)

/-- A column of the three dilations' weighed sum. -/
def comb (l₀ l₁ l₂ : Fin 128 → EReal) (o₀ o₁ o₂ : Fin 512 → EReal) (q : Fin 512) : EReal :=
  wt (l₀ (head q)) (l₀ (head q)) (l₁ (head q)) (l₂ (head q)) * o₀ q + wt (l₁ (head q)) (l₀ (head q)) (l₁ (head q)) (l₂ (head q)) * o₁ q
    + wt (l₂ (head q)) (l₀ (head q)) (l₁ (head q)) (l₂ (head q)) * o₂ q

theorem exp_nonneg (x : EReal) : 0 ≤ Ideal.exp x := by
  induction x with
  | bot => rw [Ideal.exp_bot]
  | top => rw [Ideal.exp_top]; exact le_top
  | coe x => rw [Ideal.exp_coe]; exact_mod_cast (Real.exp_pos x).le

theorem exp_ne_top {x : EReal} (h : x ≠ ⊤) : Ideal.exp x ≠ ⊤ := by
  induction x with
  | bot => rw [Ideal.exp_bot]; exact EReal.zero_ne_top
  | top => exact absurd rfl h
  | coe x => rw [Ideal.exp_coe]; exact EReal.coe_ne_top _

/-- A difference from something no smaller is never +∞. -/
theorem sub_ne_top {a b : EReal} (h : a ≤ b) : a - b ≠ ⊤ := by
  induction a with
  | bot => rw [EReal.bot_sub]; exact bot_ne_top
  | top => rw [top_le_iff.mp h, EReal.sub_top]; exact bot_ne_top
  | coe a =>
    induction b with
    | bot => exact absurd (le_bot_iff.mp h) (EReal.coe_ne_bot a)
    | top => rw [EReal.sub_top]; exact bot_ne_top
    | coe b => rw [← EReal.coe_sub]; exact EReal.coe_ne_top _

/-- A quotient of a number that is not +∞ by a sum of nonnegative ones that it is among is never +∞: where the sum is 0, so is the
number, and 0/0 is −∞ here. -/
theorem div_ne_top {e t : EReal} (h0 : 0 ≤ e) (h1 : e ≠ ⊤) (h : e ≤ t) : Ideal.div e t ≠ ⊤ := by
  rw [Ideal.div]
  by_cases ht : t = 0
  · subst ht
    rw [if_pos rfl, if_neg (not_lt.mpr h)]
    exact bot_ne_top
  · rw [if_neg ht]
    have hpos : 0 < t := lt_of_le_of_ne (h0.trans h) (Ne.symm ht)
    lift e to ℝ using ⟨h1, fun hb => by rw [hb] at h0; exact absurd h0 (by simp)⟩
    induction t with
    | bot => exact absurd hpos (by simp)
    | top => rw [EReal.inv_top, mul_zero]; exact EReal.zero_ne_top
    | coe t => rw [← EReal.coe_inv, ← EReal.coe_mul]; exact EReal.coe_ne_top _

theorem ex_nonneg (l l₀ l₁ l₂ : EReal) : 0 ≤ ex l l₀ l₁ l₂ := exp_nonneg _

/-- No weight is +∞. -/
theorem wt_ne_top₀ (l₀ l₁ l₂ : EReal) : wt l₀ l₀ l₁ l₂ ≠ ⊤ :=
  div_ne_top (ex_nonneg ..) (exp_ne_top (sub_ne_top ((le_max_left _ _).trans (le_max_left _ _))))
    ((le_add_of_nonneg_right (ex_nonneg ..)).trans (le_add_of_nonneg_right (ex_nonneg ..)))
theorem wt_ne_top₁ (l₀ l₁ l₂ : EReal) : wt l₁ l₀ l₁ l₂ ≠ ⊤ :=
  div_ne_top (ex_nonneg ..) (exp_ne_top (sub_ne_top ((le_max_right _ _).trans (le_max_left _ _))))
    ((le_add_of_nonneg_left (ex_nonneg ..)).trans (le_add_of_nonneg_right (ex_nonneg ..)))
theorem wt_ne_top₂ (l₀ l₁ l₂ : EReal) : wt l₂ l₀ l₁ l₂ ≠ ⊤ :=
  div_ne_top (ex_nonneg ..) (exp_ne_top (sub_ne_top (le_max_right _ _))) (le_add_of_nonneg_left (add_nonneg (ex_nonneg ..) (ex_nonneg ..)))

/-- A number that is not +∞ and what is left after it is taken from itself add up to it. -/
theorem split {a : EReal} (h : a ≠ ⊤) : a + (a - a) = a := by
  induction a with
  | bot => rw [EReal.bot_add]
  | top => exact absurd rfl h
  | coe a => rw [← EReal.coe_sub, sub_self, EReal.coe_zero, add_zero]

/-! ## The convolution's branch -/

def mean (h : Fin 512 → EReal) : EReal := Ideal.div (∑ k, h k) (Ideal.ofBits .f32 0x44000000#32)

def var (h : Fin 512 → EReal) : EReal := Ideal.div (∑ k, (h k - mean h) * (h k - mean h)) (Ideal.ofBits .f32 0x44000000#32)

/-- The layer norm. -/
def norm (h g b : Fin 512 → EReal) (k : Fin 512) : EReal :=
  (h k - mean h) * Ideal.rsqrt (var h + Ideal.ofBits .f32 0x358637BD#32) * g k + b k

/-- A row against a weight. -/
def up (h : Fin 512 → EReal) (w : Fin 512 → Fin 1024 → EReal) (d : Fin 1024) : EReal := ∑ k, h k * w k d

/-- The branch. -/
def conv (h g b : Fin 512 → EReal) (w : Fin 512 → Fin 1024 → EReal) : Fin 1024 → EReal :=
  up (fun k => norm h g b k * Ffn.sig (norm h g b k)) w

/-! ## The result -/

/-- A column of the new row, from the three branches `s`, `a`, `v` and the three gates before the logistic function. -/
def out (x : EReal) (p₀ p₁ p₂ s a v w : Fin 1024 → EReal) : EReal :=
  x + ∑ k, (Ffn.sig (p₀ k) * s k + Ffn.sig (p₁ k) * a k + Ffn.sig (p₂ k) * v k) * w k

/-- The sequence a token is in. -/
def bat (i : Fin 8192) : Fin 4 := ⟨i.val / 2048, by omega⟩
/-- Its place in it. -/
def pos (i : Fin 8192) : Fin 2048 := ⟨i.val % 2048, by omega⟩
/-- Column `d` of the `q`-th block of 1024 of the projection's columns. -/
def col (q : Fin 7) (d : Fin 1024) : Fin 7168 := ⟨q.val * 1024 + d.val, by omega⟩
/-- Column `d` of the `q`-th block of the gates' shift. -/
def gcol (q : Fin 3) (d : Fin 1024) : Fin 3072 := ⟨q.val * 1024 + d.val, by omega⟩

/-- The logarithmic sums of token `i`: the two parts in which they come added. -/
def lse (l : FVec Ideal ⟨4, ![4, 2, 2048, 128]⟩ .f32) (i : Fin 8192) (q : Fin 128) : EReal := l (ix4 (bat i) 0 (pos i) q) + l (ix4 (bat i) 1 (pos i) q)

section Whole

variable (x : FVec Ideal ⟨2, ![8192, 1024]⟩ .f32) (y : FVec Ideal ⟨2, ![8192, 512]⟩ .f32) (o₀ o₁ o₂ : FVec Ideal ⟨2, ![8192, 512]⟩ .bf16)
  (l₀ l₁ l₂ : FVec Ideal ⟨4, ![4, 2, 2048, 128]⟩ .f32) (h : FVec Ideal ⟨2, ![8192, 512]⟩ .f32) (p : FVec Ideal ⟨2, ![8192, 7168]⟩ .bf16)
  (b : FVec Ideal ⟨1, ![3072]⟩ .f32) (g s : FVec Ideal ⟨1, ![512]⟩ .f32) (wg : FVec Ideal ⟨2, ![512, 2048]⟩ .f32)
  (wa wp : FVec Ideal ⟨2, ![512, 1024]⟩ .f32) (wo : FVec Ideal ⟨2, ![1024, 1024]⟩ .f32)

/-- Gate `q` of token `i` before the logistic function. -/
def pre (q : Fin 3) (i : Fin 8192) (k : Fin 1024) : EReal := p (ix2 i (col ⟨4 + q.val, by omega⟩ k)) + b (ix1 (gcol q k))

theorem pre_0 (i : Fin 8192) : pre p b 0 i = fun k => p (ix2 i (col 4 k)) + b (ix1 ⟨k.val, by omega⟩) :=
  funext fun k => congrArg₂ (fun (f : Fin 7168) (e : Fin 3072) => p (ix2 i f) + b (ix1 e)) rfl (Fin.ext (by simp [gcol]))
theorem pre_1 (i : Fin 8192) : pre p b 1 i = fun k => p (ix2 i (col 5 k)) + b (ix1 ⟨1024 + k.val, by omega⟩) :=
  funext fun k => congrArg₂ (fun (f : Fin 7168) (e : Fin 3072) => p (ix2 i f) + b (ix1 e)) rfl (Fin.ext (by simp [gcol]))
theorem pre_2 (i : Fin 8192) : pre p b 2 i = fun k => p (ix2 i (col 6 k)) + b (ix1 ⟨2048 + k.val, by omega⟩) :=
  funext fun k => congrArg₂ (fun (f : Fin 7168) (e : Fin 3072) => p (ix2 i f) + b (ix1 e)) rfl (Fin.ext (by simp [gcol]))

/-- Entry `(i, d)` of the new rows. -/
def new (i : Fin 8192) (d : Fin 1024) : EReal :=
  out (x (ix2 i d)) (pre p b 0 i) (pre p b 1 i) (pre p b 2 i) (ssm (fun k => y (ix2 i k)) fun k f => wg (ix2 k f))
    (up (comb (lse l₀ i) (lse l₁ i) (lse l₂ i) (fun k => o₀ (ix2 i k)) (fun k => o₁ (ix2 i k)) fun k => o₂ (ix2 i k)) fun k f => wa (ix2 k f))
    (conv (fun k => h (ix2 i k)) (fun k => g (ix1 k)) (fun k => s (ix1 k)) fun k f => wp (ix2 k f)) fun k => wo (ix2 k d)

end Whole

end Merge

end
-- ==== Proof.Merge.Pay.lean ====
module

public import proofs.«01_k».proof.Proof.Gen.MergeIdeal.Frame
public import proofs.«01_k».proof.Proof.Merge.Maths

@[expose] public section

set_option maxRecDepth 16384
noncomputable section
open Idealize.ShloMosaic Idealize.ShloMosaic.TcCoe Idealize.SL.Sem

/-! # The values of the merge's body, on one tile of 512 rows -/

namespace Cert.MergeIdeal.Value
open Cert.MergeIdeal Cert.MergeIdeal.Gen

theorem ssm_apply (y : FVec Ideal S512x512 .f32) (w : FVec Ideal S512x2048 .bf16) (r : Fin 512) (d : Fin 1024) :
    k0_pay2 (F := Ideal) y w (ix2 r d) = Merge.ssm (fun k => y (ix2 r k)) (fun k f => w (ix2 k f)) d := by
  pointwise [k0_pay2, Merge.ssm, Merge.glu, Merge.gelu, Ffn.sig, Merge.lo, Merge.hi]

theorem conv_apply (h : FVec Ideal S512x512 .f32) (g b : FVec Ideal S1x512 .f32) (w : FVec Ideal S512x1024 .bf16) (r : Fin 512) (d : Fin 1024) :
    k0_pay16 (F := Ideal) h g b w (ix2 r d)
      = Merge.conv (fun k => h (ix2 r k)) (fun k => g (ix2 0 k)) (fun k => b (ix2 0 k)) (fun k f => w (ix2 k f)) d := by
  pointwise [k0_pay16, Merge.conv, Merge.up, Merge.norm, Merge.var, Merge.mean, Ffn.sig]

theorem gate0_apply (p : FVec Ideal S512x1024 .bf16) (b : FVec Ideal S1x1024 .f32) (r : Fin 512) (d : Fin 1024) :
    k0_pay17 (F := Ideal) p b (ix2 r d) = Ffn.sig (p (ix2 r d) + b (ix2 0 d)) := by
  pointwise [k0_pay17, Ffn.sig]

theorem gate1_apply (p : FVec Ideal S512x1024 .bf16) (b : FVec Ideal S1x1024 .f32) (r : Fin 512) (d : Fin 1024) :
    k0_pay18 (F := Ideal) p b (ix2 r d) = Ffn.sig (p (ix2 r d) + b (ix2 0 d)) := by
  pointwise [k0_pay18, Ffn.sig]

theorem gate2_apply (p : FVec Ideal S512x1024 .bf16) (b : FVec Ideal S1x1024 .f32) (r : Fin 512) (d : Fin 1024) :
    k0_pay19 (F := Ideal) p b (ix2 r d) = Ffn.sig (p (ix2 r d) + b (ix2 0 d)) := by
  pointwise [k0_pay19, Ffn.sig]

/-! ## The heads -/

theorem quot64 : ∀ q : Fin 512, Scalar.select
      (IntOp.andi
        (IntOp.cmpi CmpIPredicate.ne
          (IntOp.subi (BitVec.setWidth 32 (IntOp.cmpi CmpIPredicate.sgt (BitVec.ofNat 32 ↑q) 0#32))
            (BitVec.setWidth 32 (IntOp.cmpi CmpIPredicate.slt (BitVec.ofNat 32 ↑q) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑q) 64#32) 0#32))
      (IntOp.subi (IntOp.divsi ArithUnit.vector (BitVec.ofNat 32 ↑q) 64#32) 1#32)
      (IntOp.divsi ArithUnit.vector (BitVec.ofNat 32 ↑q) 64#32) =
    BitVec.ofNat 32 (↑q / 64) := by
  decide +kernel

/-- One where the row is the column's head, zero elsewhere. -/
theorem onehot (x : Fin 128) (q : Fin 512) :
    (FloatOps.sitofp FTy.f32 (BitVec.setWidth 32 (IntOp.cmpi CmpIPredicate.eq (BitVec.ofNat 32 ↑x) (BitVec.ofNat 32 (↑q / 64)))) : Ideal .f32)
      = if x = Merge.head q then 1 else 0 := by
  by_cases h : x = Merge.head q
  · subst h
    simp [IntOp.cmpi, Merge.head, FloatOps.sitofp]
  · have hne : BitVec.ofNat 32 x.val ≠ BitVec.ofNat 32 (q.val / 64) := fun e => h (Fin.ext (by
      have := congrArg BitVec.toNat e
      simp only [BitVec.toNat_ofNat] at this
      have hx := x.isLt
      have hq := q.isLt
      simp only [Merge.head]
      omega))
    have hb : (BitVec.ofNat 32 x.val == BitVec.ofNat 32 (q.val / 64)) = false := beq_false_of_ne hne
    simp [IntOp.cmpi, h, hb, FloatOps.sitofp]

/-- A sum against that row picks one entry. -/
theorem pick (F : Fin 128 → EReal) (q : Fin 512) : ∑ x : Fin 128, F x * (if x = Merge.head q then (1 : EReal) else 0) = F (Merge.head q) := by
  rw [Finset.sum_eq_single (Merge.head q) (fun x _ h => by rw [if_neg h, mul_zero]) (fun h => absurd (Finset.mem_univ _) h), if_pos rfl, mul_one]

theorem comb_apply (a b c t : FVec Ideal S512x128 .f32) (u v w : FVec Ideal S512x512 .bf16) (r : Fin 512) (q : Fin 512) :
    k0_pay14 (F := Ideal) a b c t (iota .tc S128x512 32 [0] iota_S128x512_d0_w32) k0_pay12 k0_pay13 1#32 u v w (ix2 r q)
      = (Ideal.div (a (ix2 r (Merge.head q))) (t (ix2 r (Merge.head q)))
          + (Ideal.div (a (ix2 r (Merge.head q))) (t (ix2 r (Merge.head q))) - Ideal.div (a (ix2 r (Merge.head q))) (t (ix2 r (Merge.head q)))))
          * u (ix2 r q)
        + (Ideal.div (b (ix2 r (Merge.head q))) (t (ix2 r (Merge.head q)))
          + (Ideal.div (b (ix2 r (Merge.head q))) (t (ix2 r (Merge.head q))) - Ideal.div (b (ix2 r (Merge.head q))) (t (ix2 r (Merge.head q)))))
          * v (ix2 r q)
        + (Ideal.div (c (ix2 r (Merge.head q))) (t (ix2 r (Merge.head q)))
          + (Ideal.div (c (ix2 r (Merge.head q))) (t (ix2 r (Merge.head q))) - Ideal.div (c (ix2 r (Merge.head q))) (t (ix2 r (Merge.head q)))))
          * w (ix2 r q) := by
  pointwise [k0_pay14, k0_pay12, k0_pay13]
  simp only [quot64, onehot, pick]

theorem att_apply (o : FVec Ideal S512x512 .f32) (w : FVec Ideal S512x1024 .bf16) (r : Fin 512) (d : Fin 1024) :
    k0_pay15 (F := Ideal) o w (ix2 r d) = Merge.up (fun k => o (ix2 r k)) (fun k f => w (ix2 k f)) d := by
  pointwise [k0_pay15, Merge.up]

section Weights

variable (l₀ l₁ : FVec Ideal S512x128 .f32) (l₁' l₂ l₂' : FVec Ideal S1x1x512x128 .f32) (r : Fin 512) (q : Fin 128)

theorem ex0_apply : k0_pay8 (F := Ideal) l₀ l₁ l₁' l₂ l₂' (ix2 r q)
    = Merge.ex (l₀ (ix2 r q)) (l₀ (ix2 r q)) (l₁ (ix2 r q) + l₁' (ix4 0 0 r q)) (l₂ (ix4 0 0 r q) + l₂' (ix4 0 0 r q)) := by
  pointwise [k0_pay8, k0_pay7, k0_pay6, k0_pay5, Merge.ex]

theorem ex1_apply : k0_pay9 (F := Ideal) l₀ l₁ l₁' l₂ l₂' (ix2 r q)
    = Merge.ex (l₁ (ix2 r q) + l₁' (ix4 0 0 r q)) (l₀ (ix2 r q)) (l₁ (ix2 r q) + l₁' (ix4 0 0 r q)) (l₂ (ix4 0 0 r q) + l₂' (ix4 0 0 r q)) := by
  pointwise [k0_pay9, k0_pay7, k0_pay6, k0_pay5, Merge.ex]

theorem ex2_apply : k0_pay10 (F := Ideal) l₀ l₁ l₁' l₂ l₂' (ix2 r q)
    = Merge.ex (l₂ (ix4 0 0 r q) + l₂' (ix4 0 0 r q)) (l₀ (ix2 r q)) (l₁ (ix2 r q) + l₁' (ix4 0 0 r q)) (l₂ (ix4 0 0 r q) + l₂' (ix4 0 0 r q)) := by
  pointwise [k0_pay10, k0_pay7, k0_pay6, k0_pay5, Merge.ex]

theorem tot_apply : k0_pay11 (F := Ideal) l₀ l₁ l₁' l₂ l₂' (ix2 r q)
    = Merge.tot (l₀ (ix2 r q)) (l₁ (ix2 r q) + l₁' (ix4 0 0 r q)) (l₂ (ix4 0 0 r q) + l₂' (ix4 0 0 r q)) := by
  rw [Merge.tot, ← ex0_apply, ← ex1_apply, ← ex2_apply]
  pointwise [k0_pay11]

/-- The three dilations' weighed sum: the two parts into which the body splits a weight add up to it. -/
theorem weighed (u v w : FVec Ideal S512x512 .bf16) (p : Fin 512) :
    k0_pay14 (F := Ideal) (k0_pay8 l₀ l₁ l₁' l₂ l₂') (k0_pay9 l₀ l₁ l₁' l₂ l₂') (k0_pay10 l₀ l₁ l₁' l₂ l₂') (k0_pay11 l₀ l₁ l₁' l₂ l₂')
        (iota .tc S128x512 32 [0] iota_S128x512_d0_w32) k0_pay12 k0_pay13 1#32 u v w (ix2 r p)
      = Merge.comb (fun q => l₀ (ix2 r q)) (fun q => l₁ (ix2 r q) + l₁' (ix4 0 0 r q)) (fun q => l₂ (ix4 0 0 r q) + l₂' (ix4 0 0 r q))
          (fun k => u (ix2 r k)) (fun k => v (ix2 r k)) (fun k => w (ix2 r k)) p := by
  rw [comb_apply, ex0_apply, ex1_apply, ex2_apply, tot_apply]
  exact congrArg₂ (fun y z : EReal => y + z)
    (congrArg₂ (fun y z : EReal => y + z) (congrArg (fun z : EReal => z * u (ix2 r p)) (Merge.split (Merge.wt_ne_top₀ _ _ _)))
      (congrArg (fun z : EReal => z * v (ix2 r p)) (Merge.split (Merge.wt_ne_top₁ _ _ _))))
    (congrArg (fun z : EReal => z * w (ix2 r p)) (Merge.split (Merge.wt_ne_top₂ _ _ _)))

/-- The attention's branch. -/
theorem branch (u v w : FVec Ideal S512x512 .bf16) (wa : FVec Ideal S512x1024 .bf16) (d : Fin 1024) :
    k0_pay15 (F := Ideal) (k0_pay14 (F := Ideal) (k0_pay8 l₀ l₁ l₁' l₂ l₂') (k0_pay9 l₀ l₁ l₁' l₂ l₂') (k0_pay10 l₀ l₁ l₁' l₂ l₂')
        (k0_pay11 l₀ l₁ l₁' l₂ l₂') (iota .tc S128x512 32 [0] iota_S128x512_d0_w32) k0_pay12 k0_pay13 1#32 u v w) wa (ix2 r d)
      = Merge.up (Merge.comb (fun q => l₀ (ix2 r q)) (fun q => l₁ (ix2 r q) + l₁' (ix4 0 0 r q)) (fun q => l₂ (ix4 0 0 r q) + l₂' (ix4 0 0 r q))
          (fun k => u (ix2 r k)) (fun k => v (ix2 r k)) (fun k => w (ix2 r k))) (fun k f => wa (ix2 k f)) d :=
  (att_apply _ _ r d).trans (congrArg (fun o : Fin 512 → EReal => Merge.up o (fun k f => wa (ix2 k f)) d) (funext fun p => weighed l₀ l₁ l₁' l₂ l₂' r u v w p))

end Weights

theorem out_apply (s a v g₀ g₁ g₂ x : FVec Ideal S512x1024 .f32) (w : FVec Ideal S1024x1024 .bf16) (r : Fin 512) (d : Fin 1024) :
    k0_pay1 (F := Ideal) s a v g₀ g₁ g₂ x w (ix2 r d)
      = x (ix2 r d) + ∑ k, (g₀ (ix2 r k) * s (ix2 r k) + g₁ (ix2 r k) * a (ix2 r k) + g₂ (ix2 r k) * v (ix2 r k)) * w (ix2 k d) := by
  pointwise [k0_pay1]

end Cert.MergeIdeal.Value
end
-- ==== Proof.Merge.Value.lean ====
module

public import proofs.«01_k».proof.Proof.Gen.MergeIdeal.Value
public import proofs.«01_k».proof.Proof.Merge.Pay
public import proofs.«01_k».proof.Proof.Tiles
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)

/-! # What the merge leaves in its result array -/

namespace Cert.MergeIdeal.Value
open Cert.MergeIdeal Cert.MergeIdeal.Gen

/-- Entry `(r, d)` of the result of a tile, from the tile's rows. -/
theorem tile_eq (x0 : Vec Ideal S512x1024 .f32) (x1 : Vec Ideal S512x512 .f32) (x2 x3 x4 : Vec Ideal S512x512 .bf16) (x5 x6 x7 : Vec Ideal S1x2x512x128 .f32)
    (x8 : Vec Ideal S512x512 .f32) (x9 x10 x11 : Vec Ideal S512x1024 .bf16) (x12 : Vec Ideal S1x3072 .f32) (x13 x14 : Vec Ideal S1x512 .f32)
    (x15 : Vec Ideal S512x2048 .bf16) (x16 x17 : Vec Ideal S512x1024 .bf16) (x18 : Vec Ideal S1024x1024 .bf16) (r : Fin 512) (d : Fin 1024) :
    out0_19 x0 x1 x2 x3 x4 x5 x6 x7 x8 x9 x10 x11 x12 x13 x14 x15 x16 x17 x18 (ix2 r d)
      = Merge.out (x0 (ix2 r d))
          (fun k => x9 (ix2 r k) + x12 (ix2 0 ⟨k.val, by omega⟩)) (fun k => x10 (ix2 r k) + x12 (ix2 0 ⟨1024 + k.val, by omega⟩))
          (fun k => x11 (ix2 r k) + x12 (ix2 0 ⟨2048 + k.val, by omega⟩))
          (Merge.ssm (fun k => x1 (ix2 r k)) fun k f => x15 (ix2 k f))
          (Merge.up (Merge.comb (fun q => x5 (ix4 0 0 r q) + x5 (ix4 0 1 r q)) (fun q => x6 (ix4 0 0 r q) + x6 (ix4 0 1 r q))
            (fun q => x7 (ix4 0 0 r q) + x7 (ix4 0 1 r q)) (fun k => x2 (ix2 r k)) (fun k => x3 (ix2 r k)) fun k => x4 (ix2 r k)) fun k f => x16 (ix2 k f))
          (Merge.conv (fun k => x8 (ix2 r k)) (fun k => x13 (ix2 0 k)) (fun k => x14 (ix2 0 k)) fun k f => x17 (ix2 k f)) fun k => x18 (ix2 k d) := by
  frame_out
  refine (out_apply _ _ _ _ _ _ _ _ r d).trans ?_
  refine congrArg₂ (fun y z : EReal => y + z) (by pointwise) (Finset.sum_congr rfl fun k _ => ?_)
  rw [branch]
  pointwise [ssm_apply, conv_apply, gate0_apply, gate1_apply, gate2_apply, k0_pay20, k0_pay21, k0_pay3, k0_pay4]

variable (m : (ℓ : Loc nD τ sig) → Buf (Elt Ideal) ℓ)

/-! ## The arguments -/

abbrev a0 (c : Dev nD) : FVec Ideal S8192x1024 .f32 := m ((c.tc : Thread nD τ).loc main_arg0)
abbrev a1 (c : Dev nD) : FVec Ideal S8192x512 .f32 := m ((c.tc : Thread nD τ).loc main_arg1)
abbrev a2 (c : Dev nD) : FVec Ideal S8192x512 .bf16 := m ((c.tc : Thread nD τ).loc main_arg2)
abbrev a3 (c : Dev nD) : FVec Ideal S8192x512 .bf16 := m ((c.tc : Thread nD τ).loc main_arg3)
abbrev a4 (c : Dev nD) : FVec Ideal S8192x512 .bf16 := m ((c.tc : Thread nD τ).loc main_arg4)
abbrev a5 (c : Dev nD) : FVec Ideal S4x2x2048x128 .f32 := m ((c.tc : Thread nD τ).loc main_arg5)
abbrev a6 (c : Dev nD) : FVec Ideal S4x2x2048x128 .f32 := m ((c.tc : Thread nD τ).loc main_arg6)
abbrev a7 (c : Dev nD) : FVec Ideal S4x2x2048x128 .f32 := m ((c.tc : Thread nD τ).loc main_arg7)
abbrev a8 (c : Dev nD) : FVec Ideal S8192x512 .f32 := m ((c.tc : Thread nD τ).loc main_arg8)
abbrev a9 (c : Dev nD) : FVec Ideal S8192x7168 .bf16 := m ((c.tc : Thread nD τ).loc main_arg9)
abbrev a10 (c : Dev nD) : FVec Ideal S3072 .f32 := m ((c.tc : Thread nD τ).loc main_arg10)
abbrev a11 (c : Dev nD) : FVec Ideal S512 .f32 := m ((c.tc : Thread nD τ).loc main_arg11)
abbrev a12 (c : Dev nD) : FVec Ideal S512 .f32 := m ((c.tc : Thread nD τ).loc main_arg12)
abbrev a13 (c : Dev nD) : FVec Ideal S512x2048 .f32 := m ((c.tc : Thread nD τ).loc main_arg13)
abbrev a14 (c : Dev nD) : FVec Ideal S512x1024 .f32 := m ((c.tc : Thread nD τ).loc main_arg14)
abbrev a15 (c : Dev nD) : FVec Ideal S512x1024 .f32 := m ((c.tc : Thread nD τ).loc main_arg15)
abbrev a16 (c : Dev nD) : FVec Ideal S1024x1024 .f32 := m ((c.tc : Thread nD τ).loc main_arg16)

/-! ## What the host operations prepare -/

theorem entry_b (c : Dev nD) (k : Fin 3072) : (V m c main_v0 : S1x3072.Idx → EReal) (ix2 0 k) = a10 m c (ix1 k) := by
  unfold V
  after_results
  pointwise
theorem entry_g (c : Dev nD) (k : Fin 512) : (V m c main_v1 : S1x512.Idx → EReal) (ix2 0 k) = a11 m c (ix1 k) := by
  unfold V
  after_results
  pointwise
theorem entry_s (c : Dev nD) (k : Fin 512) : (V m c main_v2 : S1x512.Idx → EReal) (ix2 0 k) = a12 m c (ix1 k) := by
  unfold V
  after_results
  pointwise
theorem entry_glu (c : Dev nD) (k : Fin 512) (f : Fin 2048) : (V m c main_v3 : S512x2048.Idx → EReal) (ix2 k f) = a13 m c (ix2 k f) := by
  unfold V
  after_results
  pointwise
theorem entry_att (c : Dev nD) (k : Fin 512) (f : Fin 1024) : (V m c main_v4 : S512x1024.Idx → EReal) (ix2 k f) = a14 m c (ix2 k f) := by
  unfold V
  after_results
  pointwise
theorem entry_pw (c : Dev nD) (k : Fin 512) (f : Fin 1024) : (V m c main_v5 : S512x1024.Idx → EReal) (ix2 k f) = a15 m c (ix2 k f) := by
  unfold V
  after_results
  pointwise
theorem entry_out (c : Dev nD) (k f : Fin 1024) : (V m c main_v6 : S1024x1024.Idx → EReal) (ix2 k f) = a16 m c (ix2 k f) := by
  unfold V
  after_results
  pointwise

/-! ## The blocks -/

/-- Which block every window takes at every grid point. -/
theorem idx_val : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val / 4, 0, t.val % 4, 0]
    ∧ win0_6.index t = ![t.val / 4, 0, t.val % 4, 0] ∧ win0_7.index t = ![t.val / 4, 0, t.val % 4, 0] ∧ win0_8.index t = ![t.val, 0]
    ∧ win0_9.index t = ![t.val, 4] ∧ win0_10.index t = ![t.val, 5] ∧ win0_11.index t = ![t.val, 6] ∧ win0_12.index t = ![0, 0]
    ∧ win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![t.val, 0] :=
  (by decide +kernel : ∀ t : Fin grid0.N, _)

/-- The tile of rows a grid point works on. -/
def sOf (t : Fin cfg0.N) : Fin 16 := ⟨t.val, by have := t.isLt; have : cfg0.N = 16 := rfl; omega⟩

section Blocks

variable (c : Dev nD) (t : Fin cfg0.N)

theorem blk0 (r : Fin 512) (d : Fin 1024) : (iblk m c 0 t : S512x1024.Idx → EReal) (ix2 r d) = a0 m c (ix2 (Tile.row₅ (sOf t) r) d) := by
  blk_point [iblk, V, idx_val t]
  all_goals rfl
theorem blk1 (r d : Fin 512) : (iblk m c 1 t : S512x512.Idx → EReal) (ix2 r d) = a1 m c (ix2 (Tile.row₅ (sOf t) r) d) := by
  blk_point [iblk, V, idx_val t]
  all_goals rfl
theorem blk2 (r d : Fin 512) : (iblk m c 2 t : S512x512.Idx → EReal) (ix2 r d) = a2 m c (ix2 (Tile.row₅ (sOf t) r) d) := by
  blk_point [iblk, V, idx_val t]
  all_goals rfl
theorem blk3 (r d : Fin 512) : (iblk m c 3 t : S512x512.Idx → EReal) (ix2 r d) = a3 m c (ix2 (Tile.row₅ (sOf t) r) d) := by
  blk_point [iblk, V, idx_val t]
  all_goals rfl
theorem blk4 (r d : Fin 512) : (iblk m c 4 t : S512x512.Idx → EReal) (ix2 r d) = a4 m c (ix2 (Tile.row₅ (sOf t) r) d) := by
  blk_point [iblk, V, idx_val t]
  all_goals rfl
theorem blk5 (h : Fin 2) (r : Fin 512) (q : Fin 128) : (iblk m c 5 t : S1x2x512x128.Idx → EReal) (ix4 0 h r q)
    = a5 m c (ix4 (Merge.bat (Tile.row₅ (sOf t) r)) h (Merge.pos (Tile.row₅ (sOf t) r)) q) := by
  blk_point [iblk, V, idx_val t]
  all_goals simp only [Merge.bat, Merge.pos, Tile.row₅, sOf]
  all_goals omega
theorem blk6 (h : Fin 2) (r : Fin 512) (q : Fin 128) : (iblk m c 6 t : S1x2x512x128.Idx → EReal) (ix4 0 h r q)
    = a6 m c (ix4 (Merge.bat (Tile.row₅ (sOf t) r)) h (Merge.pos (Tile.row₅ (sOf t) r)) q) := by
  blk_point [iblk, V, idx_val t]
  all_goals simp only [Merge.bat, Merge.pos, Tile.row₅, sOf]
  all_goals omega
theorem blk7 (h : Fin 2) (r : Fin 512) (q : Fin 128) : (iblk m c 7 t : S1x2x512x128.Idx → EReal) (ix4 0 h r q)
    = a7 m c (ix4 (Merge.bat (Tile.row₅ (sOf t) r)) h (Merge.pos (Tile.row₅ (sOf t) r)) q) := by
  blk_point [iblk, V, idx_val t]
  all_goals simp only [Merge.bat, Merge.pos, Tile.row₅, sOf]
  all_goals omega
theorem blk8 (r d : Fin 512) : (iblk m c 8 t : S512x512.Idx → EReal) (ix2 r d) = a8 m c (ix2 (Tile.row₅ (sOf t) r) d) := by
  blk_point [iblk, V, idx_val t]
  all_goals rfl
theorem blk9 (r : Fin 512) (d : Fin 1024) : (iblk m c 9 t : S512x1024.Idx → EReal) (ix2 r d) = a9 m c (ix2 (Tile.row₅ (sOf t) r) (Merge.col 4 d)) := by
  blk_point [iblk, V, idx_val t]
  all_goals rfl
theorem blk10 (r : Fin 512) (d : Fin 1024) : (iblk m c 10 t : S512x1024.Idx → EReal) (ix2 r d) = a9 m c (ix2 (Tile.row₅ (sOf t) r) (Merge.col 5 d)) := by
  blk_point [iblk, V, idx_val t]
  all_goals rfl
theorem blk11 (r : Fin 512) (d : Fin 1024) : (iblk m c 11 t : S512x1024.Idx → EReal) (ix2 r d) = a9 m c (ix2 (Tile.row₅ (sOf t) r) (Merge.col 6 d)) := by
  blk_point [iblk, V, idx_val t]
  all_goals rfl
theorem blk12 (k : Fin 3072) : (iblk m c 12 t : S1x3072.Idx → EReal) (ix2 0 k) = a10 m c (ix1 k) := by
  rw [← entry_b]
  blk_ext [iblk, idx_val t]
  all_goals rfl
theorem blk13 (k : Fin 512) : (iblk m c 13 t : S1x512.Idx → EReal) (ix2 0 k) = a11 m c (ix1 k) := by
  rw [← entry_g]
  blk_ext [iblk, idx_val t]
  all_goals rfl
theorem blk14 (k : Fin 512) : (iblk m c 14 t : S1x512.Idx → EReal) (ix2 0 k) = a12 m c (ix1 k) := by
  rw [← entry_s]
  blk_ext [iblk, idx_val t]
  all_goals rfl
theorem blk15 (k : Fin 512) (f : Fin 2048) : (iblk m c 15 t : S512x2048.Idx → EReal) (ix2 k f) = a13 m c (ix2 k f) := by
  rw [← entry_glu]
  blk_ext [iblk, idx_val t]
  all_goals rfl
theorem blk16 (k : Fin 512) (f : Fin 1024) : (iblk m c 16 t : S512x1024.Idx → EReal) (ix2 k f) = a14 m c (ix2 k f) := by
  rw [← entry_att]
  blk_ext [iblk, idx_val t]
  all_goals rfl
theorem blk17 (k : Fin 512) (f : Fin 1024) : (iblk m c 17 t : S512x1024.Idx → EReal) (ix2 k f) = a15 m c (ix2 k f) := by
  rw [← entry_pw]
  blk_ext [iblk, idx_val t]
  all_goals rfl
theorem blk18 (k f : Fin 1024) : (iblk m c 18 t : S1024x1024.Idx → EReal) (ix2 k f) = a16 m c (ix2 k f) := by
  rw [← entry_out]
  blk_ext [iblk, idx_val t]
  all_goals rfl

end Blocks

/-! ## The result -/

/-- Entry `(i, d)` of the new rows. -/
def new (c : Dev nD) (i : Fin 8192) (d : Fin 1024) : EReal :=
  Merge.new (a0 m c) (a1 m c) (a2 m c) (a3 m c) (a4 m c) (a5 m c) (a6 m c) (a7 m c) (a8 m c) (a9 m c) (a10 m c) (a11 m c) (a12 m c)
    (a13 m c) (a14 m c) (a15 m c) (a16 m c) i d

theorem out19 (c : Dev nD) (t : Fin cfg0.N) (r : Fin 512) (d : Fin 1024) :
    (out0_19 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) : S512x1024.Idx → EReal) (ix2 r d) = new m c (Tile.row₅ (sOf t) r) d := by
  refine (tile_eq _ _ _ _ _ _ _ _ _ _ _ _ _ _ _ _ _ _ _ r d).trans ?_
  simp only [blk0, blk1, blk2, blk3, blk4, blk5, blk6, blk7, blk8, blk9, blk10, blk11, blk12, blk13, blk14, blk15, blk16, blk17, blk18]
  rw [new, Merge.new, Merge.pre_0, Merge.pre_1, Merge.pre_2]
  rfl

theorem final_19 (c : Dev nD) : (dats m 0 c).arrAt 19 cfg0.N = (fun j => new m c (j 0) (j 1) : S8192x1024.Idx → EReal) := by
  refine (dats m 0 c).arrAt_eq_of_covers 19 _ (by decide +kernel) fun t hf y => ?_
  blk_simp; rw [after0_19]
  obtain ⟨r, u, hy⟩ : ∃ (r : Fin 512) (u : Fin 1024), y = (ix2 r u : S512x1024.Idx) := ⟨y 0, y 1, eq_ix2 (y : S512x1024.Idx)⟩
  subst hy
  refine (out19 m c t r u).trans ?_
  refine congrArg₂ (new m c) (Fin.ext ?_) (Fin.ext ?_)
  all_goals blk_simp [idx_val t]
  all_goals rfl

end Cert.MergeIdeal.Value
end
-- ==== Proof.Merge.Claim.lean ====
module

public import proofs.«01_k».proof.Defs
public import proofs.«01_k».proof.Proof.Merge.Value
public import proofs.«01_k».proof.Proof.Gen.Merge
public import proofs.«01_k».proof.Proof.Gen.MergeRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The merge: the call's result is the reference's -/

namespace Cert.Proof.Merge
open Cert.MergeRefIdeal Cert.MergeRefIdeal.Read

/-! ## The recurrence's branch -/

section Ssm

variable (y : FVec Ideal S8192x512 .f32) (w : FVec Ideal S512x2048 .f32) (i : Fin 8192)

theorem act_eq (k : Fin 512) : val_main_v12 (F := Ideal) y (ix2 i k) = Merge.gelu (y (ix2 i k)) := by
  rw [← _root_.Merge.gelu_eq]
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2]

theorem glu_eq (f : Fin 2048) : val_main_v13 (F := Ideal) y w (ix2 i f) = Merge.glu (fun k => y (ix2 i k)) (fun k f => w (ix2 k f)) f := by
  simp only [Merge.glu, ← act_eq]
  pointwise [val_main_v13]

theorem lo_eq (d : Fin 1024) : val_main_v14 (F := Ideal) y w (ix2 i d) = Merge.glu (fun k => y (ix2 i k)) (fun k f => w (ix2 k f)) (Merge.lo d) := by
  rw [← glu_eq]
  pointwise [val_main_v14]
  rfl

theorem hi_eq (d : Fin 1024) : val_main_v15 (F := Ideal) y w (ix2 i d) = Merge.glu (fun k => y (ix2 i k)) (fun k f => w (ix2 k f)) (Merge.hi d) := by
  rw [← glu_eq]
  pointwise [val_main_v15]
  rfl

theorem ssm_eq (d : Fin 1024) : val_main_v22 (F := Ideal) y w (ix2 i d) = Merge.ssm (fun k => y (ix2 i k)) (fun k f => w (ix2 k f)) d := by
  rw [Merge.ssm, ← lo_eq, ← hi_eq, Ffn.sig, zero_sub]
  pointwise [val_main_v22, val_main_v21, val_main_v20, val_main_v19, val_main_v18, val_main_v17, val_main_v16, val_main_cst_3, val_main_cst_4]

end Ssm

/-! ## The attention's branch -/

section Att

variable (o₀ o₁ o₂ : FVec Ideal S8192x512 .bf16) (l₀ l₁ l₂ : FVec Ideal S4x2x2048x128 .f32)

/-- The logarithmic sum of head `h` at place `n` of sequence `b`. -/
def sums (l : FVec Ideal S4x2x2048x128 .f32) (b : Fin 4) (n : Fin 2048) (h : Fin 8) : EReal :=
  l (ix4 b 0 n ⟨h.val, by omega⟩) + l (ix4 b 1 n ⟨h.val, by omega⟩)

section Head

variable (b : Fin 4) (n : Fin 2048) (h : Fin 8)

theorem sums_0 : val_main_v38 (F := Ideal) l₀ l₁ l₂ (ix4 0 b n h) = sums l₀ b n h := by
  refine Eq.trans ?_ (Fin.sum_univ_two fun x => l₀ (ix4 b x n ⟨h.val, by omega⟩))
  pointwise [val_main_v38, val_main_v35, val_main_v30, val_main_v29, val_main_cst_5]

theorem sums_1 : val_main_v38 (F := Ideal) l₀ l₁ l₂ (ix4 1 b n h) = sums l₁ b n h := by
  refine Eq.trans ?_ (Fin.sum_univ_two fun x => l₁ (ix4 b x n ⟨h.val, by omega⟩))
  pointwise [val_main_v38, val_main_v36, val_main_v32, val_main_v31, val_main_cst_6]

theorem sums_2 : val_main_v38 (F := Ideal) l₀ l₁ l₂ (ix4 2 b n h) = sums l₂ b n h := by
  refine Eq.trans ?_ (Fin.sum_univ_two fun x => l₂ (ix4 b x n ⟨h.val, by omega⟩))
  pointwise [val_main_v38, val_main_v37, val_main_v34, val_main_v33, val_main_cst_7]

theorem fold_max (z : EReal) (F : Fin 3 → EReal) : Finset.fold max z F Finset.univ = max (F 0) (max (F 1) (max (F 2) z)) := by
  rw [show (Finset.univ : Finset (Fin 3)) = {0, 1, 2} from rfl]
  simp

theorem max_eq : val_main_v41 (F := Ideal) l₀ l₁ l₂ (ix3 b n h) = max (max (sums l₀ b n h) (sums l₁ b n h)) (sums l₂ b n h) := by
  have hbot : Ideal.ofBits .f32 0xFF800000#32 = ⊥ := by decide
  have e : val_main_v41 (F := Ideal) l₀ l₁ l₂ (ix3 b n h) = max ⊥ (Finset.fold max ⊥ (fun x : Fin 3 => val_main_v38 (F := Ideal) l₀ l₁ l₂ (ix4 x b n h)) Finset.univ) := by
    rw [← hbot]
    pointwise [val_main_v41, val_main_v40, val_main_v39, val_main_cst_8, val_main_cst_9]
  rw [e, fold_max, sums_0, sums_1, sums_2, max_bot_left, max_bot_right, max_assoc]

theorem ex_eq (x : Fin 3) : val_main_v45 (F := Ideal) l₀ l₁ l₂ (ix4 x b n h)
    = Merge.ex (val_main_v38 (F := Ideal) l₀ l₁ l₂ (ix4 x b n h)) (sums l₀ b n h) (sums l₁ b n h) (sums l₂ b n h) := by
  rw [Merge.ex, ← max_eq]
  pointwise [val_main_v45, val_main_v44, val_main_v43, val_main_v42]

theorem tot_eq : val_main_v46 (F := Ideal) l₀ l₁ l₂ (ix3 b n h) = Merge.tot (sums l₀ b n h) (sums l₁ b n h) (sums l₂ b n h) := by
  have e : val_main_v46 (F := Ideal) l₀ l₁ l₂ (ix3 b n h) = ∑ x : Fin 3, val_main_v45 (F := Ideal) l₀ l₁ l₂ (ix4 x b n h) := by
    pointwise [val_main_v46, val_main_cst_10]
  rw [e, Fin.sum_univ_three, ex_eq, ex_eq, ex_eq, sums_0, sums_1, sums_2, Merge.tot]

theorem wt_eq (x : Fin 3) : val_main_v49 (F := Ideal) l₀ l₁ l₂ (ix4 x b n h)
    = Merge.wt (val_main_v38 (F := Ideal) l₀ l₁ l₂ (ix4 x b n h)) (sums l₀ b n h) (sums l₁ b n h) (sums l₂ b n h) := by
  rw [Merge.wt, ← tot_eq, ← ex_eq]
  pointwise [val_main_v49, val_main_v48, val_main_v47]

variable (e : Fin 64)

theorem part_0 : val_main_v56 (F := Ideal) o₀ o₁ o₂ l₀ l₁ l₂ (ix5 0 b n h e) = Merge.wt (sums l₀ b n h) (sums l₀ b n h) (sums l₁ b n h) (sums l₂ b n h)
    * o₀ (ix2 ⟨b.val * 2048 + n.val, by omega⟩ ⟨h.val * 64 + e.val, by omega⟩) := by
  have hw := wt_eq l₀ l₁ l₂ b n h 0
  rw [sums_0] at hw
  rw [← hw]
  pointwise [val_main_v56, val_main_v55, val_main_v50, val_main_v54, val_main_v51, val_main_v24, val_main_v23]

theorem part_1 : val_main_v56 (F := Ideal) o₀ o₁ o₂ l₀ l₁ l₂ (ix5 1 b n h e) = Merge.wt (sums l₁ b n h) (sums l₀ b n h) (sums l₁ b n h) (sums l₂ b n h)
    * o₁ (ix2 ⟨b.val * 2048 + n.val, by omega⟩ ⟨h.val * 64 + e.val, by omega⟩) := by
  have hw := wt_eq l₀ l₁ l₂ b n h 1
  rw [sums_1] at hw
  rw [← hw]
  pointwise [val_main_v56, val_main_v55, val_main_v50, val_main_v54, val_main_v52, val_main_v26, val_main_v25]

theorem part_2 : val_main_v56 (F := Ideal) o₀ o₁ o₂ l₀ l₁ l₂ (ix5 2 b n h e) = Merge.wt (sums l₂ b n h) (sums l₀ b n h) (sums l₁ b n h) (sums l₂ b n h)
    * o₂ (ix2 ⟨b.val * 2048 + n.val, by omega⟩ ⟨h.val * 64 + e.val, by omega⟩) := by
  have hw := wt_eq l₀ l₁ l₂ b n h 2
  rw [sums_2] at hw
  rw [← hw]
  pointwise [val_main_v56, val_main_v55, val_main_v50, val_main_v54, val_main_v53, val_main_v28, val_main_v27]

end Head

theorem comb_eq (i : Fin 8192) (q : Fin 512) : val_main_v58 (F := Ideal) o₀ o₁ o₂ l₀ l₁ l₂ (ix2 i q)
    = Merge.comb (Merge.lse l₀ i) (Merge.lse l₁ i) (Merge.lse l₂ i) (fun k => o₀ (ix2 i k)) (fun k => o₁ (ix2 i k)) (fun k => o₂ (ix2 i k)) q := by
  have e : val_main_v58 (F := Ideal) o₀ o₁ o₂ l₀ l₁ l₂ (ix2 i q)
      = ∑ x : Fin 3, val_main_v56 (F := Ideal) o₀ o₁ o₂ l₀ l₁ l₂ (ix5 x (Merge.bat i) (Merge.pos i) ⟨q.val / 64, by omega⟩ ⟨q.val % 64, by omega⟩) := by
    pointwise [val_main_v58, val_main_v57, val_main_cst_11]
    rfl
  have hi : (⟨(Merge.bat i).val * 2048 + (Merge.pos i).val, by have := (Merge.bat i).isLt; have := (Merge.pos i).isLt; omega⟩ : Fin 8192) = i :=
    Fin.ext (by simp only [Merge.bat, Merge.pos]; omega)
  have hq : (⟨q.val / 64 * 64 + q.val % 64, by omega⟩ : Fin 512) = q := Fin.ext (by simp only []; omega)
  rw [e, Fin.sum_univ_three, part_0, part_1, part_2]
  simp only [hi, hq]
  rfl

theorem att_eq (w : FVec Ideal S512x1024 .f32) (i : Fin 8192) (d : Fin 1024) : val_main_v59 (F := Ideal) o₀ o₁ o₂ l₀ l₁ l₂ w (ix2 i d)
    = Merge.up (Merge.comb (Merge.lse l₀ i) (Merge.lse l₁ i) (Merge.lse l₂ i) (fun k => o₀ (ix2 i k)) (fun k => o₁ (ix2 i k)) (fun k => o₂ (ix2 i k)))
        (fun k f => w (ix2 k f)) d := by
  simp only [Merge.up, ← comb_eq]
  pointwise [val_main_v59]

end Att

/-! ## The convolution's branch -/

section Conv

variable (h : FVec Ideal S8192x512 .f32) (g s : FVec Ideal S512 .f32) (w : FVec Ideal S512x1024 .f32) (i : Fin 8192)

theorem mean_eq : val_main_v63 (F := Ideal) h (ix2 i 0) = Merge.mean fun k => h (ix2 i k) := by
  pointwise [val_main_v63, val_main_v62, val_main_v61, val_main_v60, val_main_cst_12, val_main_cst_13, Merge.mean]

theorem var_eq : val_main_v70 (F := Ideal) h (ix2 i 0) = Merge.var fun k => h (ix2 i k) := by
  rw [Merge.var, ← mean_eq]
  pointwise [val_main_v70, val_main_v69, val_main_v68, val_main_v67, val_main_v66, val_main_v65, val_main_v64, val_main_cst_14, val_main_cst_15]

theorem norm_eq (k : Fin 512) : val_main_v83 (F := Ideal) h g s (ix2 i k) = Merge.norm (fun k => h (ix2 i k)) (fun k => g (ix1 k)) (fun k => s (ix1 k)) k := by
  rw [Merge.norm, ← var_eq, ← mean_eq]
  pointwise [val_main_v83, val_main_v82, val_main_v81, val_main_v80, val_main_v79, val_main_v78, val_main_v77, val_main_v76, val_main_v75, val_main_v74,
    val_main_v73, val_main_v72, val_main_v71, val_main_cst_16]

theorem silu_eq (k : Fin 512) : val_main_v84 (F := Ideal) h g s (ix2 i k)
    = Merge.norm (fun k => h (ix2 i k)) (fun k => g (ix1 k)) (fun k => s (ix1 k)) k
      * Ffn.sig (Merge.norm (fun k => h (ix2 i k)) (fun k => g (ix1 k)) (fun k => s (ix1 k)) k) := by
  rw [← norm_eq, Ffn.sig, zero_sub]
  pointwise [val_main_v84, val_main_call0_v5, val_main_call0_v4, val_main_call0_v3, val_main_call0_v2, val_main_call0_v1, val_main_call0_v0,
    val_main_call0_cst, val_main_call0_cst_0]

theorem conv_eq (d : Fin 1024) : val_main_v85 (F := Ideal) h g s w (ix2 i d)
    = Merge.conv (fun k => h (ix2 i k)) (fun k => g (ix1 k)) (fun k => s (ix1 k)) (fun k f => w (ix2 k f)) d := by
  simp only [Merge.conv, Merge.up, ← silu_eq]
  pointwise [val_main_v85]

end Conv

/-! ## The gates and the result -/

section Gates

variable (p : FVec Ideal S8192x7168 .bf16) (b : FVec Ideal S3072 .f32) (i : Fin 8192)

theorem sig_eq (f : Fin 3072) : val_main_v96 (F := Ideal) p b (ix2 i f) = Ffn.sig (p (ix2 i ⟨4096 + f.val, by omega⟩) + b (ix1 f)) := by
  rw [Ffn.sig, zero_sub]
  pointwise [val_main_v96, val_main_v95, val_main_v94, val_main_v93, val_main_v92, val_main_v91, val_main_v90, val_main_v89, val_main_v88, val_main_v87,
    val_main_v86, val_main_cst_17, val_main_cst_18]

/-- The gate's column in the projection. -/
theorem shift (q : Fin 3) (k : Fin 1024) : Ffn.sig (p (ix2 i ⟨4096 + (Merge.gcol q k).val, by have := (Merge.gcol q k).isLt; omega⟩) + b (ix1 (Merge.gcol q k)))
    = Ffn.sig (Merge.pre p b q i k) :=
  congrArg (fun f : Fin 7168 => Ffn.sig (p (ix2 i f) + b (ix1 (Merge.gcol q k)))) (Fin.ext (by simp only [Merge.gcol, Merge.col]; omega))

theorem gate_0 (k : Fin 1024) : val_main_v99 (F := Ideal) p b (ix2 i k) = Ffn.sig (Merge.pre p b 0 i k) := by
  rw [← shift, ← sig_eq]
  pointwise [val_main_v99, val_main_v98, val_main_v97]
  exact congrArg (fun f : Fin 3072 => val_main_v96 (F := Ideal) p b (ix2 i f)) (Fin.ext (by simp [Merge.gcol]))

theorem gate_1 (k : Fin 1024) : val_main_v102 (F := Ideal) p b (ix2 i k) = Ffn.sig (Merge.pre p b 1 i k) := by
  rw [← shift, ← sig_eq]
  pointwise [val_main_v102, val_main_v101, val_main_v97]
  exact congrArg (fun f : Fin 3072 => val_main_v96 (F := Ideal) p b (ix2 i f)) (Fin.ext (by simp [Merge.gcol]))

theorem gate_2 (k : Fin 1024) : val_main_v106 (F := Ideal) p b (ix2 i k) = Ffn.sig (Merge.pre p b 2 i k) := by
  rw [← shift, ← sig_eq]
  pointwise [val_main_v106, val_main_v105, val_main_v97]
  exact congrArg (fun f : Fin 3072 => val_main_v96 (F := Ideal) p b (ix2 i f)) (Fin.ext (by simp [Merge.gcol]))

end Gates

theorem new_eq (x0 : FVec Ideal S8192x1024 .f32) (x1 : FVec Ideal S8192x512 .f32) (x2 x3 x4 : FVec Ideal S8192x512 .bf16)
    (x5 x6 x7 : FVec Ideal S4x2x2048x128 .f32) (x8 : FVec Ideal S8192x512 .f32) (x9 : FVec Ideal S8192x7168 .bf16) (x10 : FVec Ideal S3072 .f32)
    (x11 x12 : FVec Ideal S512 .f32) (x13 : FVec Ideal S512x2048 .f32) (x14 x15 : FVec Ideal S512x1024 .f32) (x16 : FVec Ideal S1024x1024 .f32)
    (i : Fin 8192) (d : Fin 1024) : val_main_v110 (F := Ideal) x0 x1 x2 x3 x4 x5 x6 x7 x8 x9 x10 x11 x12 x13 x14 x15 x16 (ix2 i d)
      = _root_.Merge.new x0 x1 x2 x3 x4 x5 x6 x7 x8 x9 x10 x11 x12 x13 x14 x15 x16 i d := by
  simp only [_root_.Merge.new, _root_.Merge.out, ← gate_0, ← gate_1, ← gate_2, ← ssm_eq, ← att_eq, ← conv_eq]
  pointwise [val_main_v110, val_main_v109, val_main_v108, val_main_v107, val_main_v104, val_main_v103, val_main_v100]

variable (m : (ℓ : Loc Cert.MergeIdeal.nD Cert.MergeIdeal.τ Cert.MergeIdeal.sig) → Buf (Elt Ideal) ℓ) (c : Dev Cert.MergeIdeal.nD)

theorem same : val_main_v110 (F := Ideal) (MergeIdeal.Value.a0 m c) (MergeIdeal.Value.a1 m c) (MergeIdeal.Value.a2 m c) (MergeIdeal.Value.a3 m c) (MergeIdeal.Value.a4 m c)
      (MergeIdeal.Value.a5 m c) (MergeIdeal.Value.a6 m c) (MergeIdeal.Value.a7 m c) (MergeIdeal.Value.a8 m c) (MergeIdeal.Value.a9 m c)
      (MergeIdeal.Value.a10 m c) (MergeIdeal.Value.a11 m c) (MergeIdeal.Value.a12 m c) (MergeIdeal.Value.a13 m c) (MergeIdeal.Value.a14 m c)
      (MergeIdeal.Value.a15 m c) (MergeIdeal.Value.a16 m c)
    = (MergeIdeal.Gen.dats m 0 c).arrAt 19 MergeIdeal.cfg0.N := by
  rw [MergeIdeal.Value.final_19]
  funext j
  idx_vars j
  exact new_eq _ _ _ _ _ _ _ _ _ _ _ _ _ _ _ _ _ j0 j1

/-- The call and its reference leave the same rows. -/
theorem alg : Cert.algebraic_MergeIdeal_MergeRefIdeal (hMergeIdeal := Cert.MergeIdeal.Gen.facts) (hMergeRefIdeal := Cert.MergeRefIdeal.Gen.facts) := by
  pair_intro
  · run_from Cert.MergeIdeal.Value.run_blocks m g
  · refine θ_run_mono (Cert.MergeRefIdeal.Value.run m' g') fun r hr c => ?_
    obtain ⟨e0, e1, e2, e3, e4, e5, e6, e7, e8, e9, e10, e11, e12, e13, e14, e15, e16⟩ := hagree c
    obtain ⟨h0, hr⟩ := hr c
    refine ⟨h0.trans ((val_main_v110_eq (F := Ideal) _ c).trans (Eq.trans ?_ (same m c))), hr⟩
    rw [e0, e1, e2, e3, e4, e5, e6, e7, e8, e9, e10, e11, e12, e13, e14, e15, e16]

/-- The reference, which has host lines only, leaves its arguments and every counter as they were. -/
theorem refFrame : Cert.quiescent_MergeRefIdeal (hMergeRefIdeal := Cert.MergeRefIdeal.Gen.facts) := fun m ρ _ =>
  θ_run_mono (Cert.MergeRefIdeal.Value.run m ρ) fun r h =>
    ⟨fun c => (h c).2, sem_eq_zero_of_no_sems (by decide) r.2⟩

end Cert.Proof.Merge
end
-- ==== Proof.AdamSmall.Value.lean ====
module

public import proofs.«01_k».proof.Proof.Gen.AdamSmallIdeal.Value
public import proofs.«01_k».proof.Proof.Adam.Step

@[expose] public section

set_option maxRecDepth 16384
noncomputable section
open Idealize.ShloMosaic Idealize.ShloMosaic.TcCoe Idealize.SL.Sem

/-! # What the optimiser's call on the packed small weights leaves in its four result arrays -/

namespace Cert.AdamSmallIdeal.Value
open Cert.AdamSmallIdeal Cert.AdamSmallIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 : FVec Ideal S8x512x128 .f32) (x1 x2 x3 : FVec Ideal S512x128 .f32)

theorem sum_apply (r : Fin 512) (q : Fin 128) : k0_pay6 (F := Ideal) x0 x1 x2 x3 (ix2 r q) = Adam.total x0 (ix2 r q) := by
  pointwise [k0_pay6, k0_pay4, Adam.total]

theorem out4 : out0_4 (F := Ideal) x0 x1 x2 x3 = Adam.total x0 := by
  refine (Adam.whole _ _).trans (funext fun y => ?_)
  idx_vars y
  exact sum_apply x0 x1 x2 x3 y0 y1

theorem out6 : out0_6 (F := Ideal) x0 x1 x2 x3 = Adam.moms (Adam.total x0) x2 := by
  refine (Adam.whole _ _).trans (funext fun y => ?_)
  idx_vars y
  rw [Adam.moms, ← sum_apply x0 x1 x2 x3]
  pointwise [k0_pay1, k0_pay7, k0_pay5, Adam.mom]

theorem out7 : out0_7 (F := Ideal) x0 x1 x2 x3 = Adam.vels (Adam.total x0) x3 := by
  refine (Adam.whole _ _).trans (funext fun y => ?_)
  idx_vars y
  rw [Adam.vels, ← sum_apply x0 x1 x2 x3]
  pointwise [k0_pay2, Adam.vel]

theorem out5 : out0_5 (F := Ideal) x0 x1 x2 x3 = Adam.deltas x1 (Adam.total x0) x2 x3 := by
  refine (Adam.whole _ _).trans (funext fun y => ?_)
  idx_vars y
  rw [Adam.deltas, ← sum_apply x0 x1 x2 x3, Adam.delta, Adam.change, Adam.div_d1, Adam.div_d2, ← c1, ← c2]
  pointwise [k0_pay3, k0_pay1, k0_pay2, k0_pay7, k0_pay5, Adam.mom, Adam.vel]

variable (m : (ℓ : Loc nD τ sig) → Buf (Elt Ideal) ℓ) (c : Dev nD)

/-- The eight devices' parts of the gradients. -/
abbrev parts : FVec Ideal S8x2560x128 .f32 := m ((c.tc : Thread nD τ).loc main_arg0)
/-- The weights. -/
abbrev argW : FVec Ideal S2560x128 .f32 := m ((c.tc : Thread nD τ).loc main_arg1)
/-- The first moments. -/
abbrev argM : FVec Ideal S2560x128 .f32 := m ((c.tc : Thread nD τ).loc main_arg2)
/-- The second moments. -/
abbrev argV : FVec Ideal S2560x128 .f32 := m ((c.tc : Thread nD τ).loc main_arg3)
/-- The gradients. -/
abbrev G : S2560x128.Idx → EReal := Adam.total (parts m c)

/-- Which block every window takes at every grid point. -/
theorem idx_val : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- Row `r` of the tile a grid point works on. -/
def rowOf (t : Fin cfg0.N) (r : Fin 512) : Fin 2560 := ⟨t.val * 512 + r.val, by have : t.val < 5 := lt_of_lt_of_eq t.isLt N_0; omega⟩

variable (t : Fin cfg0.N)

theorem blk0 (s : Fin 8) (r : Fin 512) (q : Fin 128) : (iblk m c 0 t : S8x512x128.Idx → EReal) (ix3 s r q) = parts m c (ix3 s (rowOf t r) q) := by
  blk_point [iblk, V, idx_val t]
  all_goals rfl

/-- The place of a tile's entry in a packed array. -/
def place (y : S512x128.Idx) : S2560x128.Idx := ix2 (rowOf t (y 0)) (y 1 : Fin 128)

theorem blk1 : (iblk m c 1 t : S512x128.Idx → EReal) = fun y => argW m c (place t y) := by
  funext y
  idx_vars y
  blk_point [iblk, V, idx_val t]
  all_goals rfl

theorem blk2 : (iblk m c 2 t : S512x128.Idx → EReal) = fun y => argM m c (place t y) := by
  funext y
  idx_vars y
  blk_point [iblk, V, idx_val t]
  all_goals rfl

theorem blk3 : (iblk m c 3 t : S512x128.Idx → EReal) = fun y => argV m c (place t y) := by
  funext y
  idx_vars y
  blk_point [iblk, V, idx_val t]
  all_goals rfl

theorem tile : Adam.total (iblk m c 0 t : S8x512x128.Idx → EReal) = fun y => G m c (place t y) := by
  funext y
  idx_vars y
  exact Adam.total_congr fun s => blk0 m c t s y0 y1

/-- Where a block's entry lies in a result array. -/
theorem pos4 (y : S512x128.Idx) : ((win0_4.blk t).view.emb y : S2560x128.Idx) = place t y := by
  refine funext fun a => Fin.ext ?_
  match a with
  | ⟨0, _⟩ => blk_simp [idx_val t]; rfl
  | ⟨1, _⟩ => blk_simp [idx_val t]; rfl

theorem final_4 : (dats m 0 c).arrAt 4 cfg0.N = G m c := by
  refine (dats m 0 c).arrAt_eq_of_covers 4 _ (by decide +kernel) fun t hf y => ?_
  blk_simp; rw [after0_4, out4, tile]
  exact congrArg (G m c) (pos4 t y).symm

theorem final_5 : (dats m 0 c).arrAt 5 cfg0.N = Adam.deltas (argW m c) (G m c) (argM m c) (argV m c) := by
  refine (dats m 0 c).arrAt_eq_of_covers 5 _ (by decide +kernel) fun t hf y => ?_
  blk_simp; rw [after0_5, out5, tile, blk1, blk2, blk3]
  exact congrArg (Adam.deltas (argW m c) (G m c) (argM m c) (argV m c)) (pos4 t y).symm

theorem final_6 : (dats m 0 c).arrAt 6 cfg0.N = Adam.moms (G m c) (argM m c) := by
  refine (dats m 0 c).arrAt_eq_of_covers 6 _ (by decide +kernel) fun t hf y => ?_
  blk_simp; rw [after0_6, out6, tile, blk2]
  exact congrArg (Adam.moms (G m c) (argM m c)) (pos4 t y).symm

theorem final_7 : (dats m 0 c).arrAt 7 cfg0.N = Adam.vels (G m c) (argV m c) := by
  refine (dats m 0 c).arrAt_eq_of_covers 7 _ (by decide +kernel) fun t hf y => ?_
  blk_simp; rw [after0_7, out7, tile, blk3]
  exact congrArg (Adam.vels (G m c) (argV m c)) (pos4 t y).symm

end Cert.AdamSmallIdeal.Value
end
-- ==== Proof.AdamSmall.Claim.lean ====
module

public import proofs.«01_k».proof.Defs
public import proofs.«01_k».proof.Proof.AdamSmall.Value
public import proofs.«01_k».proof.Proof.Gen.AdamSmallRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the packed small weights: its results are the reference's -/

namespace Cert.Proof.AdamSmall
open Cert.AdamSmallRefIdeal Cert.AdamSmallRefIdeal.Read

variable (x0 : FVec Ideal S8x2560x128 .f32) (x1 x2 x3 : FVec Ideal S2560x128 .f32)

theorem total_eq : val_main_v0 (F := Ideal) x0 = Adam.total x0 := by
  funext j
  idx_vars j
  refine Eq.trans ?_ (Adam.total_eq x0 j0 j1)
  pointwise [val_main_v0, val_main_cst]

theorem moms_eq : val_main_v5 (F := Ideal) x0 x2 = Adam.moms (Adam.total x0) x2 := by
  rw [← total_eq]
  funext j
  pointwise [val_main_v5, val_main_v4, val_main_v3, val_main_v2, val_main_v1, val_main_cst_0, val_main_cst_1, Adam.moms, Adam.mom]

theorem vels_eq : val_main_v11 (F := Ideal) x0 x3 = Adam.vels (Adam.total x0) x3 := by
  rw [← total_eq]
  funext j
  pointwise [val_main_v11, val_main_v10, val_main_v9, val_main_v8, val_main_v7, val_main_v6, val_main_cst_2, val_main_cst_3,
    Adam.vels, Adam.vel]

theorem deltas_eq : val_main_v24 (F := Ideal) x0 x1 x2 x3 = Adam.deltas x1 (Adam.total x0) x2 x3 := by
  rw [Adam.deltas_of, ← moms_eq, ← vels_eq]
  funext j
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7, val_main_cst_8,
    Adam.change]

open Cert.AdamSmallIdeal.Value (final_4 final_5 final_6 final_7)

/-- The call and its reference leave the same results. -/
theorem alg : Cert.algebraic_AdamSmallIdeal_AdamSmallRefIdeal (hAdamSmallIdeal := Cert.AdamSmallIdeal.Gen.facts)
    (hAdamSmallRefIdeal := Cert.AdamSmallRefIdeal.Gen.facts) := by
  pair_intro
  · run_from Cert.AdamSmallIdeal.Value.run_blocks m g
  · refine θ_run_mono (Cert.AdamSmallRefIdeal.Value.run m' g') fun r hr c => ?_
    obtain ⟨e0, e1, e2, e3⟩ := hagree c
    obtain ⟨h0, h1, h2, h3, hr⟩ := hr c
    rw [e0] at h0
    rw [e0, e1, e2, e3] at h1
    rw [e0, e2] at h2
    rw [e0, e3] at h3
    exact ⟨h0.trans ((val_main_v0_eq _).trans ((total_eq _).trans (final_4 m c).symm)),
      h1.trans ((val_main_v24_eq _ _ _ _).trans ((deltas_eq _ _ _ _).trans (final_5 m c).symm)),
      h2.trans ((val_main_v5_eq _ _).trans ((moms_eq _ _).trans (final_6 m c).symm)),
      h3.trans ((val_main_v11_eq _ _).trans ((vels_eq _ _).trans (final_7 m c).symm)), hr⟩

/-- The names of the two factors are the reciprocals the rule says. -/
theorem names : Cert.preserves_AdamSmall_AdamSmallIdeal :=
  ⟨IdealRules.named_const.statement Cert.AdamSmallIdeal.κ "c1" .f32 0x3FC48605#32 _ rfl,
    IdealRules.named_const.statement Cert.AdamSmallIdeal.κ "c2" .f32 0x42C8E6D3#32 _ rfl⟩

/-- The reference, which has host lines only, leaves its arguments and every counter as they were. -/
theorem refFrame : Cert.quiescent_AdamSmallRefIdeal (hAdamSmallRefIdeal := Cert.AdamSmallRefIdeal.Gen.facts) := fun m ρ _ =>
  θ_run_mono (Cert.AdamSmallRefIdeal.Value.run m ρ) fun r h =>
    ⟨fun c => (h c).2.2.2.2, sem_eq_zero_of_no_sems (by decide) r.2⟩

end Cert.Proof.AdamSmall
end
-- ==== Proof.AdamIn.Value.lean ====
module

public import proofs.«01_k».proof.Proof.Gen.AdamInIdeal.Value
public import proofs.«01_k».proof.Proof.Adam.Step

@[expose] public section

set_option maxRecDepth 16384
noncomputable section
open Idealize.ShloMosaic Idealize.ShloMosaic.TcCoe Idealize.SL.Sem

/-! # What the optimiser's call on the input projection leaves in its four result arrays -/

namespace Cert.AdamInIdeal.Value
open Cert.AdamInIdeal Cert.AdamInIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x128x896 .bf16) (x2 x3 : FVec Ideal S128x896 .bf16) (x4 x5 x6 : FVec Ideal S2x128x896 .f32)

theorem first_apply (r : Fin 128) (q : Fin 896) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 128) (q : Fin 896) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The seven other devices' parts, first layer. -/
abbrev land0 : FVec Ideal S7x1024x896 .bf16 := m ((c.tc : Thread nD τ).loc main_arg0)
/-- The seven other devices' parts, second layer. -/
abbrev land1 : FVec Ideal S7x1024x896 .bf16 := m ((c.tc : Thread nD τ).loc main_arg1)
/-- The device's own part, first layer. -/
abbrev own0 : FVec Ideal S1024x896 .bf16 := m ((c.tc : Thread nD τ).loc main_arg2)
/-- The device's own part, second layer. -/
abbrev own1 : FVec Ideal S1024x896 .bf16 := m ((c.tc : Thread nD τ).loc main_arg3)
/-- The weights. -/
abbrev argW : FVec Ideal S2x1024x896 .f32 := m ((c.tc : Thread nD τ).loc main_arg4)
/-- The first moments. -/
abbrev argM : FVec Ideal S2x1024x896 .f32 := m ((c.tc : Thread nD τ).loc main_arg5)
/-- The second moments. -/
abbrev argV : FVec Ideal S2x1024x896 .f32 := m ((c.tc : Thread nD τ).loc main_arg6)
/-- The gradients. -/
abbrev G : S2x1024x896.Idx → EReal := Adam.grads (land0 m c) (land1 m c) (own0 m c) (own1 m c)

/-- Which block every window takes at every grid point. -/
theorem idx_val : ∀ t : Fin cfg0.N, win0_0.index t = ![0, t.val, 0] ∧ win0_1.index t = ![0, t.val, 0]
    ∧ win0_2.index t = ![t.val, 0] ∧ win0_3.index t = ![t.val, 0]
    ∧ win0_4.index t = ![0, t.val, 0] ∧ win0_5.index t = ![0, t.val, 0] ∧ win0_6.index t = ![0, t.val, 0]
    ∧ win0_7.index t = ![0, t.val, 0] ∧ win0_8.index t = ![0, t.val, 0] ∧ win0_9.index t = ![0, t.val, 0] ∧ win0_10.index t = ![0, t.val, 0] :=
  (by decide +kernel : ∀ t : Fin grid0.N, _)

/-- Row `r` of the tile a grid point works on. -/
def rowOf (t : Fin cfg0.N) (r : Fin 128) : Fin 1024 := ⟨t.val * 128 + r.val, by have : t.val < 8 := lt_of_lt_of_eq t.isLt N_0; omega⟩

variable (t : Fin cfg0.N)

theorem blk0 (s : Fin 7) (r : Fin 128) (q : Fin 896) : (iblk m c 0 t : S7x128x896.Idx → EReal) (ix3 s r q) = land0 m c (ix3 s (rowOf t r) q) := by
  blk_point [iblk, V, idx_val t]
  all_goals rfl

theorem blk1 (s : Fin 7) (r : Fin 128) (q : Fin 896) : (iblk m c 1 t : S7x128x896.Idx → EReal) (ix3 s r q) = land1 m c (ix3 s (rowOf t r) q) := by
  blk_point [iblk, V, idx_val t]
  all_goals rfl

theorem blk2 (r : Fin 128) (q : Fin 896) : (iblk m c 2 t : S128x896.Idx → EReal) (ix2 r q) = own0 m c (ix2 (rowOf t r) q) := by
  blk_point [iblk, V, idx_val t]
  all_goals rfl

theorem blk3 (r : Fin 128) (q : Fin 896) : (iblk m c 3 t : S128x896.Idx → EReal) (ix2 r q) = own1 m c (ix2 (rowOf t r) q) := by
  blk_point [iblk, V, idx_val t]
  all_goals rfl

/-- The place of a tile's entry in an array of both layers. -/
def place (y : S2x128x896.Idx) : S2x1024x896.Idx := ix3 (y 0 : Fin 2) (rowOf t (y 1)) (y 2 : Fin 896)

theorem blk4 : (iblk m c 4 t : S2x128x896.Idx → EReal) = fun y => argW m c (place t y) := by
  funext y
  idx_vars y
  blk_point [iblk, V, idx_val t]
  all_goals rfl

theorem blk5 : (iblk m c 5 t : S2x128x896.Idx → EReal) = fun y => argM m c (place t y) := by
  funext y
  idx_vars y
  blk_point [iblk, V, idx_val t]
  all_goals rfl

theorem blk6 : (iblk m c 6 t : S2x128x896.Idx → EReal) = fun y => argV m c (place t y) := by
  funext y
  idx_vars y
  blk_point [iblk, V, idx_val t]
  all_goals rfl

theorem tile : Adam.grads (iblk m c 0 t : S7x128x896.Idx → EReal) (iblk m c 1 t : S7x128x896.Idx → EReal) (iblk m c 2 t : S128x896.Idx → EReal)
    (iblk m c 3 t : S128x896.Idx → EReal) = fun y => G m c (place t y) :=
  funext fun y => Adam.grad_congr (fun s => blk0 m c t s (y 1) (y 2)) (fun s => blk1 m c t s (y 1) (y 2)) (blk2 m c t (y 1) (y 2))
    (blk3 m c t (y 1) (y 2)) (y 0)

/-- Where a block's entry lies in a result array. -/
theorem pos7 (y : S2x128x896.Idx) : ((win0_7.blk t).view.emb y : S2x1024x896.Idx) = place t y := by
  refine funext fun a => Fin.ext ?_
  match a with
  | ⟨0, _⟩ => blk_simp [idx_val t]; rfl
  | ⟨1, _⟩ => blk_simp [idx_val t]; rfl
  | ⟨2, _⟩ => blk_simp [idx_val t]; rfl

theorem final_7 : (dats m 0 c).arrAt 7 cfg0.N = G m c := by
  refine (dats m 0 c).arrAt_eq_of_covers 7 _ (by decide +kernel) fun t hf y => ?_
  blk_simp; rw [after0_7, out7, tile]
  exact congrArg (G m c) (pos7 t y).symm

theorem final_8 : (dats m 0 c).arrAt 8 cfg0.N = Adam.deltas (argW m c) (G m c) (argM m c) (argV m c) := by
  refine (dats m 0 c).arrAt_eq_of_covers 8 _ (by decide +kernel) fun t hf y => ?_
  blk_simp; rw [after0_8, out8, tile, blk4, blk5, blk6]
  exact congrArg (Adam.deltas (argW m c) (G m c) (argM m c) (argV m c)) (pos7 t y).symm

theorem final_9 : (dats m 0 c).arrAt 9 cfg0.N = Adam.moms (G m c) (argM m c) := by
  refine (dats m 0 c).arrAt_eq_of_covers 9 _ (by decide +kernel) fun t hf y => ?_
  blk_simp; rw [after0_9, out9, tile, blk5]
  exact congrArg (Adam.moms (G m c) (argM m c)) (pos7 t y).symm

theorem final_10 : (dats m 0 c).arrAt 10 cfg0.N = Adam.vels (G m c) (argV m c) := by
  refine (dats m 0 c).arrAt_eq_of_covers 10 _ (by decide +kernel) fun t hf y => ?_
  blk_simp; rw [after0_10, out10, tile, blk6]
  exact congrArg (Adam.vels (G m c) (argV m c)) (pos7 t y).symm

end Cert.AdamInIdeal.Value
end
-- ==== Proof.AdamIn.Claim.lean ====
module

public import proofs.«01_k».proof.Defs
public import proofs.«01_k».proof.Proof.AdamIn.Value
public import proofs.«01_k».proof.Proof.Gen.AdamInRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the input projection: its results are the reference's -/

namespace Cert.Proof.AdamIn
open Cert.AdamInRefIdeal Cert.AdamInRefIdeal.Read

variable (x0 x1 : FVec Ideal S7x1024x896 .bf16) (x2 x3 : FVec Ideal S1024x896 .bf16) (x4 x5 x6 : FVec Ideal S2x1024x896 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamInIdeal.Value (final_7 final_8 final_9 final_10)

/-- The call and its reference leave the same results. -/
theorem alg : Cert.algebraic_AdamInIdeal_AdamInRefIdeal (hAdamInIdeal := Cert.AdamInIdeal.Gen.facts)
    (hAdamInRefIdeal := Cert.AdamInRefIdeal.Gen.facts) := by
  pair_intro
  · run_from Cert.AdamInIdeal.Value.run_blocks m g
  · run_from Cert.AdamInRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamIn_AdamInIdeal :=
  ⟨IdealRules.named_const.statement Cert.AdamInIdeal.κ "c1" .f32 0x3FC48605#32 _ rfl,
    IdealRules.named_const.statement Cert.AdamInIdeal.κ "c2" .f32 0x42C8E6D3#32 _ rfl⟩

/-- The reference, which has host lines only, leaves its arguments and every counter as they were. -/
theorem refFrame : Cert.quiescent_AdamInRefIdeal (hAdamInRefIdeal := Cert.AdamInRefIdeal.Gen.facts) := fun m ρ _ =>
  θ_run_mono (Cert.AdamInRefIdeal.Value.run m ρ) fun r h =>
    ⟨fun c => (h c).2.2.2.2, sem_eq_zero_of_no_sems (by decide) r.2⟩

end Cert.Proof.AdamIn
end
-- ==== Proof.AdamGlu.Value.lean ====
module

public import proofs.«01_k».proof.Proof.Gen.AdamGluIdeal.Value
public import proofs.«01_k».proof.Proof.Adam.Step

@[expose] public section

set_option maxRecDepth 16384
noncomputable section
open Idealize.ShloMosaic Idealize.ShloMosaic.TcCoe Idealize.SL.Sem

/-! # What the optimiser's call on the recurrence's gate leaves in its four result arrays -/

namespace Cert.AdamGluIdeal.Value
open Cert.AdamGluIdeal Cert.AdamGluIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x512x256 .bf16) (x2 x3 : FVec Ideal S512x256 .bf16) (x4 x5 x6 : FVec Ideal S2x512x256 .f32)

theorem first_apply (r : Fin 512) (q : Fin 256) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 512) (q : Fin 256) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The gradients of the arrays as the call finds them. -/
abbrev G : S2x512x256.Idx → EReal := Adam.grads (k := 512) (n := 256) (m ((c.tc : Thread nD τ).loc main_arg0)) (m ((c.tc : Thread nD τ).loc main_arg1))
  (m ((c.tc : Thread nD τ).loc main_arg2)) (m ((c.tc : Thread nD τ).loc main_arg3))

theorem final_7 : (dats m 0 c).arrAt 7 cfg0.N = G m c := (final7 m c).trans (out7 _ _ _ _ _ _ _)
theorem final_8 : (dats m 0 c).arrAt 8 cfg0.N = Adam.deltas (m ((c.tc : Thread nD τ).loc main_arg4)) (G m c) (m ((c.tc : Thread nD τ).loc main_arg5))
    (m ((c.tc : Thread nD τ).loc main_arg6)) := (final8 m c).trans (out8 _ _ _ _ _ _ _)
theorem final_9 : (dats m 0 c).arrAt 9 cfg0.N = Adam.moms (G m c) (m ((c.tc : Thread nD τ).loc main_arg5)) := (final9 m c).trans (out9 _ _ _ _ _ _ _)
theorem final_10 : (dats m 0 c).arrAt 10 cfg0.N = Adam.vels (G m c) (m ((c.tc : Thread nD τ).loc main_arg6)) := (final10 m c).trans (out10 _ _ _ _ _ _ _)

end Cert.AdamGluIdeal.Value
end
-- ==== Proof.AdamGlu.Claim.lean ====
module

public import proofs.«01_k».proof.Defs
public import proofs.«01_k».proof.Proof.AdamGlu.Value
public import proofs.«01_k».proof.Proof.Gen.AdamGluRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the recurrence's gate: its results are the reference's -/

namespace Cert.Proof.AdamGlu
open Cert.AdamGluRefIdeal Cert.AdamGluRefIdeal.Read

variable (x0 x1 : FVec Ideal S7x512x256 .bf16) (x2 x3 : FVec Ideal S512x256 .bf16) (x4 x5 x6 : FVec Ideal S2x512x256 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamGluIdeal.Value (final_7 final_8 final_9 final_10)

/-- The call and its reference leave the same results. -/
theorem alg : Cert.algebraic_AdamGluIdeal_AdamGluRefIdeal (hAdamGluIdeal := Cert.AdamGluIdeal.Gen.facts)
    (hAdamGluRefIdeal := Cert.AdamGluRefIdeal.Gen.facts) := by
  pair_intro
  · run_from Cert.AdamGluIdeal.Value.run_blocks m g
  · run_from Cert.AdamGluRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamGlu_AdamGluIdeal :=
  ⟨IdealRules.named_const.statement Cert.AdamGluIdeal.κ "c1" .f32 0x3FC48605#32 _ rfl,
    IdealRules.named_const.statement Cert.AdamGluIdeal.κ "c2" .f32 0x42C8E6D3#32 _ rfl⟩

/-- The reference, which has host lines only, leaves its arguments and every counter as they were. -/
theorem refFrame : Cert.quiescent_AdamGluRefIdeal (hAdamGluRefIdeal := Cert.AdamGluRefIdeal.Gen.facts) := fun m ρ _ =>
  θ_run_mono (Cert.AdamGluRefIdeal.Value.run m ρ) fun r h =>
    ⟨fun c => (h c).2.2.2.2, sem_eq_zero_of_no_sems (by decide) r.2⟩

end Cert.Proof.AdamGlu
end
-- ==== Proof.AdamUp.Value.lean ====
module

public import proofs.«01_k».proof.Proof.Gen.AdamUpIdeal.Value
public import proofs.«01_k».proof.Proof.Adam.Step

@[expose] public section

set_option maxRecDepth 16384
noncomputable section
open Idealize.ShloMosaic Idealize.ShloMosaic.TcCoe Idealize.SL.Sem

/-! # What the optimiser's call on the attention's and the convolution's last weight leaves in its four result arrays -/

namespace Cert.AdamUpIdeal.Value
open Cert.AdamUpIdeal Cert.AdamUpIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x512x128 .bf16) (x2 x3 : FVec Ideal S512x128 .bf16) (x4 x5 x6 : FVec Ideal S2x512x128 .f32)

theorem first_apply (r : Fin 512) (q : Fin 128) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 512) (q : Fin 128) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The gradients of the arrays as the call finds them. -/
abbrev G : S2x512x128.Idx → EReal := Adam.grads (k := 512) (n := 128) (m ((c.tc : Thread nD τ).loc main_arg0)) (m ((c.tc : Thread nD τ).loc main_arg1))
  (m ((c.tc : Thread nD τ).loc main_arg2)) (m ((c.tc : Thread nD τ).loc main_arg3))

theorem final_7 : (dats m 0 c).arrAt 7 cfg0.N = G m c := (final7 m c).trans (out7 _ _ _ _ _ _ _)
theorem final_8 : (dats m 0 c).arrAt 8 cfg0.N = Adam.deltas (m ((c.tc : Thread nD τ).loc main_arg4)) (G m c) (m ((c.tc : Thread nD τ).loc main_arg5))
    (m ((c.tc : Thread nD τ).loc main_arg6)) := (final8 m c).trans (out8 _ _ _ _ _ _ _)
theorem final_9 : (dats m 0 c).arrAt 9 cfg0.N = Adam.moms (G m c) (m ((c.tc : Thread nD τ).loc main_arg5)) := (final9 m c).trans (out9 _ _ _ _ _ _ _)
theorem final_10 : (dats m 0 c).arrAt 10 cfg0.N = Adam.vels (G m c) (m ((c.tc : Thread nD τ).loc main_arg6)) := (final10 m c).trans (out10 _ _ _ _ _ _ _)

end Cert.AdamUpIdeal.Value
end
-- ==== Proof.AdamUp.Claim.lean ====
module

public import proofs.«01_k».proof.Defs
public import proofs.«01_k».proof.Proof.AdamUp.Value
public import proofs.«01_k».proof.Proof.Gen.AdamUpRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the attention's and the convolution's last weight: its results are the reference's -/

namespace Cert.Proof.AdamUp
open Cert.AdamUpRefIdeal Cert.AdamUpRefIdeal.Read

variable (x0 x1 : FVec Ideal S7x512x128 .bf16) (x2 x3 : FVec Ideal S512x128 .bf16) (x4 x5 x6 : FVec Ideal S2x512x128 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamUpIdeal.Value (final_7 final_8 final_9 final_10)

/-- The call and its reference leave the same results. -/
theorem alg : Cert.algebraic_AdamUpIdeal_AdamUpRefIdeal (hAdamUpIdeal := Cert.AdamUpIdeal.Gen.facts)
    (hAdamUpRefIdeal := Cert.AdamUpRefIdeal.Gen.facts) := by
  pair_intro
  · run_from Cert.AdamUpIdeal.Value.run_blocks m g
  · run_from Cert.AdamUpRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamUp_AdamUpIdeal :=
  ⟨IdealRules.named_const.statement Cert.AdamUpIdeal.κ "c1" .f32 0x3FC48605#32 _ rfl,
    IdealRules.named_const.statement Cert.AdamUpIdeal.κ "c2" .f32 0x42C8E6D3#32 _ rfl⟩

/-- The reference, which has host lines only, leaves its arguments and every counter as they were. -/
theorem refFrame : Cert.quiescent_AdamUpRefIdeal (hAdamUpRefIdeal := Cert.AdamUpRefIdeal.Gen.facts) := fun m ρ _ =>
  θ_run_mono (Cert.AdamUpRefIdeal.Value.run m ρ) fun r h =>
    ⟨fun c => (h c).2.2.2.2, sem_eq_zero_of_no_sems (by decide) r.2⟩

end Cert.Proof.AdamUp
end
-- ==== Proof.AdamOut.Value.lean ====
module

public import proofs.«01_k».proof.Proof.Gen.AdamOutIdeal.Value
public import proofs.«01_k».proof.Proof.Adam.Step

@[expose] public section

set_option maxRecDepth 16384
noncomputable section
open Idealize.ShloMosaic Idealize.ShloMosaic.TcCoe Idealize.SL.Sem

/-! # What the optimiser's call on the output projection leaves in its four result arrays -/

namespace Cert.AdamOutIdeal.Value
open Cert.AdamOutIdeal Cert.AdamOutIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x128x1024 .bf16) (x2 x3 : FVec Ideal S128x1024 .bf16) (x4 x5 x6 : FVec Ideal S2x128x1024 .f32)

theorem first_apply (r : Fin 128) (q : Fin 1024) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 128) (q : Fin 1024) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The gradients of the arrays as the call finds them. -/
abbrev G : S2x128x1024.Idx → EReal := Adam.grads (k := 128) (n := 1024) (m ((c.tc : Thread nD τ).loc main_arg0)) (m ((c.tc : Thread nD τ).loc main_arg1))
  (m ((c.tc : Thread nD τ).loc main_arg2)) (m ((c.tc : Thread nD τ).loc main_arg3))

theorem final_7 : (dats m 0 c).arrAt 7 cfg0.N = G m c := (final7 m c).trans (out7 _ _ _ _ _ _ _)
theorem final_8 : (dats m 0 c).arrAt 8 cfg0.N = Adam.deltas (m ((c.tc : Thread nD τ).loc main_arg4)) (G m c) (m ((c.tc : Thread nD τ).loc main_arg5))
    (m ((c.tc : Thread nD τ).loc main_arg6)) := (final8 m c).trans (out8 _ _ _ _ _ _ _)
theorem final_9 : (dats m 0 c).arrAt 9 cfg0.N = Adam.moms (G m c) (m ((c.tc : Thread nD τ).loc main_arg5)) := (final9 m c).trans (out9 _ _ _ _ _ _ _)
theorem final_10 : (dats m 0 c).arrAt 10 cfg0.N = Adam.vels (G m c) (m ((c.tc : Thread nD τ).loc main_arg6)) := (final10 m c).trans (out10 _ _ _ _ _ _ _)

end Cert.AdamOutIdeal.Value
end
-- ==== Proof.AdamOut.Claim.lean ====
module

public import proofs.«01_k».proof.Defs
public import proofs.«01_k».proof.Proof.AdamOut.Value
public import proofs.«01_k».proof.Proof.Gen.AdamOutRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the output projection: its results are the reference's -/

namespace Cert.Proof.AdamOut
open Cert.AdamOutRefIdeal Cert.AdamOutRefIdeal.Read

variable (x0 x1 : FVec Ideal S7x128x1024 .bf16) (x2 x3 : FVec Ideal S128x1024 .bf16) (x4 x5 x6 : FVec Ideal S2x128x1024 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamOutIdeal.Value (final_7 final_8 final_9 final_10)

/-- The call and its reference leave the same results. -/
theorem alg : Cert.algebraic_AdamOutIdeal_AdamOutRefIdeal (hAdamOutIdeal := Cert.AdamOutIdeal.Gen.facts)
    (hAdamOutRefIdeal := Cert.AdamOutRefIdeal.Gen.facts) := by
  pair_intro
  · run_from Cert.AdamOutIdeal.Value.run_blocks m g
  · run_from Cert.AdamOutRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamOut_AdamOutIdeal :=
  ⟨IdealRules.named_const.statement Cert.AdamOutIdeal.κ "c1" .f32 0x3FC48605#32 _ rfl,
    IdealRules.named_const.statement Cert.AdamOutIdeal.κ "c2" .f32 0x42C8E6D3#32 _ rfl⟩

/-- The reference, which has host lines only, leaves its arguments and every counter as they were. -/
theorem refFrame : Cert.quiescent_AdamOutRefIdeal (hAdamOutRefIdeal := Cert.AdamOutRefIdeal.Gen.facts) := fun m ρ _ =>
  θ_run_mono (Cert.AdamOutRefIdeal.Value.run m ρ) fun r h =>
    ⟨fun c => (h c).2.2.2.2, sem_eq_zero_of_no_sems (by decide) r.2⟩

end Cert.Proof.AdamOut
end
-- ==== Proof.AdamFfnIn.Value.lean ====
module

public import proofs.«01_k».proof.Proof.Gen.AdamFfnInIdeal.Value
public import proofs.«01_k».proof.Proof.Adam.Step

@[expose] public section

set_option maxRecDepth 16384
noncomputable section
open Idealize.ShloMosaic Idealize.ShloMosaic.TcCoe Idealize.SL.Sem

/-! # What the optimiser's call on the feed-forward part's first weight leaves in its four result arrays -/

namespace Cert.AdamFfnInIdeal.Value
open Cert.AdamFfnInIdeal Cert.AdamFfnInIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x128x704 .bf16) (x2 x3 : FVec Ideal S128x704 .bf16) (x4 x5 x6 : FVec Ideal S2x128x704 .f32)

theorem first_apply (r : Fin 128) (q : Fin 704) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 128) (q : Fin 704) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The seven other devices' parts, first layer. -/
abbrev land0 : FVec Ideal S7x1024x704 .bf16 := m ((c.tc : Thread nD τ).loc main_arg0)
/-- The seven other devices' parts, second layer. -/
abbrev land1 : FVec Ideal S7x1024x704 .bf16 := m ((c.tc : Thread nD τ).loc main_arg1)
/-- The device's own part, first layer. -/
abbrev own0 : FVec Ideal S1024x704 .bf16 := m ((c.tc : Thread nD τ).loc main_arg2)
/-- The device's own part, second layer. -/
abbrev own1 : FVec Ideal S1024x704 .bf16 := m ((c.tc : Thread nD τ).loc main_arg3)
/-- The weights. -/
abbrev argW : FVec Ideal S2x1024x704 .f32 := m ((c.tc : Thread nD τ).loc main_arg4)
/-- The first moments. -/
abbrev argM : FVec Ideal S2x1024x704 .f32 := m ((c.tc : Thread nD τ).loc main_arg5)
/-- The second moments. -/
abbrev argV : FVec Ideal S2x1024x704 .f32 := m ((c.tc : Thread nD τ).loc main_arg6)
/-- The gradients. -/
abbrev G : S2x1024x704.Idx → EReal := Adam.grads (land0 m c) (land1 m c) (own0 m c) (own1 m c)

/-- Which block every window takes at every grid point. -/
theorem idx_val : ∀ t : Fin cfg0.N, win0_0.index t = ![0, t.val, 0] ∧ win0_1.index t = ![0, t.val, 0]
    ∧ win0_2.index t = ![t.val, 0] ∧ win0_3.index t = ![t.val, 0]
    ∧ win0_4.index t = ![0, t.val, 0] ∧ win0_5.index t = ![0, t.val, 0] ∧ win0_6.index t = ![0, t.val, 0]
    ∧ win0_7.index t = ![0, t.val, 0] ∧ win0_8.index t = ![0, t.val, 0] ∧ win0_9.index t = ![0, t.val, 0] ∧ win0_10.index t = ![0, t.val, 0] :=
  (by decide +kernel : ∀ t : Fin grid0.N, _)

/-- Row `r` of the tile a grid point works on. -/
def rowOf (t : Fin cfg0.N) (r : Fin 128) : Fin 1024 := ⟨t.val * 128 + r.val, by have : t.val < 8 := lt_of_lt_of_eq t.isLt N_0; omega⟩

variable (t : Fin cfg0.N)

theorem blk0 (s : Fin 7) (r : Fin 128) (q : Fin 704) : (iblk m c 0 t : S7x128x704.Idx → EReal) (ix3 s r q) = land0 m c (ix3 s (rowOf t r) q) := by
  blk_point [iblk, V, idx_val t]
  all_goals rfl

theorem blk1 (s : Fin 7) (r : Fin 128) (q : Fin 704) : (iblk m c 1 t : S7x128x704.Idx → EReal) (ix3 s r q) = land1 m c (ix3 s (rowOf t r) q) := by
  blk_point [iblk, V, idx_val t]
  all_goals rfl

theorem blk2 (r : Fin 128) (q : Fin 704) : (iblk m c 2 t : S128x704.Idx → EReal) (ix2 r q) = own0 m c (ix2 (rowOf t r) q) := by
  blk_point [iblk, V, idx_val t]
  all_goals rfl

theorem blk3 (r : Fin 128) (q : Fin 704) : (iblk m c 3 t : S128x704.Idx → EReal) (ix2 r q) = own1 m c (ix2 (rowOf t r) q) := by
  blk_point [iblk, V, idx_val t]
  all_goals rfl

/-- The place of a tile's entry in an array of both layers. -/
def place (y : S2x128x704.Idx) : S2x1024x704.Idx := ix3 (y 0 : Fin 2) (rowOf t (y 1)) (y 2 : Fin 704)

theorem blk4 : (iblk m c 4 t : S2x128x704.Idx → EReal) = fun y => argW m c (place t y) := by
  funext y
  idx_vars y
  blk_point [iblk, V, idx_val t]
  all_goals rfl

theorem blk5 : (iblk m c 5 t : S2x128x704.Idx → EReal) = fun y => argM m c (place t y) := by
  funext y
  idx_vars y
  blk_point [iblk, V, idx_val t]
  all_goals rfl

theorem blk6 : (iblk m c 6 t : S2x128x704.Idx → EReal) = fun y => argV m c (place t y) := by
  funext y
  idx_vars y
  blk_point [iblk, V, idx_val t]
  all_goals rfl

theorem tile : Adam.grads (iblk m c 0 t : S7x128x704.Idx → EReal) (iblk m c 1 t : S7x128x704.Idx → EReal) (iblk m c 2 t : S128x704.Idx → EReal)
    (iblk m c 3 t : S128x704.Idx → EReal) = fun y => G m c (place t y) :=
  funext fun y => Adam.grad_congr (fun s => blk0 m c t s (y 1) (y 2)) (fun s => blk1 m c t s (y 1) (y 2)) (blk2 m c t (y 1) (y 2))
    (blk3 m c t (y 1) (y 2)) (y 0)

/-- Where a block's entry lies in a result array. -/
theorem pos7 (y : S2x128x704.Idx) : ((win0_7.blk t).view.emb y : S2x1024x704.Idx) = place t y := by
  refine funext fun a => Fin.ext ?_
  match a with
  | ⟨0, _⟩ => blk_simp [idx_val t]; rfl
  | ⟨1, _⟩ => blk_simp [idx_val t]; rfl
  | ⟨2, _⟩ => blk_simp [idx_val t]; rfl

theorem final_7 : (dats m 0 c).arrAt 7 cfg0.N = G m c := by
  refine (dats m 0 c).arrAt_eq_of_covers 7 _ (by decide +kernel) fun t hf y => ?_
  blk_simp; rw [after0_7, out7, tile]
  exact congrArg (G m c) (pos7 t y).symm

theorem final_8 : (dats m 0 c).arrAt 8 cfg0.N = Adam.deltas (argW m c) (G m c) (argM m c) (argV m c) := by
  refine (dats m 0 c).arrAt_eq_of_covers 8 _ (by decide +kernel) fun t hf y => ?_
  blk_simp; rw [after0_8, out8, tile, blk4, blk5, blk6]
  exact congrArg (Adam.deltas (argW m c) (G m c) (argM m c) (argV m c)) (pos7 t y).symm

theorem final_9 : (dats m 0 c).arrAt 9 cfg0.N = Adam.moms (G m c) (argM m c) := by
  refine (dats m 0 c).arrAt_eq_of_covers 9 _ (by decide +kernel) fun t hf y => ?_
  blk_simp; rw [after0_9, out9, tile, blk5]
  exact congrArg (Adam.moms (G m c) (argM m c)) (pos7 t y).symm

theorem final_10 : (dats m 0 c).arrAt 10 cfg0.N = Adam.vels (G m c) (argV m c) := by
  refine (dats m 0 c).arrAt_eq_of_covers 10 _ (by decide +kernel) fun t hf y => ?_
  blk_simp; rw [after0_10, out10, tile, blk6]
  exact congrArg (Adam.vels (G m c) (argV m c)) (pos7 t y).symm

end Cert.AdamFfnInIdeal.Value
end
-- ==== Proof.AdamFfnIn.Claim.lean ====
module

public import proofs.«01_k».proof.Defs
public import proofs.«01_k».proof.Proof.AdamFfnIn.Value
public import proofs.«01_k».proof.Proof.Gen.AdamFfnInRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the feed-forward part's first weight: its results are the reference's -/

namespace Cert.Proof.AdamFfnIn
open Cert.AdamFfnInRefIdeal Cert.AdamFfnInRefIdeal.Read

variable (x0 x1 : FVec Ideal S7x1024x704 .bf16) (x2 x3 : FVec Ideal S1024x704 .bf16) (x4 x5 x6 : FVec Ideal S2x1024x704 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamFfnInIdeal.Value (final_7 final_8 final_9 final_10)

/-- The call and its reference leave the same results. -/
theorem alg : Cert.algebraic_AdamFfnInIdeal_AdamFfnInRefIdeal (hAdamFfnInIdeal := Cert.AdamFfnInIdeal.Gen.facts)
    (hAdamFfnInRefIdeal := Cert.AdamFfnInRefIdeal.Gen.facts) := by
  pair_intro
  · run_from Cert.AdamFfnInIdeal.Value.run_blocks m g
  · run_from Cert.AdamFfnInRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamFfnIn_AdamFfnInIdeal :=
  ⟨IdealRules.named_const.statement Cert.AdamFfnInIdeal.κ "c1" .f32 0x3FC48605#32 _ rfl,
    IdealRules.named_const.statement Cert.AdamFfnInIdeal.κ "c2" .f32 0x42C8E6D3#32 _ rfl⟩

/-- The reference, which has host lines only, leaves its arguments and every counter as they were. -/
theorem refFrame : Cert.quiescent_AdamFfnInRefIdeal (hAdamFfnInRefIdeal := Cert.AdamFfnInRefIdeal.Gen.facts) := fun m ρ _ =>
  θ_run_mono (Cert.AdamFfnInRefIdeal.Value.run m ρ) fun r h =>
    ⟨fun c => (h c).2.2.2.2, sem_eq_zero_of_no_sems (by decide) r.2⟩

end Cert.Proof.AdamFfnIn
end
-- ==== Proof.AdamFfnOut.Value.lean ====
module

public import proofs.«01_k».proof.Proof.Gen.AdamFfnOutIdeal.Value
public import proofs.«01_k».proof.Proof.Adam.Step

@[expose] public section

set_option maxRecDepth 16384
noncomputable section
open Idealize.ShloMosaic Idealize.ShloMosaic.TcCoe Idealize.SL.Sem

/-! # What the optimiser's call on the feed-forward part's second weight leaves in its four result arrays -/

namespace Cert.AdamFfnOutIdeal.Value
open Cert.AdamFfnOutIdeal Cert.AdamFfnOutIdeal.Gen

theorem c1 : Named.named (F := Ideal) κ "c1" (φ := .f32) 0x3FC48605#32 = (((5463681 / 8388608)⁻¹ : ℝ) : EReal) :=
  IdealRules.named_const.ideal_named_scalar _ _ _ _ rfl
theorem c2 : Named.named (F := Ideal) κ "c2" (φ := .f32) 0x42C8E6D3#32 = (((2672307 / 268435456)⁻¹ : ℝ) : EReal) :=
  IdealRules.named_const.ideal_named_scalar _ _ _ _ rfl

variable (x0 x1 : FVec Ideal S7x88x1024 .bf16) (x2 x3 : FVec Ideal S88x1024 .bf16) (x4 x5 x6 : FVec Ideal S2x88x1024 .f32)

theorem first_apply (r : Fin 88) (q : Fin 1024) : k0_pay18 (F := Ideal) x0 x1 x2 x3 x4 x5 x6 (ix2 r q) = Adam.grads x0 x1 x2 x3 (ix3 0 r q) := by
  pointwise [k0_pay18, k0_pay4, Adam.grads, Adam.grad, Adam.part]

theorem second_apply (r : Fin 88) (q : Fin 1024) :
    k0_pay13 (F := Ideal) (k0_pay19 (F := Ideal) x0 x1 x2 x3 x4 x5 x6) (View.ld x1 r0_7) (ix2 r q) = Adam.grads x0 x1 x2 x3 (ix3 1 r q) := by
  pointwise [k0_pay13, k0_pay19, k0_pay12, Adam.grads, Adam.grad, Adam.part]

theorem out7 : out0_7 (F := Ideal) x0 x1 x2 x3 x4 x5 x6 = Adam.grads x0 x1 x2 x3 := by
  refine Adam.pair _ _ _ _ _ (fun r q => ?_) (fun r q => ?_)
  · rw [← second_apply x0 x1 x2 x3 x4 x5 x6]
    pointwise [k0_pay17]
  · rw [← first_apply x0 x1 x2 x3 x4 x5 x6]
    pointwise [k0_pay8]

theorem out9 : out0_9 (F := Ideal) x0 x1 x2 x3 x4 x5 x6 = Adam.moms (Adam.grads x0 x1 x2 x3) x5 := by
  refine Adam.pair _ _ _ _ _ (fun r q => ?_) (fun r q => ?_)
  · rw [Adam.moms, ← second_apply x0 x1 x2 x3 x4 x5 x6]
    pointwise [k0_pay2, k0_pay14, Adam.mom]
  · rw [Adam.moms, ← first_apply x0 x1 x2 x3 x4 x5 x6]
    pointwise [k0_pay10, k0_pay6, Adam.mom]

theorem out10 : out0_10 (F := Ideal) x0 x1 x2 x3 x4 x5 x6 = Adam.vels (Adam.grads x0 x1 x2 x3) x6 := by
  refine Adam.pair _ _ _ _ _ (fun r q => ?_) (fun r q => ?_)
  · rw [Adam.vels, ← second_apply x0 x1 x2 x3 x4 x5 x6]
    pointwise [k0_pay3, k0_pay15, Adam.vel]
  · rw [Adam.vels, ← first_apply x0 x1 x2 x3 x4 x5 x6]
    pointwise [k0_pay11, k0_pay7, Adam.vel]

theorem out8 : out0_8 (F := Ideal) x0 x1 x2 x3 x4 x5 x6 = Adam.deltas x4 (Adam.grads x0 x1 x2 x3) x5 x6 := by
  refine Adam.pair _ _ _ _ _ (fun r q => ?_) (fun r q => ?_)
  · rw [Adam.deltas, ← second_apply x0 x1 x2 x3 x4 x5 x6, Adam.delta, Adam.change, Adam.div_d1, Adam.div_d2, ← c1, ← c2]
    pointwise [k0_pay1, k0_pay16, k0_pay14, k0_pay15, Adam.mom, Adam.vel]
  · rw [Adam.deltas, ← first_apply x0 x1 x2 x3 x4 x5 x6, Adam.delta, Adam.change, Adam.div_d1, Adam.div_d2, ← c1, ← c2]
    pointwise [k0_pay9, k0_pay5, k0_pay6, k0_pay7, Adam.mom, Adam.vel]

variable (m : (ℓ : Loc nD τ sig) → Buf (Elt Ideal) ℓ) (c : Dev nD)

/-- The seven other devices' parts, first layer. -/
abbrev land0 : FVec Ideal S7x352x1024 .bf16 := m ((c.tc : Thread nD τ).loc main_arg0)
/-- The seven other devices' parts, second layer. -/
abbrev land1 : FVec Ideal S7x352x1024 .bf16 := m ((c.tc : Thread nD τ).loc main_arg1)
/-- The device's own part, first layer. -/
abbrev own0 : FVec Ideal S352x1024 .bf16 := m ((c.tc : Thread nD τ).loc main_arg2)
/-- The device's own part, second layer. -/
abbrev own1 : FVec Ideal S352x1024 .bf16 := m ((c.tc : Thread nD τ).loc main_arg3)
/-- The weights. -/
abbrev argW : FVec Ideal S2x352x1024 .f32 := m ((c.tc : Thread nD τ).loc main_arg4)
/-- The first moments. -/
abbrev argM : FVec Ideal S2x352x1024 .f32 := m ((c.tc : Thread nD τ).loc main_arg5)
/-- The second moments. -/
abbrev argV : FVec Ideal S2x352x1024 .f32 := m ((c.tc : Thread nD τ).loc main_arg6)
/-- The gradients. -/
abbrev G : S2x352x1024.Idx → EReal := Adam.grads (land0 m c) (land1 m c) (own0 m c) (own1 m c)

/-- Which block every window takes at every grid point. -/
theorem idx_val : ∀ t : Fin cfg0.N, win0_0.index t = ![0, t.val, 0] ∧ win0_1.index t = ![0, t.val, 0]
    ∧ win0_2.index t = ![t.val, 0] ∧ win0_3.index t = ![t.val, 0]
    ∧ win0_4.index t = ![0, t.val, 0] ∧ win0_5.index t = ![0, t.val, 0] ∧ win0_6.index t = ![0, t.val, 0]
    ∧ win0_7.index t = ![0, t.val, 0] ∧ win0_8.index t = ![0, t.val, 0] ∧ win0_9.index t = ![0, t.val, 0] ∧ win0_10.index t = ![0, t.val, 0] :=
  (by decide +kernel : ∀ t : Fin grid0.N, _)

/-- Row `r` of the tile a grid point works on. -/
def rowOf (t : Fin cfg0.N) (r : Fin 88) : Fin 352 := ⟨t.val * 88 + r.val, by have : t.val < 4 := lt_of_lt_of_eq t.isLt N_0; omega⟩

variable (t : Fin cfg0.N)

theorem blk0 (s : Fin 7) (r : Fin 88) (q : Fin 1024) : (iblk m c 0 t : S7x88x1024.Idx → EReal) (ix3 s r q) = land0 m c (ix3 s (rowOf t r) q) := by
  blk_point [iblk, V, idx_val t]
  all_goals rfl

theorem blk1 (s : Fin 7) (r : Fin 88) (q : Fin 1024) : (iblk m c 1 t : S7x88x1024.Idx → EReal) (ix3 s r q) = land1 m c (ix3 s (rowOf t r) q) := by
  blk_point [iblk, V, idx_val t]
  all_goals rfl

theorem blk2 (r : Fin 88) (q : Fin 1024) : (iblk m c 2 t : S88x1024.Idx → EReal) (ix2 r q) = own0 m c (ix2 (rowOf t r) q) := by
  blk_point [iblk, V, idx_val t]
  all_goals rfl

theorem blk3 (r : Fin 88) (q : Fin 1024) : (iblk m c 3 t : S88x1024.Idx → EReal) (ix2 r q) = own1 m c (ix2 (rowOf t r) q) := by
  blk_point [iblk, V, idx_val t]
  all_goals rfl

/-- The place of a tile's entry in an array of both layers. -/
def place (y : S2x88x1024.Idx) : S2x352x1024.Idx := ix3 (y 0 : Fin 2) (rowOf t (y 1)) (y 2 : Fin 1024)

theorem blk4 : (iblk m c 4 t : S2x88x1024.Idx → EReal) = fun y => argW m c (place t y) := by
  funext y
  idx_vars y
  blk_point [iblk, V, idx_val t]
  all_goals rfl

theorem blk5 : (iblk m c 5 t : S2x88x1024.Idx → EReal) = fun y => argM m c (place t y) := by
  funext y
  idx_vars y
  blk_point [iblk, V, idx_val t]
  all_goals rfl

theorem blk6 : (iblk m c 6 t : S2x88x1024.Idx → EReal) = fun y => argV m c (place t y) := by
  funext y
  idx_vars y
  blk_point [iblk, V, idx_val t]
  all_goals rfl

theorem tile : Adam.grads (iblk m c 0 t : S7x88x1024.Idx → EReal) (iblk m c 1 t : S7x88x1024.Idx → EReal) (iblk m c 2 t : S88x1024.Idx → EReal)
    (iblk m c 3 t : S88x1024.Idx → EReal) = fun y => G m c (place t y) :=
  funext fun y => Adam.grad_congr (fun s => blk0 m c t s (y 1) (y 2)) (fun s => blk1 m c t s (y 1) (y 2)) (blk2 m c t (y 1) (y 2))
    (blk3 m c t (y 1) (y 2)) (y 0)

/-- Where a block's entry lies in a result array. -/
theorem pos7 (y : S2x88x1024.Idx) : ((win0_7.blk t).view.emb y : S2x352x1024.Idx) = place t y := by
  refine funext fun a => Fin.ext ?_
  match a with
  | ⟨0, _⟩ => blk_simp [idx_val t]; rfl
  | ⟨1, _⟩ => blk_simp [idx_val t]; rfl
  | ⟨2, _⟩ => blk_simp [idx_val t]; rfl

theorem final_7 : (dats m 0 c).arrAt 7 cfg0.N = G m c := by
  refine (dats m 0 c).arrAt_eq_of_covers 7 _ (by decide +kernel) fun t hf y => ?_
  blk_simp; rw [after0_7, out7, tile]
  exact congrArg (G m c) (pos7 t y).symm

theorem final_8 : (dats m 0 c).arrAt 8 cfg0.N = Adam.deltas (argW m c) (G m c) (argM m c) (argV m c) := by
  refine (dats m 0 c).arrAt_eq_of_covers 8 _ (by decide +kernel) fun t hf y => ?_
  blk_simp; rw [after0_8, out8, tile, blk4, blk5, blk6]
  exact congrArg (Adam.deltas (argW m c) (G m c) (argM m c) (argV m c)) (pos7 t y).symm

theorem final_9 : (dats m 0 c).arrAt 9 cfg0.N = Adam.moms (G m c) (argM m c) := by
  refine (dats m 0 c).arrAt_eq_of_covers 9 _ (by decide +kernel) fun t hf y => ?_
  blk_simp; rw [after0_9, out9, tile, blk5]
  exact congrArg (Adam.moms (G m c) (argM m c)) (pos7 t y).symm

theorem final_10 : (dats m 0 c).arrAt 10 cfg0.N = Adam.vels (G m c) (argV m c) := by
  refine (dats m 0 c).arrAt_eq_of_covers 10 _ (by decide +kernel) fun t hf y => ?_
  blk_simp; rw [after0_10, out10, tile, blk6]
  exact congrArg (Adam.vels (G m c) (argV m c)) (pos7 t y).symm

end Cert.AdamFfnOutIdeal.Value
end
-- ==== Proof.AdamFfnOut.Claim.lean ====
module

public import proofs.«01_k».proof.Defs
public import proofs.«01_k».proof.Proof.AdamFfnOut.Value
public import proofs.«01_k».proof.Proof.Gen.AdamFfnOutRefIdeal.Read
public import Idealize.ShloMosaic.Lib.Claim
public import Idealize.ShloMosaic.Lib.Quiescent

@[expose] public section

set_option maxRecDepth 16384
noncomputable section
open Idealize.ShloMosaic Idealize.ShloMosaic.TcCoe Idealize.SL.Sem

/-! # The optimiser's call on the feed-forward part's second weight: its results are the reference's -/

namespace Cert.Proof.AdamFfnOut
open Cert.AdamFfnOutRefIdeal Cert.AdamFfnOutRefIdeal.Read

variable (x0 x1 : FVec Ideal S7x352x1024 .bf16) (x2 x3 : FVec Ideal S352x1024 .bf16) (x4 x5 x6 : FVec Ideal S2x352x1024 .f32)

theorem grads_eq : val_main_v10 (F := Ideal) x0 x1 x2 x3 = Adam.grads x0 x1 x2 x3 := by
  refine Adam.joined _ _ _ _ (fun a b => ?_) (fun a b => ?_)
  · refine Eq.trans ?_ (Adam.part_eq x0 x2 a b)
    pointwise [val_main_v8, val_main_v3, val_main_v2, val_main_v1, val_main_v0, val_main_cst]
  · refine Eq.trans ?_ (Adam.part_eq x1 x3 a b)
    pointwise [val_main_v9, val_main_v7, val_main_v6, val_main_v5, val_main_v4, val_main_cst_0]

theorem moms_eq : val_main_v15 (F := Ideal) x0 x1 x2 x3 x5 = Adam.moms (Adam.grads x0 x1 x2 x3) x5 := by
  rw [← grads_eq]
  funext j
  pointwise [val_main_v15, val_main_v14, val_main_v13, val_main_v12, val_main_v11, val_main_cst_1, val_main_cst_2, Adam.moms, Adam.mom]

theorem vels_eq : val_main_v21 (F := Ideal) x0 x1 x2 x3 x6 = Adam.vels (Adam.grads x0 x1 x2 x3) x6 := by
  rw [← grads_eq]
  funext j
  pointwise [val_main_v21, val_main_v20, val_main_v19, val_main_v18, val_main_v17, val_main_v16, val_main_cst_3, val_main_cst_4,
    Adam.vels, Adam.vel]

theorem deltas_eq : val_main_v34 (F := Ideal) x0 x1 x2 x3 x4 x5 x6 = Adam.deltas x4 (Adam.grads x0 x1 x2 x3) x5 x6 := by
  rw [Adam.deltas_of, ← moms_eq, ← vels_eq]
  funext j
  pointwise [val_main_v34, val_main_v33, val_main_v32, val_main_v31, val_main_v30, val_main_v29, val_main_v28, val_main_v27, val_main_v26,
    val_main_v25, val_main_v24, val_main_v23, val_main_v22, val_main_cst_5, val_main_cst_6, val_main_cst_7, val_main_cst_8, val_main_cst_9,
    Adam.change]

open Cert.AdamFfnOutIdeal.Value (final_7 final_8 final_9 final_10)

/-- The call and its reference leave the same results. -/
theorem alg : Cert.algebraic_AdamFfnOutIdeal_AdamFfnOutRefIdeal (hAdamFfnOutIdeal := Cert.AdamFfnOutIdeal.Gen.facts)
    (hAdamFfnOutRefIdeal := Cert.AdamFfnOutRefIdeal.Gen.facts) := by
  pair_intro
  · run_from Cert.AdamFfnOutIdeal.Value.run_blocks m g
  · run_from Cert.AdamFfnOutRefIdeal.Value.run m' g'
    · exact (val_main_v10_eq _ _ _ _).trans ((grads_eq _ _ _ _).trans (final_7 m c).symm)
    · exact (val_main_v34_eq _ _ _ _ _ _ _).trans ((deltas_eq _ _ _ _ _ _ _).trans (final_8 m c).symm)
    · exact (val_main_v15_eq _ _ _ _ _).trans ((moms_eq _ _ _ _ _).trans (final_9 m c).symm)
    · exact (val_main_v21_eq _ _ _ _ _).trans ((vels_eq _ _ _ _ _).trans (final_10 m c).symm)

/-- The names of the two factors are the reciprocals the rule says. -/
theorem names : Cert.preserves_AdamFfnOut_AdamFfnOutIdeal :=
  ⟨IdealRules.named_const.statement Cert.AdamFfnOutIdeal.κ "c1" .f32 0x3FC48605#32 _ rfl,
    IdealRules.named_const.statement Cert.AdamFfnOutIdeal.κ "c2" .f32 0x42C8E6D3#32 _ rfl⟩

/-- The reference, which has host lines only, leaves its arguments and every counter as they were. -/
theorem refFrame : Cert.quiescent_AdamFfnOutRefIdeal (hAdamFfnOutRefIdeal := Cert.AdamFfnOutRefIdeal.Gen.facts) := fun m ρ _ =>
  θ_run_mono (Cert.AdamFfnOutRefIdeal.Value.run m ρ) fun r h =>
    ⟨fun c => (h c).2.2.2.2, sem_eq_zero_of_no_sems (by decide) r.2⟩

end Cert.Proof.AdamFfnOut
end
-- ==== Proof.lean ====
/- The certificate: the frames of the programs, that every idealised call is the call, and the equality of the calls' results
   with the references'; for `FfnBwd` at arguments of real entries. -/
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnGradIdeal
public import proofs.«01_k».proof.Proof.Gen.FfnGradIdeal.Read
public import proofs.«01_k».proof.Proof.FfnBwd.Claim
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Read
public import proofs.«01_k».proof.Proof.Inproj.Claim
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Read
public import proofs.«01_k».proof.Proof.DwIn.Claim
public import proofs.«01_k».proof.Proof.Gen.InprojBwd
public import proofs.«01_k».proof.Proof.Gen.InprojBwd.Skeleton
public import proofs.«01_k».proof.Proof.Gen.InprojBwd.Launch
public import proofs.«01_k».proof.Proof.Gen.InprojBwd.Points
public import proofs.«01_k».proof.Proof.Gen.InprojBwd.Frame
public import proofs.«01_k».proof.Proof.Gen.InprojBwdIdeal
public import proofs.«01_k».proof.Proof.Gen.InprojBwdIdeal.Skeleton
public import proofs.«01_k».proof.Proof.Gen.InprojBwdIdeal.Launch
public import proofs.«01_k».proof.Proof.Gen.InprojBwdIdeal.Points
public import proofs.«01_k».proof.Proof.Gen.InprojBwdIdeal.Frame
public import proofs.«01_k».proof.Proof.Gen.InprojBwdIdeal.Value
public import proofs.«01_k».proof.Proof.Gen.InprojBwdRefIdeal
public import proofs.«01_k».proof.Proof.Gen.InprojBwdRefIdeal.Read
public import proofs.«01_k».proof.Proof.InprojBwd.Claim
public import proofs.«01_k».proof.Proof.Gen.FfnBwdFin
public import proofs.«01_k».proof.Proof.Gen.FfnBwdFin.Skeleton
public import proofs.«01_k».proof.Proof.Gen.FfnBwdFin.Launch
public import proofs.«01_k».proof.Proof.Gen.FfnBwdFin.Points
public import proofs.«01_k».proof.Proof.Gen.FfnBwdFin.Frame
public import proofs.«01_k».proof.Proof.Gen.FfnBwdFinIdeal
public import proofs.«01_k».proof.Proof.Gen.FfnBwdFinIdeal.Skeleton
public import proofs.«01_k».proof.Proof.Gen.FfnBwdFinIdeal.Launch
public import proofs.«01_k».proof.Proof.Gen.FfnBwdFinIdeal.Points
public import proofs.«01_k».proof.Proof.Gen.FfnBwdFinIdeal.Frame
public import proofs.«01_k».proof.Proof.Gen.FfnBwdFinIdeal.Value
public import proofs.«01_k».proof.Proof.Gen.FfnBwdFinRefIdeal
public import proofs.«01_k».proof.Proof.Gen.FfnBwdFinRefIdeal.Read
public import proofs.«01_k».proof.Proof.FfnBwdFin.Claim
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Read
public import proofs.«01_k».proof.Proof.FfnFwd.Claim
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Read
public import proofs.«01_k».proof.Proof.LossHead.Claim
public import proofs.«01_k».proof.Proof.Gen.DwMix
public import proofs.«01_k».proof.Proof.Gen.DwMix.Skeleton
public import proofs.«01_k».proof.Proof.Gen.DwMix.Launch
public import proofs.«01_k».proof.Proof.Gen.DwMix.Points
public import proofs.«01_k».proof.Proof.Gen.DwMix.Frame
public import proofs.«01_k».proof.Proof.Gen.DwMixIdeal
public import proofs.«01_k».proof.Proof.Gen.DwMixIdeal.Skeleton
public import proofs.«01_k».proof.Proof.Gen.DwMixIdeal.Launch
public import proofs.«01_k».proof.Proof.Gen.DwMixIdeal.Points
public import proofs.«01_k».proof.Proof.Gen.DwMixIdeal.Frame
public import proofs.«01_k».proof.Proof.Gen.DwMixIdeal.Value
public import proofs.«01_k».proof.Proof.Gen.DwMixRefIdeal
public import proofs.«01_k».proof.Proof.Gen.DwMixRefIdeal.Read
public import proofs.«01_k».proof.Proof.DwMix.Claim
public import proofs.«01_k».proof.Proof.Gen.Params
public import proofs.«01_k».proof.Proof.Gen.Params.Skeleton
public import proofs.«01_k».proof.Proof.Gen.Params.Launch
public import proofs.«01_k».proof.Proof.Gen.Params.Points
public import proofs.«01_k».proof.Proof.Gen.Params.Frame
public import proofs.«01_k».proof.Proof.Gen.ParamsIdeal
public import proofs.«01_k».proof.Proof.Gen.ParamsIdeal.Skeleton
public import proofs.«01_k».proof.Proof.Gen.ParamsIdeal.Launch
public import proofs.«01_k».proof.Proof.Gen.ParamsIdeal.Points
public import proofs.«01_k».proof.Proof.Gen.ParamsIdeal.Frame
public import proofs.«01_k».proof.Proof.Gen.ParamsRefIdeal
public import proofs.«01_k».proof.Proof.Gen.ParamsRefIdeal.Read
public import proofs.«01_k».proof.Proof.Params.Claim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Read
public import proofs.«01_k».proof.Proof.Merge.Claim
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Read
public import proofs.«01_k».proof.Proof.AdamSmall.Claim
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Read
public import proofs.«01_k».proof.Proof.AdamIn.Claim
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluIdeal.Value
public import proofs.«01_k».proof.Proof.Gen.AdamGluRefIdeal
public import proofs.«01_k».proof.Proof.Gen.AdamGluRefIdeal.Read
public import proofs.«01_k».proof.Proof.AdamGlu.Claim
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Read
public import proofs.«01_k».proof.Proof.AdamUp.Claim
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Read
public import proofs.«01_k».proof.Proof.AdamOut.Claim
public import proofs.«01_k».proof.Proof.Gen.AdamFfnIn
public import proofs.«01_k».proof.Proof.Gen.AdamFfnIn.Skeleton
public import proofs.«01_k».proof.Proof.Gen.AdamFfnIn.Launch
public import proofs.«01_k».proof.Proof.Gen.AdamFfnIn.Points
public import proofs.«01_k».proof.Proof.Gen.AdamFfnIn.Frame
public import proofs.«01_k».proof.Proof.Gen.AdamFfnInIdeal
public import proofs.«01_k».proof.Proof.Gen.AdamFfnInIdeal.Skeleton
public import proofs.«01_k».proof.Proof.Gen.AdamFfnInIdeal.Launch
public import proofs.«01_k».proof.Proof.Gen.AdamFfnInIdeal.Points
public import proofs.«01_k».proof.Proof.Gen.AdamFfnInIdeal.Frame
public import proofs.«01_k».proof.Proof.Gen.AdamFfnInIdeal.Value
public import proofs.«01_k».proof.Proof.Gen.AdamFfnInRefIdeal
public import proofs.«01_k».proof.Proof.Gen.AdamFfnInRefIdeal.Read
public import proofs.«01_k».proof.Proof.AdamFfnIn.Claim
public import proofs.«01_k».proof.Proof.Gen.AdamFfnOut
public import proofs.«01_k».proof.Proof.Gen.AdamFfnOut.Skeleton
public import proofs.«01_k».proof.Proof.Gen.AdamFfnOut.Launch
public import proofs.«01_k».proof.Proof.Gen.AdamFfnOut.Points
public import proofs.«01_k».proof.Proof.Gen.AdamFfnOut.Frame
public import proofs.«01_k».proof.Proof.Gen.AdamFfnOutIdeal
public import proofs.«01_k».proof.Proof.Gen.AdamFfnOutIdeal.Skeleton
public import proofs.«01_k».proof.Proof.Gen.AdamFfnOutIdeal.Launch
public import proofs.«01_k».proof.Proof.Gen.AdamFfnOutIdeal.Points
public import proofs.«01_k».proof.Proof.Gen.AdamFfnOutIdeal.Frame
public import proofs.«01_k».proof.Proof.Gen.AdamFfnOutIdeal.Value
public import proofs.«01_k».proof.Proof.Gen.AdamFfnOutRefIdeal
public import proofs.«01_k».proof.Proof.Gen.AdamFfnOutRefIdeal.Read
public import proofs.«01_k».proof.Proof.AdamFfnOut.Claim
public import Idealize.ShloMosaic.Adequacy
public import Idealize.ShloMosaic.Init

@[expose] public section

noncomputable section

namespace Cert.Proof

open Idealize.ShloMosaic Idealize.SL.Sem

theorem claim : Cert.Claim :=
  ⟨Cert.FfnBwd.Gen.facts, Cert.FfnBwdIdeal.Gen.facts, Cert.FfnGradIdeal.Gen.facts,
   Cert.Inproj.Gen.facts, Cert.InprojIdeal.Gen.facts, Cert.InprojRefIdeal.Gen.facts,
   Cert.DwIn.Gen.facts, Cert.DwInIdeal.Gen.facts, Cert.DwInRefIdeal.Gen.facts,
   Cert.InprojBwd.Gen.facts, Cert.InprojBwdIdeal.Gen.facts, Cert.InprojBwdRefIdeal.Gen.facts,
   Cert.FfnBwdFin.Gen.facts, Cert.FfnBwdFinIdeal.Gen.facts, Cert.FfnBwdFinRefIdeal.Gen.facts,
   Cert.FfnFwd.Gen.facts, Cert.FfnFwdIdeal.Gen.facts, Cert.FfnFwdRefIdeal.Gen.facts,
   Cert.LossHead.Gen.facts, Cert.LossHeadIdeal.Gen.facts, Cert.LossHeadRefIdeal.Gen.facts,
   Cert.DwMix.Gen.facts, Cert.DwMixIdeal.Gen.facts, Cert.DwMixRefIdeal.Gen.facts,
   Cert.Params.Gen.facts, Cert.ParamsIdeal.Gen.facts, Cert.ParamsRefIdeal.Gen.facts,
   Cert.Merge.Gen.facts, Cert.MergeIdeal.Gen.facts, Cert.MergeRefIdeal.Gen.facts,
   Cert.AdamSmall.Gen.facts, Cert.AdamSmallIdeal.Gen.facts, Cert.AdamSmallRefIdeal.Gen.facts,
   Cert.AdamIn.Gen.facts, Cert.AdamInIdeal.Gen.facts, Cert.AdamInRefIdeal.Gen.facts,
   Cert.AdamGlu.Gen.facts, Cert.AdamGluIdeal.Gen.facts, Cert.AdamGluRefIdeal.Gen.facts,
   Cert.AdamUp.Gen.facts, Cert.AdamUpIdeal.Gen.facts, Cert.AdamUpRefIdeal.Gen.facts,
   Cert.AdamOut.Gen.facts, Cert.AdamOutIdeal.Gen.facts, Cert.AdamOutRefIdeal.Gen.facts,
   Cert.AdamFfnIn.Gen.facts, Cert.AdamFfnInIdeal.Gen.facts, Cert.AdamFfnInRefIdeal.Gen.facts,
   Cert.AdamFfnOut.Gen.facts, Cert.AdamFfnOutIdeal.Gen.facts, Cert.AdamFfnOutRefIdeal.Gen.facts,
   Cert.Pre_finite.facts,
   fun m ρ _ => Cert.FfnBwd.Gen.frame m ρ, fun m ρ _ => Cert.FfnBwdIdeal.Gen.frame m ρ,
   fun m ρ _ => Cert.FfnBwdIdeal.Gen.frame m ρ, FfnBwd.refFrame,
   fun m ρ _ => FfnBwd.refFrame m ρ trivial,
   fun m ρ _ => Cert.Inproj.Gen.frame m ρ, fun m ρ _ => Cert.InprojIdeal.Gen.frame m ρ, Inproj.refFrame,
   fun m ρ _ => Cert.DwIn.Gen.frame m ρ, fun m ρ _ => Cert.DwInIdeal.Gen.frame m ρ, DwIn.refFrame,
   fun m ρ _ => Cert.InprojBwd.Gen.frame m ρ, fun m ρ _ => Cert.InprojBwdIdeal.Gen.frame m ρ, InprojBwd.refFrame,
   fun m ρ _ => Cert.FfnBwdFin.Gen.frame m ρ, fun m ρ _ => Cert.FfnBwdFinIdeal.Gen.frame m ρ, FfnBwdFin.refFrame,
   FfnFwd.frameBits, fun m ρ _ => Cert.FfnFwdIdeal.Run.unchanged m ρ, FfnFwd.refFrame,
   fun m ρ _ => Cert.LossHead.Gen.frame m ρ, fun m ρ _ => Cert.LossHeadIdeal.Gen.frame m ρ, LossHead.refFrame,
   fun m ρ _ => Cert.DwMix.Gen.frame m ρ, fun m ρ _ => Cert.DwMixIdeal.Gen.frame m ρ, DwMix.refFrame,
   fun m ρ _ => Cert.Params.Gen.frame m ρ, fun m ρ _ => Cert.ParamsIdeal.Gen.frame m ρ, Params.refFrame,
   fun m ρ _ => Cert.Merge.Gen.frame m ρ, fun m ρ _ => Cert.MergeIdeal.Gen.frame m ρ, Merge.refFrame,
   fun m ρ _ => Cert.AdamSmall.Gen.frame m ρ, fun m ρ _ => Cert.AdamSmallIdeal.Gen.frame m ρ, AdamSmall.refFrame,
   fun m ρ _ => Cert.AdamIn.Gen.frame m ρ, fun m ρ _ => Cert.AdamInIdeal.Gen.frame m ρ, AdamIn.refFrame,
   fun m ρ _ => Cert.AdamGlu.Gen.frame m ρ, fun m ρ _ => Cert.AdamGluIdeal.Gen.frame m ρ, AdamGlu.refFrame,
   fun m ρ _ => Cert.AdamUp.Gen.frame m ρ, fun m ρ _ => Cert.AdamUpIdeal.Gen.frame m ρ, AdamUp.refFrame,
   fun m ρ _ => Cert.AdamOut.Gen.frame m ρ, fun m ρ _ => Cert.AdamOutIdeal.Gen.frame m ρ, AdamOut.refFrame,
   fun m ρ _ => Cert.AdamFfnIn.Gen.frame m ρ, fun m ρ _ => Cert.AdamFfnInIdeal.Gen.frame m ρ, AdamFfnIn.refFrame,
   fun m ρ _ => Cert.AdamFfnOut.Gen.frame m ρ, fun m ρ _ => Cert.AdamFfnOutIdeal.Gen.frame m ρ, AdamFfnOut.refFrame,
   trivial, Cert.Proof.FfnBwd.alg,
   trivial, Cert.Proof.Inproj.alg,
   trivial, Cert.Proof.DwIn.alg,
   trivial, Cert.Proof.InprojBwd.alg,
   trivial, Cert.Proof.FfnBwdFin.alg,
   trivial, Cert.Proof.FfnFwd.alg,
   trivial, Cert.Proof.LossHead.alg,
   trivial, Cert.Proof.DwMix.alg,
   trivial, Cert.Proof.Params.alg,
   trivial, Cert.Proof.Merge.alg,
   AdamSmall.names, Cert.Proof.AdamSmall.alg,
   AdamIn.names, Cert.Proof.AdamIn.alg,
   AdamGlu.names, Cert.Proof.AdamGlu.alg,
   AdamUp.names, Cert.Proof.AdamUp.alg,
   AdamOut.names, Cert.Proof.AdamOut.alg,
   AdamFfnIn.names, Cert.Proof.AdamFfnIn.alg,
   AdamFfnOut.names, Cert.Proof.AdamFfnOut.alg⟩

end Cert.Proof

end
